-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13_0) = v0 c
          ∧ r.2.mem ((c.tc : Thread Cert.ReferenceIdeal.nD Cert.ReferenceIdeal.τ).loc Cert.ReferenceIdeal.main_v13_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S144x56 : Shape := ⟨2, ![144, 56]⟩
abbrev S72x256x256 : Shape := ⟨3, ![72, 256, 256]⟩
abbrev S72x64x256 : Shape := ⟨3, ![72, 64, 256]⟩
abbrev S320x256 : Shape := ⟨2, ![320, 256]⟩
abbrev S64x7168 : Shape := ⟨2, ![64, 7168]⟩
abbrev S7168 : Shape := ⟨1, ![7168]⟩
abbrev S18432x7168 : Shape := ⟨2, ![18432, 7168]⟩
abbrev S1x7168 : Shape := ⟨2, ![1, 7168]⟩
abbrev S256x7168 : Shape := ⟨2, ![256, 7168]⟩
abbrev S4x2048x512 : Shape := ⟨3, ![4, 2048, 512]⟩
abbrev S4 : Shape := ⟨1, ![4]⟩
abbrev S8x512 : Shape := ⟨2, ![8, 512]⟩
abbrev S2x256x512 : Shape := ⟨3, ![2, 256, 512]⟩
abbrev S2 : Shape := ⟨1, ![2]⟩
abbrev S256x256 : Shape := ⟨2, ![256, 256]⟩
abbrev S64x256 : Shape := ⟨2, ![64, 256]⟩
abbrev S1 : Shape := ⟨1, ![1]⟩
abbrev S_ : Shape := ⟨0, ![]⟩
abbrev S1x2048x512 : Shape := ⟨3, ![1, 2048, 512]⟩
abbrev S2048x512 : Shape := ⟨2, ![2048, 512]⟩
abbrev S1x256x256 : Shape := ⟨3, ![1, 256, 256]⟩
abbrev S1x64x256 : Shape := ⟨3, ![1, 64, 256]⟩
abbrev S1x128x128 : Shape := ⟨3, ![1, 128, 128]⟩
abbrev S128x128 : Shape := ⟨2, ![128, 128]⟩
abbrev S1x1 : Shape := ⟨2, ![1, 1]⟩
abbrev S16x8x128 : Shape := ⟨3, ![16, 8, 128]⟩
abbrev S8x128 : Shape := ⟨2, ![8, 128]⟩
abbrev S128x256 : Shape := ⟨2, ![128, 256]⟩
abbrev S64x512 : Shape := ⟨2, ![64, 512]⟩
abbrev S256x512 : Shape := ⟨2, ![256, 512]⟩
abbrev S512 : Shape := ⟨1, ![512]⟩
abbrev S1x512 : Shape := ⟨2, ![1, 512]⟩
abbrev S1x256x512 : Shape := ⟨3, ![1, 256, 512]⟩
abbrev S256 : Shape := ⟨1, ![256]⟩
abbrev S1x256 : Shape := ⟨2, ![1, 256]⟩

abbrev nBuf : Space → Nat
  | .hbm => 10
  | .vmem => 9
  | .smem => 1
  | _ => 0

abbrev bufTy : (tb : Table) → Fin (tcTables nBuf tb) → BufTy
  | .hbm, ⟨0, _⟩ => ⟨S144x56, .f32⟩
  | .hbm, ⟨1, _⟩ => ⟨S72x256x256, .bf16⟩
  | .hbm, ⟨2, _⟩ => ⟨S72x64x256, .bf16⟩
  | .hbm, ⟨3, _⟩ => ⟨S320x256, .bf16⟩
  | .hbm, ⟨4, _⟩ => ⟨S64x7168, .bf16⟩
  | .hbm, ⟨5, _⟩ => ⟨S7168, .f32⟩
  | .hbm, ⟨6, _⟩ => ⟨S18432x7168, .fp8e4m3⟩
  | .hbm, ⟨7, _⟩ => ⟨S1x7168, .f32⟩
  | .hbm, ⟨8, _⟩ => ⟨S1x7168, .f32⟩
  | .hbm, ⟨9, _⟩ => ⟨S256x7168, .bf16⟩
  | .local _ .vmem, ⟨0, _⟩ => ⟨S72x256x256, .bf16⟩
  | .local _ .vmem, ⟨1, _⟩ => ⟨S72x64x256, .bf16⟩
  | .local _ .vmem, ⟨2, _⟩ => ⟨S320x256, .bf16⟩
  | .local _ .vmem, ⟨3, _⟩ => ⟨S64x7168, .bf16⟩
  | .local _ .vmem, ⟨4, _⟩ => ⟨S1x7168, .f32⟩
  | .local _ .vmem, ⟨5, _⟩ => ⟨S1x7168, .f32⟩
  | .local _ .vmem, ⟨6, _⟩ => ⟨S4x2048x512, .fp8e4m3⟩
  | .local _ .vmem, ⟨7, _⟩ => ⟨S8x512, .f32⟩
  | .local _ .vmem, ⟨8, _⟩ => ⟨S2x256x512, .bf16⟩
  | .local _ .smem, ⟨0, _⟩ => ⟨S144x56, .f32⟩
  | _, _ => ⟨S144x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_scratch0 : Ref sig .tc := ⟨.vmem, 6, rfl⟩
abbrev cc0_scratch2 : Ref sig .tc := ⟨.vmem, 7, rfl⟩
abbrev cc0_scratch3 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

def k0_mult1 : BitVec 32 :=
  let c0_i32_0_r0 : BitVec 32 := 0#32
  c0_i32_0_r0
def k0_mult2 : BitVec 32 :=
  let c0_i32_1_r0 : BitVec 32 := 0#32
  c0_i32_1_r0
def k0_off1 (c0_i32_r0 : BitVec 32) : Fin 1 → Nat :=
  let c4_i32_r0 : BitVec 32 := 4#32
  let v4_r0 : BitVec 32 := Scalar.remsi c0_i32_r0 c4_i32_r0
  ![v4_r0.toNat]
def k0_off2 (c0_i32_r0 : BitVec 32) : Fin 3 → Nat :=
  let c4_i32_r0 : BitVec 32 := 4#32
  let v4_r0 : BitVec 32 := Scalar.remsi c0_i32_r0 c4_i32_r0
  let c0_i32_2_r0 : BitVec 32 := 0#32
  let c0_i32_3_r0 : BitVec 32 := 0#32
  ![v4_r0.toNat, 0, 0]
def k0_mult3 : BitVec 32 :=
  let c2048_i32_r0 : BitVec 32 := 2048#32
  c2048_i32_r0
def k0_mult4 : BitVec 32 :=
  let c0_i32_5_r0 : BitVec 32 := 0#32
  c0_i32_5_r0
def k0_mult5 : BitVec 32 :=
  let c4096_i32_r0 : BitVec 32 := 4096#32
  c4096_i32_r0
def k0_mult6 : BitVec 32 :=
  let c0_i32_9_r0 : BitVec 32 := 0#32
  c0_i32_9_r0
@[reducible] def k0_t1_loop : Scf.Loop 32 :=
  let c0_i32_13_r0 : BitVec 32 := 0#32
  let c14_i32_r0 : BitVec 32 := 14#32
  let v28_r0 : BitVec 32 := Scalar.addi c0_i32_13_r0 c14_i32_r0
  let c1_i32_14_r0 : BitVec 32 := 1#32
  ⟨c0_i32_13_r0, v28_r0, c1_i32_14_r0⟩
@[reducible] def k0_t2_loop : Scf.Loop 32 :=
  let c0_i32_25_r0 : BitVec 32 := 0#32
  let c9_i32_r0 : BitVec 32 := 9#32
  let v47_r0 : BitVec 32 := Scalar.addi c0_i32_25_r0 c9_i32_r0
  let c1_i32_26_r0 : BitVec 32 := 1#32
  ⟨c0_i32_25_r0, v47_r0, c1_i32_26_r0⟩
def k0_mult7 (k0_t1 : Fin k0_t1_loop.trips) (k0_t2 : Fin k0_t2_loop.trips) : BitVec 32 :=
  let c0_i32_13_r0 : BitVec 32 := 0#32
  let c1_i32_14_r0 : BitVec 32 := 1#32
  let arg14_r0 : BitVec 32 := Scf.iv c0_i32_13_r0 c1_i32_14_r0 k0_t1
  let c9_i32_71_r0 : BitVec 32 := 9#32
  let v146_r0 : BitVec 32 := Scalar.muli arg14_r0 c9_i32_71_r0
  let c0_i32_25_r0 : BitVec 32 := 0#32
  let c1_i32_26_r0 : BitVec 32 := 1#32
  let arg15_r0 : BitVec 32 := Scf.iv c0_i32_25_r0 c1_i32_26_r0 k0_t2
  let v147_r0 : BitVec 32 := Scalar.addi v146_r0 arg15_r0
  let c0_i32_75_r0 : BitVec 32 := 0#32
  let v151_r0 : BitVec 1 := Scalar.cmpi .sgt v147_r0 c0_i32_75_r0
  let v152_r0 : BitVec 32 := Scalar.extui v151_r0
  let c0_i32_76_r0 : BitVec 32 := 0#32
  let v153_r0 : BitVec 1 := Scalar.cmpi .slt v147_r0 c0_i32_76_r0
  let v154_r0 : BitVec 32 := Scalar.extui v153_r0
  let v155_r0 : BitVec 32 := Scalar.subi v152_r0 v154_r0
  let c9_i32_74_r0 : BitVec 32 := 9#32
  let c0_i32_77_r0 : BitVec 32 := 0#32
  let v156_r0 : BitVec 1 := Scalar.cmpi .sgt c9_i32_74_r0 c0_i32_77_r0
  let v157_r0 : BitVec 32 := Scalar.extui v156_r0
  let c0_i32_78_r0 : BitVec 32 := 0#32
  let v158_r0 : BitVec 1 := Scalar.cmpi .slt c9_i32_74_r0 c0_i32_78_r0
  let v159_r0 : BitVec 32 := Scalar.extui v158_r0
  let v160_r0 : BitVec 32 := Scalar.subi v157_r0 v159_r0
  let v161_r0 : BitVec 1 := Scalar.cmpi .ne v155_r0 v160_r0
  let v162_r0 : BitVec 32 := Scalar.remsi v147_r0 c9_i32_74_r0
  let c0_i32_79_r0 : BitVec 32 := 0#32
  let v163_r0 : BitVec 1 := Scalar.cmpi .ne v162_r0 c0_i32_79_r0
  let v164_r0 : BitVec 1 := Scalar.andi v161_r0 v163_r0
  let v150_r0 : BitVec 32 := Scalar.divsi v147_r0 c9_i32_74_r0
  let c1_i32_80_r0 : BitVec 32 := 1#32
  let v165_r0 : BitVec 32 := Scalar.subi v150_r0 c1_i32_80_r0
  let v166_r0 : BitVec 32 := Scalar.select v164_r0 v165_r0 v150_r0
  let c9_i32_81_r0 : BitVec 32 := 9#32
  let v167_r0 : BitVec 32 := Scalar.muli v166_r0 c9_i32_81_r0
  let v168_r0 : BitVec 32 := Scalar.subi v147_r0 v167_r0
  let c2048_i32_82_r0 : BitVec 32 := 2048#32
  let v169_r0 : BitVec 32 := Scalar.muli v168_r0 c2048_i32_82_r0
  v169_r0
def k0_mult8 (k0_t1 : Fin k0_t1_loop.trips) (k0_t2 : Fin k0_t2_loop.trips) : BitVec 32 :=
  let c0_i32_13_r0 : BitVec 32 := 0#32
  let c1_i32_14_r0 : BitVec 32 := 1#32
  let arg14_r0 : BitVec 32 := Scf.iv c0_i32_13_r0 c1_i32_14_r0 k0_t1
  let c9_i32_71_r0 : BitVec 32 := 9#32
  let v146_r0 : BitVec 32 := Scalar.muli arg14_r0 c9_i32_71_r0
  let c0_i32_25_r0 : BitVec 32 := 0#32
  let c1_i32_26_r0 : BitVec 32 := 1#32
  let arg15_r0 : BitVec 32 := Scf.iv c0_i32_25_r0 c1_i32_26_r0 k0_t2
  let v147_r0 : BitVec 32 := Scalar.addi v146_r0 arg15_r0
  let c0_i32_75_r0 : BitVec 32 := 0#32
  let v151_r0 : BitVec 1 := Scalar.cmpi .sgt v147_r0 c0_i32_75_r0
  let v152_r0 : BitVec 32 := Scalar.extui v151_r0
  let c0_i32_76_r0 : BitVec 32 := 0#32
  let v153_r0 : BitVec 1 := Scalar.cmpi .slt v147_r0 c0_i32_76_r0
  let v154_r0 : BitVec 32 := Scalar.extui v153_r0
  let v155_r0 : BitVec 32 := Scalar.subi v152_r0 v154_r0
  let c9_i32_74_r0 : BitVec 32 := 9#32
  let c0_i32_77_r0 : BitVec 32 := 0#32
  let v156_r0 : BitVec 1 := Scalar.cmpi .sgt c9_i32_74_r0 c0_i32_77_r0
  let v157_r0 : BitVec 32 := Scalar.extui v156_r0
  let c0_i32_78_r0 : BitVec 32 := 0#32
  let v158_r0 : BitVec 1 := Scalar.cmpi .slt c9_i32_74_r0 c0_i32_78_r0
  let v159_r0 : BitVec 32 := Scalar.extui v158_r0
  let v160_r0 : BitVec 32 := Scalar.subi v157_r0 v159_r0
  let v161_r0 : BitVec 1 := Scalar.cmpi .ne v155_r0 v160_r0
  let v162_r0 : BitVec 32 := Scalar.remsi v147_r0 c9_i32_74_r0
  let c0_i32_79_r0 : BitVec 32 := 0#32
  let v163_r0 : BitVec 1 := Scalar.cmpi .ne v162_r0 c0_i32_79_r0
  let v164_r0 : BitVec 1 := Scalar.andi v161_r0 v163_r0
  let v150_r0 : BitVec 32 := Scalar.divsi v147_r0 c9_i32_74_r0
  let c1_i32_80_r0 : BitVec 32 := 1#32
  let v165_r0 : BitVec 32 := Scalar.subi v150_r0 c1_i32_80_r0
  let v166_r0 : BitVec 32 := Scalar.select v164_r0 v165_r0 v150_r0
  let c512_i32_83_r0 : BitVec 32 := 512#32
  let v171_r0 : BitVec 32 := Scalar.muli v166_r0 c512_i32_83_r0
  v171_r0
def k0_off3 (k0_t1 : Fin k0_t1_loop.trips) (k0_t2 : Fin k0_t2_loop.trips) : Fin 1 → Nat :=
  let c0_i32_13_r0 : BitVec 32 := 0#32
  let c1_i32_14_r0 : BitVec 32 := 1#32
  let arg14_r0 : BitVec 32 := Scf.iv c0_i32_13_r0 c1_i32_14_r0 k0_t1
  let c9_i32_71_r0 : BitVec 32 := 9#32
  let v146_r0 : BitVec 32 := Scalar.muli arg14_r0 c9_i32_71_r0
  let c0_i32_25_r0 : BitVec 32 := 0#32
  let c1_i32_26_r0 : BitVec 32 := 1#32
  let arg15_r0 : BitVec 32 := Scf.iv c0_i32_25_r0 c1_i32_26_r0 k0_t2
  let v147_r0 : BitVec 32 := Scalar.addi v146_r0 arg15_r0
  let c4_i32_73_r0 : BitVec 32 := 4#32
  let v149_r0 : BitVec 32 := Scalar.remsi v147_r0 c4_i32_73_r0
  ![v149_r0.toNat]
def k0_off4 (k0_t1 : Fin k0_t1_loop.trips) (k0_t2 : Fin k0_t2_loop.trips) : Fin 3 → Nat :=
  let c0_i32_13_r0 : BitVec 32 := 0#32
  let c1_i32_14_r0 : BitVec 32 := 1#32
  let arg14_r0 : BitVec 32 := Scf.iv c0_i32_13_r0 c1_i32_14_r0 k0_t1
  let c9_i32_71_r0 : BitVec 32 := 9#32
  let v146_r0 : BitVec 32 := Scalar.muli arg14_r0 c9_i32_71_r0
  let c0_i32_25_r0 : BitVec 32 := 0#32
  let c1_i32_26_r0 : BitVec 32 := 1#32
  let arg15_r0 : BitVec 32 := Scf.iv c0_i32_25_r0 c1_i32_26_r0 k0_t2
  let v147_r0 : BitVec 32 := Scalar.addi v146_r0 arg15_r0
  let c4_i32_73_r0 : BitVec 32 := 4#32
  let v149_r0 : BitVec 32 := Scalar.remsi v147_r0 c4_i32_73_r0
  let c0_i32_84_r0 : BitVec 32 := 0#32
  let c0_i32_85_r0 : BitVec 32 := 0#32
  ![v149_r0.toNat, 0, 0]
def k0_off5 (k0_t1 : Fin k0_t1_loop.trips) (k0_t2 : Fin k0_t2_loop.trips) : Fin 2 → Nat :=
  let c0_i32_13_r0 : BitVec 32 := 0#32
  let c1_i32_14_r0 : BitVec 32 := 1#32
  let arg14_r0 : BitVec 32 := Scf.iv c0_i32_13_r0 c1_i32_14_r0 k0_t1
  let c9_i32_71_r0 : BitVec 32 := 9#32
  let v146_r0 : BitVec 32 := Scalar.muli arg14_r0 c9_i32_71_r0
  let c0_i32_25_r0 : BitVec 32 := 0#32
  let c1_i32_26_r0 : BitVec 32 := 1#32
  let arg15_r0 : BitVec 32 := Scf.iv c0_i32_25_r0 c1_i32_26_r0 k0_t2
  let v147_r0 : BitVec 32 := Scalar.addi v146_r0 arg15_r0
  let c0_i32_75_r0 : BitVec 32 := 0#32
  let v151_r0 : BitVec 1 := Scalar.cmpi .sgt v147_r0 c0_i32_75_r0
  let v152_r0 : BitVec 32 := Scalar.extui v151_r0
  let c0_i32_76_r0 : BitVec 32 := 0#32
  let v153_r0 : BitVec 1 := Scalar.cmpi .slt v147_r0 c0_i32_76_r0
  let v154_r0 : BitVec 32 := Scalar.extui v153_r0
  let v155_r0 : BitVec 32 := Scalar.subi v152_r0 v154_r0
  let c9_i32_74_r0 : BitVec 32 := 9#32
  let c0_i32_77_r0 : BitVec 32 := 0#32
  let v156_r0 : BitVec 1 := Scalar.cmpi .sgt c9_i32_74_r0 c0_i32_77_r0
  let v157_r0 : BitVec 32 := Scalar.extui v156_r0
  let c0_i32_78_r0 : BitVec 32 := 0#32
  let v158_r0 : BitVec 1 := Scalar.cmpi .slt c9_i32_74_r0 c0_i32_78_r0
  let v159_r0 : BitVec 32 := Scalar.extui v158_r0
  let v160_r0 : BitVec 32 := Scalar.subi v157_r0 v159_r0
  let v161_r0 : BitVec 1 := Scalar.cmpi .ne v155_r0 v160_r0
  let v162_r0 : BitVec 32 := Scalar.remsi v147_r0 c9_i32_74_r0
  let c0_i32_79_r0 : BitVec 32 := 0#32
  let v163_r0 : BitVec 1 := Scalar.cmpi .ne v162_r0 c0_i32_79_r0
  let v164_r0 : BitVec 1 := Scalar.andi v161_r0 v163_r0
  let v150_r0 : BitVec 32 := Scalar.divsi v147_r0 c9_i32_74_r0
  let c1_i32_80_r0 : BitVec 32 := 1#32
  let v165_r0 : BitVec 32 := Scalar.subi v150_r0 c1_i32_80_r0
  let v166_r0 : BitVec 32 := Scalar.select v164_r0 v165_r0 v150_r0
  let c9_i32_81_r0 : BitVec 32 := 9#32
  let v167_r0 : BitVec 32 := Scalar.muli v166_r0 c9_i32_81_r0
  let v168_r0 : BitVec 32 := Scalar.subi v147_r0 v167_r0
  let c2048_i32_82_r0 : BitVec 32 := 2048#32
  let v169_r0 : BitVec 32 := Scalar.muli v168_r0 c2048_i32_82_r0
  let v170_r0 : BitVec 32 := v169_r0
  let c512_i32_83_r0 : BitVec 32 := 512#32
  let v171_r0 : BitVec 32 := Scalar.muli v166_r0 c512_i32_83_r0
  let v172_r0 : BitVec 32 := v171_r0
  ![v170_r0.toNat, v172_r0.toNat]
def k0_cond1 (k0_t1 : Fin k0_t1_loop.trips) (k0_t2 : Fin k0_t2_loop.trips) : BitVec 1 :=
  let c0_i32_13_r0 : BitVec 32 := 0#32
  let c1_i32_14_r0 : BitVec 32 := 1#32
  let arg14_r0 : BitVec 32 := Scf.iv c0_i32_13_r0 c1_i32_14_r0 k0_t1
  let c9_i32_71_r0 : BitVec 32 := 9#32
  let v146_r0 : BitVec 32 := Scalar.muli arg14_r0 c9_i32_71_r0
  let c0_i32_25_r0 : BitVec 32 := 0#32
  let c1_i32_26_r0 : BitVec 32 := 1#32
  let arg15_r0 : BitVec 32 := Scf.iv c0_i32_25_r0 c1_i32_26_r0 k0_t2
  let v147_r0 : BitVec 32 := Scalar.addi v146_r0 arg15_r0
  let c4_i32_86_r0 : BitVec 32 := 4#32
  let v178_r0 : BitVec 32 := Scalar.addi v147_r0 c4_i32_86_r0
  let c1_i32_87_r0 : BitVec 32 := 1#32
  let v179_r0 : BitVec 32 := Scalar.subi v178_r0 c1_i32_87_r0
  let c126_i32_r0 : BitVec 32 := 126#32
  let v180_r0 : BitVec 1 := Scalar.cmpi .slt v179_r0 c126_i32_r0
  let v181_r0 : BitVec 32 := Scalar.extui v180_r0
  let c0_i32_88_r0 : BitVec 32 := 0#32
  let v182_r0 : BitVec 1 := Scalar.cmpi .ne v181_r0 c0_i32_88_r0
  v182_r0

def k0_mult9 (k0_t1 : Fin k0_t1_loop.trips) (k0_t2 : Fin k0_t2_loop.trips) : BitVec 32 :=
  let c0_i32_13_r0 : BitVec 32 := 0#32
  let c1_i32_14_r0 : BitVec 32 := 1#32
  let arg14_r0 : BitVec 32 := Scf.iv c0_i32_13_r0 c1_i32_14_r0 k0_t1
  let c9_i32_71_r0 : BitVec 32 := 9#32
  let v146_r0 : BitVec 32 := Scalar.muli arg14_r0 c9_i32_71_r0
  let c0_i32_25_r0 : BitVec 32 := 0#32
  let c1_i32_26_r0 : BitVec 32 := 1#32
  let arg15_r0 : BitVec 32 := Scf.iv c0_i32_25_r0 c1_i32_26_r0 k0_t2
  let v147_r0 : BitVec 32 := Scalar.addi v146_r0 arg15_r0
  let c4_i32_790_r0 : BitVec 32 := 4#32
  let v1735_r0 : BitVec 32 := Scalar.addi v147_r0 c4_i32_790_r0
  let c1_i32_791_r0 : BitVec 32 := 1#32
  let v1736_r0 : BitVec 32 := Scalar.subi v1735_r0 c1_i32_791_r0
  let c0_i32_794_r0 : BitVec 32 := 0#32
  let v1739_r0 : BitVec 1 := Scalar.cmpi .sgt v1736_r0 c0_i32_794_r0
  let v1740_r0 : BitVec 32 := Scalar.extui v1739_r0
  let c0_i32_795_r0 : BitVec 32 := 0#32
  let v1741_r0 : BitVec 1 := Scalar.cmpi .slt v1736_r0 c0_i32_795_r0
  let v1742_r0 : BitVec 32 := Scalar.extui v1741_r0
  let v1743_r0 : BitVec 32 := Scalar.subi v1740_r0 v1742_r0
  let c9_i32_793_r0 : BitVec 32 := 9#32
  let c0_i32_796_r0 : BitVec 32 := 0#32
  let v1744_r0 : BitVec 1 := Scalar.cmpi .sgt c9_i32_793_r0 c0_i32_796_r0
  let v1745_r0 : BitVec 32 := Scalar.extui v1744_r0
  let c0_i32_797_r0 : BitVec 32 := 0#32
  let v1746_r0 : BitVec 1 := Scalar.cmpi .slt c9_i32_793_r0 c0_i32_797_r0
  let v1747_r0 : BitVec 32 := Scalar.extui v1746_r0
  let v1748_r0 : BitVec 32 := Scalar.subi v1745_r0 v1747_r0
  let v1749_r0 : BitVec 1 := Scalar.cmpi .ne v1743_r0 v1748_r0
  let v1750_r0 : BitVec 32 := Scalar.remsi v1736_r0 c9_i32_793_r0
  let c0_i32_798_r0 : BitVec 32 := 0#32
  let v1751_r0 : BitVec 1 := Scalar.cmpi .ne v1750_r0 c0_i32_798_r0
  let v1752_r0 : BitVec 1 := Scalar.andi v1749_r0 v1751_r0
  let v1738_r0 : BitVec 32 := Scalar.divsi v1736_r0 c9_i32_793_r0
  let c1_i32_799_r0 : BitVec 32 := 1#32
  let v1753_r0 : BitVec 32 := Scalar.subi v1738_r0 c1_i32_799_r0
  let v1754_r0 : BitVec 32 := Scalar.select v1752_r0 v1753_r0 v1738_r0
  let c9_i32_800_r0 : BitVec 32 := 9#32
  let v1755_r0 : BitVec 32 := Scalar.muli v1754_r0 c9_i32_800_r0
  let v1756_r0 : BitVec 32 := Scalar.subi v1736_r0 v1755_r0
  let c2048_i32_801_r0 : BitVec 32 := 2048#32
  let v1757_r0 : BitVec 32 := Scalar.muli v1756_r0 c2048_i32_801_r0
  v1757_r0
def k0_mult10 (k0_t1 : Fin k0_t1_loop.trips) (k0_t2 : Fin k0_t2_loop.trips) : BitVec 32 :=
  let c0_i32_13_r0 : BitVec 32 := 0#32
  let c1_i32_14_r0 : BitVec 32 := 1#32
  let arg14_r0 : BitVec 32 := Scf.iv c0_i32_13_r0 c1_i32_14_r0 k0_t1
  let c9_i32_71_r0 : BitVec 32 := 9#32
  let v146_r0 : BitVec 32 := Scalar.muli arg14_r0 c9_i32_71_r0
  let c0_i32_25_r0 : BitVec 32 := 0#32
  let c1_i32_26_r0 : BitVec 32 := 1#32
  let arg15_r0 : BitVec 32 := Scf.iv c0_i32_25_r0 c1_i32_26_r0 k0_t2
  let v147_r0 : BitVec 32 := Scalar.addi v146_r0 arg15_r0
  let c4_i32_790_r0 : BitVec 32 := 4#32
  let v1735_r0 : BitVec 32 := Scalar.addi v147_r0 c4_i32_790_r0
  let c1_i32_791_r0 : BitVec 32 := 1#32
  let v1736_r0 : BitVec 32 := Scalar.subi v1735_r0 c1_i32_791_r0
  let c0_i32_794_r0 : BitVec 32 := 0#32
  let v1739_r0 : BitVec 1 := Scalar.cmpi .sgt v1736_r0 c0_i32_794_r0
  let v1740_r0 : BitVec 32 := Scalar.extui v1739_r0
  let c0_i32_795_r0 : BitVec 32 := 0#32
  let v1741_r0 : BitVec 1 := Scalar.cmpi .slt v1736_r0 c0_i32_795_r0
  let v1742_r0 : BitVec 32 := Scalar.extui v1741_r0
  let v1743_r0 : BitVec 32 := Scalar.subi v1740_r0 v1742_r0
  let c9_i32_793_r0 : BitVec 32 := 9#32
  let c0_i32_796_r0 : BitVec 32 := 0#32
  let v1744_r0 : BitVec 1 := Scalar.cmpi .sgt c9_i32_793_r0 c0_i32_796_r0
  let v1745_r0 : BitVec 32 := Scalar.extui v1744_r0
  let c0_i32_797_r0 : BitVec 32 := 0#32
  let v1746_r0 : BitVec 1 := Scalar.cmpi .slt c9_i32_793_r0 c0_i32_797_r0
  let v1747_r0 : BitVec 32 := Scalar.extui v1746_r0
  let v1748_r0 : BitVec 32 := Scalar.subi v1745_r0 v1747_r0
  let v1749_r0 : BitVec 1 := Scalar.cmpi .ne v1743_r0 v1748_r0
  let v1750_r0 : BitVec 32 := Scalar.remsi v1736_r0 c9_i32_793_r0
  let c0_i32_798_r0 : BitVec 32 := 0#32
  let v1751_r0 : BitVec 1 := Scalar.cmpi .ne v1750_r0 c0_i32_798_r0
  let v1752_r0 : BitVec 1 := Scalar.andi v1749_r0 v1751_r0
  let v1738_r0 : BitVec 32 := Scalar.divsi v1736_r0 c9_i32_793_r0
  let c1_i32_799_r0 : BitVec 32 := 1#32
  let v1753_r0 : BitVec 32 := Scalar.subi v1738_r0 c1_i32_799_r0
  let v1754_r0 : BitVec 32 := Scalar.select v1752_r0 v1753_r0 v1738_r0
  let c512_i32_802_r0 : BitVec 32 := 512#32
  let v1759_r0 : BitVec 32 := Scalar.muli v1754_r0 c512_i32_802_r0
  v1759_r0
def k0_off6 (k0_t1 : Fin k0_t1_loop.trips) (k0_t2 : Fin k0_t2_loop.trips) : Fin 1 → Nat :=
  let c0_i32_13_r0 : BitVec 32 := 0#32
  let c1_i32_14_r0 : BitVec 32 := 1#32
  let arg14_r0 : BitVec 32 := Scf.iv c0_i32_13_r0 c1_i32_14_r0 k0_t1
  let c9_i32_71_r0 : BitVec 32 := 9#32
  let v146_r0 : BitVec 32 := Scalar.muli arg14_r0 c9_i32_71_r0
  let c0_i32_25_r0 : BitVec 32 := 0#32
  let c1_i32_26_r0 : BitVec 32 := 1#32
  let arg15_r0 : BitVec 32 := Scf.iv c0_i32_25_r0 c1_i32_26_r0 k0_t2
  let v147_r0 : BitVec 32 := Scalar.addi v146_r0 arg15_r0
  let c4_i32_790_r0 : BitVec 32 := 4#32
  let v1735_r0 : BitVec 32 := Scalar.addi v147_r0 c4_i32_790_r0
  let c1_i32_791_r0 : BitVec 32 := 1#32
  let v1736_r0 : BitVec 32 := Scalar.subi v1735_r0 c1_i32_791_r0
  let c4_i32_792_r0 : BitVec 32 := 4#32
  let v1737_r0 : BitVec 32 := Scalar.remsi v1736_r0 c4_i32_792_r0
  ![v1737_r0.toNat]
def k0_off7 (k0_t1 : Fin k0_t1_loop.trips) (k0_t2 : Fin k0_t2_loop.trips) : Fin 3 → Nat :=
  let c0_i32_13_r0 : BitVec 32 := 0#32
  let c1_i32_14_r0 : BitVec 32 := 1#32
  let arg14_r0 : BitVec 32 := Scf.iv c0_i32_13_r0 c1_i32_14_r0 k0_t1
  let c9_i32_71_r0 : BitVec 32 := 9#32
  let v146_r0 : BitVec 32 := Scalar.muli arg14_r0 c9_i32_71_r0
  let c0_i32_25_r0 : BitVec 32 := 0#32
  let c1_i32_26_r0 : BitVec 32 := 1#32
  let arg15_r0 : BitVec 32 := Scf.iv c0_i32_25_r0 c1_i32_26_r0 k0_t2
  let v147_r0 : BitVec 32 := Scalar.addi v146_r0 arg15_r0
  let c4_i32_790_r0 : BitVec 32 := 4#32
  let v1735_r0 : BitVec 32 := Scalar.addi v147_r0 c4_i32_790_r0
  let c1_i32_791_r0 : BitVec 32 := 1#32
  let v1736_r0 : BitVec 32 := Scalar.subi v1735_r0 c1_i32_791_r0
  let c4_i32_792_r0 : BitVec 32 := 4#32
  let v1737_r0 : BitVec 32 := Scalar.remsi v1736_r0 c4_i32_792_r0
  let c0_i32_803_r0 : BitVec 32 := 0#32
  let c0_i32_804_r0 : BitVec 32 := 0#32
  ![v1737_r0.toNat, 0, 0]
def k0_off8 (k0_t1 : Fin k0_t1_loop.trips) (k0_t2 : Fin k0_t2_loop.trips) : Fin 2 → Nat :=
  let c0_i32_13_r0 : BitVec 32 := 0#32
  let c1_i32_14_r0 : BitVec 32 := 1#32
  let arg14_r0 : BitVec 32 := Scf.iv c0_i32_13_r0 c1_i32_14_r0 k0_t1
  let c9_i32_71_r0 : BitVec 32 := 9#32
  let v146_r0 : BitVec 32 := Scalar.muli arg14_r0 c9_i32_71_r0
  let c0_i32_25_r0 : BitVec 32 := 0#32
  let c1_i32_26_r0 : BitVec 32 := 1#32
  let arg15_r0 : BitVec 32 := Scf.iv c0_i32_25_r0 c1_i32_26_r0 k0_t2
  let v147_r0 : BitVec 32 := Scalar.addi v146_r0 arg15_r0
  let c4_i32_790_r0 : BitVec 32 := 4#32
  let v1735_r0 : BitVec 32 := Scalar.addi v147_r0 c4_i32_790_r0
  let c1_i32_791_r0 : BitVec 32 := 1#32
  let v1736_r0 : BitVec 32 := Scalar.subi v1735_r0 c1_i32_791_r0
  let c0_i32_794_r0 : BitVec 32 := 0#32
  let v1739_r0 : BitVec 1 := Scalar.cmpi .sgt v1736_r0 c0_i32_794_r0
  let v1740_r0 : BitVec 32 := Scalar.extui v1739_r0
  let c0_i32_795_r0 : BitVec 32 := 0#32
  let v1741_r0 : BitVec 1 := Scalar.cmpi .slt v1736_r0 c0_i32_795_r0
  let v1742_r0 : BitVec 32 := Scalar.extui v1741_r0
  let v1743_r0 : BitVec 32 := Scalar.subi v1740_r0 v1742_r0
  let c9_i32_793_r0 : BitVec 32 := 9#32
  let c0_i32_796_r0 : BitVec 32 := 0#32
  let v1744_r0 : BitVec 1 := Scalar.cmpi .sgt c9_i32_793_r0 c0_i32_796_r0
  let v1745_r0 : BitVec 32 := Scalar.extui v1744_r0
  let c0_i32_797_r0 : BitVec 32 := 0#32
  let v1746_r0 : BitVec 1 := Scalar.cmpi .slt c9_i32_793_r0 c0_i32_797_r0
  let v1747_r0 : BitVec 32 := Scalar.extui v1746_r0
  let v1748_r0 : BitVec 32 := Scalar.subi v1745_r0 v1747_r0
  let v1749_r0 : BitVec 1 := Scalar.cmpi .ne v1743_r0 v1748_r0
  let v1750_r0 : BitVec 32 := Scalar.remsi v1736_r0 c9_i32_793_r0
  let c0_i32_798_r0 : BitVec 32 := 0#32
  let v1751_r0 : BitVec 1 := Scalar.cmpi .ne v1750_r0 c0_i32_798_r0
  let v1752_r0 : BitVec 1 := Scalar.andi v1749_r0 v1751_r0
  let v1738_r0 : BitVec 32 := Scalar.divsi v1736_r0 c9_i32_793_r0
  let c1_i32_799_r0 : BitVec 32 := 1#32
  let v1753_r0 : BitVec 32 := Scalar.subi v1738_r0 c1_i32_799_r0
  let v1754_r0 : BitVec 32 := Scalar.select v1752_r0 v1753_r0 v1738_r0
  let c9_i32_800_r0 : BitVec 32 := 9#32
  let v1755_r0 : BitVec 32 := Scalar.muli v1754_r0 c9_i32_800_r0
  let v1756_r0 : BitVec 32 := Scalar.subi v1736_r0 v1755_r0
  let c2048_i32_801_r0 : BitVec 32 := 2048#32
  let v1757_r0 : BitVec 32 := Scalar.muli v1756_r0 c2048_i32_801_r0
  let v1758_r0 : BitVec 32 := v1757_r0
  let c512_i32_802_r0 : BitVec 32 := 512#32
  let v1759_r0 : BitVec 32 := Scalar.muli v1754_r0 c512_i32_802_r0
  let v1760_r0 : BitVec 32 := v1759_r0
  ![v1758_r0.toNat, v1760_r0.toNat]
def k0_off9 (k0_t2 : Fin k0_t2_loop.trips) (c0_i32_89_r0 : BitVec 32) : Fin 3 → Nat :=
  let c0_i32_25_r0 : BitVec 32 := 0#32
  let c1_i32_26_r0 : BitVec 32 := 1#32
  let arg15_r0 : BitVec 32 := Scf.iv c0_i32_25_r0 c1_i32_26_r0 k0_t2
  let c8_i32_r0 : BitVec 32 := 8#32
  let v183_r0 : BitVec 32 := Scalar.muli arg15_r0 c8_i32_r0
  let v184_r0 : BitVec 32 := Scalar.addi v183_r0 c0_i32_89_r0
  let v185_r0 : Index := Scalar.indexCast v184_r0
  let c0_90_r0 : Index := 0#32
  let c0_91_r0 : Index := 0#32
  ![v185_r0.toNat, 0, 0]
def k0_off10 (k0_t2 : Fin k0_t2_loop.trips) (c0_i32_93_r0 : BitVec 32) : Fin 3 → Nat :=
  let c0_i32_25_r0 : BitVec 32 := 0#32
  let c1_i32_26_r0 : BitVec 32 := 1#32
  let arg15_r0 : BitVec 32 := Scf.iv c0_i32_25_r0 c1_i32_26_r0 k0_t2
  let c8_i32_92_r0 : BitVec 32 := 8#32
  let v188_r0 : BitVec 32 := Scalar.muli arg15_r0 c8_i32_92_r0
  let v189_r0 : BitVec 32 := Scalar.addi v188_r0 c0_i32_93_r0
  let v190_r0 : Index := Scalar.indexCast v189_r0
  let c0_94_r0 : Index := 0#32
  let c0_95_r0 : Index := 0#32
  ![v190_r0.toNat, 0, 0]
def k0_off11 (k0_t1 : Fin k0_t1_loop.trips) (k0_t2 : Fin k0_t2_loop.trips) : Fin 3 → Nat :=
  let c0_i32_13_r0 : BitVec 32 := 0#32
  let c1_i32_14_r0 : BitVec 32 := 1#32
  let arg14_r0 : BitVec 32 := Scf.iv c0_i32_13_r0 c1_i32_14_r0 k0_t1
  let c9_i32_71_r0 : BitVec 32 := 9#32
  let v146_r0 : BitVec 32 := Scalar.muli arg14_r0 c9_i32_71_r0
  let c0_i32_25_r0 : BitVec 32 := 0#32
  let c1_i32_26_r0 : BitVec 32 := 1#32
  let arg15_r0 : BitVec 32 := Scf.iv c0_i32_25_r0 c1_i32_26_r0 k0_t2
  let v147_r0 : BitVec 32 := Scalar.addi v146_r0 arg15_r0
  let c4_i32_72_r0 : BitVec 32 := 4#32
  let v148_r0 : BitVec 32 := Scalar.remsi v147_r0 c4_i32_72_r0
  let v193_r0 : Index := Scalar.indexCast v148_r0
  let c0_96_r0 : Index := 0#32
  let c0_97_r0 : Index := 0#32
  ![v193_r0.toNat, 0, 0]
def k0_off12 (k0_t1 : Fin k0_t1_loop.trips) (k0_t2 : Fin k0_t2_loop.trips) (c0_i32_99_r0 : BitVec 32) (c0_i32_101_r0 : BitVec 32) (c0_i32_103_r0 : BitVec 32) (c0_i32_104_r0 : BitVec 32) : Fin 2 → Nat :=
  let c0_i32_25_r0 : BitVec 32 := 0#32
  let c1_i32_26_r0 : BitVec 32 := 1#32
  let arg15_r0 : BitVec 32 := Scf.iv c0_i32_25_r0 c1_i32_26_r0 k0_t2
  let c8_i32_98_r0 : BitVec 32 := 8#32
  let v196_r0 : BitVec 32 := Scalar.muli arg15_r0 c8_i32_98_r0
  let v197_r0 : BitVec 32 := Scalar.addi v196_r0 c0_i32_99_r0
  let c2_i32_100_r0 : BitVec 32 := 2#32
  let v198_r0 : BitVec 32 := Scalar.muli v197_r0 c2_i32_100_r0
  let v199_r0 : BitVec 32 := Scalar.addi v198_r0 c0_i32_101_r0
  let v203_r0 : Index := Scalar.indexCast v199_r0
  let c0_i32_13_r0 : BitVec 32 := 0#32
  let c1_i32_14_r0 : BitVec 32 := 1#32
  let arg14_r0 : BitVec 32 := Scf.iv c0_i32_13_r0 c1_i32_14_r0 k0_t1
  let c4_i32_102_r0 : BitVec 32 := 4#32
  let v200_r0 : BitVec 32 := Scalar.muli arg14_r0 c4_i32_102_r0
  let v201_r0 : BitVec 32 := Scalar.addi v200_r0 c0_i32_103_r0
  let v202_r0 : BitVec 32 := Scalar.addi v201_r0 c0_i32_104_r0
  let v204_r0 : Index := Scalar.indexCast v202_r0
  ![v203_r0.toNat, v204_r0.toNat]
def k0_off13 (k0_t1 : Fin k0_t1_loop.trips) (k0_t2 : Fin k0_t2_loop.trips) : Fin 3 → Nat :=
  let c0_i32_13_r0 : BitVec 32 := 0#32
  let c1_i32_14_r0 : BitVec 32 := 1#32
  let arg14_r0 : BitVec 32 := Scf.iv c0_i32_13_r0 c1_i32_14_r0 k0_t1
  let c9_i32_71_r0 : BitVec 32 := 9#32
  let v146_r0 : BitVec 32 := Scalar.muli arg14_r0 c9_i32_71_r0
  let c0_i32_25_r0 : BitVec 32 := 0#32
  let c1_i32_26_r0 : BitVec 32 := 1#32
  let arg15_r0 : BitVec 32 := Scf.iv c0_i32_25_r0 c1_i32_26_r0 k0_t2
  let v147_r0 : BitVec 32 := Scalar.addi v146_r0 arg15_r0
  let c4_i32_72_r0 : BitVec 32 := 4#32
  let v148_r0 : BitVec 32 := Scalar.remsi v147_r0 c4_i32_72_r0
  let v214_r0 : Index := Scalar.indexCast v148_r0
  let c0_106_r0 : Index := 0#32
  let c128_r0 : Index := 128#32
  ![v214_r0.toNat, 0, 128]
def k0_off14 (k0_t1 : Fin k0_t1_loop.trips) (k0_t2 : Fin k0_t2_loop.trips) : Fin 3 → Nat :=
  let c0_i32_13_r0 : BitVec 32 := 0#32
  let c1_i32_14_r0 : BitVec 32 := 1#32
  let arg14_r0 : BitVec 32 := Scf.iv c0_i32_13_r0 c1_i32_14_r0 k0_t1
  let c9_i32_71_r0 : BitVec 32 := 9#32
  let v146_r0 : BitVec 32 := Scalar.muli arg14_r0 c9_i32_71_r0
  let c0_i32_25_r0 : BitVec 32 := 0#32
  let c1_i32_26_r0 : BitVec 32 := 1#32
  let arg15_r0 : BitVec 32 := Scf.iv c0_i32_25_r0 c1_i32_26_r0 k0_t2
  let v147_r0 : BitVec 32 := Scalar.addi v146_r0 arg15_r0
  let c4_i32_72_r0 : BitVec 32 := 4#32
  let v148_r0 : BitVec 32 := Scalar.remsi v147_r0 c4_i32_72_r0
  let v236_r0 : Index := Scalar.indexCast v148_r0
  let c128_115_r0 : Index := 128#32
  let c0_116_r0 : Index := 0#32
  ![v236_r0.toNat, 128, 0]
def k0_off15 (k0_t1 : Fin k0_t1_loop.trips) (k0_t2 : Fin k0_t2_loop.trips) : Fin 3 → Nat :=
  let c0_i32_13_r0 : BitVec 32 := 0#32
  let c1_i32_14_r0 : BitVec 32 := 1#32
  let arg14_r0 : BitVec 32 := Scf.iv c0_i32_13_r0 c1_i32_14_r0 k0_t1
  let c9_i32_71_r0 : BitVec 32 := 9#32
  let v146_r0 : BitVec 32 := Scalar.muli arg14_r0 c9_i32_71_r0
  let c0_i32_25_r0 : BitVec 32 := 0#32
  let c1_i32_26_r0 : BitVec 32 := 1#32
  let arg15_r0 : BitVec 32 := Scf.iv c0_i32_25_r0 c1_i32_26_r0 k0_t2
  let v147_r0 : BitVec 32 := Scalar.addi v146_r0 arg15_r0
  let c4_i32_72_r0 : BitVec 32 := 4#32
  let v148_r0 : BitVec 32 := Scalar.remsi v147_r0 c4_i32_72_r0
  let v258_r0 : Index := Scalar.indexCast v148_r0
  let c128_125_r0 : Index := 128#32
  let c128_126_r0 : Index := 128#32
  ![v258_r0.toNat, 128, 128]
def k0_off16 (k0_t1 : Fin k0_t1_loop.trips) (k0_t2 : Fin k0_t2_loop.trips) : Fin 3 → Nat :=
  let c0_i32_13_r0 : BitVec 32 := 0#32
  let c1_i32_14_r0 : BitVec 32 := 1#32
  let arg14_r0 : BitVec 32 := Scf.iv c0_i32_13_r0 c1_i32_14_r0 k0_t1
  let c9_i32_71_r0 : BitVec 32 := 9#32
  let v146_r0 : BitVec 32 := Scalar.muli arg14_r0 c9_i32_71_r0
  let c0_i32_25_r0 : BitVec 32 := 0#32
  let c1_i32_26_r0 : BitVec 32 := 1#32
  let arg15_r0 : BitVec 32 := Scf.iv c0_i32_25_r0 c1_i32_26_r0 k0_t2
  let v147_r0 : BitVec 32 := Scalar.addi v146_r0 arg15_r0
  let c4_i32_72_r0 : BitVec 32 := 4#32
  let v148_r0 : BitVec 32 := Scalar.remsi v147_r0 c4_i32_72_r0
  let v282_r0 : Index := Scalar.indexCast v148_r0
  let c0_135_r0 : Index := 0#32
  let c256_136_r0 : Index := 256#32
  ![v282_r0.toNat, 0, 256]
def k0_off17 (k0_t1 : Fin k0_t1_loop.trips) (k0_t2 : Fin k0_t2_loop.trips) : Fin 3 → Nat :=
  let c0_i32_13_r0 : BitVec 32 := 0#32
  let c1_i32_14_r0 : BitVec 32 := 1#32
  let arg14_r0 : BitVec 32 := Scf.iv c0_i32_13_r0 c1_i32_14_r0 k0_t1
  let c9_i32_71_r0 : BitVec 32 := 9#32
  let v146_r0 : BitVec 32 := Scalar.muli arg14_r0 c9_i32_71_r0
  let c0_i32_25_r0 : BitVec 32 := 0#32
  let c1_i32_26_r0 : BitVec 32 := 1#32
  let arg15_r0 : BitVec 32 := Scf.iv c0_i32_25_r0 c1_i32_26_r0 k0_t2
  let v147_r0 : BitVec 32 := Scalar.addi v146_r0 arg15_r0
  let c4_i32_72_r0 : BitVec 32 := 4#32
  let v148_r0 : BitVec 32 := Scalar.remsi v147_r0 c4_i32_72_r0
  let v303_r0 : Index := Scalar.indexCast v148_r0
  let c0_145_r0 : Index := 0#32
  let c384_r0 : Index := 384#32
  ![v303_r0.toNat, 0, 384]
def k0_off18 (k0_t1 : Fin k0_t1_loop.trips) (k0_t2 : Fin k0_t2_loop.trips) : Fin 3 → Nat :=
  let c0_i32_13_r0 : BitVec 32 := 0#32
  let c1_i32_14_r0 : BitVec 32 := 1#32
  let arg14_r0 : BitVec 32 := Scf.iv c0_i32_13_r0 c1_i32_14_r0 k0_t1
  let c9_i32_71_r0 : BitVec 32 := 9#32
  let v146_r0 : BitVec 32 := Scalar.muli arg14_r0 c9_i32_71_r0
  let c0_i32_25_r0 : BitVec 32 := 0#32
  let c1_i32_26_r0 : BitVec 32 := 1#32
  let arg15_r0 : BitVec 32 := Scf.iv c0_i32_25_r0 c1_i32_26_r0 k0_t2
  let v147_r0 : BitVec 32 := Scalar.addi v146_r0 arg15_r0
  let c4_i32_72_r0 : BitVec 32 := 4#32
  let v148_r0 : BitVec 32 := Scalar.remsi v147_r0 c4_i32_72_r0
  let v325_r0 : Index := Scalar.indexCast v148_r0
  let c128_154_r0 : Index := 128#32
  let c256_155_r0 : Index := 256#32
  ![v325_r0.toNat, 128, 256]
def k0_off19 (k0_t1 : Fin k0_t1_loop.trips) (k0_t2 : Fin k0_t2_loop.trips) : Fin 3 → Nat :=
  let c0_i32_13_r0 : BitVec 32 := 0#32
  let c1_i32_14_r0 : BitVec 32 := 1#32
  let arg14_r0 : BitVec 32 := Scf.iv c0_i32_13_r0 c1_i32_14_r0 k0_t1
  let c9_i32_71_r0 : BitVec 32 := 9#32
  let v146_r0 : BitVec 32 := Scalar.muli arg14_r0 c9_i32_71_r0
  let c0_i32_25_r0 : BitVec 32 := 0#32
  let c1_i32_26_r0 : BitVec 32 := 1#32
  let arg15_r0 : BitVec 32 := Scf.iv c0_i32_25_r0 c1_i32_26_r0 k0_t2
  let v147_r0 : BitVec 32 := Scalar.addi v146_r0 arg15_r0
  let c4_i32_72_r0 : BitVec 32 := 4#32
  let v148_r0 : BitVec 32 := Scalar.remsi v147_r0 c4_i32_72_r0
  let v347_r0 : Index := Scalar.indexCast v148_r0
  let c128_164_r0 : Index := 128#32
  let c384_165_r0 : Index := 384#32
  ![v347_r0.toNat, 128, 384]
def k0_off20 (k0_t1 : Fin k0_t1_loop.trips) (k0_t2 : Fin k0_t2_loop.trips) : Fin 3 → Nat :=
  let c0_i32_13_r0 : BitVec 32 := 0#32
  let c1_i32_14_r0 : BitVec 32 := 1#32
  let arg14_r0 : BitVec 32 := Scf.iv c0_i32_13_r0 c1_i32_14_r0 k0_t1
  let c9_i32_71_r0 : BitVec 32 := 9#32
  let v146_r0 : BitVec 32 := Scalar.muli arg14_r0 c9_i32_71_r0
  let c0_i32_25_r0 : BitVec 32 := 0#32
  let c1_i32_26_r0 : BitVec 32 := 1#32
  let arg15_r0 : BitVec 32 := Scf.iv c0_i32_25_r0 c1_i32_26_r0 k0_t2
  let v147_r0 : BitVec 32 := Scalar.addi v146_r0 arg15_r0
  let c4_i32_72_r0 : BitVec 32 := 4#32
  let v148_r0 : BitVec 32 := Scalar.remsi v147_r0 c4_i32_72_r0
  let v381_r0 : Index := Scalar.indexCast v148_r0
  let c256_182_r0 : Index := 256#32
  let c0_183_r0 : Index := 0#32
  ![v381_r0.toNat, 256, 0]
def k0_off21 (k0_t1 : Fin k0_t1_loop.trips) (k0_t2 : Fin k0_t2_loop.trips) : Fin 3 → Nat :=
  let c0_i32_13_r0 : BitVec 32 := 0#32
  let c1_i32_14_r0 : BitVec 32 := 1#32
  let arg14_r0 : BitVec 32 := Scf.iv c0_i32_13_r0 c1_i32_14_r0 k0_t1
  let c9_i32_71_r0 : BitVec 32 := 9#32
  let v146_r0 : BitVec 32 := Scalar.muli arg14_r0 c9_i32_71_r0
  let c0_i32_25_r0 : BitVec 32 := 0#32
  let c1_i32_26_r0 : BitVec 32 := 1#32
  let arg15_r0 : BitVec 32 := Scf.iv c0_i32_25_r0 c1_i32_26_r0 k0_t2
  let v147_r0 : BitVec 32 := Scalar.addi v146_r0 arg15_r0
  let c4_i32_72_r0 : BitVec 32 := 4#32
  let v148_r0 : BitVec 32 := Scalar.remsi v147_r0 c4_i32_72_r0
  let v403_r0 : Index := Scalar.indexCast v148_r0
  let c256_192_r0 : Index := 256#32
  let c128_193_r0 : Index := 128#32
  ![v403_r0.toNat, 256, 128]
def k0_off22 (k0_t1 : Fin k0_t1_loop.trips) (k0_t2 : Fin k0_t2_loop.trips) : Fin 3 → Nat :=
  let c0_i32_13_r0 : BitVec 32 := 0#32
  let c1_i32_14_r0 : BitVec 32 := 1#32
  let arg14_r0 : BitVec 32 := Scf.iv c0_i32_13_r0 c1_i32_14_r0 k0_t1
  let c9_i32_71_r0 : BitVec 32 := 9#32
  let v146_r0 : BitVec 32 := Scalar.muli arg14_r0 c9_i32_71_r0
  let c0_i32_25_r0 : BitVec 32 := 0#32
  let c1_i32_26_r0 : BitVec 32 := 1#32
  let arg15_r0 : BitVec 32 := Scf.iv c0_i32_25_r0 c1_i32_26_r0 k0_t2
  let v147_r0 : BitVec 32 := Scalar.addi v146_r0 arg15_r0
  let c4_i32_72_r0 : BitVec 32 := 4#32
  let v148_r0 : BitVec 32 := Scalar.remsi v147_r0 c4_i32_72_r0
  let v426_r0 : Index := Scalar.indexCast v148_r0
  let c384_202_r0 : Index := 384#32
  let c0_203_r0 : Index := 0#32
  ![v426_r0.toNat, 384, 0]
def k0_off23 (k0_t1 : Fin k0_t1_loop.trips) (k0_t2 : Fin k0_t2_loop.trips) : Fin 3 → Nat :=
  let c0_i32_13_r0 : BitVec 32 := 0#32
  let c1_i32_14_r0 : BitVec 32 := 1#32
  let arg14_r0 : BitVec 32 := Scf.iv c0_i32_13_r0 c1_i32_14_r0 k0_t1
  let c9_i32_71_r0 : BitVec 32 := 9#32
  let v146_r0 : BitVec 32 := Scalar.muli arg14_r0 c9_i32_71_r0
  let c0_i32_25_r0 : BitVec 32 := 0#32
  let c1_i32_26_r0 : BitVec 32 := 1#32
  let arg15_r0 : BitVec 32 := Scf.iv c0_i32_25_r0 c1_i32_26_r0 k0_t2
  let v147_r0 : BitVec 32 := Scalar.addi v146_r0 arg15_r0
  let c4_i32_72_r0 : BitVec 32 := 4#32
  let v148_r0 : BitVec 32 := Scalar.remsi v147_r0 c4_i32_72_r0
  let v448_r0 : Index := Scalar.indexCast v148_r0
  let c384_212_r0 : Index := 384#32
  let c128_213_r0 : Index := 128#32
  ![v448_r0.toNat, 384, 128]
def k0_off24 (k0_t1 : Fin k0_t1_loop.trips) (k0_t2 : Fin k0_t2_loop.trips) : Fin 3 → Nat :=
  let c0_i32_13_r0 : BitVec 32 := 0#32
  let c1_i32_14_r0 : BitVec 32 := 1#32
  let arg14_r0 : BitVec 32 := Scf.iv c0_i32_13_r0 c1_i32_14_r0 k0_t1
  let c9_i32_71_r0 : BitVec 32 := 9#32
  let v146_r0 : BitVec 32 := Scalar.muli arg14_r0 c9_i32_71_r0
  let c0_i32_25_r0 : BitVec 32 := 0#32
  let c1_i32_26_r0 : BitVec 32 := 1#32
  let arg15_r0 : BitVec 32 := Scf.iv c0_i32_25_r0 c1_i32_26_r0 k0_t2
  let v147_r0 : BitVec 32 := Scalar.addi v146_r0 arg15_r0
  let c4_i32_72_r0 : BitVec 32 := 4#32
  let v148_r0 : BitVec 32 := Scalar.remsi v147_r0 c4_i32_72_r0
  let v472_r0 : Index := Scalar.indexCast v148_r0
  let c256_222_r0 : Index := 256#32
  let c256_223_r0 : Index := 256#32
  ![v472_r0.toNat, 256, 256]
def k0_off25 (k0_t1 : Fin k0_t1_loop.trips) (k0_t2 : Fin k0_t2_loop.trips) : Fin 3 → Nat :=
  let c0_i32_13_r0 : BitVec 32 := 0#32
  let c1_i32_14_r0 : BitVec 32 := 1#32
  let arg14_r0 : BitVec 32 := Scf.iv c0_i32_13_r0 c1_i32_14_r0 k0_t1
  let c9_i32_71_r0 : BitVec 32 := 9#32
  let v146_r0 : BitVec 32 := Scalar.muli arg14_r0 c9_i32_71_r0
  let c0_i32_25_r0 : BitVec 32 := 0#32
  let c1_i32_26_r0 : BitVec 32 := 1#32
  let arg15_r0 : BitVec 32 := Scf.iv c0_i32_25_r0 c1_i32_26_r0 k0_t2
  let v147_r0 : BitVec 32 := Scalar.addi v146_r0 arg15_r0
  let c4_i32_72_r0 : BitVec 32 := 4#32
  let v148_r0 : BitVec 32 := Scalar.remsi v147_r0 c4_i32_72_r0
  let v494_r0 : Index := Scalar.indexCast v148_r0
  let c256_232_r0 : Index := 256#32
  let c384_233_r0 : Index := 384#32
  ![v494_r0.toNat, 256, 384]
def k0_off26 (k0_t1 : Fin k0_t1_loop.trips) (k0_t2 : Fin k0_t2_loop.trips) : Fin 3 → Nat :=
  let c0_i32_13_r0 : BitVec 32 := 0#32
  let c1_i32_14_r0 : BitVec 32 := 1#32
  let arg14_r0 : BitVec 32 := Scf.iv c0_i32_13_r0 c1_i32_14_r0 k0_t1
  let c9_i32_71_r0 : BitVec 32 := 9#32
  let v146_r0 : BitVec 32 := Scalar.muli arg14_r0 c9_i32_71_r0
  let c0_i32_25_r0 : BitVec 32 := 0#32
  let c1_i32_26_r0 : BitVec 32 := 1#32
  let arg15_r0 : BitVec 32 := Scf.iv c0_i32_25_r0 c1_i32_26_r0 k0_t2
  let v147_r0 : BitVec 32 := Scalar.addi v146_r0 arg15_r0
  let c4_i32_72_r0 : BitVec 32 := 4#32
  let v148_r0 : BitVec 32 := Scalar.remsi v147_r0 c4_i32_72_r0
  let v517_r0 : Index := Scalar.indexCast v148_r0
  let c384_242_r0 : Index := 384#32
  let c256_243_r0 : Index := 256#32
  ![v517_r0.toNat, 384, 256]
def k0_off27 (k0_t1 : Fin k0_t1_loop.trips) (k0_t2 : Fin k0_t2_loop.trips) : Fin 3 → Nat :=
  let c0_i32_13_r0 : BitVec 32 := 0#32
  let c1_i32_14_r0 : BitVec 32 := 1#32
  let arg14_r0 : BitVec 32 := Scf.iv c0_i32_13_r0 c1_i32_14_r0 k0_t1
  let c9_i32_71_r0 : BitVec 32 := 9#32
  let v146_r0 : BitVec 32 := Scalar.muli arg14_r0 c9_i32_71_r0
  let c0_i32_25_r0 : BitVec 32 := 0#32
  let c1_i32_26_r0 : BitVec 32 := 1#32
  let arg15_r0 : BitVec 32 := Scf.iv c0_i32_25_r0 c1_i32_26_r0 k0_t2
  let v147_r0 : BitVec 32 := Scalar.addi v146_r0 arg15_r0
  let c4_i32_72_r0 : BitVec 32 := 4#32
  let v148_r0 : BitVec 32 := Scalar.remsi v147_r0 c4_i32_72_r0
  let v539_r0 : Index := Scalar.indexCast v148_r0
  let c384_252_r0 : Index := 384#32
  let c384_253_r0 : Index := 384#32
  ![v539_r0.toNat, 384, 384]
def k0_off28 (k0_t1 : Fin k0_t1_loop.trips) (k0_t2 : Fin k0_t2_loop.trips) : Fin 3 → Nat :=
  let c0_i32_13_r0 : BitVec 32 := 0#32
  let c1_i32_14_r0 : BitVec 32 := 1#32
  let arg14_r0 : BitVec 32 := Scf.iv c0_i32_13_r0 c1_i32_14_r0 k0_t1
  let c9_i32_71_r0 : BitVec 32 := 9#32
  let v146_r0 : BitVec 32 := Scalar.muli arg14_r0 c9_i32_71_r0
  let c0_i32_25_r0 : BitVec 32 := 0#32
  let c1_i32_26_r0 : BitVec 32 := 1#32
  let arg15_r0 : BitVec 32 := Scf.iv c0_i32_25_r0 c1_i32_26_r0 k0_t2
  let v147_r0 : BitVec 32 := Scalar.addi v146_r0 arg15_r0
  let c4_i32_72_r0 : BitVec 32 := 4#32
  let v148_r0 : BitVec 32 := Scalar.remsi v147_r0 c4_i32_72_r0
  let v573_r0 : Index := Scalar.indexCast v148_r0
  let c512_r0 : Index := 512#32
  let c0_270_r0 : Index := 0#32
  ![v573_r0.toNat, 512, 0]
def k0_off29 (k0_t1 : Fin k0_t1_loop.trips) (k0_t2 : Fin k0_t2_loop.trips) : Fin 3 → Nat :=
  let c0_i32_13_r0 : BitVec 32 := 0#32
  let c1_i32_14_r0 : BitVec 32 := 1#32
  let arg14_r0 : BitVec 32 := Scf.iv c0_i32_13_r0 c1_i32_14_r0 k0_t1
  let c9_i32_71_r0 : BitVec 32 := 9#32
  let v146_r0 : BitVec 32 := Scalar.muli arg14_r0 c9_i32_71_r0
  let c0_i32_25_r0 : BitVec 32 := 0#32
  let c1_i32_26_r0 : BitVec 32 := 1#32
  let arg15_r0 : BitVec 32 := Scf.iv c0_i32_25_r0 c1_i32_26_r0 k0_t2
  let v147_r0 : BitVec 32 := Scalar.addi v146_r0 arg15_r0
  let c4_i32_72_r0 : BitVec 32 := 4#32
  let v148_r0 : BitVec 32 := Scalar.remsi v147_r0 c4_i32_72_r0
  let v595_r0 : Index := Scalar.indexCast v148_r0
  let c512_279_r0 : Index := 512#32
  let c128_280_r0 : Index := 128#32
  ![v595_r0.toNat, 512, 128]
def k0_off30 (k0_t1 : Fin k0_t1_loop.trips) (k0_t2 : Fin k0_t2_loop.trips) : Fin 3 → Nat :=
  let c0_i32_13_r0 : BitVec 32 := 0#32
  let c1_i32_14_r0 : BitVec 32 := 1#32
  let arg14_r0 : BitVec 32 := Scf.iv c0_i32_13_r0 c1_i32_14_r0 k0_t1
  let c9_i32_71_r0 : BitVec 32 := 9#32
  let v146_r0 : BitVec 32 := Scalar.muli arg14_r0 c9_i32_71_r0
  let c0_i32_25_r0 : BitVec 32 := 0#32
  let c1_i32_26_r0 : BitVec 32 := 1#32
  let arg15_r0 : BitVec 32 := Scf.iv c0_i32_25_r0 c1_i32_26_r0 k0_t2
  let v147_r0 : BitVec 32 := Scalar.addi v146_r0 arg15_r0
  let c4_i32_72_r0 : BitVec 32 := 4#32
  let v148_r0 : BitVec 32 := Scalar.remsi v147_r0 c4_i32_72_r0
  let v618_r0 : Index := Scalar.indexCast v148_r0
  let c640_r0 : Index := 640#32
  let c0_289_r0 : Index := 0#32
  ![v618_r0.toNat, 640, 0]
def k0_off31 (k0_t1 : Fin k0_t1_loop.trips) (k0_t2 : Fin k0_t2_loop.trips) : Fin 3 → Nat :=
  let c0_i32_13_r0 : BitVec 32 := 0#32
  let c1_i32_14_r0 : BitVec 32 := 1#32
  let arg14_r0 : BitVec 32 := Scf.iv c0_i32_13_r0 c1_i32_14_r0 k0_t1
  let c9_i32_71_r0 : BitVec 32 := 9#32
  let v146_r0 : BitVec 32 := Scalar.muli arg14_r0 c9_i32_71_r0
  let c0_i32_25_r0 : BitVec 32 := 0#32
  let c1_i32_26_r0 : BitVec 32 := 1#32
  let arg15_r0 : BitVec 32 := Scf.iv c0_i32_25_r0 c1_i32_26_r0 k0_t2
  let v147_r0 : BitVec 32 := Scalar.addi v146_r0 arg15_r0
  let c4_i32_72_r0 : BitVec 32 := 4#32
  let v148_r0 : BitVec 32 := Scalar.remsi v147_r0 c4_i32_72_r0
  let v640_r0 : Index := Scalar.indexCast v148_r0
  let c640_298_r0 : Index := 640#32
  let c128_299_r0 : Index := 128#32
  ![v640_r0.toNat, 640, 128]
def k0_off32 (k0_t1 : Fin k0_t1_loop.trips) (k0_t2 : Fin k0_t2_loop.trips) : Fin 3 → Nat :=
  let c0_i32_13_r0 : BitVec 32 := 0#32
  let c1_i32_14_r0 : BitVec 32 := 1#32
  let arg14_r0 : BitVec 32 := Scf.iv c0_i32_13_r0 c1_i32_14_r0 k0_t1
  let c9_i32_71_r0 : BitVec 32 := 9#32
  let v146_r0 : BitVec 32 := Scalar.muli arg14_r0 c9_i32_71_r0
  let c0_i32_25_r0 : BitVec 32 := 0#32
  let c1_i32_26_r0 : BitVec 32 := 1#32
  let arg15_r0 : BitVec 32 := Scf.iv c0_i32_25_r0 c1_i32_26_r0 k0_t2
  let v147_r0 : BitVec 32 := Scalar.addi v146_r0 arg15_r0
  let c4_i32_72_r0 : BitVec 32 := 4#32
  let v148_r0 : BitVec 32 := Scalar.remsi v147_r0 c4_i32_72_r0
  let v664_r0 : Index := Scalar.indexCast v148_r0
  let c512_308_r0 : Index := 512#32
  let c256_309_r0 : Index := 256#32
  ![v664_r0.toNat, 512, 256]
def k0_off33 (k0_t1 : Fin k0_t1_loop.trips) (k0_t2 : Fin k0_t2_loop.trips) : Fin 3 → Nat :=
  let c0_i32_13_r0 : BitVec 32 := 0#32
  let c1_i32_14_r0 : BitVec 32 := 1#32
  let arg14_r0 : BitVec 32 := Scf.iv c0_i32_13_r0 c1_i32_14_r0 k0_t1
  let c9_i32_71_r0 : BitVec 32 := 9#32
  let v146_r0 : BitVec 32 := Scalar.muli arg14_r0 c9_i32_71_r0
  let c0_i32_25_r0 : BitVec 32 := 0#32
  let c1_i32_26_r0 : BitVec 32 := 1#32
  let arg15_r0 : BitVec 32 := Scf.iv c0_i32_25_r0 c1_i32_26_r0 k0_t2
  let v147_r0 : BitVec 32 := Scalar.addi v146_r0 arg15_r0
  let c4_i32_72_r0 : BitVec 32 := 4#32
  let v148_r0 : BitVec 32 := Scalar.remsi v147_r0 c4_i32_72_r0
  let v686_r0 : Index := Scalar.indexCast v148_r0
  let c512_318_r0 : Index := 512#32
  let c384_319_r0 : Index := 384#32
  ![v686_r0.toNat, 512, 384]
def k0_off34 (k0_t1 : Fin k0_t1_loop.trips) (k0_t2 : Fin k0_t2_loop.trips) : Fin 3 → Nat :=
  let c0_i32_13_r0 : BitVec 32 := 0#32
  let c1_i32_14_r0 : BitVec 32 := 1#32
  let arg14_r0 : BitVec 32 := Scf.iv c0_i32_13_r0 c1_i32_14_r0 k0_t1
  let c9_i32_71_r0 : BitVec 32 := 9#32
  let v146_r0 : BitVec 32 := Scalar.muli arg14_r0 c9_i32_71_r0
  let c0_i32_25_r0 : BitVec 32 := 0#32
  let c1_i32_26_r0 : BitVec 32 := 1#32
  let arg15_r0 : BitVec 32 := Scf.iv c0_i32_25_r0 c1_i32_26_r0 k0_t2
  let v147_r0 : BitVec 32 := Scalar.addi v146_r0 arg15_r0
  let c4_i32_72_r0 : BitVec 32 := 4#32
  let v148_r0 : BitVec 32 := Scalar.remsi v147_r0 c4_i32_72_r0
  let v709_r0 : Index := Scalar.indexCast v148_r0
  let c640_328_r0 : Index := 640#32
  let c256_329_r0 : Index := 256#32
  ![v709_r0.toNat, 640, 256]
def k0_off35 (k0_t1 : Fin k0_t1_loop.trips) (k0_t2 : Fin k0_t2_loop.trips) : Fin 3 → Nat :=
  let c0_i32_13_r0 : BitVec 32 := 0#32
  let c1_i32_14_r0 : BitVec 32 := 1#32
  let arg14_r0 : BitVec 32 := Scf.iv c0_i32_13_r0 c1_i32_14_r0 k0_t1
  let c9_i32_71_r0 : BitVec 32 := 9#32
  let v146_r0 : BitVec 32 := Scalar.muli arg14_r0 c9_i32_71_r0
  let c0_i32_25_r0 : BitVec 32 := 0#32
  let c1_i32_26_r0 : BitVec 32 := 1#32
  let arg15_r0 : BitVec 32 := Scf.iv c0_i32_25_r0 c1_i32_26_r0 k0_t2
  let v147_r0 : BitVec 32 := Scalar.addi v146_r0 arg15_r0
  let c4_i32_72_r0 : BitVec 32 := 4#32
  let v148_r0 : BitVec 32 := Scalar.remsi v147_r0 c4_i32_72_r0
  let v731_r0 : Index := Scalar.indexCast v148_r0
  let c640_338_r0 : Index := 640#32
  let c384_339_r0 : Index := 384#32
  ![v731_r0.toNat, 640, 384]
def k0_off36 (k0_t1 : Fin k0_t1_loop.trips) (k0_t2 : Fin k0_t2_loop.trips) : Fin 3 → Nat :=
  let c0_i32_13_r0 : BitVec 32 := 0#32
  let c1_i32_14_r0 : BitVec 32 := 1#32
  let arg14_r0 : BitVec 32 := Scf.iv c0_i32_13_r0 c1_i32_14_r0 k0_t1
  let c9_i32_71_r0 : BitVec 32 := 9#32
  let v146_r0 : BitVec 32 := Scalar.muli arg14_r0 c9_i32_71_r0
  let c0_i32_25_r0 : BitVec 32 := 0#32
  let c1_i32_26_r0 : BitVec 32 := 1#32
  let arg15_r0 : BitVec 32 := Scf.iv c0_i32_25_r0 c1_i32_26_r0 k0_t2
  let v147_r0 : BitVec 32 := Scalar.addi v146_r0 arg15_r0
  let c4_i32_72_r0 : BitVec 32 := 4#32
  let v148_r0 : BitVec 32 := Scalar.remsi v147_r0 c4_i32_72_r0
  let v765_r0 : Index := Scalar.indexCast v148_r0
  let c768_r0 : Index := 768#32
  let c0_355_r0 : Index := 0#32
  ![v765_r0.toNat, 768, 0]
def k0_off37 (k0_t1 : Fin k0_t1_loop.trips) (k0_t2 : Fin k0_t2_loop.trips) : Fin 3 → Nat :=
  let c0_i32_13_r0 : BitVec 32 := 0#32
  let c1_i32_14_r0 : BitVec 32 := 1#32
  let arg14_r0 : BitVec 32 := Scf.iv c0_i32_13_r0 c1_i32_14_r0 k0_t1
  let c9_i32_71_r0 : BitVec 32 := 9#32
  let v146_r0 : BitVec 32 := Scalar.muli arg14_r0 c9_i32_71_r0
  let c0_i32_25_r0 : BitVec 32 := 0#32
  let c1_i32_26_r0 : BitVec 32 := 1#32
  let arg15_r0 : BitVec 32 := Scf.iv c0_i32_25_r0 c1_i32_26_r0 k0_t2
  let v147_r0 : BitVec 32 := Scalar.addi v146_r0 arg15_r0
  let c4_i32_72_r0 : BitVec 32 := 4#32
  let v148_r0 : BitVec 32 := Scalar.remsi v147_r0 c4_i32_72_r0
  let v787_r0 : Index := Scalar.indexCast v148_r0
  let c768_364_r0 : Index := 768#32
  let c128_365_r0 : Index := 128#32
  ![v787_r0.toNat, 768, 128]
def k0_off38 (k0_t1 : Fin k0_t1_loop.trips) (k0_t2 : Fin k0_t2_loop.trips) : Fin 3 → Nat :=
  let c0_i32_13_r0 : BitVec 32 := 0#32
  let c1_i32_14_r0 : BitVec 32 := 1#32
  let arg14_r0 : BitVec 32 := Scf.iv c0_i32_13_r0 c1_i32_14_r0 k0_t1
  let c9_i32_71_r0 : BitVec 32 := 9#32
  let v146_r0 : BitVec 32 := Scalar.muli arg14_r0 c9_i32_71_r0
  let c0_i32_25_r0 : BitVec 32 := 0#32
  let c1_i32_26_r0 : BitVec 32 := 1#32
  let arg15_r0 : BitVec 32 := Scf.iv c0_i32_25_r0 c1_i32_26_r0 k0_t2
  let v147_r0 : BitVec 32 := Scalar.addi v146_r0 arg15_r0
  let c4_i32_72_r0 : BitVec 32 := 4#32
  let v148_r0 : BitVec 32 := Scalar.remsi v147_r0 c4_i32_72_r0
  let v810_r0 : Index := Scalar.indexCast v148_r0
  let c896_r0 : Index := 896#32
  let c0_374_r0 : Index := 0#32
  ![v810_r0.toNat, 896, 0]
def k0_off39 (k0_t1 : Fin k0_t1_loop.trips) (k0_t2 : Fin k0_t2_loop.trips) : Fin 3 → Nat :=
  let c0_i32_13_r0 : BitVec 32 := 0#32
  let c1_i32_14_r0 : BitVec 32 := 1#32
  let arg14_r0 : BitVec 32 := Scf.iv c0_i32_13_r0 c1_i32_14_r0 k0_t1
  let c9_i32_71_r0 : BitVec 32 := 9#32
  let v146_r0 : BitVec 32 := Scalar.muli arg14_r0 c9_i32_71_r0
  let c0_i32_25_r0 : BitVec 32 := 0#32
  let c1_i32_26_r0 : BitVec 32 := 1#32
  let arg15_r0 : BitVec 32 := Scf.iv c0_i32_25_r0 c1_i32_26_r0 k0_t2
  let v147_r0 : BitVec 32 := Scalar.addi v146_r0 arg15_r0
  let c4_i32_72_r0 : BitVec 32 := 4#32
  let v148_r0 : BitVec 32 := Scalar.remsi v147_r0 c4_i32_72_r0
  let v832_r0 : Index := Scalar.indexCast v148_r0
  let c896_383_r0 : Index := 896#32
  let c128_384_r0 : Index := 128#32
  ![v832_r0.toNat, 896, 128]
def k0_off40 (k0_t1 : Fin k0_t1_loop.trips) (k0_t2 : Fin k0_t2_loop.trips) : Fin 3 → Nat :=
  let c0_i32_13_r0 : BitVec 32 := 0#32
  let c1_i32_14_r0 : BitVec 32 := 1#32
  let arg14_r0 : BitVec 32 := Scf.iv c0_i32_13_r0 c1_i32_14_r0 k0_t1
  let c9_i32_71_r0 : BitVec 32 := 9#32
  let v146_r0 : BitVec 32 := Scalar.muli arg14_r0 c9_i32_71_r0
  let c0_i32_25_r0 : BitVec 32 := 0#32
  let c1_i32_26_r0 : BitVec 32 := 1#32
  let arg15_r0 : BitVec 32 := Scf.iv c0_i32_25_r0 c1_i32_26_r0 k0_t2
  let v147_r0 : BitVec 32 := Scalar.addi v146_r0 arg15_r0
  let c4_i32_72_r0 : BitVec 32 := 4#32
  let v148_r0 : BitVec 32 := Scalar.remsi v147_r0 c4_i32_72_r0
  let v856_r0 : Index := Scalar.indexCast v148_r0
  let c768_393_r0 : Index := 768#32
  let c256_394_r0 : Index := 256#32
  ![v856_r0.toNat, 768, 256]
def k0_off41 (k0_t1 : Fin k0_t1_loop.trips) (k0_t2 : Fin k0_t2_loop.trips) : Fin 3 → Nat :=
  let c0_i32_13_r0 : BitVec 32 := 0#32
  let c1_i32_14_r0 : BitVec 32 := 1#32
  let arg14_r0 : BitVec 32 := Scf.iv c0_i32_13_r0 c1_i32_14_r0 k0_t1
  let c9_i32_71_r0 : BitVec 32 := 9#32
  let v146_r0 : BitVec 32 := Scalar.muli arg14_r0 c9_i32_71_r0
  let c0_i32_25_r0 : BitVec 32 := 0#32
  let c1_i32_26_r0 : BitVec 32 := 1#32
  let arg15_r0 : BitVec 32 := Scf.iv c0_i32_25_r0 c1_i32_26_r0 k0_t2
  let v147_r0 : BitVec 32 := Scalar.addi v146_r0 arg15_r0
  let c4_i32_72_r0 : BitVec 32 := 4#32
  let v148_r0 : BitVec 32 := Scalar.remsi v147_r0 c4_i32_72_r0
  let v878_r0 : Index := Scalar.indexCast v148_r0
  let c768_403_r0 : Index := 768#32
  let c384_404_r0 : Index := 384#32
  ![v878_r0.toNat, 768, 384]
def k0_off42 (k0_t1 : Fin k0_t1_loop.trips) (k0_t2 : Fin k0_t2_loop.trips) : Fin 3 → Nat :=
  let c0_i32_13_r0 : BitVec 32 := 0#32
  let c1_i32_14_r0 : BitVec 32 := 1#32
  let arg14_r0 : BitVec 32 := Scf.iv c0_i32_13_r0 c1_i32_14_r0 k0_t1
  let c9_i32_71_r0 : BitVec 32 := 9#32
  let v146_r0 : BitVec 32 := Scalar.muli arg14_r0 c9_i32_71_r0
  let c0_i32_25_r0 : BitVec 32 := 0#32
  let c1_i32_26_r0 : BitVec 32 := 1#32
  let arg15_r0 : BitVec 32 := Scf.iv c0_i32_25_r0 c1_i32_26_r0 k0_t2
  let v147_r0 : BitVec 32 := Scalar.addi v146_r0 arg15_r0
  let c4_i32_72_r0 : BitVec 32 := 4#32
  let v148_r0 : BitVec 32 := Scalar.remsi v147_r0 c4_i32_72_r0
  let v901_r0 : Index := Scalar.indexCast v148_r0
  let c896_413_r0 : Index := 896#32
  let c256_414_r0 : Index := 256#32
  ![v901_r0.toNat, 896, 256]
def k0_off43 (k0_t1 : Fin k0_t1_loop.trips) (k0_t2 : Fin k0_t2_loop.trips) : Fin 3 → Nat :=
  let c0_i32_13_r0 : BitVec 32 := 0#32
  let c1_i32_14_r0 : BitVec 32 := 1#32
  let arg14_r0 : BitVec 32 := Scf.iv c0_i32_13_r0 c1_i32_14_r0 k0_t1
  let c9_i32_71_r0 : BitVec 32 := 9#32
  let v146_r0 : BitVec 32 := Scalar.muli arg14_r0 c9_i32_71_r0
  let c0_i32_25_r0 : BitVec 32 := 0#32
  let c1_i32_26_r0 : BitVec 32 := 1#32
  let arg15_r0 : BitVec 32 := Scf.iv c0_i32_25_r0 c1_i32_26_r0 k0_t2
  let v147_r0 : BitVec 32 := Scalar.addi v146_r0 arg15_r0
  let c4_i32_72_r0 : BitVec 32 := 4#32
  let v148_r0 : BitVec 32 := Scalar.remsi v147_r0 c4_i32_72_r0
  let v923_r0 : Index := Scalar.indexCast v148_r0
  let c896_423_r0 : Index := 896#32
  let c384_424_r0 : Index := 384#32
  ![v923_r0.toNat, 896, 384]
def k0_off44 (k0_t1 : Fin k0_t1_loop.trips) (k0_t2 : Fin k0_t2_loop.trips) : Fin 3 → Nat :=
  let c0_i32_13_r0 : BitVec 32 := 0#32
  let c1_i32_14_r0 : BitVec 32 := 1#32
  let arg14_r0 : BitVec 32 := Scf.iv c0_i32_13_r0 c1_i32_14_r0 k0_t1
  let c9_i32_71_r0 : BitVec 32 := 9#32
  let v146_r0 : BitVec 32 := Scalar.muli arg14_r0 c9_i32_71_r0
  let c0_i32_25_r0 : BitVec 32 := 0#32
  let c1_i32_26_r0 : BitVec 32 := 1#32
  let arg15_r0 : BitVec 32 := Scf.iv c0_i32_25_r0 c1_i32_26_r0 k0_t2
  let v147_r0 : BitVec 32 := Scalar.addi v146_r0 arg15_r0
  let c4_i32_72_r0 : BitVec 32 := 4#32
  let v148_r0 : BitVec 32 := Scalar.remsi v147_r0 c4_i32_72_r0
  let v957_r0 : Index := Scalar.indexCast v148_r0
  let c1024_r0 : Index := 1024#32
  let c0_441_r0 : Index := 0#32
  ![v957_r0.toNat, 1024, 0]
def k0_off45 (k0_t1 : Fin k0_t1_loop.trips) (k0_t2 : Fin k0_t2_loop.trips) : Fin 3 → Nat :=
  let c0_i32_13_r0 : BitVec 32 := 0#32
  let c1_i32_14_r0 : BitVec 32 := 1#32
  let arg14_r0 : BitVec 32 := Scf.iv c0_i32_13_r0 c1_i32_14_r0 k0_t1
  let c9_i32_71_r0 : BitVec 32 := 9#32
  let v146_r0 : BitVec 32 := Scalar.muli arg14_r0 c9_i32_71_r0
  let c0_i32_25_r0 : BitVec 32 := 0#32
  let c1_i32_26_r0 : BitVec 32 := 1#32
  let arg15_r0 : BitVec 32 := Scf.iv c0_i32_25_r0 c1_i32_26_r0 k0_t2
  let v147_r0 : BitVec 32 := Scalar.addi v146_r0 arg15_r0
  let c4_i32_72_r0 : BitVec 32 := 4#32
  let v148_r0 : BitVec 32 := Scalar.remsi v147_r0 c4_i32_72_r0
  let v979_r0 : Index := Scalar.indexCast v148_r0
  let c1024_450_r0 : Index := 1024#32
  let c128_451_r0 : Index := 128#32
  ![v979_r0.toNat, 1024, 128]
def k0_off46 (k0_t1 : Fin k0_t1_loop.trips) (k0_t2 : Fin k0_t2_loop.trips) : Fin 3 → Nat :=
  let c0_i32_13_r0 : BitVec 32 := 0#32
  let c1_i32_14_r0 : BitVec 32 := 1#32
  let arg14_r0 : BitVec 32 := Scf.iv c0_i32_13_r0 c1_i32_14_r0 k0_t1
  let c9_i32_71_r0 : BitVec 32 := 9#32
  let v146_r0 : BitVec 32 := Scalar.muli arg14_r0 c9_i32_71_r0
  let c0_i32_25_r0 : BitVec 32 := 0#32
  let c1_i32_26_r0 : BitVec 32 := 1#32
  let arg15_r0 : BitVec 32 := Scf.iv c0_i32_25_r0 c1_i32_26_r0 k0_t2
  let v147_r0 : BitVec 32 := Scalar.addi v146_r0 arg15_r0
  let c4_i32_72_r0 : BitVec 32 := 4#32
  let v148_r0 : BitVec 32 := Scalar.remsi v147_r0 c4_i32_72_r0
  let v1002_r0 : Index := Scalar.indexCast v148_r0
  let c1152_r0 : Index := 1152#32
  let c0_460_r0 : Index := 0#32
  ![v1002_r0.toNat, 1152, 0]
def k0_off47 (k0_t1 : Fin k0_t1_loop.trips) (k0_t2 : Fin k0_t2_loop.trips) : Fin 3 → Nat :=
  let c0_i32_13_r0 : BitVec 32 := 0#32
  let c1_i32_14_r0 : BitVec 32 := 1#32
  let arg14_r0 : BitVec 32 := Scf.iv c0_i32_13_r0 c1_i32_14_r0 k0_t1
  let c9_i32_71_r0 : BitVec 32 := 9#32
  let v146_r0 : BitVec 32 := Scalar.muli arg14_r0 c9_i32_71_r0
  let c0_i32_25_r0 : BitVec 32 := 0#32
  let c1_i32_26_r0 : BitVec 32 := 1#32
  let arg15_r0 : BitVec 32 := Scf.iv c0_i32_25_r0 c1_i32_26_r0 k0_t2
  let v147_r0 : BitVec 32 := Scalar.addi v146_r0 arg15_r0
  let c4_i32_72_r0 : BitVec 32 := 4#32
  let v148_r0 : BitVec 32 := Scalar.remsi v147_r0 c4_i32_72_r0
  let v1024_r0 : Index := Scalar.indexCast v148_r0
  let c1152_469_r0 : Index := 1152#32
  let c128_470_r0 : Index := 128#32
  ![v1024_r0.toNat, 1152, 128]
def k0_off48 (k0_t1 : Fin k0_t1_loop.trips) (k0_t2 : Fin k0_t2_loop.trips) : Fin 3 → Nat :=
  let c0_i32_13_r0 : BitVec 32 := 0#32
  let c1_i32_14_r0 : BitVec 32 := 1#32
  let arg14_r0 : BitVec 32 := Scf.iv c0_i32_13_r0 c1_i32_14_r0 k0_t1
  let c9_i32_71_r0 : BitVec 32 := 9#32
  let v146_r0 : BitVec 32 := Scalar.muli arg14_r0 c9_i32_71_r0
  let c0_i32_25_r0 : BitVec 32 := 0#32
  let c1_i32_26_r0 : BitVec 32 := 1#32
  let arg15_r0 : BitVec 32 := Scf.iv c0_i32_25_r0 c1_i32_26_r0 k0_t2
  let v147_r0 : BitVec 32 := Scalar.addi v146_r0 arg15_r0
  let c4_i32_72_r0 : BitVec 32 := 4#32
  let v148_r0 : BitVec 32 := Scalar.remsi v147_r0 c4_i32_72_r0
  let v1048_r0 : Index := Scalar.indexCast v148_r0
  let c1024_479_r0 : Index := 1024#32
  let c256_480_r0 : Index := 256#32
  ![v1048_r0.toNat, 1024, 256]
def k0_off49 (k0_t1 : Fin k0_t1_loop.trips) (k0_t2 : Fin k0_t2_loop.trips) : Fin 3 → Nat :=
  let c0_i32_13_r0 : BitVec 32 := 0#32
  let c1_i32_14_r0 : BitVec 32 := 1#32
  let arg14_r0 : BitVec 32 := Scf.iv c0_i32_13_r0 c1_i32_14_r0 k0_t1
  let c9_i32_71_r0 : BitVec 32 := 9#32
  let v146_r0 : BitVec 32 := Scalar.muli arg14_r0 c9_i32_71_r0
  let c0_i32_25_r0 : BitVec 32 := 0#32
  let c1_i32_26_r0 : BitVec 32 := 1#32
  let arg15_r0 : BitVec 32 := Scf.iv c0_i32_25_r0 c1_i32_26_r0 k0_t2
  let v147_r0 : BitVec 32 := Scalar.addi v146_r0 arg15_r0
  let c4_i32_72_r0 : BitVec 32 := 4#32
  let v148_r0 : BitVec 32 := Scalar.remsi v147_r0 c4_i32_72_r0
  let v1070_r0 : Index := Scalar.indexCast v148_r0
  let c1024_489_r0 : Index := 1024#32
  let c384_490_r0 : Index := 384#32
  ![v1070_r0.toNat, 1024, 384]
def k0_off50 (k0_t1 : Fin k0_t1_loop.trips) (k0_t2 : Fin k0_t2_loop.trips) : Fin 3 → Nat :=
  let c0_i32_13_r0 : BitVec 32 := 0#32
  let c1_i32_14_r0 : BitVec 32 := 1#32
  let arg14_r0 : BitVec 32 := Scf.iv c0_i32_13_r0 c1_i32_14_r0 k0_t1
  let c9_i32_71_r0 : BitVec 32 := 9#32
  let v146_r0 : BitVec 32 := Scalar.muli arg14_r0 c9_i32_71_r0
  let c0_i32_25_r0 : BitVec 32 := 0#32
  let c1_i32_26_r0 : BitVec 32 := 1#32
  let arg15_r0 : BitVec 32 := Scf.iv c0_i32_25_r0 c1_i32_26_r0 k0_t2
  let v147_r0 : BitVec 32 := Scalar.addi v146_r0 arg15_r0
  let c4_i32_72_r0 : BitVec 32 := 4#32
  let v148_r0 : BitVec 32 := Scalar.remsi v147_r0 c4_i32_72_r0
  let v1093_r0 : Index := Scalar.indexCast v148_r0
  let c1152_499_r0 : Index := 1152#32
  let c256_500_r0 : Index := 256#32
  ![v1093_r0.toNat, 1152, 256]
def k0_off51 (k0_t1 : Fin k0_t1_loop.trips) (k0_t2 : Fin k0_t2_loop.trips) : Fin 3 → Nat :=
  let c0_i32_13_r0 : BitVec 32 := 0#32
  let c1_i32_14_r0 : BitVec 32 := 1#32
  let arg14_r0 : BitVec 32 := Scf.iv c0_i32_13_r0 c1_i32_14_r0 k0_t1
  let c9_i32_71_r0 : BitVec 32 := 9#32
  let v146_r0 : BitVec 32 := Scalar.muli arg14_r0 c9_i32_71_r0
  let c0_i32_25_r0 : BitVec 32 := 0#32
  let c1_i32_26_r0 : BitVec 32 := 1#32
  let arg15_r0 : BitVec 32 := Scf.iv c0_i32_25_r0 c1_i32_26_r0 k0_t2
  let v147_r0 : BitVec 32 := Scalar.addi v146_r0 arg15_r0
  let c4_i32_72_r0 : BitVec 32 := 4#32
  let v148_r0 : BitVec 32 := Scalar.remsi v147_r0 c4_i32_72_r0
  let v1115_r0 : Index := Scalar.indexCast v148_r0
  let c1152_509_r0 : Index := 1152#32
  let c384_510_r0 : Index := 384#32
  ![v1115_r0.toNat, 1152, 384]
def k0_off52 (k0_t1 : Fin k0_t1_loop.trips) (k0_t2 : Fin k0_t2_loop.trips) : Fin 3 → Nat :=
  let c0_i32_13_r0 : BitVec 32 := 0#32
  let c1_i32_14_r0 : BitVec 32 := 1#32
  let arg14_r0 : BitVec 32 := Scf.iv c0_i32_13_r0 c1_i32_14_r0 k0_t1
  let c9_i32_71_r0 : BitVec 32 := 9#32
  let v146_r0 : BitVec 32 := Scalar.muli arg14_r0 c9_i32_71_r0
  let c0_i32_25_r0 : BitVec 32 := 0#32
  let c1_i32_26_r0 : BitVec 32 := 1#32
  let arg15_r0 : BitVec 32 := Scf.iv c0_i32_25_r0 c1_i32_26_r0 k0_t2
  let v147_r0 : BitVec 32 := Scalar.addi v146_r0 arg15_r0
  let c4_i32_72_r0 : BitVec 32 := 4#32
  let v148_r0 : BitVec 32 := Scalar.remsi v147_r0 c4_i32_72_r0
  let v1149_r0 : Index := Scalar.indexCast v148_r0
  let c1280_r0 : Index := 1280#32
  let c0_526_r0 : Index := 0#32
  ![v1149_r0.toNat, 1280, 0]
def k0_off53 (k0_t1 : Fin k0_t1_loop.trips) (k0_t2 : Fin k0_t2_loop.trips) : Fin 3 → Nat :=
  let c0_i32_13_r0 : BitVec 32 := 0#32
  let c1_i32_14_r0 : BitVec 32 := 1#32
  let arg14_r0 : BitVec 32 := Scf.iv c0_i32_13_r0 c1_i32_14_r0 k0_t1
  let c9_i32_71_r0 : BitVec 32 := 9#32
  let v146_r0 : BitVec 32 := Scalar.muli arg14_r0 c9_i32_71_r0
  let c0_i32_25_r0 : BitVec 32 := 0#32
  let c1_i32_26_r0 : BitVec 32 := 1#32
  let arg15_r0 : BitVec 32 := Scf.iv c0_i32_25_r0 c1_i32_26_r0 k0_t2
  let v147_r0 : BitVec 32 := Scalar.addi v146_r0 arg15_r0
  let c4_i32_72_r0 : BitVec 32 := 4#32
  let v148_r0 : BitVec 32 := Scalar.remsi v147_r0 c4_i32_72_r0
  let v1171_r0 : Index := Scalar.indexCast v148_r0
  let c1280_535_r0 : Index := 1280#32
  let c128_536_r0 : Index := 128#32
  ![v1171_r0.toNat, 1280, 128]
def k0_off54 (k0_t1 : Fin k0_t1_loop.trips) (k0_t2 : Fin k0_t2_loop.trips) : Fin 3 → Nat :=
  let c0_i32_13_r0 : BitVec 32 := 0#32
  let c1_i32_14_r0 : BitVec 32 := 1#32
  let arg14_r0 : BitVec 32 := Scf.iv c0_i32_13_r0 c1_i32_14_r0 k0_t1
  let c9_i32_71_r0 : BitVec 32 := 9#32
  let v146_r0 : BitVec 32 := Scalar.muli arg14_r0 c9_i32_71_r0
  let c0_i32_25_r0 : BitVec 32 := 0#32
  let c1_i32_26_r0 : BitVec 32 := 1#32
  let arg15_r0 : BitVec 32 := Scf.iv c0_i32_25_r0 c1_i32_26_r0 k0_t2
  let v147_r0 : BitVec 32 := Scalar.addi v146_r0 arg15_r0
  let c4_i32_72_r0 : BitVec 32 := 4#32
  let v148_r0 : BitVec 32 := Scalar.remsi v147_r0 c4_i32_72_r0
  let v1194_r0 : Index := Scalar.indexCast v148_r0
  let c1408_r0 : Index := 1408#32
  let c0_545_r0 : Index := 0#32
  ![v1194_r0.toNat, 1408, 0]
def k0_off55 (k0_t1 : Fin k0_t1_loop.trips) (k0_t2 : Fin k0_t2_loop.trips) : Fin 3 → Nat :=
  let c0_i32_13_r0 : BitVec 32 := 0#32
  let c1_i32_14_r0 : BitVec 32 := 1#32
  let arg14_r0 : BitVec 32 := Scf.iv c0_i32_13_r0 c1_i32_14_r0 k0_t1
  let c9_i32_71_r0 : BitVec 32 := 9#32
  let v146_r0 : BitVec 32 := Scalar.muli arg14_r0 c9_i32_71_r0
  let c0_i32_25_r0 : BitVec 32 := 0#32
  let c1_i32_26_r0 : BitVec 32 := 1#32
  let arg15_r0 : BitVec 32 := Scf.iv c0_i32_25_r0 c1_i32_26_r0 k0_t2
  let v147_r0 : BitVec 32 := Scalar.addi v146_r0 arg15_r0
  let c4_i32_72_r0 : BitVec 32 := 4#32
  let v148_r0 : BitVec 32 := Scalar.remsi v147_r0 c4_i32_72_r0
  let v1216_r0 : Index := Scalar.indexCast v148_r0
  let c1408_554_r0 : Index := 1408#32
  let c128_555_r0 : Index := 128#32
  ![v1216_r0.toNat, 1408, 128]
def k0_off56 (k0_t1 : Fin k0_t1_loop.trips) (k0_t2 : Fin k0_t2_loop.trips) : Fin 3 → Nat :=
  let c0_i32_13_r0 : BitVec 32 := 0#32
  let c1_i32_14_r0 : BitVec 32 := 1#32
  let arg14_r0 : BitVec 32 := Scf.iv c0_i32_13_r0 c1_i32_14_r0 k0_t1
  let c9_i32_71_r0 : BitVec 32 := 9#32
  let v146_r0 : BitVec 32 := Scalar.muli arg14_r0 c9_i32_71_r0
  let c0_i32_25_r0 : BitVec 32 := 0#32
  let c1_i32_26_r0 : BitVec 32 := 1#32
  let arg15_r0 : BitVec 32 := Scf.iv c0_i32_25_r0 c1_i32_26_r0 k0_t2
  let v147_r0 : BitVec 32 := Scalar.addi v146_r0 arg15_r0
  let c4_i32_72_r0 : BitVec 32 := 4#32
  let v148_r0 : BitVec 32 := Scalar.remsi v147_r0 c4_i32_72_r0
  let v1240_r0 : Index := Scalar.indexCast v148_r0
  let c1280_564_r0 : Index := 1280#32
  let c256_565_r0 : Index := 256#32
  ![v1240_r0.toNat, 1280, 256]
def k0_off57 (k0_t1 : Fin k0_t1_loop.trips) (k0_t2 : Fin k0_t2_loop.trips) : Fin 3 → Nat :=
  let c0_i32_13_r0 : BitVec 32 := 0#32
  let c1_i32_14_r0 : BitVec 32 := 1#32
  let arg14_r0 : BitVec 32 := Scf.iv c0_i32_13_r0 c1_i32_14_r0 k0_t1
  let c9_i32_71_r0 : BitVec 32 := 9#32
  let v146_r0 : BitVec 32 := Scalar.muli arg14_r0 c9_i32_71_r0
  let c0_i32_25_r0 : BitVec 32 := 0#32
  let c1_i32_26_r0 : BitVec 32 := 1#32
  let arg15_r0 : BitVec 32 := Scf.iv c0_i32_25_r0 c1_i32_26_r0 k0_t2
  let v147_r0 : BitVec 32 := Scalar.addi v146_r0 arg15_r0
  let c4_i32_72_r0 : BitVec 32 := 4#32
  let v148_r0 : BitVec 32 := Scalar.remsi v147_r0 c4_i32_72_r0
  let v1262_r0 : Index := Scalar.indexCast v148_r0
  let c1280_574_r0 : Index := 1280#32
  let c384_575_r0 : Index := 384#32
  ![v1262_r0.toNat, 1280, 384]
def k0_off58 (k0_t1 : Fin k0_t1_loop.trips) (k0_t2 : Fin k0_t2_loop.trips) : Fin 3 → Nat :=
  let c0_i32_13_r0 : BitVec 32 := 0#32
  let c1_i32_14_r0 : BitVec 32 := 1#32
  let arg14_r0 : BitVec 32 := Scf.iv c0_i32_13_r0 c1_i32_14_r0 k0_t1
  let c9_i32_71_r0 : BitVec 32 := 9#32
  let v146_r0 : BitVec 32 := Scalar.muli arg14_r0 c9_i32_71_r0
  let c0_i32_25_r0 : BitVec 32 := 0#32
  let c1_i32_26_r0 : BitVec 32 := 1#32
  let arg15_r0 : BitVec 32 := Scf.iv c0_i32_25_r0 c1_i32_26_r0 k0_t2
  let v147_r0 : BitVec 32 := Scalar.addi v146_r0 arg15_r0
  let c4_i32_72_r0 : BitVec 32 := 4#32
  let v148_r0 : BitVec 32 := Scalar.remsi v147_r0 c4_i32_72_r0
  let v1285_r0 : Index := Scalar.indexCast v148_r0
  let c1408_584_r0 : Index := 1408#32
  let c256_585_r0 : Index := 256#32
  ![v1285_r0.toNat, 1408, 256]
def k0_off59 (k0_t1 : Fin k0_t1_loop.trips) (k0_t2 : Fin k0_t2_loop.trips) : Fin 3 → Nat :=
  let c0_i32_13_r0 : BitVec 32 := 0#32
  let c1_i32_14_r0 : BitVec 32 := 1#32
  let arg14_r0 : BitVec 32 := Scf.iv c0_i32_13_r0 c1_i32_14_r0 k0_t1
  let c9_i32_71_r0 : BitVec 32 := 9#32
  let v146_r0 : BitVec 32 := Scalar.muli arg14_r0 c9_i32_71_r0
  let c0_i32_25_r0 : BitVec 32 := 0#32
  let c1_i32_26_r0 : BitVec 32 := 1#32
  let arg15_r0 : BitVec 32 := Scf.iv c0_i32_25_r0 c1_i32_26_r0 k0_t2
  let v147_r0 : BitVec 32 := Scalar.addi v146_r0 arg15_r0
  let c4_i32_72_r0 : BitVec 32 := 4#32
  let v148_r0 : BitVec 32 := Scalar.remsi v147_r0 c4_i32_72_r0
  let v1307_r0 : Index := Scalar.indexCast v148_r0
  let c1408_594_r0 : Index := 1408#32
  let c384_595_r0 : Index := 384#32
  ![v1307_r0.toNat, 1408, 384]
def k0_off60 (k0_t1 : Fin k0_t1_loop.trips) (k0_t2 : Fin k0_t2_loop.trips) : Fin 3 → Nat :=
  let c0_i32_13_r0 : BitVec 32 := 0#32
  let c1_i32_14_r0 : BitVec 32 := 1#32
  let arg14_r0 : BitVec 32 := Scf.iv c0_i32_13_r0 c1_i32_14_r0 k0_t1
  let c9_i32_71_r0 : BitVec 32 := 9#32
  let v146_r0 : BitVec 32 := Scalar.muli arg14_r0 c9_i32_71_r0
  let c0_i32_25_r0 : BitVec 32 := 0#32
  let c1_i32_26_r0 : BitVec 32 := 1#32
  let arg15_r0 : BitVec 32 := Scf.iv c0_i32_25_r0 c1_i32_26_r0 k0_t2
  let v147_r0 : BitVec 32 := Scalar.addi v146_r0 arg15_r0
  let c4_i32_72_r0 : BitVec 32 := 4#32
  let v148_r0 : BitVec 32 := Scalar.remsi v147_r0 c4_i32_72_r0
  let v1341_r0 : Index := Scalar.indexCast v148_r0
  let c1536_r0 : Index := 1536#32
  let c0_611_r0 : Index := 0#32
  ![v1341_r0.toNat, 1536, 0]
def k0_off61 (k0_t1 : Fin k0_t1_loop.trips) (k0_t2 : Fin k0_t2_loop.trips) : Fin 3 → Nat :=
  let c0_i32_13_r0 : BitVec 32 := 0#32
  let c1_i32_14_r0 : BitVec 32 := 1#32
  let arg14_r0 : BitVec 32 := Scf.iv c0_i32_13_r0 c1_i32_14_r0 k0_t1
  let c9_i32_71_r0 : BitVec 32 := 9#32
  let v146_r0 : BitVec 32 := Scalar.muli arg14_r0 c9_i32_71_r0
  let c0_i32_25_r0 : BitVec 32 := 0#32
  let c1_i32_26_r0 : BitVec 32 := 1#32
  let arg15_r0 : BitVec 32 := Scf.iv c0_i32_25_r0 c1_i32_26_r0 k0_t2
  let v147_r0 : BitVec 32 := Scalar.addi v146_r0 arg15_r0
  let c4_i32_72_r0 : BitVec 32 := 4#32
  let v148_r0 : BitVec 32 := Scalar.remsi v147_r0 c4_i32_72_r0
  let v1363_r0 : Index := Scalar.indexCast v148_r0
  let c1536_620_r0 : Index := 1536#32
  let c128_621_r0 : Index := 128#32
  ![v1363_r0.toNat, 1536, 128]
def k0_off62 (k0_t1 : Fin k0_t1_loop.trips) (k0_t2 : Fin k0_t2_loop.trips) : Fin 3 → Nat :=
  let c0_i32_13_r0 : BitVec 32 := 0#32
  let c1_i32_14_r0 : BitVec 32 := 1#32
  let arg14_r0 : BitVec 32 := Scf.iv c0_i32_13_r0 c1_i32_14_r0 k0_t1
  let c9_i32_71_r0 : BitVec 32 := 9#32
  let v146_r0 : BitVec 32 := Scalar.muli arg14_r0 c9_i32_71_r0
  let c0_i32_25_r0 : BitVec 32 := 0#32
  let c1_i32_26_r0 : BitVec 32 := 1#32
  let arg15_r0 : BitVec 32 := Scf.iv c0_i32_25_r0 c1_i32_26_r0 k0_t2
  let v147_r0 : BitVec 32 := Scalar.addi v146_r0 arg15_r0
  let c4_i32_72_r0 : BitVec 32 := 4#32
  let v148_r0 : BitVec 32 := Scalar.remsi v147_r0 c4_i32_72_r0
  let v1386_r0 : Index := Scalar.indexCast v148_r0
  let c1664_r0 : Index := 1664#32
  let c0_630_r0 : Index := 0#32
  ![v1386_r0.toNat, 1664, 0]
def k0_off63 (k0_t1 : Fin k0_t1_loop.trips) (k0_t2 : Fin k0_t2_loop.trips) : Fin 3 → Nat :=
  let c0_i32_13_r0 : BitVec 32 := 0#32
  let c1_i32_14_r0 : BitVec 32 := 1#32
  let arg14_r0 : BitVec 32 := Scf.iv c0_i32_13_r0 c1_i32_14_r0 k0_t1
  let c9_i32_71_r0 : BitVec 32 := 9#32
  let v146_r0 : BitVec 32 := Scalar.muli arg14_r0 c9_i32_71_r0
  let c0_i32_25_r0 : BitVec 32 := 0#32
  let c1_i32_26_r0 : BitVec 32 := 1#32
  let arg15_r0 : BitVec 32 := Scf.iv c0_i32_25_r0 c1_i32_26_r0 k0_t2
  let v147_r0 : BitVec 32 := Scalar.addi v146_r0 arg15_r0
  let c4_i32_72_r0 : BitVec 32 := 4#32
  let v148_r0 : BitVec 32 := Scalar.remsi v147_r0 c4_i32_72_r0
  let v1408_r0 : Index := Scalar.indexCast v148_r0
  let c1664_639_r0 : Index := 1664#32
  let c128_640_r0 : Index := 128#32
  ![v1408_r0.toNat, 1664, 128]
def k0_off64 (k0_t1 : Fin k0_t1_loop.trips) (k0_t2 : Fin k0_t2_loop.trips) : Fin 3 → Nat :=
  let c0_i32_13_r0 : BitVec 32 := 0#32
  let c1_i32_14_r0 : BitVec 32 := 1#32
  let arg14_r0 : BitVec 32 := Scf.iv c0_i32_13_r0 c1_i32_14_r0 k0_t1
  let c9_i32_71_r0 : BitVec 32 := 9#32
  let v146_r0 : BitVec 32 := Scalar.muli arg14_r0 c9_i32_71_r0
  let c0_i32_25_r0 : BitVec 32 := 0#32
  let c1_i32_26_r0 : BitVec 32 := 1#32
  let arg15_r0 : BitVec 32 := Scf.iv c0_i32_25_r0 c1_i32_26_r0 k0_t2
  let v147_r0 : BitVec 32 := Scalar.addi v146_r0 arg15_r0
  let c4_i32_72_r0 : BitVec 32 := 4#32
  let v148_r0 : BitVec 32 := Scalar.remsi v147_r0 c4_i32_72_r0
  let v1432_r0 : Index := Scalar.indexCast v148_r0
  let c1536_649_r0 : Index := 1536#32
  let c256_650_r0 : Index := 256#32
  ![v1432_r0.toNat, 1536, 256]
def k0_off65 (k0_t1 : Fin k0_t1_loop.trips) (k0_t2 : Fin k0_t2_loop.trips) : Fin 3 → Nat :=
  let c0_i32_13_r0 : BitVec 32 := 0#32
  let c1_i32_14_r0 : BitVec 32 := 1#32
  let arg14_r0 : BitVec 32 := Scf.iv c0_i32_13_r0 c1_i32_14_r0 k0_t1
  let c9_i32_71_r0 : BitVec 32 := 9#32
  let v146_r0 : BitVec 32 := Scalar.muli arg14_r0 c9_i32_71_r0
  let c0_i32_25_r0 : BitVec 32 := 0#32
  let c1_i32_26_r0 : BitVec 32 := 1#32
  let arg15_r0 : BitVec 32 := Scf.iv c0_i32_25_r0 c1_i32_26_r0 k0_t2
  let v147_r0 : BitVec 32 := Scalar.addi v146_r0 arg15_r0
  let c4_i32_72_r0 : BitVec 32 := 4#32
  let v148_r0 : BitVec 32 := Scalar.remsi v147_r0 c4_i32_72_r0
  let v1454_r0 : Index := Scalar.indexCast v148_r0
  let c1536_659_r0 : Index := 1536#32
  let c384_660_r0 : Index := 384#32
  ![v1454_r0.toNat, 1536, 384]
def k0_off66 (k0_t1 : Fin k0_t1_loop.trips) (k0_t2 : Fin k0_t2_loop.trips) : Fin 3 → Nat :=
  let c0_i32_13_r0 : BitVec 32 := 0#32
  let c1_i32_14_r0 : BitVec 32 := 1#32
  let arg14_r0 : BitVec 32 := Scf.iv c0_i32_13_r0 c1_i32_14_r0 k0_t1
  let c9_i32_71_r0 : BitVec 32 := 9#32
  let v146_r0 : BitVec 32 := Scalar.muli arg14_r0 c9_i32_71_r0
  let c0_i32_25_r0 : BitVec 32 := 0#32
  let c1_i32_26_r0 : BitVec 32 := 1#32
  let arg15_r0 : BitVec 32 := Scf.iv c0_i32_25_r0 c1_i32_26_r0 k0_t2
  let v147_r0 : BitVec 32 := Scalar.addi v146_r0 arg15_r0
  let c4_i32_72_r0 : BitVec 32 := 4#32
  let v148_r0 : BitVec 32 := Scalar.remsi v147_r0 c4_i32_72_r0
  let v1477_r0 : Index := Scalar.indexCast v148_r0
  let c1664_669_r0 : Index := 1664#32
  let c256_670_r0 : Index := 256#32
  ![v1477_r0.toNat, 1664, 256]
def k0_off67 (k0_t1 : Fin k0_t1_loop.trips) (k0_t2 : Fin k0_t2_loop.trips) : Fin 3 → Nat :=
  let c0_i32_13_r0 : BitVec 32 := 0#32
  let c1_i32_14_r0 : BitVec 32 := 1#32
  let arg14_r0 : BitVec 32 := Scf.iv c0_i32_13_r0 c1_i32_14_r0 k0_t1
  let c9_i32_71_r0 : BitVec 32 := 9#32
  let v146_r0 : BitVec 32 := Scalar.muli arg14_r0 c9_i32_71_r0
  let c0_i32_25_r0 : BitVec 32 := 0#32
  let c1_i32_26_r0 : BitVec 32 := 1#32
  let arg15_r0 : BitVec 32 := Scf.iv c0_i32_25_r0 c1_i32_26_r0 k0_t2
  let v147_r0 : BitVec 32 := Scalar.addi v146_r0 arg15_r0
  let c4_i32_72_r0 : BitVec 32 := 4#32
  let v148_r0 : BitVec 32 := Scalar.remsi v147_r0 c4_i32_72_r0
  let v1499_r0 : Index := Scalar.indexCast v148_r0
  let c1664_679_r0 : Index := 1664#32
  let c384_680_r0 : Index := 384#32
  ![v1499_r0.toNat, 1664, 384]
def k0_off68 (k0_t1 : Fin k0_t1_loop.trips) (k0_t2 : Fin k0_t2_loop.trips) : Fin 3 → Nat :=
  let c0_i32_13_r0 : BitVec 32 := 0#32
  let c1_i32_14_r0 : BitVec 32 := 1#32
  let arg14_r0 : BitVec 32 := Scf.iv c0_i32_13_r0 c1_i32_14_r0 k0_t1
  let c9_i32_71_r0 : BitVec 32 := 9#32
  let v146_r0 : BitVec 32 := Scalar.muli arg14_r0 c9_i32_71_r0
  let c0_i32_25_r0 : BitVec 32 := 0#32
  let c1_i32_26_r0 : BitVec 32 := 1#32
  let arg15_r0 : BitVec 32 := Scf.iv c0_i32_25_r0 c1_i32_26_r0 k0_t2
  let v147_r0 : BitVec 32 := Scalar.addi v146_r0 arg15_r0
  let c4_i32_72_r0 : BitVec 32 := 4#32
  let v148_r0 : BitVec 32 := Scalar.remsi v147_r0 c4_i32_72_r0
  let v1533_r0 : Index := Scalar.indexCast v148_r0
  let c1792_r0 : Index := 1792#32
  let c0_696_r0 : Index := 0#32
  ![v1533_r0.toNat, 1792, 0]
def k0_off69 (k0_t1 : Fin k0_t1_loop.trips) (k0_t2 : Fin k0_t2_loop.trips) : Fin 3 → Nat :=
  let c0_i32_13_r0 : BitVec 32 := 0#32
  let c1_i32_14_r0 : BitVec 32 := 1#32
  let arg14_r0 : BitVec 32 := Scf.iv c0_i32_13_r0 c1_i32_14_r0 k0_t1
  let c9_i32_71_r0 : BitVec 32 := 9#32
  let v146_r0 : BitVec 32 := Scalar.muli arg14_r0 c9_i32_71_r0
  let c0_i32_25_r0 : BitVec 32 := 0#32
  let c1_i32_26_r0 : BitVec 32 := 1#32
  let arg15_r0 : BitVec 32 := Scf.iv c0_i32_25_r0 c1_i32_26_r0 k0_t2
  let v147_r0 : BitVec 32 := Scalar.addi v146_r0 arg15_r0
  let c4_i32_72_r0 : BitVec 32 := 4#32
  let v148_r0 : BitVec 32 := Scalar.remsi v147_r0 c4_i32_72_r0
  let v1555_r0 : Index := Scalar.indexCast v148_r0
  let c1792_705_r0 : Index := 1792#32
  let c128_706_r0 : Index := 128#32
  ![v1555_r0.toNat, 1792, 128]
def k0_off70 (k0_t1 : Fin k0_t1_loop.trips) (k0_t2 : Fin k0_t2_loop.trips) : Fin 3 → Nat :=
  let c0_i32_13_r0 : BitVec 32 := 0#32
  let c1_i32_14_r0 : BitVec 32 := 1#32
  let arg14_r0 : BitVec 32 := Scf.iv c0_i32_13_r0 c1_i32_14_r0 k0_t1
  let c9_i32_71_r0 : BitVec 32 := 9#32
  let v146_r0 : BitVec 32 := Scalar.muli arg14_r0 c9_i32_71_r0
  let c0_i32_25_r0 : BitVec 32 := 0#32
  let c1_i32_26_r0 : BitVec 32 := 1#32
  let arg15_r0 : BitVec 32 := Scf.iv c0_i32_25_r0 c1_i32_26_r0 k0_t2
  let v147_r0 : BitVec 32 := Scalar.addi v146_r0 arg15_r0
  let c4_i32_72_r0 : BitVec 32 := 4#32
  let v148_r0 : BitVec 32 := Scalar.remsi v147_r0 c4_i32_72_r0
  let v1578_r0 : Index := Scalar.indexCast v148_r0
  let c1920_r0 : Index := 1920#32
  let c0_715_r0 : Index := 0#32
  ![v1578_r0.toNat, 1920, 0]
def k0_off71 (k0_t1 : Fin k0_t1_loop.trips) (k0_t2 : Fin k0_t2_loop.trips) : Fin 3 → Nat :=
  let c0_i32_13_r0 : BitVec 32 := 0#32
  let c1_i32_14_r0 : BitVec 32 := 1#32
  let arg14_r0 : BitVec 32 := Scf.iv c0_i32_13_r0 c1_i32_14_r0 k0_t1
  let c9_i32_71_r0 : BitVec 32 := 9#32
  let v146_r0 : BitVec 32 := Scalar.muli arg14_r0 c9_i32_71_r0
  let c0_i32_25_r0 : BitVec 32 := 0#32
  let c1_i32_26_r0 : BitVec 32 := 1#32
  let arg15_r0 : BitVec 32 := Scf.iv c0_i32_25_r0 c1_i32_26_r0 k0_t2
  let v147_r0 : BitVec 32 := Scalar.addi v146_r0 arg15_r0
  let c4_i32_72_r0 : BitVec 32 := 4#32
  let v148_r0 : BitVec 32 := Scalar.remsi v147_r0 c4_i32_72_r0
  let v1600_r0 : Index := Scalar.indexCast v148_r0
  let c1920_724_r0 : Index := 1920#32
  let c128_725_r0 : Index := 128#32
  ![v1600_r0.toNat, 1920, 128]
def k0_off72 (k0_t1 : Fin k0_t1_loop.trips) (k0_t2 : Fin k0_t2_loop.trips) : Fin 3 → Nat :=
  let c0_i32_13_r0 : BitVec 32 := 0#32
  let c1_i32_14_r0 : BitVec 32 := 1#32
  let arg14_r0 : BitVec 32 := Scf.iv c0_i32_13_r0 c1_i32_14_r0 k0_t1
  let c9_i32_71_r0 : BitVec 32 := 9#32
  let v146_r0 : BitVec 32 := Scalar.muli arg14_r0 c9_i32_71_r0
  let c0_i32_25_r0 : BitVec 32 := 0#32
  let c1_i32_26_r0 : BitVec 32 := 1#32
  let arg15_r0 : BitVec 32 := Scf.iv c0_i32_25_r0 c1_i32_26_r0 k0_t2
  let v147_r0 : BitVec 32 := Scalar.addi v146_r0 arg15_r0
  let c4_i32_72_r0 : BitVec 32 := 4#32
  let v148_r0 : BitVec 32 := Scalar.remsi v147_r0 c4_i32_72_r0
  let v1624_r0 : Index := Scalar.indexCast v148_r0
  let c1792_734_r0 : Index := 1792#32
  let c256_735_r0 : Index := 256#32
  ![v1624_r0.toNat, 1792, 256]
def k0_off73 (k0_t1 : Fin k0_t1_loop.trips) (k0_t2 : Fin k0_t2_loop.trips) : Fin 3 → Nat :=
  let c0_i32_13_r0 : BitVec 32 := 0#32
  let c1_i32_14_r0 : BitVec 32 := 1#32
  let arg14_r0 : BitVec 32 := Scf.iv c0_i32_13_r0 c1_i32_14_r0 k0_t1
  let c9_i32_71_r0 : BitVec 32 := 9#32
  let v146_r0 : BitVec 32 := Scalar.muli arg14_r0 c9_i32_71_r0
  let c0_i32_25_r0 : BitVec 32 := 0#32
  let c1_i32_26_r0 : BitVec 32 := 1#32
  let arg15_r0 : BitVec 32 := Scf.iv c0_i32_25_r0 c1_i32_26_r0 k0_t2
  let v147_r0 : BitVec 32 := Scalar.addi v146_r0 arg15_r0
  let c4_i32_72_r0 : BitVec 32 := 4#32
  let v148_r0 : BitVec 32 := Scalar.remsi v147_r0 c4_i32_72_r0
  let v1646_r0 : Index := Scalar.indexCast v148_r0
  let c1792_744_r0 : Index := 1792#32
  let c384_745_r0 : Index := 384#32
  ![v1646_r0.toNat, 1792, 384]
def k0_off74 (k0_t1 : Fin k0_t1_loop.trips) (k0_t2 : Fin k0_t2_loop.trips) : Fin 3 → Nat :=
  let c0_i32_13_r0 : BitVec 32 := 0#32
  let c1_i32_14_r0 : BitVec 32 := 1#32
  let arg14_r0 : BitVec 32 := Scf.iv c0_i32_13_r0 c1_i32_14_r0 k0_t1
  let c9_i32_71_r0 : BitVec 32 := 9#32
  let v146_r0 : BitVec 32 := Scalar.muli arg14_r0 c9_i32_71_r0
  let c0_i32_25_r0 : BitVec 32 := 0#32
  let c1_i32_26_r0 : BitVec 32 := 1#32
  let arg15_r0 : BitVec 32 := Scf.iv c0_i32_25_r0 c1_i32_26_r0 k0_t2
  let v147_r0 : BitVec 32 := Scalar.addi v146_r0 arg15_r0
  let c4_i32_72_r0 : BitVec 32 := 4#32
  let v148_r0 : BitVec 32 := Scalar.remsi v147_r0 c4_i32_72_r0
  let v1669_r0 : Index := Scalar.indexCast v148_r0
  let c1920_754_r0 : Index := 1920#32
  let c256_755_r0 : Index := 256#32
  ![v1669_r0.toNat, 1920, 256]
def k0_off75 (k0_t1 : Fin k0_t1_loop.trips) (k0_t2 : Fin k0_t2_loop.trips) : Fin 3 → Nat :=
  let c0_i32_13_r0 : BitVec 32 := 0#32
  let c1_i32_14_r0 : BitVec 32 := 1#32
  let arg14_r0 : BitVec 32 := Scf.iv c0_i32_13_r0 c1_i32_14_r0 k0_t1
  let c9_i32_71_r0 : BitVec 32 := 9#32
  let v146_r0 : BitVec 32 := Scalar.muli arg14_r0 c9_i32_71_r0
  let c0_i32_25_r0 : BitVec 32 := 0#32
  let c1_i32_26_r0 : BitVec 32 := 1#32
  let arg15_r0 : BitVec 32 := Scf.iv c0_i32_25_r0 c1_i32_26_r0 k0_t2
  let v147_r0 : BitVec 32 := Scalar.addi v146_r0 arg15_r0
  let c4_i32_72_r0 : BitVec 32 := 4#32
  let v148_r0 : BitVec 32 := Scalar.remsi v147_r0 c4_i32_72_r0
  let v1691_r0 : Index := Scalar.indexCast v148_r0
  let c1920_764_r0 : Index := 1920#32
  let c384_765_r0 : Index := 384#32
  ![v1691_r0.toNat, 1920, 384]
def k0_mult11 (k0_t1 : Fin k0_t1_loop.trips) : BitVec 32 :=
  let c0_i32_13_r0 : BitVec 32 := 0#32
  let c1_i32_14_r0 : BitVec 32 := 1#32
  let arg14_r0 : BitVec 32 := Scf.iv c0_i32_13_r0 c1_i32_14_r0 k0_t1
  let c512_i32_r0 : BitVec 32 := 512#32
  let v48_r0 : BitVec 32 := Scalar.muli arg14_r0 c512_i32_r0
  v48_r0
def k0_off76 (k0_t1 : Fin k0_t1_loop.trips) : Fin 2 → Nat :=
  let c0_28_r0 : Index := 0#32
  let c0_i32_13_r0 : BitVec 32 := 0#32
  let c1_i32_14_r0 : BitVec 32 := 1#32
  let arg14_r0 : BitVec 32 := Scf.iv c0_i32_13_r0 c1_i32_14_r0 k0_t1
  let c512_i32_r0 : BitVec 32 := 512#32
  let v48_r0 : BitVec 32 := Scalar.muli arg14_r0 c512_i32_r0
  let v49_r0 : BitVec 32 := v48_r0
  let v50_r0 : Index := Scalar.indexCast v49_r0
  ![0, v50_r0.toNat]
def k0_cond2 (k0_t1 : Fin k0_t1_loop.trips) : BitVec 1 :=
  let c0_i32_13_r0 : BitVec 32 := 0#32
  let c1_i32_14_r0 : BitVec 32 := 1#32
  let arg14_r0 : BitVec 32 := Scf.iv c0_i32_13_r0 c1_i32_14_r0 k0_t1
  let c2_i32_34_r0 : BitVec 32 := 2#32
  let v59_r0 : BitVec 1 := Scalar.cmpi .sge arg14_r0 c2_i32_34_r0
  let v60_r0 : BitVec 32 := Scalar.extui v59_r0
  let c0_i32_35_r0 : BitVec 32 := 0#32
  let v61_r0 : BitVec 1 := Scalar.cmpi .ne v60_r0 c0_i32_35_r0
  v61_r0

def k0_mult12 (k0_t1 : Fin k0_t1_loop.trips) : BitVec 32 :=
  let c0_i32_13_r0 : BitVec 32 := 0#32
  let c1_i32_14_r0 : BitVec 32 := 1#32
  let arg14_r0 : BitVec 32 := Scf.iv c0_i32_13_r0 c1_i32_14_r0 k0_t1
  let c2_i32_71_r0 : BitVec 32 := 2#32
  let v146_r0 : BitVec 32 := Scalar.subi arg14_r0 c2_i32_71_r0
  let c512_i32_73_r0 : BitVec 32 := 512#32
  let v148_r0 : BitVec 32 := Scalar.muli v146_r0 c512_i32_73_r0
  v148_r0
def k0_off77 (k0_t1 : Fin k0_t1_loop.trips) : Fin 1 → Nat :=
  let c0_i32_13_r0 : BitVec 32 := 0#32
  let c1_i32_14_r0 : BitVec 32 := 1#32
  let arg14_r0 : BitVec 32 := Scf.iv c0_i32_13_r0 c1_i32_14_r0 k0_t1
  let c2_i32_71_r0 : BitVec 32 := 2#32
  let v146_r0 : BitVec 32 := Scalar.subi arg14_r0 c2_i32_71_r0
  let c2_i32_72_r0 : BitVec 32 := 2#32
  let v147_r0 : BitVec 32 := Scalar.remsi v146_r0 c2_i32_72_r0
  ![v147_r0.toNat]
def k0_off78 (k0_t1 : Fin k0_t1_loop.trips) : Fin 2 → Nat :=
  let c0_i32_74_r0 : BitVec 32 := 0#32
  let c0_i32_13_r0 : BitVec 32 := 0#32
  let c1_i32_14_r0 : BitVec 32 := 1#32
  let arg14_r0 : BitVec 32 := Scf.iv c0_i32_13_r0 c1_i32_14_r0 k0_t1
  let c2_i32_71_r0 : BitVec 32 := 2#32
  let v146_r0 : BitVec 32 := Scalar.subi arg14_r0 c2_i32_71_r0
  let c512_i32_73_r0 : BitVec 32 := 512#32
  let v148_r0 : BitVec 32 := Scalar.muli v146_r0 c512_i32_73_r0
  let v149_r0 : BitVec 32 := v148_r0
  ![0, v149_r0.toNat]
def k0_off79 (k0_t1 : Fin k0_t1_loop.trips) : Fin 3 → Nat :=
  let c0_i32_13_r0 : BitVec 32 := 0#32
  let c1_i32_14_r0 : BitVec 32 := 1#32
  let arg14_r0 : BitVec 32 := Scf.iv c0_i32_13_r0 c1_i32_14_r0 k0_t1
  let c2_i32_71_r0 : BitVec 32 := 2#32
  let v146_r0 : BitVec 32 := Scalar.subi arg14_r0 c2_i32_71_r0
  let c2_i32_72_r0 : BitVec 32 := 2#32
  let v147_r0 : BitVec 32 := Scalar.remsi v146_r0 c2_i32_72_r0
  let c0_i32_75_r0 : BitVec 32 := 0#32
  let c0_i32_76_r0 : BitVec 32 := 0#32
  ![v147_r0.toNat, 0, 0]
def k0_mult13 (k0_t1 : Fin k0_t1_loop.trips) : BitVec 32 :=
  let c0_i32_13_r0 : BitVec 32 := 0#32
  let c1_i32_14_r0 : BitVec 32 := 1#32
  let arg14_r0 : BitVec 32 := Scf.iv c0_i32_13_r0 c1_i32_14_r0 k0_t1
  let c512_i32_43_r0 : BitVec 32 := 512#32
  let v68_r0 : BitVec 32 := Scalar.muli arg14_r0 c512_i32_43_r0
  let c0_i32_44_r0 : BitVec 32 := 0#32
  let v69_r0 : BitVec 32 := Scalar.addi v68_r0 c0_i32_44_r0
  v69_r0
def k0_off80 (k0_t1 : Fin k0_t1_loop.trips) (c0_i32_44_r0 : BitVec 32) : Fin 2 → Nat :=
  let c0_48_r0 : Index := 0#32
  let c0_i32_13_r0 : BitVec 32 := 0#32
  let c1_i32_14_r0 : BitVec 32 := 1#32
  let arg14_r0 : BitVec 32 := Scf.iv c0_i32_13_r0 c1_i32_14_r0 k0_t1
  let c512_i32_43_r0 : BitVec 32 := 512#32
  let v68_r0 : BitVec 32 := Scalar.muli arg14_r0 c512_i32_43_r0
  let v69_r0 : BitVec 32 := Scalar.addi v68_r0 c0_i32_44_r0
  let v70_r0 : BitVec 32 := v69_r0
  let v84_r0 : Index := Scalar.indexCast v70_r0
  ![0, v84_r0.toNat]
def k0_off81 (k0_t1 : Fin k0_t1_loop.trips) : Fin 3 → Nat :=
  let c0_i32_13_r0 : BitVec 32 := 0#32
  let c1_i32_14_r0 : BitVec 32 := 1#32
  let arg14_r0 : BitVec 32 := Scf.iv c0_i32_13_r0 c1_i32_14_r0 k0_t1
  let c2_i32_52_r0 : BitVec 32 := 2#32
  let v98_r0 : BitVec 32 := Scalar.remsi arg14_r0 c2_i32_52_r0
  let v99_r0 : Index := Scalar.indexCast v98_r0
  let c0_53_r0 : Index := 0#32
  let c0_54_r0 : Index := 0#32
  ![v99_r0.toNat, 0, 0]
def k0_mult14 (k0_t1 : Fin k0_t1_loop.trips) : BitVec 32 :=
  let c0_i32_13_r0 : BitVec 32 := 0#32
  let c1_i32_14_r0 : BitVec 32 := 1#32
  let arg14_r0 : BitVec 32 := Scf.iv c0_i32_13_r0 c1_i32_14_r0 k0_t1
  let c512_i32_55_r0 : BitVec 32 := 512#32
  let v103_r0 : BitVec 32 := Scalar.muli arg14_r0 c512_i32_55_r0
  let c256_i32_r0 : BitVec 32 := 256#32
  let v104_r0 : BitVec 32 := Scalar.addi v103_r0 c256_i32_r0
  v104_r0
def k0_off82 (k0_t1 : Fin k0_t1_loop.trips) : Fin 3 → Nat :=
  let c0_i32_13_r0 : BitVec 32 := 0#32
  let c1_i32_14_r0 : BitVec 32 := 1#32
  let arg14_r0 : BitVec 32 := Scf.iv c0_i32_13_r0 c1_i32_14_r0 k0_t1
  let c2_i32_63_r0 : BitVec 32 := 2#32
  let v133_r0 : BitVec 32 := Scalar.remsi arg14_r0 c2_i32_63_r0
  let v134_r0 : Index := Scalar.indexCast v133_r0
  let c0_64_r0 : Index := 0#32
  let c256_65_r0 : Index := 256#32
  ![v134_r0.toNat, 0, 256]
def k0_mult15 (k0_t1 : Fin k0_t1_loop.trips) : BitVec 32 :=
  let c0_i32_13_r0 : BitVec 32 := 0#32
  let c1_i32_14_r0 : BitVec 32 := 1#32
  let arg14_r0 : BitVec 32 := Scf.iv c0_i32_13_r0 c1_i32_14_r0 k0_t1
  let c512_i32_67_r0 : BitVec 32 := 512#32
  let v139_r0 : BitVec 32 := Scalar.muli arg14_r0 c512_i32_67_r0
  v139_r0
def k0_off83 (k0_t1 : Fin k0_t1_loop.trips) : Fin 1 → Nat :=
  let c0_i32_13_r0 : BitVec 32 := 0#32
  let c1_i32_14_r0 : BitVec 32 := 1#32
  let arg14_r0 : BitVec 32 := Scf.iv c0_i32_13_r0 c1_i32_14_r0 k0_t1
  let c2_i32_66_r0 : BitVec 32 := 2#32
  let v138_r0 : BitVec 32 := Scalar.remsi arg14_r0 c2_i32_66_r0
  ![v138_r0.toNat]
def k0_off84 (k0_t1 : Fin k0_t1_loop.trips) : Fin 2 → Nat :=
  let c0_i32_68_r0 : BitVec 32 := 0#32
  let c0_i32_13_r0 : BitVec 32 := 0#32
  let c1_i32_14_r0 : BitVec 32 := 1#32
  let arg14_r0 : BitVec 32 := Scf.iv c0_i32_13_r0 c1_i32_14_r0 k0_t1
  let c512_i32_67_r0 : BitVec 32 := 512#32
  let v139_r0 : BitVec 32 := Scalar.muli arg14_r0 c512_i32_67_r0
  let v140_r0 : BitVec 32 := v139_r0
  ![0, v140_r0.toNat]
def k0_off85 (k0_t1 : Fin k0_t1_loop.trips) : Fin 3 → Nat :=
  let c0_i32_13_r0 : BitVec 32 := 0#32
  let c1_i32_14_r0 : BitVec 32 := 1#32
  let arg14_r0 : BitVec 32 := Scf.iv c0_i32_13_r0 c1_i32_14_r0 k0_t1
  let c2_i32_66_r0 : BitVec 32 := 2#32
  let v138_r0 : BitVec 32 := Scalar.remsi arg14_r0 c2_i32_66_r0
  let c0_i32_69_r0 : BitVec 32 := 0#32
  let c0_i32_70_r0 : BitVec 32 := 0#32
  ![v138_r0.toNat, 0, 0]
def k0_mult16 : BitVec 32 :=
  let c6144_i32_r0 : BitVec 32 := 6144#32
  c6144_i32_r0
def k0_off86 (c12_i32_r0 : BitVec 32) : Fin 1 → Nat :=
  let c2_i32_16_r0 : BitVec 32 := 2#32
  let v29_r0 : BitVec 32 := Scalar.remsi c12_i32_r0 c2_i32_16_r0
  ![v29_r0.toNat]
def k0_off87 (c12_i32_r0 : BitVec 32) : Fin 3 → Nat :=
  let c2_i32_16_r0 : BitVec 32 := 2#32
  let v29_r0 : BitVec 32 := Scalar.remsi c12_i32_r0 c2_i32_16_r0
  let c0_i32_18_r0 : BitVec 32 := 0#32
  let c0_i32_19_r0 : BitVec 32 := 0#32
  ![v29_r0.toNat, 0, 0]
def k0_mult17 : BitVec 32 :=
  let c6656_i32_r0 : BitVec 32 := 6656#32
  c6656_i32_r0
abbrev stage0_0 : Fin 1 → Memref sig .tc .smem S144x56 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S72x256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S72x64x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S320x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x7168 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x7168 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x7168 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceIdeal.lean ====
abbrev S144x56 : Shape := ⟨2, ![144, 56]⟩
abbrev S72x256x256 : Shape := ⟨3, ![72, 256, 256]⟩
abbrev S72x64x256 : Shape := ⟨3, ![72, 64, 256]⟩
abbrev S320x256 : Shape := ⟨2, ![320, 256]⟩
abbrev S64x7168 : Shape := ⟨2, ![64, 7168]⟩
abbrev S7168 : Shape := ⟨1, ![7168]⟩
abbrev S18432x7168 : Shape := ⟨2, ![18432, 7168]⟩
abbrev S144x1x56x1 : Shape := ⟨4, ![144, 1, 56, 1]⟩
abbrev S144x128x56x128 : Shape := ⟨4, ![144, 128, 56, 128]⟩
abbrev S256x72x256 : Shape := ⟨3, ![256, 72, 256]⟩
abbrev S256x18432 : Shape := ⟨2, ![256, 18432]⟩
abbrev S64x72x256 : Shape := ⟨3, ![64, 72, 256]⟩
abbrev S64x18432 : Shape := ⟨2, ![64, 18432]⟩
abbrev S_ : Shape := ⟨0, ![]⟩
abbrev S192x7168 : Shape := ⟨2, ![192, 7168]⟩
abbrev S256x192 : Shape := ⟨2, ![256, 192]⟩
abbrev S64x192 : Shape := ⟨2, ![64, 192]⟩
abbrev S1x7168 : Shape := ⟨2, ![1, 7168]⟩
abbrev S256x7168 : Shape := ⟨2, ![256, 7168]⟩

abbrev nBuf : Space → Nat
  | .hbm => 23
  | .vmem => 11
  | .smem => 0
  | _ => 0

abbrev bufTy : (tb : Table) → Fin (tcTables nBuf tb) → BufTy
  | .hbm, ⟨0, _⟩ => ⟨S144x56, .f32⟩
  | .hbm, ⟨1, _⟩ => ⟨S72x256x256, .bf16⟩
  | .hbm, ⟨2, _⟩ => ⟨S72x64x256, .bf16⟩
  | .hbm, ⟨3, _⟩ => ⟨S320x256, .bf16⟩
  | .hbm, ⟨4, _⟩ => ⟨S64x7168, .bf16⟩
  | .hbm, ⟨5, _⟩ => ⟨S7168, .f32⟩
  | .hbm, ⟨6, _⟩ => ⟨S18432x7168, .fp8e4m3⟩
  | .hbm, ⟨7, _⟩ => ⟨S144x1x56x1, .f32⟩
  | .hbm, ⟨8, _⟩ => ⟨S144x128x56x128, .f32⟩
  | .hbm, ⟨9, _⟩ => ⟨S18432x7168, .f32⟩
  | .hbm, ⟨10, _⟩ => ⟨S256x72x256, .bf16⟩
  | .hbm, ⟨11, _⟩ => ⟨S256x18432, .bf16⟩
  | .hbm, ⟨12, _⟩ => ⟨S64x72x256, .bf16⟩
  | .hbm, ⟨13, _⟩ => ⟨S64x18432, .bf16⟩
  | .hbm, ⟨14, _⟩ => ⟨S_, .bf16⟩
  | .hbm, ⟨15, _⟩ => ⟨S64x7168, .bf16⟩
  | .hbm, ⟨16, _⟩ => ⟨S64x7168, .bf16⟩
  | .hbm, ⟨17, _⟩ => ⟨S192x7168, .bf16⟩
  | .hbm, ⟨18, _⟩ => ⟨S256x192, .bf16⟩
  | .hbm, ⟨19, _⟩ => ⟨S64x192, .bf16⟩
  | .hbm, ⟨20, _⟩ => ⟨S1x7168, .f32⟩
  | .hbm, ⟨21, _⟩ => ⟨S1x7168, .f32⟩
  | .hbm, ⟨22, _⟩ => ⟨S256x7168, .bf16⟩
  | .local _ .vmem, ⟨0, _⟩ => ⟨S18432x7168, .f32⟩
  | .local _ .vmem, ⟨1, _⟩ => ⟨S256x18432, .bf16⟩
  | .local _ .vmem, ⟨2, _⟩ => ⟨S64x18432, .bf16⟩
  | .local _ .vmem, ⟨3, _⟩ => ⟨S256x192, .bf16⟩
  | .local _ .vmem, ⟨4, _⟩ => ⟨S64x192, .bf16⟩
  | .local _ .vmem, ⟨5, _⟩ => ⟨S192x7168, .bf16⟩
  | .local _ .vmem, ⟨6, _⟩ => ⟨S64x7168, .bf16⟩
  | .local _ .vmem, ⟨7, _⟩ => ⟨S1x7168, .f32⟩
  | .local _ .vmem, ⟨8, _⟩ => ⟨S18432x7168, .fp8e4m3⟩
  | .local _ .vmem, ⟨9, _⟩ => ⟨S1x7168, .f32⟩
  | .local _ .vmem, ⟨10, _⟩ => ⟨S256x7168, .bf16⟩
  | _, _ => ⟨S144x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S18432x7168 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x18432 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x18432 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S192x7168 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x7168 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x7168 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S18432x7168 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x7168 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S256x7168 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.K.Ring.lean ====
/-
  The ring of weight blocks of the main call: four slots of the staging buffer, one DMA semaphore each. Before step
  `g = 9 n + c` the blocks `g`, `g + 1`, `g + 2` are in flight and the slot of block `g + 3` is free; the step waits
  for block `g` and starts block `g + 3`, if there is one.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Transfers
public import Idealize.ShloMosaic.Lib.Ring
public import Idealize.ShloMosaic.Lib.Tactic

@[expose] public section

set_option maxRecDepth 8192

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

/-! ## The buffers of the main call that its own transfers touch -/

/-- The weight codes, left in HBM. -/
abbrev wM : Memref sig .tc .hbm S18432x7168 .fp8e4m3 := Memref.whole main_arg6
/-- The result `y`, left in HBM. -/
abbrev yM : Memref sig .tc .hbm S256x7168 .bf16 := Memref.whole main_v1_1
/-- The ring of weight blocks. -/
abbrev ringM : Memref sig .tc .vmem S4x2048x512 .fp8e4m3 := Memref.whole cc0_scratch0
/-- The partial sums of squares. -/
abbrev ssqM : Memref sig .tc .vmem S8x512 .f32 := Memref.whole cc0_scratch2
/-- The two slots of the result. -/
abbrev ybufM : Memref sig .tc .vmem S2x256x512 .bf16 := Memref.whole cc0_scratch3

/-- A buffer's contents on core `c`. -/
abbrev MBuf (c : Dev nD) {sp : Space} {sh : Shape} {e : EltTy} (M : Memref sig .tc sp sh e) : Type := Buf (Elt F) (M.view.loc (c : Thread nD τ))

theorem slot_inb (b : ℕ) : ∀ a, (![b % 4, 0, 0] : Fin 3 → ℕ) a + S1x2048x512.size a ≤ S4x2048x512.size a := by
  have := Nat.mod_lt b (by decide : 4 > 0); intro a; fin_cases a
  · show b % 4 + 1 ≤ 4; omega
  · show 0 + 2048 ≤ 2048; omega
  · show 0 + 512 ≤ 512; omega
theorem cell_inb (b : ℕ) : ∀ a, (![b % 4] : Fin 1 → ℕ) a + S1.size a ≤ S4.size a := by
  have := Nat.mod_lt b (by decide : 4 > 0); intro a; fin_cases a
  show b % 4 + 1 ≤ 4; omega
theorem src_inb (b : ℕ) : ∀ a, (![2048 * (b % 9), 512 * (b / 9 % 14)] : Fin 2 → ℕ) a + S2048x512.size a ≤ S18432x7168.size a := by
  have := Nat.mod_lt b (by decide : 9 > 0); have := Nat.mod_lt (b / 9) (by decide : 14 > 0); intro a; fin_cases a
  · show 2048 * (b % 9) + 2048 ≤ 18432; omega
  · show 512 * (b / 9 % 14) + 512 ≤ 7168; omega

/-- The slot of block `b`. -/
abbrev slotB (b : ℕ) : Memref sig .tc .vmem S2048x512 .fp8e4m3 :=
  (ringM.slice (Rect.unit (s := S4x2048x512) ![b % 4, 0, 0] S1x2048x512.size (slot_inb b)) (fun _ => rfl)).squeeze S2048x512 squeezes_S1x2048x512_S2048x512
/-- Its semaphore. -/
abbrev cellB (b : ℕ) : DmaSem sig :=
  ((cc0_scratch1.slice (Rect.unit (s := S4) ![b % 4] S1.size (cell_inb b))).squeeze S_ squeezes_S1_S_).sem
/-- Block `b` of the weight codes: rows `2048 (b mod 9)`, columns `512 (b / 9)`. -/
abbrev srcB (b : ℕ) : Memref sig .tc .hbm S2048x512 .fp8e4m3 :=
  wM.slice (Rect.unit (s := S18432x7168) ![2048 * (b % 9), 512 * (b / 9 % 14)] S2048x512.size (src_inb b)) (fun _ => rfl)
/-- The share of the weight codes that block `b`'s slot reads with. -/
abbrev shB (b : ℕ) : PosShare TreeShare := Transfers.shareTok fullShare 4 ⟨b % 4, Nat.mod_lt b (by decide)⟩

theorem unit_congr {s : Shape} {o o' : Fin s.rank → ℕ} {sz : Fin s.rank → ℕ} (h : o = o') (hi : ∀ a, o a + sz a ≤ s.size a)
    (hi' : ∀ a, o' a + sz a ≤ s.size a) : Rect.unit (s := s) o sz hi = Rect.unit o' sz hi' := by subst h; rfl

theorem slot_congr {o : Fin 3 → ℕ} (b : ℕ) (h : o = ![b % 4, 0, 0]) (hi : ∀ a, o a + S1x2048x512.size a ≤ S4x2048x512.size a) :
    (ringM.slice (Rect.unit (s := S4x2048x512) o S1x2048x512.size hi) (fun _ => rfl)).squeeze S2048x512 squeezes_S1x2048x512_S2048x512 = slotB b := by
  subst h; rfl
theorem cell_congr {o : Fin 1 → ℕ} (b : ℕ) (h : o = ![b % 4]) (hi : ∀ a, o a + S1.size a ≤ S4.size a) :
    (cc0_scratch1.slice (Rect.unit (s := S4) o S1.size hi)).squeeze S_ squeezes_S1_S_
      = (cc0_scratch1.slice (Rect.unit (s := S4) ![b % 4] S1.size (cell_inb b))).squeeze S_ squeezes_S1_S_ := by subst h; rfl
theorem src_congr {o : Fin 2 → ℕ} (b : ℕ) (h : o = ![2048 * (b % 9), 512 * (b / 9 % 14)]) (hi : ∀ a, o a + S2048x512.size a ≤ S18432x7168.size a) :
    wM.slice (Rect.unit (s := S18432x7168) o S2048x512.size hi) (fun _ => rfl) = srcB b := by subst h; rfl

/-- What a landed slot holds: block `b` of the codes over what was there. -/
abbrev landed (c : Dev nD) (f6 : MBuf (F := F) c wM) (b : ℕ) (f : MBuf (F := F) c (slotB b)) : MBuf (F := F) c (slotB b) :=
  (slotB b).view.writes (Elt F) f [⟨Rect.whole S2048x512, ReadAs.same.apply ((srcB b).view.read (Elt F) f6)⟩]

/-- A slot FREE. -/
def freeB (c : Dev nD) (f6 : MBuf (F := F) c wM) (b : ℕ) : sProp 𝕄 :=
  iprop(semVal ((c : Thread nD τ), SemLoc.dma (cellB b)) 0 ∗ (∃ f, (slotB b).view.loc (c : Thread nD τ) ↦[(slotB b).view.set]{fullShare} f)
    ∗ (wM.view.loc (c : Thread nD τ) ↦[Finset.univ]{shB b} f6))
/-- A slot IN FLIGHT with block `b`, over contents `f`. -/
def inflAt (c : Dev nD) (f6 : MBuf (F := F) c wM) (b : ℕ) (f : MBuf (F := F) c (slotB b)) : sProp 𝕄 :=
  iprop((Transfers.Flight (countersEmb (U := Pipeline.UD sig nD τ)) (c : Thread nD τ) (SemLoc.dma (cellB b)) () 32768
            iprop(((slotB b).view.loc (c : Thread nD τ) ↦[(slotB b).view.set]{fullShare} landed c f6 b f)
              ∗ (wM.view.loc (c : Thread nD τ) ↦[(srcB b).view.set]{shB b} f6)))
    ∗ (wM.view.loc (c : Thread nD τ) ↦[Finset.univ \ (srcB b).view.set]{shB b} f6))
/-- A slot IN FLIGHT with block `b`. -/
def inflB (c : Dev nD) (f6 : MBuf (F := F) c wM) (b : ℕ) : sProp 𝕄 := iprop(∃ f, inflAt c f6 b f)
/-- A slot holding block `b`, landed. -/
def doneAt (c : Dev nD) (f6 : MBuf (F := F) c wM) (b : ℕ) (f : MBuf (F := F) c (slotB b)) : sProp 𝕄 :=
  iprop(semVal ((c : Thread nD τ), SemLoc.dma (cellB b)) 0 ∗ ((slotB b).view.loc (c : Thread nD τ) ↦[(slotB b).view.set]{fullShare} landed c f6 b f)
    ∗ (wM.view.loc (c : Thread nD τ) ↦[Finset.univ]{shB b} f6))
/-- The slot of block `b` when it has been asked for: in flight if there is such a block. -/
@[irreducible] def askedB (c : Dev nD) (f6 : MBuf (F := F) c wM) (b : ℕ) : sProp 𝕄 := if b < 126 then inflB c f6 b else freeB c f6 b

theorem doneAt_free (c : Dev nD) (f6 : MBuf (F := F) c wM) (b : ℕ) (f : MBuf (F := F) c (slotB b)) : doneAt c f6 b f ⊢ freeB c f6 b := by
  unfold doneAt freeB
  iintro ⟨H1, H2, H3⟩
  isplitl [H1]; · iexact H1
  isplitl [H2]; · iexists _; iexact H2
  iexact H3

theorem freeB_mod (c : Dev nD) (f6 : MBuf (F := F) c wM) (b b' : ℕ) (h : b % 4 = b' % 4) : freeB c f6 b = freeB c f6 b' := by
  unfold freeB
  have e1 : cellB b = cellB b' := by unfold cellB; congr 3; exact unit_congr (by rw [h]) _ _
  have e2 : slotB b = slotB b' := slot_congr b' (by rw [h]) (slot_inb b)
  have e3 : shB b = shB b' := by unfold shB; congr 1; exact Fin.ext h
  rw [e1, e2, e3]

/-! ## The offsets of one step -/

theorem off5_eq : ∀ (t1 : Fin k0_t1_loop.trips) (t2 : Fin k0_t2_loop.trips), k0_off5 t1 t2 = ![2048 * ((9 * t1.val + t2.val) % 9), 512 * ((9 * t1.val + t2.val) / 9 % 14)] := by decide +kernel
theorem off8_eq : ∀ (t1 : Fin k0_t1_loop.trips) (t2 : Fin k0_t2_loop.trips), 9 * t1.val + t2.val + 3 < 126 → k0_off8 t1 t2 = ![2048 * ((9 * t1.val + t2.val + 3) % 9), 512 * ((9 * t1.val + t2.val + 3) / 9 % 14)] := by decide +kernel
theorem cond1_iff : ∀ (t1 : Fin k0_t1_loop.trips) (t2 : Fin k0_t2_loop.trips), k0_cond1 t1 t2 = 1#1 ↔ 9 * t1.val + t2.val + 3 < 126 := by decide +kernel

set_option maxHeartbeats 1000000 in
theorem ring_step (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole)
    (t1 : Fin k0_t1_loop.trips) (t2 : Fin k0_t2_loop.trips) (a14 : BitVec 32)
    (f6 : MBuf (F := F) c wM) (f : MBuf (F := F) c (slotB (9 * t1.val + t2.val))) (W : Waits sig Unit)
    (Q : (Σ' (_ : BitVec 32) (_ : BitVec 32), BitVec 32) → sProp 𝕄) :
    iprop(inflAt c f6 (9 * t1.val + t2.val) f ∗ freeB c f6 (9 * t1.val + t2.val + 3) ∗ owes (c : Thread nD τ) 0 W
        ∗ (∀ v W', (doneAt c f6 (9 * t1.val + t2.val) f ∗ askedB c f6 (9 * t1.val + t2.val + 3) ∗ owes (c : Thread nD τ) 0 W') -∗ Q v))
      ⊢ wp frame (wpE (defs₀ (F := F)) Variants.none (c : Thread nD τ) none) Set.univ
          (k0_part1 arg0 harg0 arg1 harg1 arg2 harg2 arg3 harg3 arg4 harg4 arg5 harg5 wM (Memref.isWhole_whole _) arg7 harg7 yM (Memref.isWhole_whole _)
            ringM (Memref.isWhole_whole _) cc0_scratch1 ssqM (Memref.isWhole_whole _) ybufM (Memref.isWhole_whole _) cc0_scratch4 t1 a14 0#32 1#32 t2) Q := by
  rw [k0_part1_eq_skeleton]
  unfold k0_part1_skel inflAt freeB
  have hcanon1 := cell_congr (9 * t1.val + t2.val) (Gen.k0_off3_eq t1 t2) (k0_off3_inb t1 t2)
  have hcanon2 := slot_congr (9 * t1.val + t2.val) (Gen.k0_off4_eq t1 t2) (k0_off4_inb t1 t2)
  have hcanon3 := src_congr (9 * t1.val + t2.val) (off5_eq t1 t2) (k0_off5_inb t1 t2)
  iintro ⟨⟨Hfl, Htok⟩, ⟨Hcell, ⟨%f', Hslot⟩, Htok'⟩, HO, Hk⟩
  by_cases h : 9 * t1.val + t2.val + 3 < 126
  · have hc := (cond1_iff t1 t2).mpr h
    have hcanon4 := cell_congr (9 * t1.val + t2.val + 3) (Gen.k0_off6_eq t1 t2) (k0_off6_inb t1 t2 hc)
    have hcanon5 := slot_congr (9 * t1.val + t2.val + 3) (Gen.k0_off7_eq t1 t2) (k0_off7_inb t1 t2 hc)
    have hcanon6 := src_congr (9 * t1.val + t2.val + 3) (off8_eq t1 t2 h) (k0_off8_inb t1 t2 hc)
    sl_exec
    sl_step
    iapply Hk
    isplitl [Hfl Hfl_dst Htok]
    · unfold doneAt
      isplitl [Hfl]; · iexact Hfl
      isplitl [Hfl_dst]; · iexact Hfl_dst
      iexact Htok
    isplitl [Hcell Htok']
    · unfold askedB inflB inflAt
      rw [if_pos h]
      iexists _
      isplitl [Hcell]; · iexact Hcell
      iexact Htok'
    iexact HO
  · have hc := fun e => h ((cond1_iff t1 t2).mp e)
    sl_exec
    sl_step
    iapply Hk
    isplitl [Hfl Hfl_dst Htok]
    · unfold doneAt
      isplitl [Hfl]; · iexact Hfl
      isplitl [Hfl_dst]; · iexact Hfl_dst
      iexact Htok
    isplitl [Hcell Hslot Htok']
    · unfold askedB freeB
      rw [if_neg h]
      isplitl [Hcell]; · iexact Hcell
      isplitl [Hslot]; · iexists _; iexact Hslot
      iexact Htok'
    iexact HO

end Cert.Kernel.Hand

end
-- ==== Proof.K.Trip.lean ====
/-
  One step of the inner loop of the main call.
-/
module

public import proofs.«01_k».proof.Proof.K.Ring
public import Idealize.ShloMosaic.Lib.Mxu.Walk

@[expose] public section

set_option maxRecDepth 8192

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

theorem load_incl {o : Fin 3 → ℕ} (b : ℕ) {i j : ℕ} (h : o = ![b % 4, i, j]) (hi : ∀ a, o a + S1x128x128.size a ≤ S4x2048x512.size a)
    (hi' : i + 128 ≤ 2048) (hj : j + 128 ≤ 512) :
    LE.le (α := Finset (slotB b).view.ty.Idx) (ringM.access (Rect.unit (s := S4x2048x512) o S1x128x128.size hi)).set (slotB b).view.set := by
  subst h
  have e1 : (slotB b).view.set = (Rect.unit (s := S4x2048x512) ![b % 4, 0, 0] S1x2048x512.size (slot_inb b)).set :=
    (View.set_reshape _ _).trans (View.set_slice_whole cc0_scratch0 _)
  have e2 : (ringM.access (Rect.unit (s := S4x2048x512) ![b % 4, i, j] S1x128x128.size hi)).set
      = (Rect.unit (s := S4x2048x512) ![b % 4, i, j] S1x128x128.size hi).set := View.set_slice_whole cc0_scratch0 _
  rw [e1, e2]
  intro x hx
  rw [Rect.mem_set_unit] at hx ⊢
  intro a
  have := hx a
  fin_cases a
  · exact this
  · have h2 := (x 1).isLt
    exact ⟨Nat.zero_le _, by simp only [Matrix.cons_val, Matrix.cons_val_one]; exact (Nat.zero_add _).symm ▸ h2⟩
  · have h2 := (x 2).isLt
    exact ⟨Nat.zero_le _, by simp only [Matrix.cons_val, Matrix.cons_val_one]; exact (Nat.zero_add _).symm ▸ h2⟩

set_option maxHeartbeats 8000000 in
/-- One step of the inner loop, run: what it leaves in the matrix units and in the partial sums of squares. -/
noncomputable def tripRun (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole)
    (t1 : Fin k0_t1_loop.trips) (t2 : Fin k0_t2_loop.trips) (s : Mxu F)
    (f0 : MBuf (F := F) c arg0) (f1 : MBuf (F := F) c arg1) (f2 : MBuf (F := F) c arg2) (f11 : MBuf (F := F) c ssqM)
    (f6 : MBuf (F := F) c wM) : { R : Mxu F × MBuf (F := F) c ssqM //
    ∀ (h0 : s.reg 0 0 = none) (h1 : s.reg 0 1 = none) (h2 : s.reg 1 0 = none) (h3 : s.reg 1 1 = none)
    (f : MBuf (F := F) c (slotB (9 * t1.val + t2.val))) (a14 : BitVec 32) (s0 : Mxu F) (W : Waits sig Unit)
    (Q : Mxu F → sProp 𝕄),
    iprop(inflAt c f6 (9 * t1.val + t2.val) f ∗ freeB c f6 (9 * t1.val + t2.val + 3) ∗ owes (c : Thread nD τ) 0 W
        ∗ (arg0.view.loc (c : Thread nD τ) ↦[arg0.view.set]{fullShare} f0)
        ∗ (arg1.view.loc (c : Thread nD τ) ↦[arg1.view.set]{fullShare} f1)
        ∗ (arg2.view.loc (c : Thread nD τ) ↦[arg2.view.set]{fullShare} f2)
        ∗ (ssqM.view.loc (c : Thread nD τ) ↦[ssqM.view.set]{fullShare} f11)
        ∗ ((freeB c f6 (9 * t1.val + t2.val) ∗ askedB c f6 (9 * t1.val + t2.val + 3) ∗ (∃ W', owes (c : Thread nD τ) 0 W')
          ∗ (arg0.view.loc (c : Thread nD τ) ↦[arg0.view.set]{fullShare} f0)
          ∗ (arg1.view.loc (c : Thread nD τ) ↦[arg1.view.set]{fullShare} f1)
          ∗ (arg2.view.loc (c : Thread nD τ) ↦[arg2.view.set]{fullShare} f2)
          ∗ (ssqM.view.loc (c : Thread nD τ) ↦[ssqM.view.set]{fullShare} R.2)) -∗ Q R.1))
      ⊢ wp frame (wpE (defs₀ (F := F)) Variants.none (c : Thread nD τ) none) Set.univ
          (k0_t2_body arg0 harg0 arg1 harg1 arg2 harg2 arg3 harg3 arg4 harg4 arg5 harg5 wM (Memref.isWhole_whole _) arg7 harg7 yM (Memref.isWhole_whole _)
            ringM (Memref.isWhole_whole _) cc0_scratch1 ssqM (Memref.isWhole_whole _) ybufM (Memref.isWhole_whole _) cc0_scratch4 0#32 1#32 t1 s0 a14 t2 s) Q } := by
  refine ⟨(?_, ?_), fun h0 h1 h2 h3 f a14 s0 W Q => ?run⟩
  case run =>
    have hi11 := load_incl (9 * t1.val + t2.val) (Gen.k0_off11_eq t1 t2) (k0_off11_inb t1 t2) (by decide) (by decide)
    have hi13 := load_incl (9 * t1.val + t2.val) (Gen.k0_off13_eq t1 t2) (k0_off13_inb t1 t2) (by decide) (by decide)
    have hi14 := load_incl (9 * t1.val + t2.val) (Gen.k0_off14_eq t1 t2) (k0_off14_inb t1 t2) (by decide) (by decide)
    have hi15 := load_incl (9 * t1.val + t2.val) (Gen.k0_off15_eq t1 t2) (k0_off15_inb t1 t2) (by decide) (by decide)
    have hi16 := load_incl (9 * t1.val + t2.val) (Gen.k0_off16_eq t1 t2) (k0_off16_inb t1 t2) (by decide) (by decide)
    have hi17 := load_incl (9 * t1.val + t2.val) (Gen.k0_off17_eq t1 t2) (k0_off17_inb t1 t2) (by decide) (by decide)
    have hi18 := load_incl (9 * t1.val + t2.val) (Gen.k0_off18_eq t1 t2) (k0_off18_inb t1 t2) (by decide) (by decide)
    have hi19 := load_incl (9 * t1.val + t2.val) (Gen.k0_off19_eq t1 t2) (k0_off19_inb t1 t2) (by decide) (by decide)
    have hi20 := load_incl (9 * t1.val + t2.val) (Gen.k0_off20_eq t1 t2) (k0_off20_inb t1 t2) (by decide) (by decide)
    have hi21 := load_incl (9 * t1.val + t2.val) (Gen.k0_off21_eq t1 t2) (k0_off21_inb t1 t2) (by decide) (by decide)
    have hi22 := load_incl (9 * t1.val + t2.val) (Gen.k0_off22_eq t1 t2) (k0_off22_inb t1 t2) (by decide) (by decide)
    have hi23 := load_incl (9 * t1.val + t2.val) (Gen.k0_off23_eq t1 t2) (k0_off23_inb t1 t2) (by decide) (by decide)
    have hi24 := load_incl (9 * t1.val + t2.val) (Gen.k0_off24_eq t1 t2) (k0_off24_inb t1 t2) (by decide) (by decide)
    have hi25 := load_incl (9 * t1.val + t2.val) (Gen.k0_off25_eq t1 t2) (k0_off25_inb t1 t2) (by decide) (by decide)
    have hi26 := load_incl (9 * t1.val + t2.val) (Gen.k0_off26_eq t1 t2) (k0_off26_inb t1 t2) (by decide) (by decide)
    have hi27 := load_incl (9 * t1.val + t2.val) (Gen.k0_off27_eq t1 t2) (k0_off27_inb t1 t2) (by decide) (by decide)
    have hi28 := load_incl (9 * t1.val + t2.val) (Gen.k0_off28_eq t1 t2) (k0_off28_inb t1 t2) (by decide) (by decide)
    have hi29 := load_incl (9 * t1.val + t2.val) (Gen.k0_off29_eq t1 t2) (k0_off29_inb t1 t2) (by decide) (by decide)
    have hi30 := load_incl (9 * t1.val + t2.val) (Gen.k0_off30_eq t1 t2) (k0_off30_inb t1 t2) (by decide) (by decide)
    have hi31 := load_incl (9 * t1.val + t2.val) (Gen.k0_off31_eq t1 t2) (k0_off31_inb t1 t2) (by decide) (by decide)
    have hi32 := load_incl (9 * t1.val + t2.val) (Gen.k0_off32_eq t1 t2) (k0_off32_inb t1 t2) (by decide) (by decide)
    have hi33 := load_incl (9 * t1.val + t2.val) (Gen.k0_off33_eq t1 t2) (k0_off33_inb t1 t2) (by decide) (by decide)
    have hi34 := load_incl (9 * t1.val + t2.val) (Gen.k0_off34_eq t1 t2) (k0_off34_inb t1 t2) (by decide) (by decide)
    have hi35 := load_incl (9 * t1.val + t2.val) (Gen.k0_off35_eq t1 t2) (k0_off35_inb t1 t2) (by decide) (by decide)
    have hi36 := load_incl (9 * t1.val + t2.val) (Gen.k0_off36_eq t1 t2) (k0_off36_inb t1 t2) (by decide) (by decide)
    have hi37 := load_incl (9 * t1.val + t2.val) (Gen.k0_off37_eq t1 t2) (k0_off37_inb t1 t2) (by decide) (by decide)
    have hi38 := load_incl (9 * t1.val + t2.val) (Gen.k0_off38_eq t1 t2) (k0_off38_inb t1 t2) (by decide) (by decide)
    have hi39 := load_incl (9 * t1.val + t2.val) (Gen.k0_off39_eq t1 t2) (k0_off39_inb t1 t2) (by decide) (by decide)
    have hi40 := load_incl (9 * t1.val + t2.val) (Gen.k0_off40_eq t1 t2) (k0_off40_inb t1 t2) (by decide) (by decide)
    have hi41 := load_incl (9 * t1.val + t2.val) (Gen.k0_off41_eq t1 t2) (k0_off41_inb t1 t2) (by decide) (by decide)
    have hi42 := load_incl (9 * t1.val + t2.val) (Gen.k0_off42_eq t1 t2) (k0_off42_inb t1 t2) (by decide) (by decide)
    have hi43 := load_incl (9 * t1.val + t2.val) (Gen.k0_off43_eq t1 t2) (k0_off43_inb t1 t2) (by decide) (by decide)
    have hi44 := load_incl (9 * t1.val + t2.val) (Gen.k0_off44_eq t1 t2) (k0_off44_inb t1 t2) (by decide) (by decide)
    have hi45 := load_incl (9 * t1.val + t2.val) (Gen.k0_off45_eq t1 t2) (k0_off45_inb t1 t2) (by decide) (by decide)
    have hi46 := load_incl (9 * t1.val + t2.val) (Gen.k0_off46_eq t1 t2) (k0_off46_inb t1 t2) (by decide) (by decide)
    have hi47 := load_incl (9 * t1.val + t2.val) (Gen.k0_off47_eq t1 t2) (k0_off47_inb t1 t2) (by decide) (by decide)
    have hi48 := load_incl (9 * t1.val + t2.val) (Gen.k0_off48_eq t1 t2) (k0_off48_inb t1 t2) (by decide) (by decide)
    have hi49 := load_incl (9 * t1.val + t2.val) (Gen.k0_off49_eq t1 t2) (k0_off49_inb t1 t2) (by decide) (by decide)
    have hi50 := load_incl (9 * t1.val + t2.val) (Gen.k0_off50_eq t1 t2) (k0_off50_inb t1 t2) (by decide) (by decide)
    have hi51 := load_incl (9 * t1.val + t2.val) (Gen.k0_off51_eq t1 t2) (k0_off51_inb t1 t2) (by decide) (by decide)
    have hi52 := load_incl (9 * t1.val + t2.val) (Gen.k0_off52_eq t1 t2) (k0_off52_inb t1 t2) (by decide) (by decide)
    have hi53 := load_incl (9 * t1.val + t2.val) (Gen.k0_off53_eq t1 t2) (k0_off53_inb t1 t2) (by decide) (by decide)
    have hi54 := load_incl (9 * t1.val + t2.val) (Gen.k0_off54_eq t1 t2) (k0_off54_inb t1 t2) (by decide) (by decide)
    have hi55 := load_incl (9 * t1.val + t2.val) (Gen.k0_off55_eq t1 t2) (k0_off55_inb t1 t2) (by decide) (by decide)
    have hi56 := load_incl (9 * t1.val + t2.val) (Gen.k0_off56_eq t1 t2) (k0_off56_inb t1 t2) (by decide) (by decide)
    have hi57 := load_incl (9 * t1.val + t2.val) (Gen.k0_off57_eq t1 t2) (k0_off57_inb t1 t2) (by decide) (by decide)
    have hi58 := load_incl (9 * t1.val + t2.val) (Gen.k0_off58_eq t1 t2) (k0_off58_inb t1 t2) (by decide) (by decide)
    have hi59 := load_incl (9 * t1.val + t2.val) (Gen.k0_off59_eq t1 t2) (k0_off59_inb t1 t2) (by decide) (by decide)
    have hi60 := load_incl (9 * t1.val + t2.val) (Gen.k0_off60_eq t1 t2) (k0_off60_inb t1 t2) (by decide) (by decide)
    have hi61 := load_incl (9 * t1.val + t2.val) (Gen.k0_off61_eq t1 t2) (k0_off61_inb t1 t2) (by decide) (by decide)
    have hi62 := load_incl (9 * t1.val + t2.val) (Gen.k0_off62_eq t1 t2) (k0_off62_inb t1 t2) (by decide) (by decide)
    have hi63 := load_incl (9 * t1.val + t2.val) (Gen.k0_off63_eq t1 t2) (k0_off63_inb t1 t2) (by decide) (by decide)
    have hi64 := load_incl (9 * t1.val + t2.val) (Gen.k0_off64_eq t1 t2) (k0_off64_inb t1 t2) (by decide) (by decide)
    have hi65 := load_incl (9 * t1.val + t2.val) (Gen.k0_off65_eq t1 t2) (k0_off65_inb t1 t2) (by decide) (by decide)
    have hi66 := load_incl (9 * t1.val + t2.val) (Gen.k0_off66_eq t1 t2) (k0_off66_inb t1 t2) (by decide) (by decide)
    have hi67 := load_incl (9 * t1.val + t2.val) (Gen.k0_off67_eq t1 t2) (k0_off67_inb t1 t2) (by decide) (by decide)
    have hi68 := load_incl (9 * t1.val + t2.val) (Gen.k0_off68_eq t1 t2) (k0_off68_inb t1 t2) (by decide) (by decide)
    have hi69 := load_incl (9 * t1.val + t2.val) (Gen.k0_off69_eq t1 t2) (k0_off69_inb t1 t2) (by decide) (by decide)
    have hi70 := load_incl (9 * t1.val + t2.val) (Gen.k0_off70_eq t1 t2) (k0_off70_inb t1 t2) (by decide) (by decide)
    have hi71 := load_incl (9 * t1.val + t2.val) (Gen.k0_off71_eq t1 t2) (k0_off71_inb t1 t2) (by decide) (by decide)
    have hi72 := load_incl (9 * t1.val + t2.val) (Gen.k0_off72_eq t1 t2) (k0_off72_inb t1 t2) (by decide) (by decide)
    have hi73 := load_incl (9 * t1.val + t2.val) (Gen.k0_off73_eq t1 t2) (k0_off73_inb t1 t2) (by decide) (by decide)
    have hi74 := load_incl (9 * t1.val + t2.val) (Gen.k0_off74_eq t1 t2) (k0_off74_inb t1 t2) (by decide) (by decide)
    have hi75 := load_incl (9 * t1.val + t2.val) (Gen.k0_off75_eq t1 t2) (k0_off75_inb t1 t2) (by decide) (by decide)
    have hcut : iprop(inflAt c f6 (9 * t1.val + t2.val) f ∗ freeB c f6 (9 * t1.val + t2.val + 3) ∗ owes (c : Thread nD τ) 0 W)
        ⊢ wp frame (wpE (defs₀ (F := F)) Variants.none (c : Thread nD τ) none) Set.univ
            (k0_part1 arg0 harg0 arg1 harg1 arg2 harg2 arg3 harg3 arg4 harg4 arg5 harg5 wM (Memref.isWhole_whole _) arg7 harg7 yM (Memref.isWhole_whole _)
              ringM (Memref.isWhole_whole _) cc0_scratch1 ssqM (Memref.isWhole_whole _) ybufM (Memref.isWhole_whole _) cc0_scratch4 t1 a14 0#32 1#32 t2)
            (fun _ => iprop(semVal ((c : Thread nD τ), SemLoc.dma (cellB (9 * t1.val + t2.val))) 0
              ∗ ((slotB (9 * t1.val + t2.val)).view.loc (c : Thread nD τ) ↦[(slotB (9 * t1.val + t2.val)).view.set]{fullShare} landed c f6 (9 * t1.val + t2.val) f)
              ∗ (wM.view.loc (c : Thread nD τ) ↦[Finset.univ]{shB (9 * t1.val + t2.val)} f6)
              ∗ askedB c f6 (9 * t1.val + t2.val + 3) ∗ (∃ W', owes (c : Thread nD τ) 0 W'))) := by
      iintro ⟨H1, H2, H3⟩
      iapply (ring_step c arg0 harg0 arg1 harg1 arg2 harg2 arg3 harg3 arg4 harg4 arg5 harg5 arg7 harg7 t1 t2 a14 f6 f W)
      isplitl [H1]; · iexact H1
      isplitl [H2]; · iexact H2
      isplitl [H3]; · iexact H3
      iintro %v %W' ⟨H1, H2, H3⟩
      unfold doneAt
      icases H1 with ⟨H1, H4, H5⟩
      isplitl [H1]; · iexact H1
      isplitl [H4]; · iexact H4
      isplitl [H5]; · iexact H5
      isplitl [H2]; · iexact H2
      iexists _; iexact H3
    have hp00 : s.PushOk 0 0 false := Mxu.pushOk_of_none _ _ _ _ h0
    have hp01 : s.PushOk 0 1 false := Mxu.pushOk_of_none _ _ _ _ h1
    have hp10 : s.PushOk 1 0 false := Mxu.pushOk_of_none _ _ _ _ h2
    have hp11 : s.PushOk 1 1 false := Mxu.pushOk_of_none _ _ _ _ h3
    iintro ⟨H1, H2, H3, Ha0, Ha1, Ha2, Hs, Hk⟩
    unfold k0_t2_body
    sl_exec_parts (disch := first | (mxu_pushok_peel; done) | (mxu_pushok_peel; assumption))
    sl_step
    iapply Hk
    isplitl [Hk0_part1_0 Hk0_part1_1 Hk0_part1_2]
    · unfold freeB
      isplitl [Hk0_part1_0]; · iexact Hk0_part1_0
      isplitl [Hk0_part1_1]; · iexists _; iexact Hk0_part1_1
      iexact Hk0_part1_2
    isplitl [Hk0_part1_3]; · iexact Hk0_part1_3
    isplitl [Hk0_part1_4]; · iexists _; iexact Hk0_part1_4
    isplitl [Ha0]; · iexact Ha0
    isplitl [Ha1]; · iexact Ha1
    isplitl [Ha2]; · iexact Ha2
    iexact Hs

end Cert.Kernel.Hand

end
-- ==== Proof.K.Inner.lean ====
/-
  The inner loop of the main call: nine steps.
-/
module

public import proofs.«01_k».proof.Proof.K.Trip
public import Idealize.ShloMosaic.Lib.Mxu.Walk

@[expose] public section

set_option maxRecDepth 8192

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

/-- What holds of the matrix units between steps: only the first 320 rows may be live, and no register holds a tile. -/
structure MxuB (s : Mxu F) : Prop where
  l0 : ∀ R : Fin 1024, s.live 0 R = true → R.val < 320
  l1 : ∀ R : Fin 1024, s.live 1 R = true → R.val < 320
  r00 : s.reg 0 0 = none
  r01 : s.reg 0 1 = none
  r10 : s.reg 1 0 = none
  r11 : s.reg 1 1 = none

/-- The units and the partial sums of squares after one step. -/
noncomputable abbrev tripFn (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole)
    (t1 : Fin k0_t1_loop.trips) (t2 : Fin k0_t2_loop.trips) (s : Mxu F)
    (f0 : MBuf (F := F) c arg0) (f1 : MBuf (F := F) c arg1) (f2 : MBuf (F := F) c arg2) (f11 : MBuf (F := F) c ssqM)
    (f6 : MBuf (F := F) c wM) : Mxu F × MBuf (F := F) c ssqM := (tripRun c arg0 harg0 arg1 harg1 arg2 harg2 arg3 harg3 arg4 harg4 arg5 harg5 arg7 harg7 t1 t2 s f0 f1 f2 f11 f6).1

set_option maxHeartbeats 4000000 in
theorem trip_ok (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole)
    (t1 : Fin k0_t1_loop.trips) (t2 : Fin k0_t2_loop.trips) (s : Mxu F)
    (f0 : MBuf (F := F) c arg0) (f1 : MBuf (F := F) c arg1) (f2 : MBuf (F := F) c arg2) (f11 : MBuf (F := F) c ssqM)
    (f6 : MBuf (F := F) c wM) (h : MxuB s) : MxuB (tripFn c arg0 harg0 arg1 harg1 arg2 harg2 arg3 harg3 arg4 harg4 arg5 harg5 arg7 harg7 t1 t2 s f0 f1 f2 f11 f6).1 := by
  have h0 := h.l0
  have h1 := h.l1
  have e : (tripFn c arg0 harg0 arg1 harg1 arg2 harg2 arg3 harg3 arg4 harg4 arg5 harg5 arg7 harg7 t1 t2 s f0 f1 f2 f11 f6).1 = tripRun.sl.r_253 c arg0 arg1 arg2 t1 t2 s f0 f1 f2 f6 := rfl
  rw [e]
  refine ⟨?_, ?_, ?_, ?_, ?_, ?_⟩
  · mxu_walk h0 as w0
    exact fun R hR => (w0.within_range 0 320 rfl R hR).2
  · mxu_walk h1 as w0
    exact fun R hR => (w0.within_range 0 320 rfl R hR).2
  · mxu_walk h0 as w0
    exact w0.reg0_empty rfl
  · mxu_walk h0 as w0
    exact w0.reg1_empty rfl
  · mxu_walk h1 as w0
    exact w0.reg0_empty rfl
  · mxu_walk h1 as w0
    exact w0.reg1_empty rfl

/-- The units and the partial sums of squares before step `k` of the inner loop. -/
noncomputable def innerSt (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole)
    (t1 : Fin k0_t1_loop.trips) (s : Mxu F)
    (f0 : MBuf (F := F) c arg0) (f1 : MBuf (F := F) c arg1) (f2 : MBuf (F := F) c arg2) (f11 : MBuf (F := F) c ssqM)
    (f6 : MBuf (F := F) c wM) : ℕ → Mxu F × MBuf (F := F) c ssqM
  | 0 => (s, f11)
  | k + 1 => if h : k < k0_t2_loop.trips then
      tripFn c arg0 harg0 arg1 harg1 arg2 harg2 arg3 harg3 arg4 harg4 arg5 harg5 arg7 harg7 t1 ⟨k, h⟩ (innerSt c arg0 harg0 arg1 harg1 arg2 harg2 arg3 harg3 arg4 harg4 arg5 harg5 arg7 harg7 t1 s f0 f1 f2 f11 f6 k).1 f0 f1 f2 (innerSt c arg0 harg0 arg1 harg1 arg2 harg2 arg3 harg3 arg4 harg4 arg5 harg5 arg7 harg7 t1 s f0 f1 f2 f11 f6 k).2 f6
    else innerSt c arg0 harg0 arg1 harg1 arg2 harg2 arg3 harg3 arg4 harg4 arg5 harg5 arg7 harg7 t1 s f0 f1 f2 f11 f6 k

theorem inner_ok (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole)
    (t1 : Fin k0_t1_loop.trips) (s : Mxu F)
    (f0 : MBuf (F := F) c arg0) (f1 : MBuf (F := F) c arg1) (f2 : MBuf (F := F) c arg2) (f11 : MBuf (F := F) c ssqM)
    (f6 : MBuf (F := F) c wM) (h : MxuB s) : ∀ k, MxuB (innerSt c arg0 harg0 arg1 harg1 arg2 harg2 arg3 harg3 arg4 harg4 arg5 harg5 arg7 harg7 t1 s f0 f1 f2 f11 f6 k).1
  | 0 => h
  | k + 1 => by
    unfold innerSt
    split
    · exact trip_ok _ _ _ _ _ _ _ _ _ _ _ _ _ _ _ _ _ _ _ _ _ _ _ (inner_ok c arg0 harg0 arg1 harg1 arg2 harg2 arg3 harg3 arg4 harg4 arg5 harg5 arg7 harg7 t1 s f0 f1 f2 f11 f6 h k)
    · exact inner_ok c arg0 harg0 arg1 harg1 arg2 harg2 arg3 harg3 arg4 harg4 arg5 harg5 arg7 harg7 t1 s f0 f1 f2 f11 f6 h k

/-- The ring before step `g`. -/
def ringAt (c : Dev nD) (f6 : MBuf (F := F) c wM) (g : ℕ) : sProp 𝕄 :=
  iprop(askedB c f6 g ∗ askedB c f6 (g + 1) ∗ askedB c f6 (g + 2) ∗ freeB c f6 (g + 3))

theorem asked_lt (c : Dev nD) (f6 : MBuf (F := F) c wM) (b : ℕ) (h : b < 126) : askedB c f6 b = inflB c f6 b := by
  unfold askedB; exact if_pos h

theorem freeB_move (c : Dev nD) (f6 : MBuf (F := F) c wM) (b b' : ℕ) (h : b % 4 = b' % 4) : freeB c f6 b ⊢ freeB c f6 b' := by
  rw [freeB_mod c f6 b b' h]

/-- The inner loop's invariant. -/
def innerInv (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole)
    (t1 : Fin k0_t1_loop.trips) (s : Mxu F)
    (f0 : MBuf (F := F) c arg0) (f1 : MBuf (F := F) c arg1) (f2 : MBuf (F := F) c arg2) (f11 : MBuf (F := F) c ssqM)
    (f6 : MBuf (F := F) c wM) (k : ℕ) (x : Mxu F) : sProp 𝕄 :=
  iprop(⌜x = (innerSt c arg0 harg0 arg1 harg1 arg2 harg2 arg3 harg3 arg4 harg4 arg5 harg5 arg7 harg7 t1 s f0 f1 f2 f11 f6 k).1⌝ ∗ ringAt c f6 (9 * t1.val + k) ∗ (∃ W, owes (c : Thread nD τ) 0 W)
        ∗ (arg0.view.loc (c : Thread nD τ) ↦[arg0.view.set]{fullShare} f0)
        ∗ (arg1.view.loc (c : Thread nD τ) ↦[arg1.view.set]{fullShare} f1)
        ∗ (arg2.view.loc (c : Thread nD τ) ↦[arg2.view.set]{fullShare} f2)
        ∗ (ssqM.view.loc (c : Thread nD τ) ↦[ssqM.view.set]{fullShare} (innerSt c arg0 harg0 arg1 harg1 arg2 harg2 arg3 harg3 arg4 harg4 arg5 harg5 arg7 harg7 t1 s f0 f1 f2 f11 f6 k).2))

theorem inner_step (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole)
    (t1 : Fin k0_t1_loop.trips) (s : Mxu F)
    (f0 : MBuf (F := F) c arg0) (f1 : MBuf (F := F) c arg1) (f2 : MBuf (F := F) c arg2) (f11 : MBuf (F := F) c ssqM)
    (f6 : MBuf (F := F) c wM) (h : MxuB s) (a14 : BitVec 32) (s0 : Mxu F) (k : Fin k0_t2_loop.trips) (x : Mxu F) :
    innerInv c arg0 harg0 arg1 harg1 arg2 harg2 arg3 harg3 arg4 harg4 arg5 harg5 arg7 harg7 t1 s f0 f1 f2 f11 f6 k.val x
      ⊢ wp frame (wpE (defs₀ (F := F)) Variants.none (c : Thread nD τ) none) Set.univ
          (k0_t2_body arg0 harg0 arg1 harg1 arg2 harg2 arg3 harg3 arg4 harg4 arg5 harg5 wM (Memref.isWhole_whole _) arg7 harg7 yM (Memref.isWhole_whole _)
            ringM (Memref.isWhole_whole _) cc0_scratch1 ssqM (Memref.isWhole_whole _) ybufM (Memref.isWhole_whole _) cc0_scratch4 0#32 1#32 t1 s0 a14 k x)
          (fun y => innerInv c arg0 harg0 arg1 harg1 arg2 harg2 arg3 harg3 arg4 harg4 arg5 harg5 arg7 harg7 t1 s f0 f1 f2 f11 f6 (k.val + 1) y) := by
  have hb := inner_ok c arg0 harg0 arg1 harg1 arg2 harg2 arg3 harg3 arg4 harg4 arg5 harg5 arg7 harg7 t1 s f0 f1 f2 f11 f6 h k.val
  have hg : 9 * t1.val + k.val < 126 := by
    have h1 : t1.val < 14 := t1.isLt
    have h2 : k.val < 9 := k.isLt
    omega
  have e : innerSt c arg0 harg0 arg1 harg1 arg2 harg2 arg3 harg3 arg4 harg4 arg5 harg5 arg7 harg7 t1 s f0 f1 f2 f11 f6 (k.val + 1) = tripFn c arg0 harg0 arg1 harg1 arg2 harg2 arg3 harg3 arg4 harg4 arg5 harg5 arg7 harg7 t1 k (innerSt c arg0 harg0 arg1 harg1 arg2 harg2 arg3 harg3 arg4 harg4 arg5 harg5 arg7 harg7 t1 s f0 f1 f2 f11 f6 k.val).1 f0 f1 f2 (innerSt c arg0 harg0 arg1 harg1 arg2 harg2 arg3 harg3 arg4 harg4 arg5 harg5 arg7 harg7 t1 s f0 f1 f2 f11 f6 k.val).2 f6 := by
    rw [innerSt]; exact dif_pos k.isLt
  unfold innerInv ringAt
  rw [e, asked_lt c f6 _ hg]
  unfold inflB
  iintro ⟨%hx, ⟨⟨%f, H0⟩, H1, H2, H3⟩, ⟨%W, HW⟩, Ha0, Ha1, Ha2, Hs⟩
  subst hx
  iapply ((tripRun c arg0 harg0 arg1 harg1 arg2 harg2 arg3 harg3 arg4 harg4 arg5 harg5 arg7 harg7 t1 k (innerSt c arg0 harg0 arg1 harg1 arg2 harg2 arg3 harg3 arg4 harg4 arg5 harg5 arg7 harg7 t1 s f0 f1 f2 f11 f6 k.val).1 f0 f1 f2 (innerSt c arg0 harg0 arg1 harg1 arg2 harg2 arg3 harg3 arg4 harg4 arg5 harg5 arg7 harg7 t1 s f0 f1 f2 f11 f6 k.val).2 f6).2 hb.r00 hb.r01 hb.r10 hb.r11 f a14 s0 W
    (fun y => iprop(⌜y = (tripFn c arg0 harg0 arg1 harg1 arg2 harg2 arg3 harg3 arg4 harg4 arg5 harg5 arg7 harg7 t1 k (innerSt c arg0 harg0 arg1 harg1 arg2 harg2 arg3 harg3 arg4 harg4 arg5 harg5 arg7 harg7 t1 s f0 f1 f2 f11 f6 k.val).1 f0 f1 f2 (innerSt c arg0 harg0 arg1 harg1 arg2 harg2 arg3 harg3 arg4 harg4 arg5 harg5 arg7 harg7 t1 s f0 f1 f2 f11 f6 k.val).2 f6).1⌝ ∗ (askedB c f6 (9 * t1.val + (k.val + 1)) ∗ askedB c f6 (9 * t1.val + (k.val + 1) + 1) ∗ askedB c f6 (9 * t1.val + (k.val + 1) + 2) ∗ freeB c f6 (9 * t1.val + (k.val + 1) + 3)) ∗ (∃ W, owes (c : Thread nD τ) 0 W)
        ∗ (arg0.view.loc (c : Thread nD τ) ↦[arg0.view.set]{fullShare} f0)
        ∗ (arg1.view.loc (c : Thread nD τ) ↦[arg1.view.set]{fullShare} f1)
        ∗ (arg2.view.loc (c : Thread nD τ) ↦[arg2.view.set]{fullShare} f2)
        ∗ (ssqM.view.loc (c : Thread nD τ) ↦[ssqM.view.set]{fullShare} (tripFn c arg0 harg0 arg1 harg1 arg2 harg2 arg3 harg3 arg4 harg4 arg5 harg5 arg7 harg7 t1 k (innerSt c arg0 harg0 arg1 harg1 arg2 harg2 arg3 harg3 arg4 harg4 arg5 harg5 arg7 harg7 t1 s f0 f1 f2 f11 f6 k.val).1 f0 f1 f2 (innerSt c arg0 harg0 arg1 harg1 arg2 harg2 arg3 harg3 arg4 harg4 arg5 harg5 arg7 harg7 t1 s f0 f1 f2 f11 f6 k.val).2 f6).2))))
  isplitl [H0]; · iexact H0
  isplitl [H3]; · iexact H3
  isplitl [HW]; · iexact HW
  isplitl [Ha0]; · iexact Ha0
  isplitl [Ha1]; · iexact Ha1
  isplitl [Ha2]; · iexact Ha2
  isplitl [Hs]; · iexact Hs
  iintro ⟨K0, K3, KW, Ka0, Ka1, Ka2, Ks⟩
  isplitr; · ipureintro; rfl
  isplitl [H1 H2 K0 K3]
  · isplitl [H1]; · iexact H1
    isplitl [H2]; · iexact H2
    isplitl [K3]; · iexact K3
    iapply (freeB_move c f6 (9 * t1.val + k.val) (9 * t1.val + (k.val + 1) + 3) (by omega))
    iexact K0
  isplitl [KW]; · iexact KW
  isplitl [Ka0]; · iexact Ka0
  isplitl [Ka1]; · iexact Ka1
  isplitl [Ka2]; · iexact Ka2
  iexact Ks

end Cert.Kernel.Hand

end
-- ==== Proof.K.Outer.lean ====
/-
  One step of the outer loop of the main call.
-/
module

public import proofs.«01_k».proof.Proof.K.Inner
public import Idealize.ShloMosaic.Lib.VecWindow
public import Idealize.ShloMosaic.Lib.WritesUnit
public import Idealize.ShloMosaic.Lib.Mxu.Walk

@[expose] public section

set_option maxRecDepth 8192

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

noncomputable abbrev o_ssq0 (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole)
    (t1 : Fin k0_t1_loop.trips) (s : Mxu F)
    (f0 : MBuf (F := F) c arg0) (f1 : MBuf (F := F) c arg1) (f2 : MBuf (F := F) c arg2) (f3 : MBuf (F := F) c arg3) (f4 : MBuf (F := F) c arg4) (f5 : MBuf (F := F) c arg5) (f7 : MBuf (F := F) c arg7)
    (f6 : MBuf (F := F) c wM) : MBuf (F := F) c ssqM :=
  ssqM.view.writes (Elt F) ssqM.view.junk [⟨Rect.unit (s := S8x512) ![0, 0] S8x512.size inb_S8x512_S8x512_0_0, k0_pay217 (F := F)⟩]

noncomputable abbrev o_in (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole)
    (t1 : Fin k0_t1_loop.trips) (s : Mxu F)
    (f0 : MBuf (F := F) c arg0) (f1 : MBuf (F := F) c arg1) (f2 : MBuf (F := F) c arg2) (f3 : MBuf (F := F) c arg3) (f4 : MBuf (F := F) c arg4) (f5 : MBuf (F := F) c arg5) (f7 : MBuf (F := F) c arg7)
    (f6 : MBuf (F := F) c wM) : Mxu F × MBuf (F := F) c ssqM :=
  innerSt c arg0 harg0 arg1 harg1 arg2 harg2 arg3 harg3 arg4 harg4 arg5 harg5 arg7 harg7 t1 s f0 f1 f2 (o_ssq0 c arg0 harg0 arg1 harg1 arg2 harg2 arg3 harg3 arg4 harg4 arg5 harg5 arg7 harg7 t1 s f0 f1 f2 f3 f4 f5 f7 f6) f6 9

noncomputable def o_up (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole)
    (t1 : Fin k0_t1_loop.trips) (s : Mxu F)
    (f0 : MBuf (F := F) c arg0) (f1 : MBuf (F := F) c arg1) (f2 : MBuf (F := F) c arg2) (f3 : MBuf (F := F) c arg3) (f4 : MBuf (F := F) c arg4) (f5 : MBuf (F := F) c arg5) (f7 : MBuf (F := F) c arg7)
    (f6 : MBuf (F := F) c wM) : Vec F S64x512 .bf16 :=
  View.readAt (Elt F) arg4.view (Rect.unit (s := S64x7168) (k0_off76 t1) S64x512.size (k0_off76_inb t1)).toLoadRect f4

noncomputable def o_sq (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole)
    (t1 : Fin k0_t1_loop.trips) (s : Mxu F)
    (f0 : MBuf (F := F) c arg0) (f1 : MBuf (F := F) c arg1) (f2 : MBuf (F := F) c arg2) (f3 : MBuf (F := F) c arg3) (f4 : MBuf (F := F) c arg4) (f5 : MBuf (F := F) c arg5) (f7 : MBuf (F := F) c arg7)
    (f6 : MBuf (F := F) c wM) : FVec F S1x512 .f32 :=
  k0_pay222 (View.readAt (Elt F) ssqM.view (Rect.unit (s := S8x512) ![0, 0] S8x512.size inb_S8x512_S8x512_0_0).toLoadRect (o_in c arg0 harg0 arg1 harg1 arg2 harg2 arg3 harg3 arg4 harg4 arg5 harg5 arg7 harg7 t1 s f0 f1 f2 f3 f4 f5 f7 f6).2)

noncomputable def o_h (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole)
    (t1 : Fin k0_t1_loop.trips) (s : Mxu F)
    (f0 : MBuf (F := F) c arg0) (f1 : MBuf (F := F) c arg1) (f2 : MBuf (F := F) c arg2) (f3 : MBuf (F := F) c arg3) (f4 : MBuf (F := F) c arg4) (f5 : MBuf (F := F) c arg5) (f7 : MBuf (F := F) c arg7)
    (f6 : MBuf (F := F) c wM) : Vec F S256x256 .bf16 :=
  View.readAt (Elt F) arg3.view (Rect.unit (s := S320x256) ![0, 0] S256x256.size inb_S320x256_S256x256_0_0).toLoadRect f3

noncomputable def o_g (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole)
    (t1 : Fin k0_t1_loop.trips) (s : Mxu F)
    (f0 : MBuf (F := F) c arg0) (f1 : MBuf (F := F) c arg1) (f2 : MBuf (F := F) c arg2) (f3 : MBuf (F := F) c arg3) (f4 : MBuf (F := F) c arg4) (f5 : MBuf (F := F) c arg5) (f7 : MBuf (F := F) c arg7)
    (f6 : MBuf (F := F) c wM) : Vec F S64x256 .bf16 :=
  View.readAt (Elt F) arg3.view (Rect.unit (s := S320x256) ![256, 0] S64x256.size inb_S320x256_S64x256_256_0).toLoadRect f3

noncomputable def o_m58 (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole)
    (t1 : Fin k0_t1_loop.trips) (s : Mxu F)
    (f0 : MBuf (F := F) c arg0) (f1 : MBuf (F := F) c arg1) (f2 : MBuf (F := F) c arg2) (f3 : MBuf (F := F) c arg3) (f4 : MBuf (F := F) c arg4) (f5 : MBuf (F := F) c arg5) (f7 : MBuf (F := F) c arg7)
    (f6 : MBuf (F := F) c wM) : Mxu F :=
  (o_in c arg0 harg0 arg1 harg1 arg2 harg2 arg3 harg3 arg4 harg4 arg5 harg5 arg7 harg7 t1 s f0 f1 f2 f3 f4 f5 f7 f6).1.pushed 0 0 false (k0_pay223 (o_up c arg0 harg0 arg1 harg1 arg2 harg2 arg3 harg3 arg4 harg4 arg5 harg5 arg7 harg7 t1 s f0 f1 f2 f3 f4 f5 f7 f6))

noncomputable def o_m59 (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole)
    (t1 : Fin k0_t1_loop.trips) (s : Mxu F)
    (f0 : MBuf (F := F) c arg0) (f1 : MBuf (F := F) c arg1) (f2 : MBuf (F := F) c arg2) (f3 : MBuf (F := F) c arg3) (f4 : MBuf (F := F) c arg4) (f5 : MBuf (F := F) c arg5) (f7 : MBuf (F := F) c arg7)
    (f6 : MBuf (F := F) c wM) : Mxu F :=
  (o_m58 c arg0 harg0 arg1 harg1 arg2 harg2 arg3 harg3 arg4 harg4 arg5 harg5 arg7 harg7 t1 s f0 f1 f2 f3 f4 f5 f7 f6).accLhs 0 0 0 (o_h c arg0 harg0 arg1 harg1 arg2 harg2 arg3 harg3 arg4 harg4 arg5 harg5 arg7 harg7 t1 s f0 f1 f2 f3 f4 f5 f7 f6) fits_0_256

noncomputable def o_m60 (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole)
    (t1 : Fin k0_t1_loop.trips) (s : Mxu F)
    (f0 : MBuf (F := F) c arg0) (f1 : MBuf (F := F) c arg1) (f2 : MBuf (F := F) c arg2) (f3 : MBuf (F := F) c arg3) (f4 : MBuf (F := F) c arg4) (f5 : MBuf (F := F) c arg5) (f7 : MBuf (F := F) c arg7)
    (f6 : MBuf (F := F) c wM) : Mxu F :=
  (o_m59 c arg0 harg0 arg1 harg1 arg2 harg2 arg3 harg3 arg4 harg4 arg5 harg5 arg7 harg7 t1 s f0 f1 f2 f3 f4 f5 f7 f6).accBy 0 ((o_m58 c arg0 harg0 arg1 harg1 arg2 harg2 arg3 harg3 arg4 harg4 arg5 harg5 arg7 harg7 t1 s f0 f1 f2 f3 f4 f5 f7 f6).staged 0 0) 64 (o_g c arg0 harg0 arg1 harg1 arg2 harg2 arg3 harg3 arg4 harg4 arg5 harg5 arg7 harg7 t1 s f0 f1 f2 f3 f4 f5 f7 f6) fits_64_64

noncomputable def o_m61 (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole)
    (t1 : Fin k0_t1_loop.trips) (s : Mxu F)
    (f0 : MBuf (F := F) c arg0) (f1 : MBuf (F := F) c arg1) (f2 : MBuf (F := F) c arg2) (f3 : MBuf (F := F) c arg3) (f4 : MBuf (F := F) c arg4) (f5 : MBuf (F := F) c arg5) (f7 : MBuf (F := F) c arg7)
    (f6 : MBuf (F := F) c wM) : Mxu F :=
  (o_m60 c arg0 harg0 arg1 harg1 arg2 harg2 arg3 harg3 arg4 harg4 arg5 harg5 arg7 harg7 t1 s f0 f1 f2 f3 f4 f5 f7 f6).pushed 1 0 false (k0_pay224 (o_up c arg0 harg0 arg1 harg1 arg2 harg2 arg3 harg3 arg4 harg4 arg5 harg5 arg7 harg7 t1 s f0 f1 f2 f3 f4 f5 f7 f6))

noncomputable def o_m62 (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole)
    (t1 : Fin k0_t1_loop.trips) (s : Mxu F)
    (f0 : MBuf (F := F) c arg0) (f1 : MBuf (F := F) c arg1) (f2 : MBuf (F := F) c arg2) (f3 : MBuf (F := F) c arg3) (f4 : MBuf (F := F) c arg4) (f5 : MBuf (F := F) c arg5) (f7 : MBuf (F := F) c arg7)
    (f6 : MBuf (F := F) c wM) : Mxu F :=
  (o_m61 c arg0 harg0 arg1 harg1 arg2 harg2 arg3 harg3 arg4 harg4 arg5 harg5 arg7 harg7 t1 s f0 f1 f2 f3 f4 f5 f7 f6).accLhs 1 0 0 (o_h c arg0 harg0 arg1 harg1 arg2 harg2 arg3 harg3 arg4 harg4 arg5 harg5 arg7 harg7 t1 s f0 f1 f2 f3 f4 f5 f7 f6) fits_0_256

noncomputable def o_m63 (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole)
    (t1 : Fin k0_t1_loop.trips) (s : Mxu F)
    (f0 : MBuf (F := F) c arg0) (f1 : MBuf (F := F) c arg1) (f2 : MBuf (F := F) c arg2) (f3 : MBuf (F := F) c arg3) (f4 : MBuf (F := F) c arg4) (f5 : MBuf (F := F) c arg5) (f7 : MBuf (F := F) c arg7)
    (f6 : MBuf (F := F) c wM) : Mxu F :=
  (o_m62 c arg0 harg0 arg1 harg1 arg2 harg2 arg3 harg3 arg4 harg4 arg5 harg5 arg7 harg7 t1 s f0 f1 f2 f3 f4 f5 f7 f6).accBy 1 ((o_m61 c arg0 harg0 arg1 harg1 arg2 harg2 arg3 harg3 arg4 harg4 arg5 harg5 arg7 harg7 t1 s f0 f1 f2 f3 f4 f5 f7 f6).staged 1 0) 64 (o_g c arg0 harg0 arg1 harg1 arg2 harg2 arg3 harg3 arg4 harg4 arg5 harg5 arg7 harg7 t1 s f0 f1 f2 f3 f4 f5 f7 f6) fits_64_64

noncomputable def o_c0 (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole)
    (t1 : Fin k0_t1_loop.trips) (s : Mxu F)
    (f0 : MBuf (F := F) c arg0) (f1 : MBuf (F := F) c arg1) (f2 : MBuf (F := F) c arg2) (f3 : MBuf (F := F) c arg3) (f4 : MBuf (F := F) c arg4) (f5 : MBuf (F := F) c arg5) (f7 : MBuf (F := F) c arg7)
    (f6 : MBuf (F := F) c wM) : FVec F S64x256 .f32 :=
  (o_m63 c arg0 harg0 arg1 harg1 arg2 harg2 arg3 harg3 arg4 harg4 arg5 harg5 arg7 harg7 t1 s f0 f1 f2 f3 f4 f5 f7 f6).read 0 64 fits_64_64

noncomputable def o_m64 (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole)
    (t1 : Fin k0_t1_loop.trips) (s : Mxu F)
    (f0 : MBuf (F := F) c arg0) (f1 : MBuf (F := F) c arg1) (f2 : MBuf (F := F) c arg2) (f3 : MBuf (F := F) c arg3) (f4 : MBuf (F := F) c arg4) (f5 : MBuf (F := F) c arg5) (f7 : MBuf (F := F) c arg7)
    (f6 : MBuf (F := F) c wM) : Mxu F :=
  (o_m63 c arg0 harg0 arg1 harg1 arg2 harg2 arg3 harg3 arg4 harg4 arg5 harg5 arg7 harg7 t1 s f0 f1 f2 f3 f4 f5 f7 f6).pop 0 64 64 fits_64_64

noncomputable def o_mag0 (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole)
    (t1 : Fin k0_t1_loop.trips) (s : Mxu F)
    (f0 : MBuf (F := F) c arg0) (f1 : MBuf (F := F) c arg1) (f2 : MBuf (F := F) c arg2) (f3 : MBuf (F := F) c arg3) (f4 : MBuf (F := F) c arg4) (f5 : MBuf (F := F) c arg5) (f7 : MBuf (F := F) c arg7)
    (f6 : MBuf (F := F) c wM) : Vec F S1x256 .f32 :=
  View.readAt (Elt F) arg5.view (Rect.unit (s := S1x7168) (k0_off80 t1 0#32) S1x256.size (k0_off80_inb t1 0)).toLoadRect f5

noncomputable def o_y0 (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole)
    (t1 : Fin k0_t1_loop.trips) (s : Mxu F)
    (f0 : MBuf (F := F) c arg0) (f1 : MBuf (F := F) c arg1) (f2 : MBuf (F := F) c arg2) (f3 : MBuf (F := F) c arg3) (f4 : MBuf (F := F) c arg4) (f5 : MBuf (F := F) c arg5) (f7 : MBuf (F := F) c arg7)
    (f6 : MBuf (F := F) c wM) : FVec F S256x256 .f32 :=
  (o_m64 c arg0 harg0 arg1 harg1 arg2 harg2 arg3 harg3 arg4 harg4 arg5 harg5 arg7 harg7 t1 s f0 f1 f2 f3 f4 f5 f7 f6).read 0 0 fits_0_256

noncomputable def o_m65 (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole)
    (t1 : Fin k0_t1_loop.trips) (s : Mxu F)
    (f0 : MBuf (F := F) c arg0) (f1 : MBuf (F := F) c arg1) (f2 : MBuf (F := F) c arg2) (f3 : MBuf (F := F) c arg3) (f4 : MBuf (F := F) c arg4) (f5 : MBuf (F := F) c arg5) (f7 : MBuf (F := F) c arg7)
    (f6 : MBuf (F := F) c wM) : Mxu F :=
  (o_m64 c arg0 harg0 arg1 harg1 arg2 harg2 arg3 harg3 arg4 harg4 arg5 harg5 arg7 harg7 t1 s f0 f1 f2 f3 f4 f5 f7 f6).pop 0 0 256 fits_0_256

noncomputable def o_c1 (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole)
    (t1 : Fin k0_t1_loop.trips) (s : Mxu F)
    (f0 : MBuf (F := F) c arg0) (f1 : MBuf (F := F) c arg1) (f2 : MBuf (F := F) c arg2) (f3 : MBuf (F := F) c arg3) (f4 : MBuf (F := F) c arg4) (f5 : MBuf (F := F) c arg5) (f7 : MBuf (F := F) c arg7)
    (f6 : MBuf (F := F) c wM) : FVec F S64x256 .f32 :=
  (o_m65 c arg0 harg0 arg1 harg1 arg2 harg2 arg3 harg3 arg4 harg4 arg5 harg5 arg7 harg7 t1 s f0 f1 f2 f3 f4 f5 f7 f6).read 1 64 fits_64_64

noncomputable def o_m66 (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole)
    (t1 : Fin k0_t1_loop.trips) (s : Mxu F)
    (f0 : MBuf (F := F) c arg0) (f1 : MBuf (F := F) c arg1) (f2 : MBuf (F := F) c arg2) (f3 : MBuf (F := F) c arg3) (f4 : MBuf (F := F) c arg4) (f5 : MBuf (F := F) c arg5) (f7 : MBuf (F := F) c arg7)
    (f6 : MBuf (F := F) c wM) : Mxu F :=
  (o_m65 c arg0 harg0 arg1 harg1 arg2 harg2 arg3 harg3 arg4 harg4 arg5 harg5 arg7 harg7 t1 s f0 f1 f2 f3 f4 f5 f7 f6).pop 1 64 64 fits_64_64

noncomputable def o_mag1 (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole)
    (t1 : Fin k0_t1_loop.trips) (s : Mxu F)
    (f0 : MBuf (F := F) c arg0) (f1 : MBuf (F := F) c arg1) (f2 : MBuf (F := F) c arg2) (f3 : MBuf (F := F) c arg3) (f4 : MBuf (F := F) c arg4) (f5 : MBuf (F := F) c arg5) (f7 : MBuf (F := F) c arg7)
    (f6 : MBuf (F := F) c wM) : Vec F S1x256 .f32 :=
  View.readAt (Elt F) arg5.view (Rect.unit (s := S1x7168) (k0_off80 t1 256#32) S1x256.size (k0_off80_inb t1 1)).toLoadRect f5

noncomputable def o_y1 (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole)
    (t1 : Fin k0_t1_loop.trips) (s : Mxu F)
    (f0 : MBuf (F := F) c arg0) (f1 : MBuf (F := F) c arg1) (f2 : MBuf (F := F) c arg2) (f3 : MBuf (F := F) c arg3) (f4 : MBuf (F := F) c arg4) (f5 : MBuf (F := F) c arg5) (f7 : MBuf (F := F) c arg7)
    (f6 : MBuf (F := F) c wM) : FVec F S256x256 .f32 :=
  (o_m66 c arg0 harg0 arg1 harg1 arg2 harg2 arg3 harg3 arg4 harg4 arg5 harg5 arg7 harg7 t1 s f0 f1 f2 f3 f4 f5 f7 f6).read 1 0 fits_0_256

noncomputable def o_m67 (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole)
    (t1 : Fin k0_t1_loop.trips) (s : Mxu F)
    (f0 : MBuf (F := F) c arg0) (f1 : MBuf (F := F) c arg1) (f2 : MBuf (F := F) c arg2) (f3 : MBuf (F := F) c arg3) (f4 : MBuf (F := F) c arg4) (f5 : MBuf (F := F) c arg5) (f7 : MBuf (F := F) c arg7)
    (f6 : MBuf (F := F) c wM) : Mxu F :=
  (o_m66 c arg0 harg0 arg1 harg1 arg2 harg2 arg3 harg3 arg4 harg4 arg5 harg5 arg7 harg7 t1 s f0 f1 f2 f3 f4 f5 f7 f6).pop 1 0 256 fits_0_256

noncomputable def o_n0 (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole)
    (t1 : Fin k0_t1_loop.trips) (s : Mxu F)
    (f0 : MBuf (F := F) c arg0) (f1 : MBuf (F := F) c arg1) (f2 : MBuf (F := F) c arg2) (f3 : MBuf (F := F) c arg3) (f4 : MBuf (F := F) c arg4) (f5 : MBuf (F := F) c arg5) (f7 : MBuf (F := F) c arg7)
    (f6 : MBuf (F := F) c wM) : FVec F S1x256 .f32 :=
  k0_pay225 (o_up c arg0 harg0 arg1 harg1 arg2 harg2 arg3 harg3 arg4 harg4 arg5 harg5 arg7 harg7 t1 s f0 f1 f2 f3 f4 f5 f7 f6) (o_sq c arg0 harg0 arg1 harg1 arg2 harg2 arg3 harg3 arg4 harg4 arg5 harg5 arg7 harg7 t1 s f0 f1 f2 f3 f4 f5 f7 f6) (o_c0 c arg0 harg0 arg1 harg1 arg2 harg2 arg3 harg3 arg4 harg4 arg5 harg5 arg7 harg7 t1 s f0 f1 f2 f3 f4 f5 f7 f6)

noncomputable def o_n1 (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole)
    (t1 : Fin k0_t1_loop.trips) (s : Mxu F)
    (f0 : MBuf (F := F) c arg0) (f1 : MBuf (F := F) c arg1) (f2 : MBuf (F := F) c arg2) (f3 : MBuf (F := F) c arg3) (f4 : MBuf (F := F) c arg4) (f5 : MBuf (F := F) c arg5) (f7 : MBuf (F := F) c arg7)
    (f6 : MBuf (F := F) c wM) : FVec F S1x256 .f32 :=
  k0_pay228 (o_sq c arg0 harg0 arg1 harg1 arg2 harg2 arg3 harg3 arg4 harg4 arg5 harg5 arg7 harg7 t1 s f0 f1 f2 f3 f4 f5 f7 f6) (k0_pay227 (o_up c arg0 harg0 arg1 harg1 arg2 harg2 arg3 harg3 arg4 harg4 arg5 harg5 arg7 harg7 t1 s f0 f1 f2 f3 f4 f5 f7 f6) (o_c1 c arg0 harg0 arg1 harg1 arg2 harg2 arg3 harg3 arg4 harg4 arg5 harg5 arg7 harg7 t1 s f0 f1 f2 f3 f4 f5 f7 f6))

noncomputable def o_norm (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole)
    (t1 : Fin k0_t1_loop.trips) (s : Mxu F)
    (f0 : MBuf (F := F) c arg0) (f1 : MBuf (F := F) c arg1) (f2 : MBuf (F := F) c arg2) (f3 : MBuf (F := F) c arg3) (f4 : MBuf (F := F) c arg4) (f5 : MBuf (F := F) c arg5) (f7 : MBuf (F := F) c arg7)
    (f6 : MBuf (F := F) c wM) : MBuf (F := F) c arg7 :=
  arg7.view.writes (Elt F) f7 [⟨Rect.unit (s := S1x7168) (k0_off80 t1 256#32) S1x256.size (k0_off80_inb t1 1), (o_n1 c arg0 harg0 arg1 harg1 arg2 harg2 arg3 harg3 arg4 harg4 arg5 harg5 arg7 harg7 t1 s f0 f1 f2 f3 f4 f5 f7 f6)⟩, ⟨Rect.unit (s := S1x7168) (k0_off80 t1 0#32) S1x256.size (k0_off80_inb t1 0), (o_n0 c arg0 harg0 arg1 harg1 arg2 harg2 arg3 harg3 arg4 harg4 arg5 harg5 arg7 harg7 t1 s f0 f1 f2 f3 f4 f5 f7 f6)⟩]

noncomputable def o_s0 (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole)
    (t1 : Fin k0_t1_loop.trips) (s : Mxu F)
    (f0 : MBuf (F := F) c arg0) (f1 : MBuf (F := F) c arg1) (f2 : MBuf (F := F) c arg2) (f3 : MBuf (F := F) c arg3) (f4 : MBuf (F := F) c arg4) (f5 : MBuf (F := F) c arg5) (f7 : MBuf (F := F) c arg7)
    (f6 : MBuf (F := F) c wM) : FVec F S1x256x256 .bf16 :=
  k0_pay226 (o_up c arg0 harg0 arg1 harg1 arg2 harg2 arg3 harg3 arg4 harg4 arg5 harg5 arg7 harg7 t1 s f0 f1 f2 f3 f4 f5 f7 f6) (o_sq c arg0 harg0 arg1 harg1 arg2 harg2 arg3 harg3 arg4 harg4 arg5 harg5 arg7 harg7 t1 s f0 f1 f2 f3 f4 f5 f7 f6) (o_c0 c arg0 harg0 arg1 harg1 arg2 harg2 arg3 harg3 arg4 harg4 arg5 harg5 arg7 harg7 t1 s f0 f1 f2 f3 f4 f5 f7 f6) (o_mag0 c arg0 harg0 arg1 harg1 arg2 harg2 arg3 harg3 arg4 harg4 arg5 harg5 arg7 harg7 t1 s f0 f1 f2 f3 f4 f5 f7 f6) (o_y0 c arg0 harg0 arg1 harg1 arg2 harg2 arg3 harg3 arg4 harg4 arg5 harg5 arg7 harg7 t1 s f0 f1 f2 f3 f4 f5 f7 f6)

noncomputable def o_s1 (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole)
    (t1 : Fin k0_t1_loop.trips) (s : Mxu F)
    (f0 : MBuf (F := F) c arg0) (f1 : MBuf (F := F) c arg1) (f2 : MBuf (F := F) c arg2) (f3 : MBuf (F := F) c arg3) (f4 : MBuf (F := F) c arg4) (f5 : MBuf (F := F) c arg5) (f7 : MBuf (F := F) c arg7)
    (f6 : MBuf (F := F) c wM) : FVec F S1x256x256 .bf16 :=
  k0_pay229 (o_sq c arg0 harg0 arg1 harg1 arg2 harg2 arg3 harg3 arg4 harg4 arg5 harg5 arg7 harg7 t1 s f0 f1 f2 f3 f4 f5 f7 f6) (k0_pay227 (o_up c arg0 harg0 arg1 harg1 arg2 harg2 arg3 harg3 arg4 harg4 arg5 harg5 arg7 harg7 t1 s f0 f1 f2 f3 f4 f5 f7 f6) (o_c1 c arg0 harg0 arg1 harg1 arg2 harg2 arg3 harg3 arg4 harg4 arg5 harg5 arg7 harg7 t1 s f0 f1 f2 f3 f4 f5 f7 f6)) (o_mag1 c arg0 harg0 arg1 harg1 arg2 harg2 arg3 harg3 arg4 harg4 arg5 harg5 arg7 harg7 t1 s f0 f1 f2 f3 f4 f5 f7 f6) (o_y1 c arg0 harg0 arg1 harg1 arg2 harg2 arg3 harg3 arg4 harg4 arg5 harg5 arg7 harg7 t1 s f0 f1 f2 f3 f4 f5 f7 f6)

noncomputable abbrev o_ybuf (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole)
    (t1 : Fin k0_t1_loop.trips) (s : Mxu F)
    (f0 : MBuf (F := F) c arg0) (f1 : MBuf (F := F) c arg1) (f2 : MBuf (F := F) c arg2) (f3 : MBuf (F := F) c arg3) (f4 : MBuf (F := F) c arg4) (f5 : MBuf (F := F) c arg5) (f7 : MBuf (F := F) c arg7)
    (f6 : MBuf (F := F) c wM) (f12 : MBuf (F := F) c ybufM) : MBuf (F := F) c ybufM :=
  ybufM.view.writes (Elt F) f12 [⟨Rect.unit (s := S2x256x512) (k0_off82 t1) S1x256x256.size (k0_off82_inb t1), (o_s1 c arg0 harg0 arg1 harg1 arg2 harg2 arg3 harg3 arg4 harg4 arg5 harg5 arg7 harg7 t1 s f0 f1 f2 f3 f4 f5 f7 f6)⟩, ⟨Rect.unit (s := S2x256x512) (k0_off81 t1) S1x256x256.size (k0_off81_inb t1), (o_s0 c arg0 harg0 arg1 harg1 arg2 harg2 arg3 harg3 arg4 harg4 arg5 harg5 arg7 harg7 t1 s f0 f1 f2 f3 f4 f5 f7 f6)⟩]

/-! ## The two slots of the result -/

theorem yslot_inb (b : ℕ) : ∀ a, (![b % 2, 0, 0] : Fin 3 → ℕ) a + S1x256x512.size a ≤ S2x256x512.size a := by
  have := Nat.mod_lt b (by decide : 2 > 0); intro a; fin_cases a
  · show b % 2 + 1 ≤ 2; omega
  · show 0 + 256 ≤ 256; omega
  · show 0 + 512 ≤ 512; omega
theorem ycell_inb (b : ℕ) : ∀ a, (![b % 2] : Fin 1 → ℕ) a + S1.size a ≤ S2.size a := by
  have := Nat.mod_lt b (by decide : 2 > 0); intro a; fin_cases a
  show b % 2 + 1 ≤ 2; omega
theorem ydst_inb (b : ℕ) : ∀ a, (![0, 512 * (b % 14)] : Fin 2 → ℕ) a + S256x512.size a ≤ S256x7168.size a := by
  have := Nat.mod_lt b (by decide : 14 > 0); intro a; fin_cases a
  · show 0 + 256 ≤ 256; omega
  · show 512 * (b % 14) + 512 ≤ 7168; omega

/-- The slot of columns `512 b .. 512 b + 511` of the result. -/
abbrev slotY (b : ℕ) : Memref sig .tc .vmem S256x512 .bf16 :=
  (ybufM.slice (Rect.unit (s := S2x256x512) ![b % 2, 0, 0] S1x256x512.size (yslot_inb b)) (fun _ => rfl)).squeeze S256x512 squeezes_S1x256x512_S256x512
/-- Its semaphore. -/
abbrev cellY (b : ℕ) : DmaSem sig :=
  ((cc0_scratch4.slice (Rect.unit (s := S2) ![b % 2] S1.size (ycell_inb b))).squeeze S_ squeezes_S1_S_).sem
/-- Columns `512 b .. 512 b + 511` of the result. -/
abbrev dstY (b : ℕ) : Memref sig .tc .hbm S256x512 .bf16 :=
  yM.slice (Rect.unit (s := S256x7168) ![0, 512 * (b % 14)] S256x512.size (ydst_inb b)) (fun _ => rfl)

theorem yslot_congr {o : Fin 3 → ℕ} (b : ℕ) (h : o = ![b % 2, 0, 0]) (hi : ∀ a, o a + S1x256x512.size a ≤ S2x256x512.size a) :
    (ybufM.slice (Rect.unit (s := S2x256x512) o S1x256x512.size hi) (fun _ => rfl)).squeeze S256x512 squeezes_S1x256x512_S256x512 = slotY b := by
  subst h; rfl
theorem ycell_congr {o : Fin 1 → ℕ} (b : ℕ) (h : o = ![b % 2]) (hi : ∀ a, o a + S1.size a ≤ S2.size a) :
    (cc0_scratch4.slice (Rect.unit (s := S2) o S1.size hi)).squeeze S_ squeezes_S1_S_
      = (cc0_scratch4.slice (Rect.unit (s := S2) ![b % 2] S1.size (ycell_inb b))).squeeze S_ squeezes_S1_S_ := by subst h; rfl
theorem ydst_congr {o : Fin 2 → ℕ} (b : ℕ) (h : o = ![0, 512 * (b % 14)]) (hi : ∀ a, o a + S256x512.size a ≤ S256x7168.size a) :
    yM.slice (Rect.unit (s := S256x7168) o S256x512.size hi) (fun _ => rfl) = dstY b := by subst h; rfl

theorem ystore_incl {o : Fin 3 → ℕ} (b : ℕ) {j : ℕ} (h : o = ![b % 2, 0, j]) (hi : ∀ a, o a + S1x256x256.size a ≤ S2x256x512.size a) :
    LE.le (α := Finset (slotY b).view.ty.Idx) (ybufM.access (Rect.unit (s := S2x256x512) o S1x256x256.size hi)).set (slotY b).view.set := by
  subst h
  have e1 : (slotY b).view.set = (Rect.unit (s := S2x256x512) ![b % 2, 0, 0] S1x256x512.size (yslot_inb b)).set :=
    (View.set_reshape _ _).trans (View.set_slice_whole cc0_scratch3 _)
  have e2 : (ybufM.access (Rect.unit (s := S2x256x512) ![b % 2, 0, j] S1x256x256.size hi)).set
      = (Rect.unit (s := S2x256x512) ![b % 2, 0, j] S1x256x256.size hi).set := View.set_slice_whole cc0_scratch3 _
  rw [e1, e2]
  intro x hx
  rw [Rect.mem_set_unit] at hx ⊢
  intro a
  have := hx a
  fin_cases a
  · exact this
  · exact this
  · have h2 := (x 2).isLt
    exact ⟨Nat.zero_le _, by simp only [Matrix.cons_val, Matrix.cons_val_one]; exact (Nat.zero_add _).symm ▸ h2⟩

theorem off77_eq : ∀ (t1 : Fin k0_t1_loop.trips), 2 ≤ t1.val → k0_off77 t1 = ![t1.val % 2] := by decide +kernel
theorem off78_eq : ∀ (t1 : Fin k0_t1_loop.trips), 2 ≤ t1.val → k0_off78 t1 = ![0, 512 * ((t1.val - 2) % 14)] := by decide +kernel
theorem off79_eq : ∀ (t1 : Fin k0_t1_loop.trips), 2 ≤ t1.val → k0_off79 t1 = ![t1.val % 2, 0, 0] := by decide +kernel
theorem off84_eq : ∀ (t1 : Fin k0_t1_loop.trips), k0_off84 t1 = ![0, 512 * (t1.val % 14)] := by decide +kernel
theorem cond2_iff : ∀ (t1 : Fin k0_t1_loop.trips), k0_cond2 t1 = 1#1 ↔ 2 ≤ t1.val := by decide +kernel

/-- Columns `512 b ..` of the result, holding nothing in particular. -/
def todoY (c : Dev nD) (b : ℕ) : sProp 𝕄 := iprop(∃ f, (dstY b).view.loc (c : Thread nD τ) ↦[(dstY b).view.set]{fullShare} f)
/-- Columns `512 b ..` of the result, holding `v`. -/
def gotY (c : Dev nD) (b : ℕ) (v : Vec F S256x512 .bf16) : sProp 𝕄 :=
  iprop(∃ f : MBuf (F := F) c (dstY b), ⌜(dstY b).view.read (Elt F) f = v⌝ ∗ ((dstY b).view.loc (c : Thread nD τ) ↦[(dstY b).view.set]{fullShare} f))
/-- A slot FREE. -/
def freeY (c : Dev nD) (b : ℕ) : sProp 𝕄 :=
  iprop(semVal ((c : Thread nD τ), SemLoc.dma (cellY b)) 0 ∗ (∃ f : MBuf (F := F) c ybufM, ybufM.view.loc (c : Thread nD τ) ↦[(slotY b).view.set]{fullShare} f))
/-- The slot of `b'` IN FLIGHT, `v` on its way to columns `512 b ..`. -/
def inflY (c : Dev nD) (b' b : ℕ) (v : Vec F S256x512 .bf16) : sProp 𝕄 :=
  iprop(∃ (f : MBuf (F := F) c ybufM) (g : MBuf (F := F) c (dstY b)), ⌜(slotY b').view.read (Elt F) f = v⌝ ∗
    Transfers.Flight (countersEmb (U := Pipeline.UD sig nD τ)) (c : Thread nD τ) (SemLoc.dma (cellY b')) () 8192
            iprop(((dstY b).view.loc (c : Thread nD τ) ↦[(dstY b).view.set]{fullShare} (dstY b).view.writes (Elt F) g [⟨Rect.whole S256x512, ReadAs.same.apply ((slotY b').view.read (Elt F) f)⟩])
              ∗ ((slotY b').view.loc (c : Thread nD τ) ↦[(slotY b').view.set]{fullShare} f)))

set_option maxHeartbeats 400000 in
theorem outer_run1 (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole)
    (t1 : Fin k0_t1_loop.trips) (s : Mxu F)
    (f0 : MBuf (F := F) c arg0) (f1 : MBuf (F := F) c arg1) (f2 : MBuf (F := F) c arg2) (f3 : MBuf (F := F) c arg3) (f4 : MBuf (F := F) c arg4) (f5 : MBuf (F := F) c arg5) (f7 : MBuf (F := F) c arg7)
    (f6 : MBuf (F := F) c wM) (f11 : MBuf (F := F) c ssqM) (h : MxuB s) (h2 : 2 ≤ t1.val) (v : Vec F S256x512 .bf16)
    (Q : Mxu F → sProp 𝕄) :
    iprop(ringAt c f6 (9 * t1.val) ∗ inflY c t1.val (t1.val - 2) v ∗ todoY (F := F) c t1.val ∗ (∃ W, owes (c : Thread nD τ) 0 W)
        ∗ (arg0.view.loc (c : Thread nD τ) ↦[arg0.view.set]{fullShare} f0)
        ∗ (arg1.view.loc (c : Thread nD τ) ↦[arg1.view.set]{fullShare} f1)
        ∗ (arg2.view.loc (c : Thread nD τ) ↦[arg2.view.set]{fullShare} f2)
        ∗ (arg3.view.loc (c : Thread nD τ) ↦[arg3.view.set]{fullShare} f3)
        ∗ (arg4.view.loc (c : Thread nD τ) ↦[arg4.view.set]{fullShare} f4)
        ∗ (arg5.view.loc (c : Thread nD τ) ↦[arg5.view.set]{fullShare} f5)
        ∗ (arg7.view.loc (c : Thread nD τ) ↦[arg7.view.set]{fullShare} f7)
        ∗ (ssqM.view.loc (c : Thread nD τ) ↦[ssqM.view.set]{fullShare} f11)
        ∗ ((ringAt c f6 (9 * (t1.val + 1)) ∗ (∃ f12 : MBuf (F := F) c ybufM, inflY c t1.val t1.val ((slotY t1.val).view.read (Elt F) (o_ybuf c arg0 harg0 arg1 harg1 arg2 harg2 arg3 harg3 arg4 harg4 arg5 harg5 arg7 harg7 t1 s f0 f1 f2 f3 f4 f5 f7 f6 f12))) ∗ gotY c (t1.val - 2) v ∗ (∃ W, owes (c : Thread nD τ) 0 W)
        ∗ (arg0.view.loc (c : Thread nD τ) ↦[arg0.view.set]{fullShare} f0)
        ∗ (arg1.view.loc (c : Thread nD τ) ↦[arg1.view.set]{fullShare} f1)
        ∗ (arg2.view.loc (c : Thread nD τ) ↦[arg2.view.set]{fullShare} f2)
        ∗ (arg3.view.loc (c : Thread nD τ) ↦[arg3.view.set]{fullShare} f3)
        ∗ (arg4.view.loc (c : Thread nD τ) ↦[arg4.view.set]{fullShare} f4)
        ∗ (arg5.view.loc (c : Thread nD τ) ↦[arg5.view.set]{fullShare} f5)
        ∗ (arg7.view.loc (c : Thread nD τ) ↦[arg7.view.set]{fullShare} (o_norm c arg0 harg0 arg1 harg1 arg2 harg2 arg3 harg3 arg4 harg4 arg5 harg5 arg7 harg7 t1 s f0 f1 f2 f3 f4 f5 f7 f6))
        ∗ (ssqM.view.loc (c : Thread nD τ) ↦[ssqM.view.set]{fullShare} (o_in c arg0 harg0 arg1 harg1 arg2 harg2 arg3 harg3 arg4 harg4 arg5 harg5 arg7 harg7 t1 s f0 f1 f2 f3 f4 f5 f7 f6).2)) -∗ Q (o_m67 c arg0 harg0 arg1 harg1 arg2 harg2 arg3 harg3 arg4 harg4 arg5 harg5 arg7 harg7 t1 s f0 f1 f2 f3 f4 f5 f7 f6)))
      ⊢ wp frame (wpE (defs₀ (F := F)) Variants.none (c : Thread nD τ) none) Set.univ
          (k0_t1_body arg0 harg0 arg1 harg1 arg2 harg2 arg3 harg3 arg4 harg4 arg5 harg5 wM (Memref.isWhole_whole _) arg7 harg7 yM (Memref.isWhole_whole _)
            ringM (Memref.isWhole_whole _) cc0_scratch1 ssqM (Memref.isWhole_whole _) ybufM (Memref.isWhole_whole _) cc0_scratch4 t1 s) Q := by
  have hc := (cond2_iff t1).mpr h2
  have hcanon1 := ycell_congr t1.val (off77_eq t1 h2) (k0_off77_inb t1 hc)
  have hcanon2 := ydst_congr (t1.val - 2) (off78_eq t1 h2) (k0_off78_inb t1 hc)
  have hcanon3 := yslot_congr t1.val (off79_eq t1 h2) (k0_off79_inb t1 hc)
  have hcanon4 := ycell_congr t1.val (Gen.k0_off83_eq t1) (k0_off83_inb t1)
  have hcanon5 := ydst_congr t1.val (off84_eq t1) (k0_off84_inb t1)
  have hcanon6 := yslot_congr t1.val (Gen.k0_off85_eq t1) (k0_off85_inb t1)
  have hi81 := ystore_incl t1.val (Gen.k0_off81_eq t1) (k0_off81_inb t1)
  have hi82 := ystore_incl t1.val (Gen.k0_off82_eq t1) (k0_off82_inb t1)
  have hb9 := inner_ok c arg0 harg0 arg1 harg1 arg2 harg2 arg3 harg3 arg4 harg4 arg5 harg5 arg7 harg7 t1 s f0 f1 f2 (o_ssq0 c arg0 harg0 arg1 harg1 arg2 harg2 arg3 harg3 arg4 harg4 arg5 harg5 arg7 harg7 t1 s f0 f1 f2 f3 f4 f5 f7 f6) f6 h 9
  have hp00 : (innerSt c arg0 harg0 arg1 harg1 arg2 harg2 arg3 harg3 arg4 harg4 arg5 harg5 arg7 harg7 t1 s f0 f1 f2 (o_ssq0 c arg0 harg0 arg1 harg1 arg2 harg2 arg3 harg3 arg4 harg4 arg5 harg5 arg7 harg7 t1 s f0 f1 f2 f3 f4 f5 f7 f6) f6 9).1.PushOk 0 0 false := Mxu.pushOk_of_none _ _ _ _ hb9.r00
  have hp10 : (innerSt c arg0 harg0 arg1 harg1 arg2 harg2 arg3 harg3 arg4 harg4 arg5 harg5 arg7 harg7 t1 s f0 f1 f2 (o_ssq0 c arg0 harg0 arg1 harg1 arg2 harg2 arg3 harg3 arg4 harg4 arg5 harg5 arg7 harg7 t1 s f0 f1 f2 f3 f4 f5 f7 f6) f6 9).1.PushOk 1 0 false := Mxu.pushOk_of_none _ _ _ _ hb9.r10
  unfold inflY todoY
  iintro ⟨Hr, ⟨%fy, %gy, %hv, Hfl⟩, ⟨%g, Hy⟩, ⟨%W, HO⟩, Ha0, Ha1, Ha2, Ha3, Ha4, Ha5, Ha7, Hs, Hk⟩
  unfold k0_t1_body
  sl_exec_parts (disch := first | (mxu_pushok_peel; done) | (mxu_pushok_peel; assumption))
  sl_for (innerInv c arg0 harg0 arg1 harg1 arg2 harg2 arg3 harg3 arg4 harg4 arg5 harg5 arg7 harg7 t1 s f0 f1 f2 (o_ssq0 c arg0 harg0 arg1 harg1 arg2 harg2 arg3 harg3 arg4 harg4 arg5 harg5 arg7 harg7 t1 s f0 f1 f2 f3 f4 f5 f7 f6) f6) $$ [Hr HO Ha0 Ha1 Ha2 Hs]
  case region =>
    intro k x
    exact inner_step c arg0 harg0 arg1 harg1 arg2 harg2 arg3 harg3 arg4 harg4 arg5 harg5 arg7 harg7 t1 s f0 f1 f2 (o_ssq0 c arg0 harg0 arg1 harg1 arg2 harg2 arg3 harg3 arg4 harg4 arg5 harg5 arg7 harg7 t1 s f0 f1 f2 f3 f4 f5 f7 f6) f6 h _ _ k x
  · unfold innerInv
    isplitr; · ipureintro; rfl
    isplitl [Hr]; · iexact Hr
    isplitl [HO]; · iexists _; iexact HO
    isplitl [Ha0]; · iexact Ha0
    isplitl [Ha1]; · iexact Ha1
    isplitl [Ha2]; · iexact Ha2
    rw [show innerSt c arg0 harg0 arg1 harg1 arg2 harg2 arg3 harg3 arg4 harg4 arg5 harg5 arg7 harg7 t1 s f0 f1 f2 (o_ssq0 c arg0 harg0 arg1 harg1 arg2 harg2 arg3 harg3 arg4 harg4 arg5 harg5 arg7 harg7 t1 s f0 f1 f2 f3 f4 f5 f7 f6) f6 0 = (s, (o_ssq0 c arg0 harg0 arg1 harg1 arg2 harg2 arg3 harg3 arg4 harg4 arg5 harg5 arg7 harg7 t1 s f0 f1 f2 f3 f4 f5 f7 f6)) from rfl]
    sl_unfold_run_names
    iexact Hs
  iintro %x HI
  unfold innerInv
  icases HI with ⟨%hx, Hr, ⟨%W1, HO⟩, Ha0, Ha1, Ha2, Hs⟩
  subst hx
  sl_exec_parts (disch := first | (mxu_pushok_peel; done) | (mxu_pushok_peel; assumption))
  sl_step
  have em : outer_run1.sl.k0_mxu67 c arg0 harg0 arg1 harg1 arg2 harg2 arg3 harg3 arg4 harg4 arg5 harg5 arg7 harg7 t1 s f0 f1 f2 f3 f4 f5 f7 f6 = (o_m67 c arg0 harg0 arg1 harg1 arg2 harg2 arg3 harg3 arg4 harg4 arg5 harg5 arg7 harg7 t1 s f0 f1 f2 f3 f4 f5 f7 f6) := rfl
  rw [em]
  iapply Hk
  isplitl [Hr]; · iexact Hr
  isplitl [Hfl]
  · iexists fy
    iexists (outer_run1.sl.Hfl_src_w2 c arg0 harg0 arg1 harg1 arg2 harg2 arg3 harg3 arg4 harg4 arg5 harg5 arg7 harg7 t1 s f0 f1 f2 f3 f4 f5 f7 f6 fy); iexists g
    isplitr
    · ipureintro; rfl
    iexact Hfl
  isplitl [Hfl_dst]
  · unfold gotY
    iexists _
    isplitr
    · ipureintro
      exact (View.read_writes_full (dstY (t1.val - 2)).view gy (off := fun _ => 0) (fun a => by omega) _ []).trans hv
    iexact Hfl_dst
  isplitl [HO]; · iexists _; iexact HO
  isplitl [Ha0]; · iexact Ha0
  isplitl [Ha1]; · iexact Ha1
  isplitl [Ha2]; · iexact Ha2
  isplitl [Ha3]; · iexact Ha3
  isplitl [Ha4]; · iexact Ha4
  isplitl [Ha5]; · iexact Ha5
  isplitl [Ha7]; · iexact Ha7
  iexact Hs

end Cert.Kernel.Hand

end
-- ==== Proof.K.Drain.lean ====
/-
  The state of the main call between the steps of its outer loop.
-/
module

public import proofs.«01_k».proof.Proof.K.Outer
public import Idealize.ShloMosaic.Lib.VecWindow
public import Idealize.ShloMosaic.Lib.HeldBySlice
public import Idealize.ShloMosaic.Lib.WritesUnit
public import Idealize.ShloMosaic.Lib.Mxu.Walk

@[expose] public section

set_option maxRecDepth 8192

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

/-- The units hold no tile and no live row. -/
theorem MxuB.of_drained {s : Mxu F} (h : s.Drained) : MxuB s where
  l0 R hR := absurd hR (by rw [h.2]; decide)
  l1 R hR := absurd hR (by rw [h.2]; decide)
  r00 := Option.isNone_iff_eq_none.1 (h.1 0 0)
  r01 := Option.isNone_iff_eq_none.1 (h.1 0 1)
  r10 := Option.isNone_iff_eq_none.1 (h.1 1 0)
  r11 := Option.isNone_iff_eq_none.1 (h.1 1 1)

set_option maxHeartbeats 400000 in
theorem outer_drained (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole)
    (t1 : Fin k0_t1_loop.trips) (s : Mxu F)
    (f0 : MBuf (F := F) c arg0) (f1 : MBuf (F := F) c arg1) (f2 : MBuf (F := F) c arg2) (f3 : MBuf (F := F) c arg3) (f4 : MBuf (F := F) c arg4) (f5 : MBuf (F := F) c arg5) (f7 : MBuf (F := F) c arg7)
    (f6 : MBuf (F := F) c wM) (h : MxuB s) : Mxu.Drained (o_m67 c arg0 harg0 arg1 harg1 arg2 harg2 arg3 harg3 arg4 harg4 arg5 harg5 arg7 harg7 t1 s f0 f1 f2 f3 f4 f5 f7 f6) := by
  have hb := inner_ok c arg0 harg0 arg1 harg1 arg2 harg2 arg3 harg3 arg4 harg4 arg5 harg5 arg7 harg7 t1 s f0 f1 f2 (o_ssq0 c arg0 harg0 arg1 harg1 arg2 harg2 arg3 harg3 arg4 harg4 arg5 harg5 arg7 harg7 t1 s f0 f1 f2 f3 f4 f5 f7 f6) f6 h 9
  have h0 := hb.l0
  have h1 := hb.l1
  unfold o_m67 o_m66 o_m65 o_m64 o_m63 o_m62 o_m61 o_m60 o_m59 o_m58
  mxu_walk h0 as w0
  mxu_walk h1 as w1
  refine ⟨fun q r => ?_, fun q R => Bool.eq_false_iff.mpr ?_⟩
  · match q, r with
    | 0, 0 => rw [w0.reg0_empty rfl]; rfl
    | 0, 1 => rw [(w0.reg1_base rfl).trans hb.r01]; rfl
    | 1, 0 => rw [w1.reg0_empty rfl]; rfl
    | 1, 1 => rw [(w1.reg1_base rfl).trans hb.r11]; rfl
  · match q with
    | 0 => exact w0.none_live rfl R
    | 1 => exact w1.none_live rfl R

/-- The units when the outer loop starts. -/
noncomputable def mxu0 : Mxu F :=
  (((Mxu.init.pop 0 0 256 fits_0_256).pop 1 0 256 fits_0_256).pop 0 64 64 fits_64_64).pop 1 64 64 fits_64_64

theorem mxu0_drained : Mxu.Drained (mxu0 (F := F)) := by
  unfold mxu0
  refine ⟨fun q r => rfl, fun q R => ?_⟩
  simp only [Mxu.live_pop]
  split
  · rfl
  split
  · rfl
  split
  · rfl
  split
  · rfl
  rfl

/-- The units and the column norms before step `k` of the outer loop. -/
noncomputable def outerSt (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole) (f0 : MBuf (F := F) c arg0) (f1 : MBuf (F := F) c arg1) (f2 : MBuf (F := F) c arg2) (f3 : MBuf (F := F) c arg3) (f4 : MBuf (F := F) c arg4) (f5 : MBuf (F := F) c arg5) (f7 : MBuf (F := F) c arg7) (f6 : MBuf (F := F) c wM) : ℕ → Mxu F × MBuf (F := F) c arg7
  | 0 => (mxu0, f7)
  | k + 1 => if h : k < k0_t1_loop.trips then
      (o_m67 c arg0 harg0 arg1 harg1 arg2 harg2 arg3 harg3 arg4 harg4 arg5 harg5 arg7 harg7 ⟨k, h⟩ (outerSt c arg0 harg0 arg1 harg1 arg2 harg2 arg3 harg3 arg4 harg4 arg5 harg5 arg7 harg7 f0 f1 f2 f3 f4 f5 f7 f6 k).1 f0 f1 f2 f3 f4 f5 (outerSt c arg0 harg0 arg1 harg1 arg2 harg2 arg3 harg3 arg4 harg4 arg5 harg5 arg7 harg7 f0 f1 f2 f3 f4 f5 f7 f6 k).2 f6, o_norm c arg0 harg0 arg1 harg1 arg2 harg2 arg3 harg3 arg4 harg4 arg5 harg5 arg7 harg7 ⟨k, h⟩ (outerSt c arg0 harg0 arg1 harg1 arg2 harg2 arg3 harg3 arg4 harg4 arg5 harg5 arg7 harg7 f0 f1 f2 f3 f4 f5 f7 f6 k).1 f0 f1 f2 f3 f4 f5 (outerSt c arg0 harg0 arg1 harg1 arg2 harg2 arg3 harg3 arg4 harg4 arg5 harg5 arg7 harg7 f0 f1 f2 f3 f4 f5 f7 f6 k).2 f6)
    else outerSt c arg0 harg0 arg1 harg1 arg2 harg2 arg3 harg3 arg4 harg4 arg5 harg5 arg7 harg7 f0 f1 f2 f3 f4 f5 f7 f6 k

theorem outerSt_drained (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole) (f0 : MBuf (F := F) c arg0) (f1 : MBuf (F := F) c arg1) (f2 : MBuf (F := F) c arg2) (f3 : MBuf (F := F) c arg3) (f4 : MBuf (F := F) c arg4) (f5 : MBuf (F := F) c arg5) (f7 : MBuf (F := F) c arg7) (f6 : MBuf (F := F) c wM) : ∀ k, Mxu.Drained (outerSt c arg0 harg0 arg1 harg1 arg2 harg2 arg3 harg3 arg4 harg4 arg5 harg5 arg7 harg7 f0 f1 f2 f3 f4 f5 f7 f6 k).1
  | 0 => mxu0_drained
  | k + 1 => by
    unfold outerSt
    split
    · exact outer_drained c arg0 harg0 arg1 harg1 arg2 harg2 arg3 harg3 arg4 harg4 arg5 harg5 arg7 harg7 _ _ f0 f1 f2 f3 f4 f5 _ f6 (MxuB.of_drained (outerSt_drained c arg0 harg0 arg1 harg1 arg2 harg2 arg3 harg3 arg4 harg4 arg5 harg5 arg7 harg7 f0 f1 f2 f3 f4 f5 f7 f6 k))
    · exact outerSt_drained c arg0 harg0 arg1 harg1 arg2 harg2 arg3 harg3 arg4 harg4 arg5 harg5 arg7 harg7 f0 f1 f2 f3 f4 f5 f7 f6 k

theorem outerSt_succ (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole) (f0 : MBuf (F := F) c arg0) (f1 : MBuf (F := F) c arg1) (f2 : MBuf (F := F) c arg2) (f3 : MBuf (F := F) c arg3) (f4 : MBuf (F := F) c arg4) (f5 : MBuf (F := F) c arg5) (f7 : MBuf (F := F) c arg7) (f6 : MBuf (F := F) c wM) (t1 : Fin k0_t1_loop.trips) : outerSt c arg0 harg0 arg1 harg1 arg2 harg2 arg3 harg3 arg4 harg4 arg5 harg5 arg7 harg7 f0 f1 f2 f3 f4 f5 f7 f6 (t1.val + 1)
    = (o_m67 c arg0 harg0 arg1 harg1 arg2 harg2 arg3 harg3 arg4 harg4 arg5 harg5 arg7 harg7 t1 (outerSt c arg0 harg0 arg1 harg1 arg2 harg2 arg3 harg3 arg4 harg4 arg5 harg5 arg7 harg7 f0 f1 f2 f3 f4 f5 f7 f6 t1.val).1 f0 f1 f2 f3 f4 f5 (outerSt c arg0 harg0 arg1 harg1 arg2 harg2 arg3 harg3 arg4 harg4 arg5 harg5 arg7 harg7 f0 f1 f2 f3 f4 f5 f7 f6 t1.val).2 f6, o_norm c arg0 harg0 arg1 harg1 arg2 harg2 arg3 harg3 arg4 harg4 arg5 harg5 arg7 harg7 t1 (outerSt c arg0 harg0 arg1 harg1 arg2 harg2 arg3 harg3 arg4 harg4 arg5 harg5 arg7 harg7 f0 f1 f2 f3 f4 f5 f7 f6 t1.val).1 f0 f1 f2 f3 f4 f5 (outerSt c arg0 harg0 arg1 harg1 arg2 harg2 arg3 harg3 arg4 harg4 arg5 harg5 arg7 harg7 f0 f1 f2 f3 f4 f5 f7 f6 t1.val).2 f6) := by
  rw [outerSt]; exact dif_pos t1.isLt

/-- What a step stores of the result does not depend on what its slot held. -/
theorem o_ybuf_indep (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole)
    (t1 : Fin k0_t1_loop.trips) (s : Mxu F)
    (f0 : MBuf (F := F) c arg0) (f1 : MBuf (F := F) c arg1) (f2 : MBuf (F := F) c arg2) (f3 : MBuf (F := F) c arg3) (f4 : MBuf (F := F) c arg4) (f5 : MBuf (F := F) c arg5) (f7 : MBuf (F := F) c arg7)
    (f6 : MBuf (F := F) c wM) (f12 f12' : MBuf (F := F) c ybufM) :
    (slotY t1.val).view.read (Elt F) (o_ybuf c arg0 harg0 arg1 harg1 arg2 harg2 arg3 harg3 arg4 harg4 arg5 harg5 arg7 harg7 t1 s f0 f1 f2 f3 f4 f5 f7 f6 f12) = (slotY t1.val).view.read (Elt F) (o_ybuf c arg0 harg0 arg1 harg1 arg2 harg2 arg3 harg3 arg4 harg4 arg5 harg5 arg7 harg7 t1 s f0 f1 f2 f3 f4 f5 f7 f6 f12') := by
  have hc : ∀ j : (Rect.unit (s := S2x256x512) ![t1.val % 2, 0, 0] S1x256x512.size (yslot_inb t1.val)).toLoadRect.shape.Idx,
      ∃ p ∈ [(⟨Rect.unit (s := S2x256x512) (k0_off82 t1) S1x256x256.size (k0_off82_inb t1), (o_s1 c arg0 harg0 arg1 harg1 arg2 harg2 arg3 harg3 arg4 harg4 arg5 harg5 arg7 harg7 t1 s f0 f1 f2 f3 f4 f5 f7 f6)⟩ : View.Piece (Elt F) S2x256x512 .bf16), ⟨Rect.unit (s := S2x256x512) (k0_off81 t1) S1x256x256.size (k0_off81_inb t1), (o_s0 c arg0 harg0 arg1 harg1 arg2 harg2 arg3 harg3 arg4 harg4 arg5 harg5 arg7 harg7 t1 s f0 f1 f2 f3 f4 f5 f7 f6)⟩],
        (Rect.unit (s := S2x256x512) ![t1.val % 2, 0, 0] S1x256x512.size (yslot_inb t1.val)).toLoadRect.idx j ∈ p.1.set := by
    intro j
    have hj0 : (j 0).val < 1 := (j 0).isLt
    have hj1 : (j 1).val < 256 := (j 1).isLt
    have hj2 : (j 2).val < 512 := (j 2).isLt
    by_cases h : (j 2).val < 256
    · refine ⟨_, List.mem_cons_of_mem _ (List.mem_singleton.mpr rfl), ?_⟩
      rw [Rect.mem_set_unit, Gen.k0_off81_eq t1]
      intro a
      fin_cases a
      · show t1.val % 2 ≤ t1.val % 2 + 1 * (j 0).val ∧ t1.val % 2 + 1 * (j 0).val < t1.val % 2 + 1; omega
      · show 0 ≤ 0 + 1 * (j 1).val ∧ 0 + 1 * (j 1).val < 0 + 256; omega
      · show 0 ≤ 0 + 1 * (j 2).val ∧ 0 + 1 * (j 2).val < 0 + 256; omega
    · refine ⟨_, List.mem_cons_self, ?_⟩
      rw [Rect.mem_set_unit, Gen.k0_off82_eq t1]
      intro a
      fin_cases a
      · show t1.val % 2 ≤ t1.val % 2 + 1 * (j 0).val ∧ t1.val % 2 + 1 * (j 0).val < t1.val % 2 + 1; omega
      · show 0 ≤ 0 + 1 * (j 1).val ∧ 0 + 1 * (j 1).val < 0 + 256; omega
      · show 256 ≤ 0 + 1 * (j 2).val ∧ 0 + 1 * (j 2).val < 256 + 256; omega
  have := View.readAt_writes_eq_of_cover (Val := Elt F) ybufM.view f12 f12' _ _ hc
  funext x
  exact congrFun this _

/-- Columns `512 k ..` of the result, as step `k` of the outer loop leaves them. -/
noncomputable def Yv (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole) (f0 : MBuf (F := F) c arg0) (f1 : MBuf (F := F) c arg1) (f2 : MBuf (F := F) c arg2) (f3 : MBuf (F := F) c arg3) (f4 : MBuf (F := F) c arg4) (f5 : MBuf (F := F) c arg5) (f7 : MBuf (F := F) c arg7) (f6 : MBuf (F := F) c wM) (k : ℕ) : Vec F S256x512 .bf16 :=
  if h : k < k0_t1_loop.trips then
    (slotY k).view.read (Elt F) (o_ybuf c arg0 harg0 arg1 harg1 arg2 harg2 arg3 harg3 arg4 harg4 arg5 harg5 arg7 harg7 ⟨k, h⟩ (outerSt c arg0 harg0 arg1 harg1 arg2 harg2 arg3 harg3 arg4 harg4 arg5 harg5 arg7 harg7 f0 f1 f2 f3 f4 f5 f7 f6 k).1 f0 f1 f2 f3 f4 f5 (outerSt c arg0 harg0 arg1 harg1 arg2 harg2 arg3 harg3 arg4 harg4 arg5 harg5 arg7 harg7 f0 f1 f2 f3 f4 f5 f7 f6 k).2 f6 ybufM.view.junk)
  else (slotY k).view.read (Elt F) ybufM.view.junk

theorem Yv_eq (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole) (f0 : MBuf (F := F) c arg0) (f1 : MBuf (F := F) c arg1) (f2 : MBuf (F := F) c arg2) (f3 : MBuf (F := F) c arg3) (f4 : MBuf (F := F) c arg4) (f5 : MBuf (F := F) c arg5) (f7 : MBuf (F := F) c arg7) (f6 : MBuf (F := F) c wM) (t1 : Fin k0_t1_loop.trips) (f12 : MBuf (F := F) c ybufM) :
    (slotY t1.val).view.read (Elt F) (o_ybuf c arg0 harg0 arg1 harg1 arg2 harg2 arg3 harg3 arg4 harg4 arg5 harg5 arg7 harg7 t1 (outerSt c arg0 harg0 arg1 harg1 arg2 harg2 arg3 harg3 arg4 harg4 arg5 harg5 arg7 harg7 f0 f1 f2 f3 f4 f5 f7 f6 t1.val).1 f0 f1 f2 f3 f4 f5 (outerSt c arg0 harg0 arg1 harg1 arg2 harg2 arg3 harg3 arg4 harg4 arg5 harg5 arg7 harg7 f0 f1 f2 f3 f4 f5 f7 f6 t1.val).2 f6 f12) = Yv c arg0 harg0 arg1 harg1 arg2 harg2 arg3 harg3 arg4 harg4 arg5 harg5 arg7 harg7 f0 f1 f2 f3 f4 f5 f7 f6 t1.val := by
  rw [Yv, dif_pos t1.isLt]
  exact o_ybuf_indep c arg0 harg0 arg1 harg1 arg2 harg2 arg3 harg3 arg4 harg4 arg5 harg5 arg7 harg7 t1 _ f0 f1 f2 f3 f4 f5 _ f6 _ _

end Cert.Kernel.Hand

end
-- ==== Proof.K.Pieces.lean ====
/-
  The result of the main call as fourteen groups of columns, and its buffers as their slots.
-/
module

public import proofs.«01_k».proof.Proof.K.Outer
public import Idealize.ShloMosaic.Lib.Ring.AtN

@[expose] public section

set_option maxRecDepth 8192

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

/-! ## The groups of columns -/

/-- Groups `0 .. k-1`, each holding its value. -/
def doneY (c : Dev nD) (Y : ℕ → Vec F S256x512 .bf16) : ℕ → sProp 𝕄
  | 0 => iprop(emp)
  | k + 1 => iprop(doneY c Y k ∗ gotY c k (Y k))

/-- Groups `14 - n .. 13`, holding nothing in particular. -/
def todoYs (c : Dev nD) : ℕ → sProp 𝕄
  | 0 => iprop(emp)
  | n + 1 => iprop(todoY (F := F) c (14 - (n + 1)) ∗ todoYs c n)

/-- The elements of groups `lo .. hi-1`. -/
def colsY (c : Dev nD) (lo hi : ℕ) : Finset (Idx (yM.view.loc (c : Thread nD τ))) :=
  Finset.univ.filter fun i : S256x7168.Idx => 512 * lo ≤ (i 1).val ∧ (i 1).val < 512 * hi

theorem mem_colsY (c : Dev nD) (lo hi : ℕ) (i : S256x7168.Idx) : i ∈ colsY c lo hi ↔ 512 * lo ≤ (i 1).val ∧ (i 1).val < 512 * hi :=
  (Finset.mem_filter.trans (and_iff_right (Finset.mem_univ _)))

theorem dst_set (c : Dev nD) (b : ℕ) (hb : b < 14) : (dstY b).view.set = colsY c b (b + 1) := by
  refine (View.set_slice_whole main_v1_1 _).trans ?_
  ext i
  rw [Rect.mem_set_unit]
  refine Iff.trans ?_ (mem_colsY c b (b + 1) i).symm
  have h0 : ((i : S256x7168.Idx) 0).val < 256 := ((i : S256x7168.Idx) 0).isLt
  have e : b % 14 = b := Nat.mod_eq_of_lt hb
  constructor
  · intro h
    have h1 : 512 * (b % 14) ≤ ((i : S256x7168.Idx) 1).val ∧ ((i : S256x7168.Idx) 1).val < 512 * (b % 14) + 512 := h 1
    omega
  · intro h a
    fin_cases a
    · show 0 ≤ ((i : S256x7168.Idx) 0).val ∧ ((i : S256x7168.Idx) 0).val < 0 + 256; omega
    · show 512 * (b % 14) ≤ ((i : S256x7168.Idx) 1).val ∧ ((i : S256x7168.Idx) 1).val < 512 * (b % 14) + 512; omega

theorem colsY_union (c : Dev nD) {lo mid hi : ℕ} (h1 : lo ≤ mid) (h2 : mid ≤ hi) : colsY c lo mid ∪ colsY c mid hi = colsY c lo hi := by
  ext i
  rw [Finset.mem_union]
  rw [mem_colsY, mem_colsY, mem_colsY]; omega

theorem colsY_disjoint (c : Dev nD) {lo mid hi : ℕ} : Disjoint (colsY c lo mid) (colsY c mid hi) := by
  rw [Finset.disjoint_left]
  intro i h1 h2
  rw [mem_colsY] at h1 h2; omega

theorem colsY_all (c : Dev nD) : colsY c 0 14 = Finset.univ := by
  ext i
  have h1 : ((i : S256x7168.Idx) 1).val < 7168 := ((i : S256x7168.Idx) 1).isLt
  rw [mem_colsY]; exact ⟨fun _ => Finset.mem_univ _, fun _ => by omega⟩

theorem colsY_none (c : Dev nD) (k : ℕ) : colsY c k k = ∅ := by
  ext i
  rw [mem_colsY]; exact ⟨fun h => by omega, fun h => absurd h (Finset.notMem_empty _)⟩

theorem todoYs_split (c : Dev nD) (g : MBuf (F := F) c yM) : ∀ n, n ≤ 14 →
    ((yM.view.loc (c : Thread nD τ) ↦[colsY c (14 - n) 14]{fullShare} g : sProp 𝕄) ⊢ todoYs c n)
  | 0, _ => by
    rw [todoYs, show 14 - 0 = 14 from rfl, colsY_none, pointsTo_empty]
  | n + 1, h => by
    rw [todoYs, ← colsY_union c (show 14 - (n + 1) ≤ 14 - n by omega) (show 14 - n ≤ 14 by omega)]
    iintro H
    ihave H' := (pointsTo_union (colsY_disjoint c)).1 $$ H
    icases H' with ⟨Ha, Hb⟩
    isplitl [Ha]
    · unfold todoY
      iexists g
      rw [dst_set c (14 - (n + 1)) (by omega), show 14 - (n + 1) + 1 = 14 - n by omega]
      iexact Ha
    iapply (todoYs_split c g n (by omega))
    iexact Hb

theorem todoYs_of_whole (c : Dev nD) (g : MBuf (F := F) c yM) :
    (yM.view.loc (c : Thread nD τ) ↦[Finset.univ]{fullShare} g : sProp 𝕄) ⊢ todoYs c 14 := by
  have := todoYs_split c g 14 le_rfl
  rw [show 14 - 14 = 0 from rfl, colsY_all] at this
  exact this

theorem doneY_join (c : Dev nD) (Y : ℕ → Vec F S256x512 .bf16) (g₀ : MBuf (F := F) c yM) : ∀ k, k ≤ 14 →
    (doneY c Y k ⊢ (iprop(∃ g : MBuf (F := F) c yM, ⌜∀ b, b < k → (dstY b).view.read (Elt F) g = Y b⌝ ∗ (yM.view.loc (c : Thread nD τ) ↦[colsY c 0 k]{fullShare} g)) : sProp 𝕄))
  | 0, _ => by
    rw [doneY, colsY_none]
    iintro _
    iexists g₀
    rw [pointsTo_empty]
    isplitr; · ipureintro; intro b hb; omega
    iempintro
  | k + 1, h => by
    rw [doneY]
    unfold gotY
    iintro ⟨Hd, ⟨%f, %hf, Hf⟩⟩
    ihave H := (doneY_join c Y g₀ k (by omega)) $$ Hd
    icases H with ⟨%g, %hg, Hg⟩
    iexists ((colsY c k (k + 1)).piecewise f g)
    isplitr
    · ipureintro
      intro b hb
      by_cases e : b = k
      · subst e
        rw [← hf]
        refine View.read_congr fun i hi => ?_
        rw [dst_set c b (by omega)] at hi
        exact Finset.piecewise_eq_of_mem _ _ _ hi
      · rw [← hg b (by omega)]
        refine View.read_congr fun i hi => ?_
        rw [dst_set c b (by omega)] at hi
        refine Finset.piecewise_eq_of_notMem _ _ _ fun h' => ?_
        have h1 := (mem_colsY c _ _ i).mp hi
        have h2 := (mem_colsY c _ _ i).mp h'
        omega
    rw [dst_set c k (by omega), ← colsY_union c (Nat.zero_le k) (Nat.le_succ k)]
    iapply (pointsTo_join (colsY_disjoint c))
    isplitl [Hg]; · iexact Hg
    iexact Hf

theorem doneY_whole (c : Dev nD) (Y : ℕ → Vec F S256x512 .bf16) (g₀ : MBuf (F := F) c yM) :
    doneY c Y 14 ⊢ (iprop(∃ g : MBuf (F := F) c yM, ⌜∀ b, b < 14 → (dstY b).view.read (Elt F) g = Y b⌝ ∗ (yM.view.loc (c : Thread nD τ) ↦[Finset.univ]{fullShare} g)) : sProp 𝕄) := by
  have := doneY_join c Y g₀ 14 le_rfl
  rw [colsY_all] at this
  exact this

/-! ## The buffers as their slots -/

theorem slotB_set (c : Dev nD) (s : Fin 4) : (slotB s.val).view.set = (Finset.univ.filter fun i : S4x2048x512.Idx => (i 0).val = s.val : Finset (Idx (ringM.view.loc (c : Thread nD τ)))) := by
  refine (View.set_reshape _ _).trans ((View.set_slice_whole cc0_scratch0 _).trans ?_)
  ext i
  rw [Rect.mem_set_unit]
  refine Iff.trans ?_ (Finset.mem_filter.trans (and_iff_right (Finset.mem_univ _))).symm
  have h1 : ((i : S4x2048x512.Idx) 1).val < 2048 := ((i : S4x2048x512.Idx) 1).isLt
  have h2 : ((i : S4x2048x512.Idx) 2).val < 512 := ((i : S4x2048x512.Idx) 2).isLt
  have e : s.val % 4 = s.val := Nat.mod_eq_of_lt s.isLt
  constructor
  · intro h
    have h1 : s.val % 4 ≤ ((i : S4x2048x512.Idx) 0).val ∧ ((i : S4x2048x512.Idx) 0).val < s.val % 4 + 1 := h 0
    show ((i : S4x2048x512.Idx) 0).val = s.val
    omega
  · intro h a
    have h' : ((i : S4x2048x512.Idx) 0).val = s.val := h
    fin_cases a
    · show s.val % 4 ≤ ((i : S4x2048x512.Idx) 0).val ∧ ((i : S4x2048x512.Idx) 0).val < s.val % 4 + 1; omega
    · show 0 ≤ ((i : S4x2048x512.Idx) 1).val ∧ ((i : S4x2048x512.Idx) 1).val < 0 + 2048; omega
    · show 0 ≤ ((i : S4x2048x512.Idx) 2).val ∧ ((i : S4x2048x512.Idx) 2).val < 0 + 512; omega

theorem slotY_set (c : Dev nD) (s : Fin 2) : (slotY s.val).view.set = (Finset.univ.filter fun i : S2x256x512.Idx => (i 0).val = s.val : Finset (Idx (ybufM.view.loc (c : Thread nD τ)))) := by
  refine (View.set_reshape _ _).trans ((View.set_slice_whole cc0_scratch3 _).trans ?_)
  ext i
  rw [Rect.mem_set_unit]
  refine Iff.trans ?_ (Finset.mem_filter.trans (and_iff_right (Finset.mem_univ _))).symm
  have h1 : ((i : S2x256x512.Idx) 1).val < 256 := ((i : S2x256x512.Idx) 1).isLt
  have h2 : ((i : S2x256x512.Idx) 2).val < 512 := ((i : S2x256x512.Idx) 2).isLt
  have e : s.val % 2 = s.val := Nat.mod_eq_of_lt s.isLt
  constructor
  · intro h
    have h1 : s.val % 2 ≤ ((i : S2x256x512.Idx) 0).val ∧ ((i : S2x256x512.Idx) 0).val < s.val % 2 + 1 := h 0
    show ((i : S2x256x512.Idx) 0).val = s.val
    omega
  · intro h a
    have h' : ((i : S2x256x512.Idx) 0).val = s.val := h
    fin_cases a
    · show s.val % 2 ≤ ((i : S2x256x512.Idx) 0).val ∧ ((i : S2x256x512.Idx) 0).val < s.val % 2 + 1; omega
    · show 0 ≤ ((i : S2x256x512.Idx) 1).val ∧ ((i : S2x256x512.Idx) 1).val < 0 + 256; omega
    · show 0 ≤ ((i : S2x256x512.Idx) 2).val ∧ ((i : S2x256x512.Idx) 2).val < 0 + 512; omega

/-- The elements of slot `s`. -/
abbrev jsetB (c : Dev nD) (s : Fin 4) : Finset (Idx (ringM.view.loc (c : Thread nD τ))) := (slotB s.val).view.set
abbrev jsetY (c : Dev nD) (s : Fin 2) : Finset (Idx (ybufM.view.loc (c : Thread nD τ))) := (slotY s.val).view.set

theorem slotB_disjoint (c : Dev nD) (s s' : Fin 4) (h : s ≠ s') :
    Disjoint (α := Finset (Idx (ringM.view.loc (c : Thread nD τ)))) (slotB s.val).view.set (slotB s'.val).view.set := by
  rw [slotB_set c s, slotB_set c s', Finset.disjoint_left]
  intro i h1 h2
  exact h (Fin.ext ((Finset.mem_filter.mp h1).2.symm.trans (Finset.mem_filter.mp h2).2))

theorem slotB_cover (c : Dev nD) : (Finset.univ : Finset (Fin 4)).biUnion (fun s => (jsetB c s)) = Finset.univ := by
  ext i
  refine ⟨fun _ => Finset.mem_univ _, fun _ => Finset.mem_biUnion.mpr ⟨(i : S4x2048x512.Idx) 0, Finset.mem_univ _, ?_⟩⟩
  exact (Finset.ext_iff.mp (slotB_set c ((i : S4x2048x512.Idx) 0)) i).mpr (Finset.mem_filter.mpr ⟨Finset.mem_univ _, rfl⟩)

theorem slotY_disjoint (c : Dev nD) (s s' : Fin 2) (h : s ≠ s') :
    Disjoint (α := Finset (Idx (ybufM.view.loc (c : Thread nD τ)))) (slotY s.val).view.set (slotY s'.val).view.set := by
  rw [slotY_set c s, slotY_set c s', Finset.disjoint_left]
  intro i h1 h2
  exact h (Fin.ext ((Finset.mem_filter.mp h1).2.symm.trans (Finset.mem_filter.mp h2).2))

theorem slotY_cover (c : Dev nD) : (Finset.univ : Finset (Fin 2)).biUnion (fun s => (jsetY c s)) = Finset.univ := by
  ext i
  refine ⟨fun _ => Finset.mem_univ _, fun _ => Finset.mem_biUnion.mpr ⟨(i : S2x256x512.Idx) 0, Finset.mem_univ _, ?_⟩⟩
  exact (Finset.ext_iff.mp (slotY_set c ((i : S2x256x512.Idx) 0)) i).mpr (Finset.mem_filter.mpr ⟨Finset.mem_univ _, rfl⟩)

/-- A slot of the ring, at anything. -/
abbrev anyB (c : Dev nD) (b : ℕ) : sProp 𝕄 := iprop(∃ f, (slotB b).view.loc (c : Thread nD τ) ↦[(slotB b).view.set]{fullShare} f)
/-- A slot of the result's buffer, at anything. -/
abbrev anyY (c : Dev nD) (b : ℕ) : sProp 𝕄 := iprop(∃ f : MBuf (F := F) c ybufM, ybufM.view.loc (c : Thread nD τ) ↦[(slotY b).view.set]{fullShare} f)

theorem ring_split (c : Dev nD) : iprop(∃ f, ringM.view.loc (c : Thread nD τ) ↦[Finset.univ]{fullShare} f)
    ⊢ (iprop(anyB (F := F) c 0 ∗ anyB c 1 ∗ anyB c 2 ∗ anyB c 3) : sProp 𝕄) :=
  Idealize.ShloMosaic.Ring.slots_split_n (jsetB c) (slotB_disjoint c) (slotB_cover c) [0, 1, 2, 3] (by decide) (by decide)
    (fun s f => (ringM.view.loc (c : Thread nD τ) ↦[(slotB s.val).view.set]{fullShare} f : sProp 𝕄)) (fun _ _ => rfl)
theorem ring_join (c : Dev nD) : iprop(anyB (F := F) c 0 ∗ anyB c 1 ∗ anyB c 2 ∗ anyB c 3)
    ⊢ (iprop(∃ f, ringM.view.loc (c : Thread nD τ) ↦[Finset.univ]{fullShare} f) : sProp 𝕄) :=
  Idealize.ShloMosaic.Ring.slots_join_n (jsetB c) (slotB_disjoint c) (slotB_cover c) [0, 1, 2, 3] (by decide) (by decide)
    (fun s f => (ringM.view.loc (c : Thread nD τ) ↦[(slotB s.val).view.set]{fullShare} f : sProp 𝕄)) (fun _ _ => rfl)
theorem ybuf_split (c : Dev nD) : iprop(∃ f, ybufM.view.loc (c : Thread nD τ) ↦[Finset.univ]{fullShare} f)
    ⊢ (iprop(anyY (F := F) c 0 ∗ anyY c 1) : sProp 𝕄) :=
  Idealize.ShloMosaic.Ring.slots_split_n (jsetY c) (slotY_disjoint c) (slotY_cover c) [0, 1] (by decide) (by decide)
    (fun s f => (ybufM.view.loc (c : Thread nD τ) ↦[(slotY s.val).view.set]{fullShare} f : sProp 𝕄)) (fun _ _ => rfl)
theorem ybuf_join (c : Dev nD) : iprop(anyY (F := F) c 0 ∗ anyY c 1)
    ⊢ (iprop(∃ f, ybufM.view.loc (c : Thread nD τ) ↦[Finset.univ]{fullShare} f) : sProp 𝕄) :=
  Idealize.ShloMosaic.Ring.slots_join_n (jsetY c) (slotY_disjoint c) (slotY_cover c) [0, 1] (by decide) (by decide)
    (fun s f => (ybufM.view.loc (c : Thread nD τ) ↦[(slotY s.val).view.set]{fullShare} f : sProp 𝕄)) (fun _ _ => rfl)

theorem w_split (c : Dev nD) (f6 : MBuf (F := F) c wM) : (wM.view.loc (c : Thread nD τ) ↦[Finset.univ]{fullShare} f6 : sProp 𝕄)
    ⊢ iprop((wM.view.loc (c : Thread nD τ) ↦[Finset.univ]{Transfers.shareDrop fullShare 4} f6) ∗ (wM.view.loc (c : Thread nD τ) ↦[Finset.univ]{shB 0} f6)
      ∗ (wM.view.loc (c : Thread nD τ) ↦[Finset.univ]{shB 1} f6) ∗ (wM.view.loc (c : Thread nD τ) ↦[Finset.univ]{shB 2} f6) ∗ (wM.view.loc (c : Thread nD τ) ↦[Finset.univ]{shB 3} f6)) := by
  have h := Transfers.pointsTo_toks (ℓ := wM.view.loc (c : Thread nD τ)) (S := Finset.univ) (f := f6) (Ix := Unit) (Name := ℕ) (U := Pipeline.UD sig nD τ) (Lvl := ℕ) fullShare 4
  rw [BI.bigSep_univ_eq_bigSepL [0, 1, 2, 3] (by decide) (by decide)] at h
  exact h.1
theorem w_join (c : Dev nD) (f6 : MBuf (F := F) c wM) :
    iprop((wM.view.loc (c : Thread nD τ) ↦[Finset.univ]{Transfers.shareDrop fullShare 4} f6) ∗ (wM.view.loc (c : Thread nD τ) ↦[Finset.univ]{shB 0} f6)
      ∗ (wM.view.loc (c : Thread nD τ) ↦[Finset.univ]{shB 1} f6) ∗ (wM.view.loc (c : Thread nD τ) ↦[Finset.univ]{shB 2} f6) ∗ (wM.view.loc (c : Thread nD τ) ↦[Finset.univ]{shB 3} f6))
    ⊢ (wM.view.loc (c : Thread nD τ) ↦[Finset.univ]{fullShare} f6 : sProp 𝕄) := by
  have h := Transfers.pointsTo_toks (ℓ := wM.view.loc (c : Thread nD τ)) (S := Finset.univ) (f := f6) (Ix := Unit) (Name := ℕ) (U := Pipeline.UD sig nD τ) (Lvl := ℕ) fullShare 4
  rw [BI.bigSep_univ_eq_bigSepL [0, 1, 2, 3] (by decide) (by decide)] at h
  exact h.2

end Cert.Kernel.Hand

end
-- ==== Proof.K.Outer0.lean ====
/-
  One step of the outer loop of the main call, its first two steps.
-/
module

public import proofs.«01_k».proof.Proof.K.Outer
public import Idealize.ShloMosaic.Lib.VecWindow
public import Idealize.ShloMosaic.Lib.WritesUnit
public import Idealize.ShloMosaic.Lib.Mxu.Walk

@[expose] public section

set_option maxRecDepth 8192

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

set_option maxHeartbeats 400000 in
theorem outer_run0 (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole)
    (t1 : Fin k0_t1_loop.trips) (s : Mxu F)
    (f0 : MBuf (F := F) c arg0) (f1 : MBuf (F := F) c arg1) (f2 : MBuf (F := F) c arg2) (f3 : MBuf (F := F) c arg3) (f4 : MBuf (F := F) c arg4) (f5 : MBuf (F := F) c arg5) (f7 : MBuf (F := F) c arg7)
    (f6 : MBuf (F := F) c wM) (f11 : MBuf (F := F) c ssqM) (h : MxuB s) (h2 : ¬ 2 ≤ t1.val)
    (Q : Mxu F → sProp 𝕄) :
    iprop(ringAt c f6 (9 * t1.val) ∗ freeY (F := F) c t1.val ∗ todoY (F := F) c t1.val ∗ (∃ W, owes (c : Thread nD τ) 0 W)
        ∗ (arg0.view.loc (c : Thread nD τ) ↦[arg0.view.set]{fullShare} f0)
        ∗ (arg1.view.loc (c : Thread nD τ) ↦[arg1.view.set]{fullShare} f1)
        ∗ (arg2.view.loc (c : Thread nD τ) ↦[arg2.view.set]{fullShare} f2)
        ∗ (arg3.view.loc (c : Thread nD τ) ↦[arg3.view.set]{fullShare} f3)
        ∗ (arg4.view.loc (c : Thread nD τ) ↦[arg4.view.set]{fullShare} f4)
        ∗ (arg5.view.loc (c : Thread nD τ) ↦[arg5.view.set]{fullShare} f5)
        ∗ (arg7.view.loc (c : Thread nD τ) ↦[arg7.view.set]{fullShare} f7)
        ∗ (ssqM.view.loc (c : Thread nD τ) ↦[ssqM.view.set]{fullShare} f11)
        ∗ ((ringAt c f6 (9 * (t1.val + 1)) ∗ (∃ f12 : MBuf (F := F) c ybufM, inflY c t1.val t1.val ((slotY t1.val).view.read (Elt F) (o_ybuf c arg0 harg0 arg1 harg1 arg2 harg2 arg3 harg3 arg4 harg4 arg5 harg5 arg7 harg7 t1 s f0 f1 f2 f3 f4 f5 f7 f6 f12))) ∗ (∃ W, owes (c : Thread nD τ) 0 W)
        ∗ (arg0.view.loc (c : Thread nD τ) ↦[arg0.view.set]{fullShare} f0)
        ∗ (arg1.view.loc (c : Thread nD τ) ↦[arg1.view.set]{fullShare} f1)
        ∗ (arg2.view.loc (c : Thread nD τ) ↦[arg2.view.set]{fullShare} f2)
        ∗ (arg3.view.loc (c : Thread nD τ) ↦[arg3.view.set]{fullShare} f3)
        ∗ (arg4.view.loc (c : Thread nD τ) ↦[arg4.view.set]{fullShare} f4)
        ∗ (arg5.view.loc (c : Thread nD τ) ↦[arg5.view.set]{fullShare} f5)
        ∗ (arg7.view.loc (c : Thread nD τ) ↦[arg7.view.set]{fullShare} (o_norm c arg0 harg0 arg1 harg1 arg2 harg2 arg3 harg3 arg4 harg4 arg5 harg5 arg7 harg7 t1 s f0 f1 f2 f3 f4 f5 f7 f6))
        ∗ (ssqM.view.loc (c : Thread nD τ) ↦[ssqM.view.set]{fullShare} (o_in c arg0 harg0 arg1 harg1 arg2 harg2 arg3 harg3 arg4 harg4 arg5 harg5 arg7 harg7 t1 s f0 f1 f2 f3 f4 f5 f7 f6).2)) -∗ Q (o_m67 c arg0 harg0 arg1 harg1 arg2 harg2 arg3 harg3 arg4 harg4 arg5 harg5 arg7 harg7 t1 s f0 f1 f2 f3 f4 f5 f7 f6)))
      ⊢ wp frame (wpE (defs₀ (F := F)) Variants.none (c : Thread nD τ) none) Set.univ
          (k0_t1_body arg0 harg0 arg1 harg1 arg2 harg2 arg3 harg3 arg4 harg4 arg5 harg5 wM (Memref.isWhole_whole _) arg7 harg7 yM (Memref.isWhole_whole _)
            ringM (Memref.isWhole_whole _) cc0_scratch1 ssqM (Memref.isWhole_whole _) ybufM (Memref.isWhole_whole _) cc0_scratch4 t1 s) Q := by
  have hc : ¬ k0_cond2 t1 = 1#1 := fun h => h2 ((cond2_iff t1).mp h)
  have ef : freeY (F := F) c t1.val = iprop(semVal ((c : Thread nD τ), SemLoc.dma (cellY t1.val)) 0 ∗ (∃ f : MBuf (F := F) c ybufM, (slotY t1.val).view.loc (c : Thread nD τ) ↦[(slotY t1.val).view.set]{fullShare} f)) := rfl
  have hcanon4 := ycell_congr t1.val (Gen.k0_off83_eq t1) (k0_off83_inb t1)
  have hcanon5 := ydst_congr t1.val (off84_eq t1) (k0_off84_inb t1)
  have hcanon6 := yslot_congr t1.val (Gen.k0_off85_eq t1) (k0_off85_inb t1)
  have hi81 := ystore_incl t1.val (Gen.k0_off81_eq t1) (k0_off81_inb t1)
  have hi82 := ystore_incl t1.val (Gen.k0_off82_eq t1) (k0_off82_inb t1)
  have hb9 := inner_ok c arg0 harg0 arg1 harg1 arg2 harg2 arg3 harg3 arg4 harg4 arg5 harg5 arg7 harg7 t1 s f0 f1 f2 (o_ssq0 c arg0 harg0 arg1 harg1 arg2 harg2 arg3 harg3 arg4 harg4 arg5 harg5 arg7 harg7 t1 s f0 f1 f2 f3 f4 f5 f7 f6) f6 h 9
  have hp00 : (innerSt c arg0 harg0 arg1 harg1 arg2 harg2 arg3 harg3 arg4 harg4 arg5 harg5 arg7 harg7 t1 s f0 f1 f2 (o_ssq0 c arg0 harg0 arg1 harg1 arg2 harg2 arg3 harg3 arg4 harg4 arg5 harg5 arg7 harg7 t1 s f0 f1 f2 f3 f4 f5 f7 f6) f6 9).1.PushOk 0 0 false := Mxu.pushOk_of_none _ _ _ _ hb9.r00
  have hp10 : (innerSt c arg0 harg0 arg1 harg1 arg2 harg2 arg3 harg3 arg4 harg4 arg5 harg5 arg7 harg7 t1 s f0 f1 f2 (o_ssq0 c arg0 harg0 arg1 harg1 arg2 harg2 arg3 harg3 arg4 harg4 arg5 harg5 arg7 harg7 t1 s f0 f1 f2 f3 f4 f5 f7 f6) f6 9).1.PushOk 1 0 false := Mxu.pushOk_of_none _ _ _ _ hb9.r10
  rw [ef]
  unfold inflY todoY
  iintro ⟨Hr, ⟨Hsem, ⟨%fy, Hfl⟩⟩, ⟨%g, Hy⟩, ⟨%W, HO⟩, Ha0, Ha1, Ha2, Ha3, Ha4, Ha5, Ha7, Hs, Hk⟩
  unfold k0_t1_body
  sl_exec_parts (disch := first | (mxu_pushok_peel; done) | (mxu_pushok_peel; assumption))
  sl_for (innerInv c arg0 harg0 arg1 harg1 arg2 harg2 arg3 harg3 arg4 harg4 arg5 harg5 arg7 harg7 t1 s f0 f1 f2 (o_ssq0 c arg0 harg0 arg1 harg1 arg2 harg2 arg3 harg3 arg4 harg4 arg5 harg5 arg7 harg7 t1 s f0 f1 f2 f3 f4 f5 f7 f6) f6) $$ [Hr HO Ha0 Ha1 Ha2 Hs]
  case region =>
    intro k x
    exact inner_step c arg0 harg0 arg1 harg1 arg2 harg2 arg3 harg3 arg4 harg4 arg5 harg5 arg7 harg7 t1 s f0 f1 f2 (o_ssq0 c arg0 harg0 arg1 harg1 arg2 harg2 arg3 harg3 arg4 harg4 arg5 harg5 arg7 harg7 t1 s f0 f1 f2 f3 f4 f5 f7 f6) f6 h _ _ k x
  · unfold innerInv
    isplitr; · ipureintro; rfl
    isplitl [Hr]; · iexact Hr
    isplitl [HO]; · iexists _; iexact HO
    isplitl [Ha0]; · iexact Ha0
    isplitl [Ha1]; · iexact Ha1
    isplitl [Ha2]; · iexact Ha2
    rw [show innerSt c arg0 harg0 arg1 harg1 arg2 harg2 arg3 harg3 arg4 harg4 arg5 harg5 arg7 harg7 t1 s f0 f1 f2 (o_ssq0 c arg0 harg0 arg1 harg1 arg2 harg2 arg3 harg3 arg4 harg4 arg5 harg5 arg7 harg7 t1 s f0 f1 f2 f3 f4 f5 f7 f6) f6 0 = (s, (o_ssq0 c arg0 harg0 arg1 harg1 arg2 harg2 arg3 harg3 arg4 harg4 arg5 harg5 arg7 harg7 t1 s f0 f1 f2 f3 f4 f5 f7 f6)) from rfl]
    sl_unfold_run_names
    iexact Hs
  iintro %x HI
  unfold innerInv
  icases HI with ⟨%hx, Hr, ⟨%W1, HO⟩, Ha0, Ha1, Ha2, Hs⟩
  subst hx
  sl_exec_parts (disch := first | (mxu_pushok_peel; done) | (mxu_pushok_peel; assumption))
  sl_step
  have em : outer_run0.sl.k0_mxu67 c arg0 harg0 arg1 harg1 arg2 harg2 arg3 harg3 arg4 harg4 arg5 harg5 arg7 harg7 t1 s f0 f1 f2 f3 f4 f5 f7 f6 = (o_m67 c arg0 harg0 arg1 harg1 arg2 harg2 arg3 harg3 arg4 harg4 arg5 harg5 arg7 harg7 t1 s f0 f1 f2 f3 f4 f5 f7 f6) := rfl
  rw [em]
  iapply Hk
  isplitl [Hr]; · iexact Hr
  isplitl [Hsem]
  · iexists fy
    iexists (outer_run0.sl.Hfl_w2 c arg0 harg0 arg1 harg1 arg2 harg2 arg3 harg3 arg4 harg4 arg5 harg5 arg7 harg7 t1 s f0 f1 f2 f3 f4 f5 f7 f6 fy); iexists g
    isplitr
    · ipureintro; rfl
    iexact Hsem
  isplitl [HO]; · iexists _; iexact HO
  isplitl [Ha0]; · iexact Ha0
  isplitl [Ha1]; · iexact Ha1
  isplitl [Ha2]; · iexact Ha2
  isplitl [Ha3]; · iexact Ha3
  isplitl [Ha4]; · iexact Ha4
  isplitl [Ha5]; · iexact Ha5
  isplitl [Ha7]; · iexact Ha7
  iexact Hs

end Cert.Kernel.Hand

end
-- ==== Proof.K.Body.lean ====
/-
  The main call's outer loop and its whole body.
-/
module

public import proofs.«01_k».proof.Proof.K.Drain
public import proofs.«01_k».proof.Proof.K.Pieces
public import proofs.«01_k».proof.Proof.K.Outer0
public import Idealize.ShloMosaic.Lib.VecWindow
public import Idealize.ShloMosaic.Lib.WritesUnit
public import Idealize.ShloMosaic.Lib.Mxu.Walk

@[expose] public section

set_option maxRecDepth 8192

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

/-- The slot of step `k`, before that step: its last transfer in flight, if it had one. -/
def pendY (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole) (f0 : MBuf (F := F) c arg0) (f1 : MBuf (F := F) c arg1) (f2 : MBuf (F := F) c arg2) (f3 : MBuf (F := F) c arg3) (f4 : MBuf (F := F) c arg4) (f5 : MBuf (F := F) c arg5) (f7 : MBuf (F := F) c arg7) (f6 : MBuf (F := F) c wM) (k : ℕ) : sProp 𝕄 := if 2 ≤ k then inflY c k (k - 2) (Yv c arg0 harg0 arg1 harg1 arg2 harg2 arg3 harg3 arg4 harg4 arg5 harg5 arg7 harg7 f0 f1 f2 f3 f4 f5 f7 f6 (k - 2)) else freeY (F := F) c k

/-- A result transfer in flight, its slot and semaphore at the offsets given. -/
def inflO (c : Dev nD) (o : Fin 3 → ℕ) (hi : ∀ a, o a + S1x256x512.size a ≤ S2x256x512.size a) (o1 : Fin 1 → ℕ) (hi1 : ∀ a, o1 a + S1.size a ≤ S2.size a) (b : ℕ) (v : Vec F S256x512 .bf16) : sProp 𝕄 :=
  iprop(∃ (f : MBuf (F := F) c ybufM) (g : MBuf (F := F) c (dstY b)), ⌜((ybufM.slice (Rect.unit (s := S2x256x512) o S1x256x512.size hi) (fun _ => rfl)).squeeze S256x512 squeezes_S1x256x512_S256x512).view.read (Elt F) f = v⌝ ∗
    Transfers.Flight (countersEmb (U := Pipeline.UD sig nD τ)) (c : Thread nD τ) (SemLoc.dma ((cc0_scratch4.slice (Rect.unit (s := S2) o1 S1.size hi1)).squeeze S_ squeezes_S1_S_).sem) () 8192
            iprop(((dstY b).view.loc (c : Thread nD τ) ↦[(dstY b).view.set]{fullShare} (dstY b).view.writes (Elt F) g [⟨Rect.whole S256x512, ReadAs.same.apply (((ybufM.slice (Rect.unit (s := S2x256x512) o S1x256x512.size hi) (fun _ => rfl)).squeeze S256x512 squeezes_S1x256x512_S256x512).view.read (Elt F) f)⟩])
              ∗ (((ybufM.slice (Rect.unit (s := S2x256x512) o S1x256x512.size hi) (fun _ => rfl)).squeeze S256x512 squeezes_S1x256x512_S256x512).view.loc (c : Thread nD τ) ↦[((ybufM.slice (Rect.unit (s := S2x256x512) o S1x256x512.size hi) (fun _ => rfl)).squeeze S256x512 squeezes_S1x256x512_S256x512).view.set]{fullShare} f)))

theorem inflO_congr (c : Dev nD) {o o' : Fin 3 → ℕ} (e : o = o') (hi) (hi') {o1 o1' : Fin 1 → ℕ} (e1 : o1 = o1') (hi1) (hi1') (b : ℕ) (v : Vec F S256x512 .bf16) :
    inflO c o hi o1 hi1 b v = inflO c o' hi' o1' hi1' b v := by subst e e1; rfl

theorem inflY_move (c : Dev nD) (b' b'' b : ℕ) (v : Vec F S256x512 .bf16) (h : b' % 2 = b'' % 2) : inflY c b' b v ⊢ inflY c b'' b v :=
  Entails.of_eq (inflO_congr c (by rw [h]) (yslot_inb b') (yslot_inb b'') (by rw [h]) (ycell_inb b') (ycell_inb b'') b v)

/-- The outer loop's invariant. -/
def outerInv (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole) (f0 : MBuf (F := F) c arg0) (f1 : MBuf (F := F) c arg1) (f2 : MBuf (F := F) c arg2) (f3 : MBuf (F := F) c arg3) (f4 : MBuf (F := F) c arg4) (f5 : MBuf (F := F) c arg5) (f7 : MBuf (F := F) c arg7) (f6 : MBuf (F := F) c wM) (k : ℕ) (x : Mxu F) : sProp 𝕄 :=
  iprop(⌜x = (outerSt c arg0 harg0 arg1 harg1 arg2 harg2 arg3 harg3 arg4 harg4 arg5 harg5 arg7 harg7 f0 f1 f2 f3 f4 f5 f7 f6 k).1⌝ ∗ ringAt c f6 (9 * k) ∗ pendY c arg0 harg0 arg1 harg1 arg2 harg2 arg3 harg3 arg4 harg4 arg5 harg5 arg7 harg7 f0 f1 f2 f3 f4 f5 f7 f6 k ∗ pendY c arg0 harg0 arg1 harg1 arg2 harg2 arg3 harg3 arg4 harg4 arg5 harg5 arg7 harg7 f0 f1 f2 f3 f4 f5 f7 f6 (k + 1) ∗ doneY c (Yv c arg0 harg0 arg1 harg1 arg2 harg2 arg3 harg3 arg4 harg4 arg5 harg5 arg7 harg7 f0 f1 f2 f3 f4 f5 f7 f6) (k - 2) ∗ todoYs (F := F) c (14 - k)
    ∗ (∃ W, owes (c : Thread nD τ) 0 W) ∗ (arg0.view.loc (c : Thread nD τ) ↦[arg0.view.set]{fullShare} f0) ∗ (arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg7.view.loc (c : Thread nD τ) ↦[arg7.view.set]{fullShare} (outerSt c arg0 harg0 arg1 harg1 arg2 harg2 arg3 harg3 arg4 harg4 arg5 harg5 arg7 harg7 f0 f1 f2 f3 f4 f5 f7 f6 k).2)
    ∗ (∃ f11 : MBuf (F := F) c ssqM, ssqM.view.loc (c : Thread nD τ) ↦[ssqM.view.set]{fullShare} f11))

theorem outer_step (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole) (f0 : MBuf (F := F) c arg0) (f1 : MBuf (F := F) c arg1) (f2 : MBuf (F := F) c arg2) (f3 : MBuf (F := F) c arg3) (f4 : MBuf (F := F) c arg4) (f5 : MBuf (F := F) c arg5) (f7 : MBuf (F := F) c arg7) (f6 : MBuf (F := F) c wM) (k : Fin k0_t1_loop.trips) (x : Mxu F) :
    outerInv c arg0 harg0 arg1 harg1 arg2 harg2 arg3 harg3 arg4 harg4 arg5 harg5 arg7 harg7 f0 f1 f2 f3 f4 f5 f7 f6 k.val x
      ⊢ wp frame (wpE (defs₀ (F := F)) Variants.none (c : Thread nD τ) none) Set.univ
          (k0_t1_body arg0 harg0 arg1 harg1 arg2 harg2 arg3 harg3 arg4 harg4 arg5 harg5 wM (Memref.isWhole_whole _) arg7 harg7 yM (Memref.isWhole_whole _)
            ringM (Memref.isWhole_whole _) cc0_scratch1 ssqM (Memref.isWhole_whole _) ybufM (Memref.isWhole_whole _) cc0_scratch4 k x)
          (fun y => outerInv c arg0 harg0 arg1 harg1 arg2 harg2 arg3 harg3 arg4 harg4 arg5 harg5 arg7 harg7 f0 f1 f2 f3 f4 f5 f7 f6 (k.val + 1) y) := by
  have hb := MxuB.of_drained (outerSt_drained c arg0 harg0 arg1 harg1 arg2 harg2 arg3 harg3 arg4 harg4 arg5 harg5 arg7 harg7 f0 f1 f2 f3 f4 f5 f7 f6 k.val)
  have hk : k.val < 14 := k.isLt
  have es := outerSt_succ c arg0 harg0 arg1 harg1 arg2 harg2 arg3 harg3 arg4 harg4 arg5 harg5 arg7 harg7 f0 f1 f2 f3 f4 f5 f7 f6 k
  unfold outerInv
  rw [es, show 14 - k.val = (14 - (k.val + 1)) + 1 by omega, todoYs, show 14 - (14 - (k.val + 1) + 1) = k.val by omega]
  by_cases h2 : 2 ≤ k.val
  · unfold pendY
    rw [if_pos h2, if_pos (show 2 ≤ k.val + 1 by omega), if_pos (show 2 ≤ k.val + 1 + 1 by omega)]
    iintro ⟨%hx, Hr, Hp, Hp', Hd, ⟨Ht, Hts⟩, HO, Ha0, Ha1, Ha2, Ha3, Ha4, Ha5, Ha7, ⟨%f11, Hs⟩⟩
    subst hx
    iapply (outer_run1 c arg0 harg0 arg1 harg1 arg2 harg2 arg3 harg3 arg4 harg4 arg5 harg5 arg7 harg7 k _ f0 f1 f2 f3 f4 f5 _ f6 f11 hb h2 (Yv c arg0 harg0 arg1 harg1 arg2 harg2 arg3 harg3 arg4 harg4 arg5 harg5 arg7 harg7 f0 f1 f2 f3 f4 f5 f7 f6 (k.val - 2)))
    isplitl [Hr]; · iexact Hr
    isplitl [Hp]; · iexact Hp
    isplitl [Ht]; · iexact Ht
    isplitl [HO]; · iexact HO
    isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    isplitl [Ha7]; · iexact Ha7
    isplitl [Hs]; · iexact Hs
    iintro ⟨Hr, ⟨%f12, Hq⟩, Hg, HO, Ha0, Ha1, Ha2, Ha3, Ha4, Ha5, Ha7, Hs⟩
    isplitr; · ipureintro; rfl
    isplitl [Hr]; · iexact Hr
    isplitl [Hp']; · iexact Hp'
    isplitl [Hq]
    · rw [Yv_eq c arg0 harg0 arg1 harg1 arg2 harg2 arg3 harg3 arg4 harg4 arg5 harg5 arg7 harg7 f0 f1 f2 f3 f4 f5 f7 f6 k f12, show k.val + 1 + 1 - 2 = k.val by omega]
      iapply (inflY_move c k.val (k.val + 1 + 1) k.val _ (by omega))
      iexact Hq
    isplitl [Hd Hg]
    · rw [show k.val + 1 - 2 = (k.val - 2) + 1 by omega, doneY]
      isplitl [Hd]; · iexact Hd
      iexact Hg
    isplitl [Hts]; · iexact Hts
    isplitl [HO]; · iexact HO
    isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    isplitl [Ha7]; · iexact Ha7
    iexists _; iexact Hs
  · unfold pendY
    rw [if_neg h2, if_pos (show 2 ≤ k.val + 1 + 1 by omega)]
    iintro ⟨%hx, Hr, Hp, Hp', Hd, ⟨Ht, Hts⟩, HO, Ha0, Ha1, Ha2, Ha3, Ha4, Ha5, Ha7, ⟨%f11, Hs⟩⟩
    subst hx
    iapply (outer_run0 c arg0 harg0 arg1 harg1 arg2 harg2 arg3 harg3 arg4 harg4 arg5 harg5 arg7 harg7 k _ f0 f1 f2 f3 f4 f5 _ f6 f11 hb h2)
    isplitl [Hr]; · iexact Hr
    isplitl [Hp]; · iexact Hp
    isplitl [Ht]; · iexact Ht
    isplitl [HO]; · iexact HO
    isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    isplitl [Ha7]; · iexact Ha7
    isplitl [Hs]; · iexact Hs
    iintro ⟨Hr, ⟨%f12, Hq⟩, HO, Ha0, Ha1, Ha2, Ha3, Ha4, Ha5, Ha7, Hs⟩
    isplitr; · ipureintro; rfl
    isplitl [Hr]; · iexact Hr
    isplitl [Hp']; · iexact Hp'
    isplitl [Hq]
    · rw [Yv_eq c arg0 harg0 arg1 harg1 arg2 harg2 arg3 harg3 arg4 harg4 arg5 harg5 arg7 harg7 f0 f1 f2 f3 f4 f5 f7 f6 k f12, show k.val + 1 + 1 - 2 = k.val by omega]
      iapply (inflY_move c k.val (k.val + 1 + 1) k.val _ (by omega))
      iexact Hq
    isplitl [Hd]
    · rw [show k.val + 1 - 2 = k.val - 2 by omega]
      iexact Hd
    isplitl [Hts]; · iexact Hts
    isplitl [HO]; · iexact HO
    isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    isplitl [Ha7]; · iexact Ha7
    iexists _; iexact Hs

/-- The column group of an element of the result. -/
abbrev ygrp (i : S256x7168.Idx) : ℕ := (i 1).val / 512
/-- Its place within the group. -/
abbrev yloc (i : S256x7168.Idx) : S256x512.Idx := fun | ⟨0, _⟩ => i 0 | ⟨1, _⟩ => ⟨(i 1).val % 512, Nat.mod_lt _ (by decide)⟩

/-- The result of the main call. -/
noncomputable def yOut (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole) (f0 : MBuf (F := F) c arg0) (f1 : MBuf (F := F) c arg1) (f2 : MBuf (F := F) c arg2) (f3 : MBuf (F := F) c arg3) (f4 : MBuf (F := F) c arg4) (f5 : MBuf (F := F) c arg5) (f7 : MBuf (F := F) c arg7) (f6 : MBuf (F := F) c wM) : MBuf (F := F) c yM := fun i : S256x7168.Idx => Yv c arg0 harg0 arg1 harg1 arg2 harg2 arg3 harg3 arg4 harg4 arg5 harg5 arg7 harg7 f0 f1 f2 f3 f4 f5 f7 f6 (ygrp i) (yloc i)

theorem y_eq (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole) (f0 : MBuf (F := F) c arg0) (f1 : MBuf (F := F) c arg1) (f2 : MBuf (F := F) c arg2) (f3 : MBuf (F := F) c arg3) (f4 : MBuf (F := F) c arg4) (f5 : MBuf (F := F) c arg5) (f7 : MBuf (F := F) c arg7) (f6 : MBuf (F := F) c wM) (g : MBuf (F := F) c yM) (h : ∀ b, b < 14 → (dstY b).view.read (Elt F) g = Yv c arg0 harg0 arg1 harg1 arg2 harg2 arg3 harg3 arg4 harg4 arg5 harg5 arg7 harg7 f0 f1 f2 f3 f4 f5 f7 f6 b) : g = yOut c arg0 harg0 arg1 harg1 arg2 harg2 arg3 harg3 arg4 harg4 arg5 harg5 arg7 harg7 f0 f1 f2 f3 f4 f5 f7 f6 := by
  funext i
  have hi : ((i : S256x7168.Idx) 1).val < 7168 := ((i : S256x7168.Idx) 1).isLt
  have hb : ygrp i < 14 := by show ((i : S256x7168.Idx) 1).val / 512 < 14; omega
  have e : (dstY (ygrp i)).view.emb (yloc i) = i := by
    funext a
    apply Fin.ext
    fin_cases a
    · show 0 + 1 * ((i : S256x7168.Idx) 0).val = ((i : S256x7168.Idx) 0).val; omega
    · show 512 * (((i : S256x7168.Idx) 1).val / 512 % 14) + 1 * (((i : S256x7168.Idx) 1).val % 512) = ((i : S256x7168.Idx) 1).val; omega
  have h2 := congrFun (h _ hb) (yloc i)
  have h3 : (dstY (ygrp i)).view.read (Elt F) g (yloc i) = g ((dstY (ygrp i)).view.emb (yloc i)) := rfl
  rw [h3, e] at h2
  exact h2

theorem asked_ge (c : Dev nD) (f6 : MBuf (F := F) c wM) (b : ℕ) (h : ¬ b < 126) : askedB c f6 b = freeB c f6 b := by
  unfold askedB; exact if_neg h

theorem outerInv_exit (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole) (f0 : MBuf (F := F) c arg0) (f1 : MBuf (F := F) c arg1) (f2 : MBuf (F := F) c arg2) (f3 : MBuf (F := F) c arg3) (f4 : MBuf (F := F) c arg4) (f5 : MBuf (F := F) c arg5) (f7 : MBuf (F := F) c arg7) (f6 : MBuf (F := F) c wM) (x : Mxu F) : outerInv c arg0 harg0 arg1 harg1 arg2 harg2 arg3 harg3 arg4 harg4 arg5 harg5 arg7 harg7 f0 f1 f2 f3 f4 f5 f7 f6 (Scf.trips k0_t1_loop.lb k0_t1_loop.ub k0_t1_loop.st) x ⊢ iprop(⌜x = (outerSt c arg0 harg0 arg1 harg1 arg2 harg2 arg3 harg3 arg4 harg4 arg5 harg5 arg7 harg7 f0 f1 f2 f3 f4 f5 f7 f6 14).1⌝ ∗ ringAt c f6 (9 * 14) ∗ inflY c 14 12 (Yv c arg0 harg0 arg1 harg1 arg2 harg2 arg3 harg3 arg4 harg4 arg5 harg5 arg7 harg7 f0 f1 f2 f3 f4 f5 f7 f6 12) ∗ inflY c 15 13 (Yv c arg0 harg0 arg1 harg1 arg2 harg2 arg3 harg3 arg4 harg4 arg5 harg5 arg7 harg7 f0 f1 f2 f3 f4 f5 f7 f6 13) ∗ doneY c (Yv c arg0 harg0 arg1 harg1 arg2 harg2 arg3 harg3 arg4 harg4 arg5 harg5 arg7 harg7 f0 f1 f2 f3 f4 f5 f7 f6) 12
    ∗ (∃ W, owes (c : Thread nD τ) 0 W) ∗ (arg0.view.loc (c : Thread nD τ) ↦[arg0.view.set]{fullShare} f0) ∗ (arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg7.view.loc (c : Thread nD τ) ↦[arg7.view.set]{fullShare} (outerSt c arg0 harg0 arg1 harg1 arg2 harg2 arg3 harg3 arg4 harg4 arg5 harg5 arg7 harg7 f0 f1 f2 f3 f4 f5 f7 f6 14).2)
    ∗ (∃ f11 : MBuf (F := F) c ssqM, ssqM.view.loc (c : Thread nD τ) ↦[ssqM.view.set]{fullShare} f11)) := by
  rw [show Scf.trips k0_t1_loop.lb k0_t1_loop.ub k0_t1_loop.st = 14 from rfl]
  unfold outerInv pendY
  rw [if_pos (show 2 ≤ 14 by decide), if_pos (show 2 ≤ 14 + 1 by decide)]
  iintro ⟨H1, H2, H3, H4, H5, -, H⟩
  isplitl [H1]; · iexact H1
  isplitl [H2]; · iexact H2
  isplitl [H3]; · iexact H3
  isplitl [H4]; · iexact H4
  isplitl [H5]; · iexact H5
  iexact H
/-- What is left of the weight codes beside the ring's shares. -/
def restW (c : Dev nD) (f6 : MBuf (F := F) c wM) : sProp 𝕄 := iprop(wM.view.loc (c : Thread nD τ) ↦[Finset.univ]{Transfers.shareDrop fullShare 4} f6)
set_option maxHeartbeats 400000 in
theorem cc0_run (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole) (f0 : MBuf (F := F) c arg0) (f1 : MBuf (F := F) c arg1) (f2 : MBuf (F := F) c arg2) (f3 : MBuf (F := F) c arg3) (f4 : MBuf (F := F) c arg4) (f5 : MBuf (F := F) c arg5) (f7 : MBuf (F := F) c arg7) (f6 : MBuf (F := F) c wM) (g : MBuf (F := F) c yM) (Q : PUnit → sProp 𝕄) :
    iprop((∃ f : MBuf (F := F) c ringM, ringM.view.loc (c : Thread nD τ) ↦[Finset.univ]{fullShare} f) ∗ (∃ f : MBuf (F := F) c ssqM, ssqM.view.loc (c : Thread nD τ) ↦[ssqM.view.set]{fullShare} f) ∗ (∃ f : MBuf (F := F) c ybufM, ybufM.view.loc (c : Thread nD τ) ↦[Finset.univ]{fullShare} f) ∗ semVal ((c : Thread nD τ), SemLoc.dma (cellB 0)) 0 ∗ semVal ((c : Thread nD τ), SemLoc.dma (cellB 1)) 0 ∗ semVal ((c : Thread nD τ), SemLoc.dma (cellB 2)) 0 ∗ semVal ((c : Thread nD τ), SemLoc.dma (cellB 3)) 0 ∗ semVal ((c : Thread nD τ), SemLoc.dma (cellY 0)) 0 ∗ semVal ((c : Thread nD τ), SemLoc.dma (cellY 1)) 0 ∗ (wM.view.loc (c : Thread nD τ) ↦[Finset.univ]{fullShare} f6) ∗ (yM.view.loc (c : Thread nD τ) ↦[Finset.univ]{fullShare} g) ∗ (∃ W, owes (c : Thread nD τ) 0 W)
        ∗ (arg0.view.loc (c : Thread nD τ) ↦[arg0.view.set]{fullShare} f0) ∗ (arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg7.view.loc (c : Thread nD τ) ↦[arg7.view.set]{fullShare} f7)
        ∗ (((∃ f : MBuf (F := F) c ringM, ringM.view.loc (c : Thread nD τ) ↦[Finset.univ]{fullShare} f) ∗ (∃ f : MBuf (F := F) c ssqM, ssqM.view.loc (c : Thread nD τ) ↦[ssqM.view.set]{fullShare} f) ∗ (∃ f : MBuf (F := F) c ybufM, ybufM.view.loc (c : Thread nD τ) ↦[Finset.univ]{fullShare} f) ∗ semVal ((c : Thread nD τ), SemLoc.dma (cellB 0)) 0 ∗ semVal ((c : Thread nD τ), SemLoc.dma (cellB 1)) 0 ∗ semVal ((c : Thread nD τ), SemLoc.dma (cellB 2)) 0 ∗ semVal ((c : Thread nD τ), SemLoc.dma (cellB 3)) 0 ∗ semVal ((c : Thread nD τ), SemLoc.dma (cellY 0)) 0 ∗ semVal ((c : Thread nD τ), SemLoc.dma (cellY 1)) 0 ∗ (wM.view.loc (c : Thread nD τ) ↦[Finset.univ]{fullShare} f6) ∗ (yM.view.loc (c : Thread nD τ) ↦[Finset.univ]{fullShare} yOut c arg0 harg0 arg1 harg1 arg2 harg2 arg3 harg3 arg4 harg4 arg5 harg5 arg7 harg7 f0 f1 f2 f3 f4 f5 f7 f6) ∗ (∃ W, owes (c : Thread nD τ) 0 W)
        ∗ (arg0.view.loc (c : Thread nD τ) ↦[arg0.view.set]{fullShare} f0) ∗ (arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg7.view.loc (c : Thread nD τ) ↦[arg7.view.set]{fullShare} (outerSt c arg0 harg0 arg1 harg1 arg2 harg2 arg3 harg3 arg4 harg4 arg5 harg5 arg7 harg7 f0 f1 f2 f3 f4 f5 f7 f6 14).2)) -∗ Q ⟨⟩))
      ⊢ wp frame (wpE (defs₀ (F := F)) Variants.none (c : Thread nD τ) none) Set.univ
          (cc0_dora_main arg0 harg0 arg1 harg1 arg2 harg2 arg3 harg3 arg4 harg4 arg5 harg5 wM (Memref.isWhole_whole _) arg7 harg7 yM (Memref.isWhole_whole _)
            ringM (Memref.isWhole_whole _) cc0_scratch1 ssqM (Memref.isWhole_whole _) ybufM (Memref.isWhole_whole _) cc0_scratch4) Q := by
  have hcanon1 := cell_congr 0 (o := k0_off1 0#32) (by decide) (k0_off1_inb 0)
  have hcanon2 := cell_congr 1 (o := k0_off1 1#32) (by decide) (k0_off1_inb 1)
  have hcanon3 := cell_congr 2 (o := k0_off1 2#32) (by decide) (k0_off1_inb 2)
  have hcanon4 := slot_congr 0 (o := k0_off2 0#32) (by decide) (k0_off2_inb 0)
  have hcanon5 := slot_congr 1 (o := k0_off2 1#32) (by decide) (k0_off2_inb 1)
  have hcanon6 := slot_congr 2 (o := k0_off2 2#32) (by decide) (k0_off2_inb 2)
  have hcanon7 := src_congr 0 (o := ![0, 0]) (by decide) inb_S18432x7168_S2048x512_0_0
  have hcanon8 := src_congr 1 (o := ![2048, 0]) (by decide) inb_S18432x7168_S2048x512_2048_0
  have hcanon9 := src_congr 2 (o := ![4096, 0]) (by decide) inb_S18432x7168_S2048x512_4096_0
  have hcanon10 := ycell_congr 14 (o := ![0]) (by decide) (by decide)
  have hcanon11 := ycell_congr 15 (o := ![1]) (by decide) (by decide)
  have hcanon12 := yslot_congr 14 (o := ![0, 0, 0]) (by decide) (by decide)
  have hcanon13 := yslot_congr 15 (o := ![1, 0, 0]) (by decide) (by decide)
  have hcanon14 := ydst_congr 12 (o := ![0, 6144]) (by decide) inb_S256x7168_S256x512_0_6144
  have hcanon15 := ydst_congr 13 (o := ![0, 6656]) (by decide) inb_S256x7168_S256x512_0_6656
  have hd := outerSt_drained c arg0 harg0 arg1 harg1 arg2 harg2 arg3 harg3 arg4 harg4 arg5 harg5 arg7 harg7 f0 f1 f2 f3 f4 f5 f7 f6 14
  rw [cc0_dora_main_eq_skeleton]
  unfold cc0_dora_main_skel
  rw [k0_part43_eq_skeleton]
  unfold k0_part43_skel
  iintro ⟨HR, HS, HYb, Hc0, Hc1, Hc2, Hc3, Hy0, Hy1, HW, HY, ⟨%W, HO⟩, Ha0, Ha1, Ha2, Ha3, Ha4, Ha5, Ha7, Hk⟩
  ihave HR' := (ring_split c) $$ HR
  icases HR' with ⟨⟨%r0, Hr0⟩, ⟨%r1, Hr1⟩, ⟨%r2, Hr2⟩, Hr3⟩
  ihave HYb' := (ybuf_split c) $$ HYb
  icases HYb' with ⟨Hb0, Hb1⟩
  ihave HW' := (w_split c f6) $$ HW
  icases HW' with ⟨Hw, Hw0, Hw1, Hw2, Hw3⟩
  ihave Hw := (show (wM.view.loc (c : Thread nD τ) ↦[Finset.univ]{Transfers.shareDrop fullShare 4} f6 : sProp 𝕄) ⊢ restW c f6 from Entails.of_eq rfl) $$ Hw
  sl_exec_parts
  sl_for (outerInv c arg0 harg0 arg1 harg1 arg2 harg2 arg3 harg3 arg4 harg4 arg5 harg5 arg7 harg7 f0 f1 f2 f3 f4 f5 f7 f6) $$ [Hc0 Hc1 Hc2 Hc3 Hr3 Hw0 Hw1 Hw2 Hw3 Hy0 Hy1 Hb0 Hb1 HY HO Ha0 Ha1 Ha2 Ha3 Ha4 Ha5 Ha7 HS Hw Hk]
  case region =>
    intro k x
    exact outer_step c arg0 harg0 arg1 harg1 arg2 harg2 arg3 harg3 arg4 harg4 arg5 harg5 arg7 harg7 f0 f1 f2 f3 f4 f5 f7 f6 k x
  isplitl [Hc0 Hc1 Hc2 Hc3 Hr3 Hw0 Hw1 Hw2 Hw3 Hy0 Hy1 Hb0 Hb1 HY HO Ha0 Ha1 Ha2 Ha3 Ha4 Ha5 Ha7 HS]
  · unfold outerInv
    isplitr; · ipureintro; rfl
    isplitl [Hc0 Hc1 Hc2 Hc3 Hr3 Hw0 Hw1 Hw2 Hw3]
    · unfold ringAt
      rw [asked_lt c f6 _ (by decide), asked_lt c f6 _ (by decide), asked_lt c f6 _ (by decide)]
      unfold inflB inflAt freeB
      isplitl [Hc0 Hw0]
      · iexists r0
        isplitl [Hc0]; · iexact Hc0
        iexact Hw0
      isplitl [Hc1 Hw1]
      · iexists r1
        isplitl [Hc1]; · iexact Hc1
        iexact Hw1
      isplitl [Hc2 Hw2]
      · iexists r2
        isplitl [Hc2]; · iexact Hc2
        iexact Hw2
      isplitl [Hc3]; · iexact Hc3
      isplitl [Hr3]; · iexact Hr3
      iexact Hw3
    isplitl [Hy0 Hb0]
    · unfold pendY
      rw [if_neg (by decide)]
      unfold freeY
      isplitl [Hy0]; · iexact Hy0
      iexact Hb0
    isplitl [Hy1 Hb1]
    · unfold pendY
      rw [if_neg (by decide)]
      unfold freeY
      isplitl [Hy1]; · iexact Hy1
      iexact Hb1
    isplitr; · rw [show 0 - 2 = 0 from rfl, doneY]; iempintro
    isplitl [HY]
    · iapply (todoYs_of_whole c g)
      iexact HY
    isplitl [HO]; · iexists _; iexact HO
    isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    isplitl [Ha7]; · iexact Ha7
    iexact HS
  iintro %x HI
  ihave HI := (outerInv_exit c arg0 harg0 arg1 harg1 arg2 harg2 arg3 harg3 arg4 harg4 arg5 harg5 arg7 harg7 f0 f1 f2 f3 f4 f5 f7 f6 x) $$ HI
  unfold inflY ringAt
  icases HI with ⟨%hx, ⟨Hq0, Hq1, Hq2, Hq3⟩, ⟨%fy, %gy, %hv, Hy0⟩, ⟨%fy', %gy', %hv', Hy1⟩, Hd, ⟨%W1, HO⟩, Ha0, Ha1, Ha2, Ha3, Ha4, Ha5, Ha7, HS⟩
  subst hx
  sl_exec_parts
  sl_step
  ihave Hd := (doneY_whole c (Yv c arg0 harg0 arg1 harg1 arg2 harg2 arg3 harg3 arg4 harg4 arg5 harg5 arg7 harg7 f0 f1 f2 f3 f4 f5 f7 f6) g) $$ [Hd Hy0_dst Hy1_dst]
  · iapply (show iprop((doneY c (Yv c arg0 harg0 arg1 harg1 arg2 harg2 arg3 harg3 arg4 harg4 arg5 harg5 arg7 harg7 f0 f1 f2 f3 f4 f5 f7 f6) 12 ∗ gotY c 12 (Yv c arg0 harg0 arg1 harg1 arg2 harg2 arg3 harg3 arg4 harg4 arg5 harg5 arg7 harg7 f0 f1 f2 f3 f4 f5 f7 f6 12)) ∗ gotY c 13 (Yv c arg0 harg0 arg1 harg1 arg2 harg2 arg3 harg3 arg4 harg4 arg5 harg5 arg7 harg7 f0 f1 f2 f3 f4 f5 f7 f6 13)) ⊢ doneY c (Yv c arg0 harg0 arg1 harg1 arg2 harg2 arg3 harg3 arg4 harg4 arg5 harg5 arg7 harg7 f0 f1 f2 f3 f4 f5 f7 f6) 14 from Entails.of_eq rfl)
    isplitl [Hd Hy0_dst]
    · isplitl [Hd]; · iexact Hd
      unfold gotY
      iexists _
      isplitr
      · ipureintro
        exact (View.read_writes_full (dstY 12).view gy (off := fun _ => 0) (fun a => by omega) _ []).trans hv
      iexact Hy0_dst
    unfold gotY
    iexists _
    isplitr
    · ipureintro
      exact (View.read_writes_full (dstY 13).view gy' (off := fun _ => 0) (fun a => by omega) _ []).trans hv'
    iexact Hy1_dst
  icases Hd with ⟨%gf, %hgf, HY⟩
  have egf := y_eq c arg0 harg0 arg1 harg1 arg2 harg2 arg3 harg3 arg4 harg4 arg5 harg5 arg7 harg7 f0 f1 f2 f3 f4 f5 f7 f6 gf hgf
  subst egf
  ihave Hq0 := (Entails.of_eq (asked_ge c f6 (9 * 14) (by decide))) $$ Hq0
  ihave Hq1 := (Entails.of_eq (asked_ge c f6 (9 * 14 + 1) (by decide))) $$ Hq1
  ihave Hq2 := (Entails.of_eq (asked_ge c f6 (9 * 14 + 2) (by decide))) $$ Hq2
  ihave Hq0 := (freeB_move c f6 (9 * 14) 2 (by decide)) $$ Hq0
  ihave Hq1 := (freeB_move c f6 (9 * 14 + 1) 3 (by decide)) $$ Hq1
  ihave Hq2 := (freeB_move c f6 (9 * 14 + 2) 0 (by decide)) $$ Hq2
  ihave Hq3 := (freeB_move c f6 (9 * 14 + 3) 1 (by decide)) $$ Hq3
  unfold freeB
  icases Hq0 with ⟨Hc2, Hr2, Hw2⟩
  icases Hq1 with ⟨Hc3, Hr3, Hw3⟩
  icases Hq2 with ⟨Hc0, Hr0, Hw0⟩
  icases Hq3 with ⟨Hc1, Hr1, Hw1⟩
  iapply Hk
  isplitl [Hr0 Hr1 Hr2 Hr3]
  · iapply (ring_join c)
    isplitl [Hr0]; · iexact Hr0
    isplitl [Hr1]; · iexact Hr1
    isplitl [Hr2]; · iexact Hr2
    iexact Hr3
  isplitl [HS]; · iexact HS
  isplitl [Hy0_src Hy1_src]
  · iapply (ybuf_join c)
    isplitl [Hy0_src]; · iexists fy; iexact Hy0_src
    iexists fy'; iexact Hy1_src
  isplitl [Hc0]; · iexact Hc0
  isplitl [Hc1]; · iexact Hc1
  isplitl [Hc2]; · iexact Hc2
  isplitl [Hc3]; · iexact Hc3
  isplitl [Hy0]; · iexact Hy0
  isplitl [Hy1]; · iexact Hy1
  isplitl [Hw Hw0 Hw1 Hw2 Hw3]
  · iapply (w_join c f6)
    isplitl [Hw]; · unfold restW; iexact Hw
    isplitl [Hw0]; · iexact Hw0
    isplitl [Hw1]; · iexact Hw1
    isplitl [Hw2]; · iexact Hw2
    iexact Hw3
  isplitl [HY]; · iexact HY
  isplitl [HO]; · iexists _; iexact HO
  isplitl [Ha0]; · iexact Ha0
  isplitl [Ha1]; · iexact Ha1
  isplitl [Ha2]; · iexact Ha2
  isplitl [Ha3]; · iexact Ha3
  isplitl [Ha4]; · iexact Ha4
  isplitl [Ha5]; · iexact Ha5
  iexact Ha7

end Cert.Kernel.Hand

end
-- ==== Proof.K.Frame.lean ====
/-
  The frame of the call: it ends, and leaves its operands as they were.
-/
module

public import proofs.«01_k».proof.Proof.K.Body
public import proofs.«01_k».proof.Proof.Gen.Kernel.Frame
public import Idealize.ShloMosaic.Lib.Claim

@[expose] public section

set_option maxRecDepth 8192

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

variable (m : (ℓ : Loc nD τ sig) → Buf (Elt F) ℓ) (ρ : Dev nD → PrngReg)

/-- The program up to the call, at this proof's algebra. -/
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The call's own semaphores: the four of the ring, the two of the result. -/
abbrev osem0 : Fin 6 → SemLoc sig := fun j => (![SemLoc.dma 7, SemLoc.dma 8, SemLoc.dma 9, SemLoc.dma 10, SemLoc.dma 11, SemLoc.dma 12] : Fin 6 → SemLoc sig) j
theorem ownSemFacts0 : Pipeline.OwnSemFacts spec0 osem0 := by decide
/-- The operand the call's own transfers read. -/
def H0 : Finset (Ref sig .tc) := {main_arg6}
/-- The result they write. -/
def R0 : Finset (Ref sig .tc) := {main_v1_1}
theorem H0_sub : H0 ⊆ Pipeline.restRefs sig spec0 := by decide
theorem R0_sub : R0 ⊆ Pipeline.restRefs sig spec0 \ H0 := by decide

theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma (cellB 0)) 0 ∗ semVal ((c : Thread nD τ), SemLoc.dma (cellB 1)) 0
          ∗ semVal ((c : Thread nD τ), SemLoc.dma (cellB 2)) 0 ∗ semVal ((c : Thread nD τ), SemLoc.dma (cellB 3)) 0
          ∗ semVal ((c : Thread nD τ), SemLoc.dma (cellY 0)) 0 ∗ semVal ((c : Thread nD τ), SemLoc.dma (cellY 1)) 0) := by
  rw [Pipeline.ownSems0_eq_of_list c osem0 [0, 1, 2, 3, 4, 5] (by decide) (by decide)]; rfl

theorem hbmPts0_eq (c : Dev nD) :
    (bigSep H0 (fun b => ((c : Thread nD τ).loc b) ↦{fullShare} V m c b) : sProp 𝕄)
      = iprop(wM.view.loc (c : Thread nD τ) ↦[Finset.univ]{fullShare} V m c main_arg6) := by
  unfold H0; rw [BI.bigSep_singleton]

theorem ownedPts0_eq (c : Dev nD) :
    (Pipeline.owned R0 c : sProp 𝕄) = iprop(∃ g : MBuf (F := F) c yM, yM.view.loc (c : Thread nD τ) ↦[Finset.univ]{fullShare} g) := by
  unfold Pipeline.owned R0; rw [BI.bigSep_singleton]

/-- The call's scratch memory, each buffer at some contents. -/
theorem scopedRest0_eq' (c : Dev nD) :
    (Pipeline.scopedRest (Ix := Unit) (Name := ℕ) (U := Pipeline.UD sig nD τ) (Lvl := ℕ) (Val := Elt F) spec0 c : sProp 𝕄)
      = iprop((∃ f : MBuf (F := F) c ringM, ringM.view.loc (c : Thread nD τ) ↦[Finset.univ]{fullShare} f)
          ∗ (∃ f : MBuf (F := F) c ssqM, ssqM.view.loc (c : Thread nD τ) ↦[ssqM.view.set]{fullShare} f)
          ∗ (∃ f : MBuf (F := F) c ybufM, ybufM.view.loc (c : Thread nD τ) ↦[Finset.univ]{fullShare} f)) := by
  rw [scopedRest0_eq, show ssqM.view.set = Finset.univ from View.set_whole _]

theorem PhiDR0_eq (c : Dev nD) :
    (Pipeline.ΦDR osem0 spec0 H0 R0 (V m) c : sProp 𝕄)
      = iprop(iprop((∃ f : MBuf (F := F) c ringM, ringM.view.loc (c : Thread nD τ) ↦[Finset.univ]{fullShare} f)
          ∗ (∃ f : MBuf (F := F) c ssqM, ssqM.view.loc (c : Thread nD τ) ↦[ssqM.view.set]{fullShare} f)
          ∗ (∃ f : MBuf (F := F) c ybufM, ybufM.view.loc (c : Thread nD τ) ↦[Finset.univ]{fullShare} f))
        ∗ (∃ r, prngReg c r)
        ∗ iprop(semVal ((c : Thread nD τ), SemLoc.dma (cellB 0)) 0 ∗ semVal ((c : Thread nD τ), SemLoc.dma (cellB 1)) 0
          ∗ semVal ((c : Thread nD τ), SemLoc.dma (cellB 2)) 0 ∗ semVal ((c : Thread nD τ), SemLoc.dma (cellB 3)) 0
          ∗ semVal ((c : Thread nD τ), SemLoc.dma (cellY 0)) 0 ∗ semVal ((c : Thread nD τ), SemLoc.dma (cellY 1)) 0)
        ∗ (wM.view.loc (c : Thread nD τ) ↦[Finset.univ]{fullShare} V m c main_arg6)
        ∗ (∃ g : MBuf (F := F) c yM, yM.view.loc (c : Thread nD τ) ↦[Finset.univ]{fullShare} g)) := by
  rw [Pipeline.ΦDR_eq, scopedRest0_eq', ownSems00_eq, hbmPts0_eq, ownedPts0_eq]

/-- The window whose contents the frame does not name: the norms. -/
def forgets0 : Fin 7 → Bool := fun w => w.val == 6

/-- The proof data: arrays as the call finds them, blocks left in place, nothing owed. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
  Φ _ := Pipeline.ΦDR osem0 spec0 H0 R0 (V m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)

/-- What the body is called with, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare d))
/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (∃ d, owns (c : Thread nD τ) (st0_6 t) fullShare d))

theorem leaves (c : Dev nD) (t : Fin cfg0.N) (w : Fin cfg0.W) (h : cfg0.idle w (cfg0.grid.coords t) = false) :
    (dats m 0 c).leavesExact w t = (owns (c : Thread nD τ) ((cfg0.win w).stage (cfg0.slots t w)) fullShare ((dats m 0 c).after w t) : sProp 𝕄) := by
  unfold Dat.leavesExact; rw [h]

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [leaves m c t 0 rfl, after0_0]
  rw [leaves m c t 1 rfl, after0_1]
  rw [leaves m c t 2 rfl, after0_2]
  rw [leaves m c t 3 rfl, after0_3]
  rw [leaves m c t 4 rfl, after0_4]
  rw [leaves m c t 5 rfl, after0_5]
  simp only [before0_0, before0_1, before0_2, before0_3, before0_4, before0_5]
  rw [show (dats m 0 c).Φ t.succ = (dats m 0 c).Φ t.castSucc from rfl]
  rw [show (dats m 0 c).Φ t.castSucc = Pipeline.ΦDR osem0 spec0 H0 R0 (V m) c from rfl, PhiDR0_eq]
  unfold Dat.owesAt Pipeline.owesWithin
  rw [show (dats m 0 c).owed t.castSucc = 0 from rfl, show (dats m 0 c).owed t.succ = 0 from rfl]
  unfold owns
  iintro ⟨⟨⟨HS0, HS1, HS2⟩, Hg, ⟨Hq0, Hq1, Hq2, Hq3, Hq4, Hq5⟩, Hw, ⟨%g, Hy⟩⟩, ⟨%W, -, HW⟩, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩⟩
  iapply (cc0_run c (st0_0 t) (hstage0_0 0) (st0_1 t) (hstage0_1 0) (st0_2 t) (hstage0_2 0) (st0_3 t) (hstage0_3 0) (st0_4 t) (hstage0_4 0) (st0_5 t) (hstage0_5 0) (st0_6 t) (hstage0_6 0) f0 f1 f2 f3 f4 f5 f6 (V m c main_arg6) g)
  isplitl [HS0]; · iexact HS0
  isplitl [HS1]; · iexact HS1
  isplitl [HS2]; · iexact HS2
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hw]; · iexact Hw
  isplitl [Hy]; · iexact Hy
  isplitl [HW]; · iexists W; iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨HS0, HS1, HS2, Hq0, Hq1, Hq2, Hq3, Hq4, Hq5, Hw, Hy, ⟨%W', HW'⟩, H0, H1, H2, H3, H4, H5, H6⟩
  isplitl [HS0 HS1 HS2 Hg Hq0 Hq1 Hq2 Hq3 Hq4 Hq5 Hw Hy]
  · isplitl [HS0 HS1 HS2]
    · isplitl [HS0]; · iexact HS0
      isplitl [HS1]; · iexact HS1
      iexact HS2
    isplitl [Hg]; · iexact Hg
    isplitl [Hq0 Hq1 Hq2 Hq3 Hq4 Hq5]
    · isplitl [Hq0]; · iexact Hq0
      isplitl [Hq1]; · iexact Hq1
      isplitl [Hq2]; · iexact Hq2
      isplitl [Hq3]; · iexact Hq3
      isplitl [Hq4]; · iexact Hq4
      iexact Hq5
    isplitl [Hw]; · iexact Hw
    iexists _; iexact Hy
  isplitl [HW']
  · iexists W'; isplitr; · ipureintro; exact fun _ _ => Or.inl trivial
    iexact HW'
  isplitl [H0]
  · iexists f0; isplitr; · ipureintro; exact e0
    iexact H0
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  iexists _; iexists _; isplitr
  swap; · iexact H6
  ipureintro; rfl

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
theorem run_main : θ_run defs (onTc (τ := τ) (main (F := F))) (s₀ m ρ) (fun r => Pipeline.RDat.FramePostR (cfgs 0) (fun c => (dats m 0 c).toRForget forgets0) R0 (V m) r ∧ r.2.sem = fun _ => 0) :=
  Pipeline.θ_run_frame_dmaR_forget (Q' := _) cfgs (dats m) (0 : Fin 1) launch0 osem0 defs₀ Variants.none forgets0 ownSemFacts0 H0 R0 H0_sub R0_sub m ρ main
    (hbody := fun c => (body_obligation m c).loose) (hshare := fun c => (dats m 0 c).share_full fun _ => rfl)
    (howed := fun _ _ => rfl) (V := V m) (hmain := hmainD m Variants.none) (hA := A_eq m)
    (hin := fun _ => .rfl) (hout := fun _ => .rfl)

theorem rest_mem {b : Ref sig .tc} (h : b ∈ Pipeline.restRefs sig spec0) (h' : b ∉ R0) : b ∈ Pipeline.restRefs sig spec0 \ R0 :=
  Finset.mem_sdiff.mpr ⟨h, h'⟩

/-- The frame: every weakly fair execution ends, the argument arrays as they were, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨((congrFun (Pipeline.RDat.ArrAt_in ((dats m 0 c).toRForget forgets0) 0 rfl cfg0.N) _).mp ((h.1 c).1 0)).trans (V_main_arg0 m c),
      ((congrFun (Pipeline.RDat.ArrAt_in ((dats m 0 c).toRForget forgets0) 1 rfl cfg0.N) _).mp ((h.1 c).1 1)).trans (V_main_arg1 m c),
      ((congrFun (Pipeline.RDat.ArrAt_in ((dats m 0 c).toRForget forgets0) 2 rfl cfg0.N) _).mp ((h.1 c).1 2)).trans (V_main_arg2 m c),
      ((congrFun (Pipeline.RDat.ArrAt_in ((dats m 0 c).toRForget forgets0) 3 rfl cfg0.N) _).mp ((h.1 c).1 3)).trans (V_main_arg3 m c),
      ((congrFun (Pipeline.RDat.ArrAt_in ((dats m 0 c).toRForget forgets0) 4 rfl cfg0.N) _).mp ((h.1 c).1 4)).trans (V_main_arg4 m c),
      ((h.1 c).2 main_arg5 (rest_mem (Pipeline.mem_restRefs_of main_arg5 (by decide) (by decide)) (by decide))).trans (V_main_arg5 m c),
      ((h.1 c).2 main_arg6 (rest_mem (Pipeline.mem_restRefs_of main_arg6 (by decide) (by decide)) (by decide))).trans (V_main_arg6 m c)⟩, h.2⟩) (run_main m ρ)

end Cert.Kernel.Hand

end
-- ==== Proof.KI.Ring.lean ====
/-
  The ring of weight blocks of the main call: four slots of the staging buffer, one DMA semaphore each. Before step
  `g = 9 n + c` the blocks `g`, `g + 1`, `g + 2` are in flight and the slot of block `g + 3` is free; the step waits
  for block `g` and starts block `g + 3`, if there is one.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Transfers
public import Idealize.ShloMosaic.Lib.Ring
public import Idealize.ShloMosaic.Lib.Tactic

@[expose] public section

set_option maxRecDepth 8192

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

/-! ## The buffers of the main call that its own transfers touch -/

/-- The weight codes, left in HBM. -/
abbrev wM : Memref sig .tc .hbm S18432x7168 .fp8e4m3 := Memref.whole main_arg6
/-- The result `y`, left in HBM. -/
abbrev yM : Memref sig .tc .hbm S256x7168 .bf16 := Memref.whole main_v1_1
/-- The ring of weight blocks. -/
abbrev ringM : Memref sig .tc .vmem S4x2048x512 .fp8e4m3 := Memref.whole cc0_scratch0
/-- The partial sums of squares. -/
abbrev ssqM : Memref sig .tc .vmem S8x512 .f32 := Memref.whole cc0_scratch2
/-- The two slots of the result. -/
abbrev ybufM : Memref sig .tc .vmem S2x256x512 .bf16 := Memref.whole cc0_scratch3

/-- A buffer's contents on core `c`. -/
abbrev MBuf (c : Dev nD) {sp : Space} {sh : Shape} {e : EltTy} (M : Memref sig .tc sp sh e) : Type := Buf (Elt F) (M.view.loc (c : Thread nD τ))

theorem slot_inb (b : ℕ) : ∀ a, (![b % 4, 0, 0] : Fin 3 → ℕ) a + S1x2048x512.size a ≤ S4x2048x512.size a := by
  have := Nat.mod_lt b (by decide : 4 > 0); intro a; fin_cases a
  · show b % 4 + 1 ≤ 4; omega
  · show 0 + 2048 ≤ 2048; omega
  · show 0 + 512 ≤ 512; omega
theorem cell_inb (b : ℕ) : ∀ a, (![b % 4] : Fin 1 → ℕ) a + S1.size a ≤ S4.size a := by
  have := Nat.mod_lt b (by decide : 4 > 0); intro a; fin_cases a
  show b % 4 + 1 ≤ 4; omega
theorem src_inb (b : ℕ) : ∀ a, (![2048 * (b % 9), 512 * (b / 9 % 14)] : Fin 2 → ℕ) a + S2048x512.size a ≤ S18432x7168.size a := by
  have := Nat.mod_lt b (by decide : 9 > 0); have := Nat.mod_lt (b / 9) (by decide : 14 > 0); intro a; fin_cases a
  · show 2048 * (b % 9) + 2048 ≤ 18432; omega
  · show 512 * (b / 9 % 14) + 512 ≤ 7168; omega

/-- The slot of block `b`. -/
abbrev slotB (b : ℕ) : Memref sig .tc .vmem S2048x512 .fp8e4m3 :=
  (ringM.slice (Rect.unit (s := S4x2048x512) ![b % 4, 0, 0] S1x2048x512.size (slot_inb b)) (fun _ => rfl)).squeeze S2048x512 squeezes_S1x2048x512_S2048x512
/-- Its semaphore. -/
abbrev cellB (b : ℕ) : DmaSem sig :=
  ((cc0_scratch1.slice (Rect.unit (s := S4) ![b % 4] S1.size (cell_inb b))).squeeze S_ squeezes_S1_S_).sem
/-- Block `b` of the weight codes: rows `2048 (b mod 9)`, columns `512 (b / 9)`. -/
abbrev srcB (b : ℕ) : Memref sig .tc .hbm S2048x512 .fp8e4m3 :=
  wM.slice (Rect.unit (s := S18432x7168) ![2048 * (b % 9), 512 * (b / 9 % 14)] S2048x512.size (src_inb b)) (fun _ => rfl)
/-- The share of the weight codes that block `b`'s slot reads with. -/
abbrev shB (b : ℕ) : PosShare TreeShare := Transfers.shareTok fullShare 4 ⟨b % 4, Nat.mod_lt b (by decide)⟩

theorem unit_congr {s : Shape} {o o' : Fin s.rank → ℕ} {sz : Fin s.rank → ℕ} (h : o = o') (hi : ∀ a, o a + sz a ≤ s.size a)
    (hi' : ∀ a, o' a + sz a ≤ s.size a) : Rect.unit (s := s) o sz hi = Rect.unit o' sz hi' := by subst h; rfl

theorem slot_congr {o : Fin 3 → ℕ} (b : ℕ) (h : o = ![b % 4, 0, 0]) (hi : ∀ a, o a + S1x2048x512.size a ≤ S4x2048x512.size a) :
    (ringM.slice (Rect.unit (s := S4x2048x512) o S1x2048x512.size hi) (fun _ => rfl)).squeeze S2048x512 squeezes_S1x2048x512_S2048x512 = slotB b := by
  subst h; rfl
theorem cell_congr {o : Fin 1 → ℕ} (b : ℕ) (h : o = ![b % 4]) (hi : ∀ a, o a + S1.size a ≤ S4.size a) :
    (cc0_scratch1.slice (Rect.unit (s := S4) o S1.size hi)).squeeze S_ squeezes_S1_S_
      = (cc0_scratch1.slice (Rect.unit (s := S4) ![b % 4] S1.size (cell_inb b))).squeeze S_ squeezes_S1_S_ := by subst h; rfl
theorem src_congr {o : Fin 2 → ℕ} (b : ℕ) (h : o = ![2048 * (b % 9), 512 * (b / 9 % 14)]) (hi : ∀ a, o a + S2048x512.size a ≤ S18432x7168.size a) :
    wM.slice (Rect.unit (s := S18432x7168) o S2048x512.size hi) (fun _ => rfl) = srcB b := by subst h; rfl

/-- What a landed slot holds: block `b` of the codes over what was there. -/
abbrev landed (c : Dev nD) (f6 : MBuf (F := F) c wM) (b : ℕ) (f : MBuf (F := F) c (slotB b)) : MBuf (F := F) c (slotB b) :=
  (slotB b).view.writes (Elt F) f [⟨Rect.whole S2048x512, ReadAs.same.apply ((srcB b).view.read (Elt F) f6)⟩]

/-- A slot FREE. -/
def freeB (c : Dev nD) (f6 : MBuf (F := F) c wM) (b : ℕ) : sProp 𝕄 :=
  iprop(semVal ((c : Thread nD τ), SemLoc.dma (cellB b)) 0 ∗ (∃ f, (slotB b).view.loc (c : Thread nD τ) ↦[(slotB b).view.set]{fullShare} f)
    ∗ (wM.view.loc (c : Thread nD τ) ↦[Finset.univ]{shB b} f6))
/-- A slot IN FLIGHT with block `b`, over contents `f`. -/
def inflAt (c : Dev nD) (f6 : MBuf (F := F) c wM) (b : ℕ) (f : MBuf (F := F) c (slotB b)) : sProp 𝕄 :=
  iprop((Transfers.Flight (countersEmb (U := Pipeline.UD sig nD τ)) (c : Thread nD τ) (SemLoc.dma (cellB b)) () 32768
            iprop(((slotB b).view.loc (c : Thread nD τ) ↦[(slotB b).view.set]{fullShare} landed c f6 b f)
              ∗ (wM.view.loc (c : Thread nD τ) ↦[(srcB b).view.set]{shB b} f6)))
    ∗ (wM.view.loc (c : Thread nD τ) ↦[Finset.univ \ (srcB b).view.set]{shB b} f6))
/-- A slot IN FLIGHT with block `b`. -/
def inflB (c : Dev nD) (f6 : MBuf (F := F) c wM) (b : ℕ) : sProp 𝕄 := iprop(∃ f, inflAt c f6 b f)
/-- A slot holding block `b`, landed. -/
def doneAt (c : Dev nD) (f6 : MBuf (F := F) c wM) (b : ℕ) (f : MBuf (F := F) c (slotB b)) : sProp 𝕄 :=
  iprop(semVal ((c : Thread nD τ), SemLoc.dma (cellB b)) 0 ∗ ((slotB b).view.loc (c : Thread nD τ) ↦[(slotB b).view.set]{fullShare} landed c f6 b f)
    ∗ (wM.view.loc (c : Thread nD τ) ↦[Finset.univ]{shB b} f6))
/-- The slot of block `b` when it has been asked for: in flight if there is such a block. -/
@[irreducible] def askedB (c : Dev nD) (f6 : MBuf (F := F) c wM) (b : ℕ) : sProp 𝕄 := if b < 126 then inflB c f6 b else freeB c f6 b

theorem doneAt_free (c : Dev nD) (f6 : MBuf (F := F) c wM) (b : ℕ) (f : MBuf (F := F) c (slotB b)) : doneAt c f6 b f ⊢ freeB c f6 b := by
  unfold doneAt freeB
  iintro ⟨H1, H2, H3⟩
  isplitl [H1]; · iexact H1
  isplitl [H2]; · iexists _; iexact H2
  iexact H3

theorem freeB_mod (c : Dev nD) (f6 : MBuf (F := F) c wM) (b b' : ℕ) (h : b % 4 = b' % 4) : freeB c f6 b = freeB c f6 b' := by
  unfold freeB
  have e1 : cellB b = cellB b' := by unfold cellB; congr 3; exact unit_congr (by rw [h]) _ _
  have e2 : slotB b = slotB b' := slot_congr b' (by rw [h]) (slot_inb b)
  have e3 : shB b = shB b' := by unfold shB; congr 1; exact Fin.ext h
  rw [e1, e2, e3]

/-! ## The offsets of one step -/

theorem off5_eq : ∀ (t1 : Fin k0_t1_loop.trips) (t2 : Fin k0_t2_loop.trips), k0_off5 t1 t2 = ![2048 * ((9 * t1.val + t2.val) % 9), 512 * ((9 * t1.val + t2.val) / 9 % 14)] := by decide +kernel
theorem off8_eq : ∀ (t1 : Fin k0_t1_loop.trips) (t2 : Fin k0_t2_loop.trips), 9 * t1.val + t2.val + 3 < 126 → k0_off8 t1 t2 = ![2048 * ((9 * t1.val + t2.val + 3) % 9), 512 * ((9 * t1.val + t2.val + 3) / 9 % 14)] := by decide +kernel
theorem cond1_iff : ∀ (t1 : Fin k0_t1_loop.trips) (t2 : Fin k0_t2_loop.trips), k0_cond1 t1 t2 = 1#1 ↔ 9 * t1.val + t2.val + 3 < 126 := by decide +kernel

set_option maxHeartbeats 1000000 in
theorem ring_step (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole)
    (t1 : Fin k0_t1_loop.trips) (t2 : Fin k0_t2_loop.trips) (a14 : BitVec 32)
    (f6 : MBuf (F := F) c wM) (f : MBuf (F := F) c (slotB (9 * t1.val + t2.val))) (W : Waits sig Unit)
    (Q : (Σ' (_ : BitVec 32) (_ : BitVec 32), BitVec 32) → sProp 𝕄) :
    iprop(inflAt c f6 (9 * t1.val + t2.val) f ∗ freeB c f6 (9 * t1.val + t2.val + 3) ∗ owes (c : Thread nD τ) 0 W
        ∗ (∀ v W', (doneAt c f6 (9 * t1.val + t2.val) f ∗ askedB c f6 (9 * t1.val + t2.val + 3) ∗ owes (c : Thread nD τ) 0 W') -∗ Q v))
      ⊢ wp frame (wpE (defs₀ (F := F)) Variants.none (c : Thread nD τ) none) Set.univ
          (k0_part1 arg0 harg0 arg1 harg1 arg2 harg2 arg3 harg3 arg4 harg4 arg5 harg5 wM (Memref.isWhole_whole _) arg7 harg7 yM (Memref.isWhole_whole _)
            ringM (Memref.isWhole_whole _) cc0_scratch1 ssqM (Memref.isWhole_whole _) ybufM (Memref.isWhole_whole _) cc0_scratch4 t1 a14 0#32 1#32 t2) Q := by
  rw [k0_part1_eq_skeleton]
  unfold k0_part1_skel inflAt freeB
  have hcanon1 := cell_congr (9 * t1.val + t2.val) (Gen.k0_off3_eq t1 t2) (k0_off3_inb t1 t2)
  have hcanon2 := slot_congr (9 * t1.val + t2.val) (Gen.k0_off4_eq t1 t2) (k0_off4_inb t1 t2)
  have hcanon3 := src_congr (9 * t1.val + t2.val) (off5_eq t1 t2) (k0_off5_inb t1 t2)
  iintro ⟨⟨Hfl, Htok⟩, ⟨Hcell, ⟨%f', Hslot⟩, Htok'⟩, HO, Hk⟩
  by_cases h : 9 * t1.val + t2.val + 3 < 126
  · have hc := (cond1_iff t1 t2).mpr h
    have hcanon4 := cell_congr (9 * t1.val + t2.val + 3) (Gen.k0_off6_eq t1 t2) (k0_off6_inb t1 t2 hc)
    have hcanon5 := slot_congr (9 * t1.val + t2.val + 3) (Gen.k0_off7_eq t1 t2) (k0_off7_inb t1 t2 hc)
    have hcanon6 := src_congr (9 * t1.val + t2.val + 3) (off8_eq t1 t2 h) (k0_off8_inb t1 t2 hc)
    sl_exec
    sl_step
    iapply Hk
    isplitl [Hfl Hfl_dst Htok]
    · unfold doneAt
      isplitl [Hfl]; · iexact Hfl
      isplitl [Hfl_dst]; · iexact Hfl_dst
      iexact Htok
    isplitl [Hcell Htok']
    · unfold askedB inflB inflAt
      rw [if_pos h]
      iexists _
      isplitl [Hcell]; · iexact Hcell
      iexact Htok'
    iexact HO
  · have hc := fun e => h ((cond1_iff t1 t2).mp e)
    sl_exec
    sl_step
    iapply Hk
    isplitl [Hfl Hfl_dst Htok]
    · unfold doneAt
      isplitl [Hfl]; · iexact Hfl
      isplitl [Hfl_dst]; · iexact Hfl_dst
      iexact Htok
    isplitl [Hcell Hslot Htok']
    · unfold askedB freeB
      rw [if_neg h]
      isplitl [Hcell]; · iexact Hcell
      isplitl [Hslot]; · iexists _; iexact Hslot
      iexact Htok'
    iexact HO

end Cert.KernelIdeal.Hand

end
-- ==== Proof.KI.Trip.lean ====
/-
  One step of the inner loop of the main call.
-/
module

public import proofs.«01_k».proof.Proof.KI.Ring
public import Idealize.ShloMosaic.Lib.Mxu.Walk

@[expose] public section

set_option maxRecDepth 8192

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

theorem load_incl {o : Fin 3 → ℕ} (b : ℕ) {i j : ℕ} (h : o = ![b % 4, i, j]) (hi : ∀ a, o a + S1x128x128.size a ≤ S4x2048x512.size a)
    (hi' : i + 128 ≤ 2048) (hj : j + 128 ≤ 512) :
    LE.le (α := Finset (slotB b).view.ty.Idx) (ringM.access (Rect.unit (s := S4x2048x512) o S1x128x128.size hi)).set (slotB b).view.set := by
  subst h
  have e1 : (slotB b).view.set = (Rect.unit (s := S4x2048x512) ![b % 4, 0, 0] S1x2048x512.size (slot_inb b)).set :=
    (View.set_reshape _ _).trans (View.set_slice_whole cc0_scratch0 _)
  have e2 : (ringM.access (Rect.unit (s := S4x2048x512) ![b % 4, i, j] S1x128x128.size hi)).set
      = (Rect.unit (s := S4x2048x512) ![b % 4, i, j] S1x128x128.size hi).set := View.set_slice_whole cc0_scratch0 _
  rw [e1, e2]
  intro x hx
  rw [Rect.mem_set_unit] at hx ⊢
  intro a
  have := hx a
  fin_cases a
  · exact this
  · have h2 := (x 1).isLt
    exact ⟨Nat.zero_le _, by simp only [Matrix.cons_val, Matrix.cons_val_one]; exact (Nat.zero_add _).symm ▸ h2⟩
  · have h2 := (x 2).isLt
    exact ⟨Nat.zero_le _, by simp only [Matrix.cons_val, Matrix.cons_val_one]; exact (Nat.zero_add _).symm ▸ h2⟩

set_option maxHeartbeats 8000000 in
/-- One step of the inner loop, run: what it leaves in the matrix units and in the partial sums of squares. -/
noncomputable def tripRun (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole)
    (t1 : Fin k0_t1_loop.trips) (t2 : Fin k0_t2_loop.trips) (s : Mxu F)
    (f0 : MBuf (F := F) c arg0) (f1 : MBuf (F := F) c arg1) (f2 : MBuf (F := F) c arg2) (f11 : MBuf (F := F) c ssqM)
    (f6 : MBuf (F := F) c wM) : { R : Mxu F × MBuf (F := F) c ssqM //
    ∀ (h0 : s.reg 0 0 = none) (h1 : s.reg 0 1 = none) (h2 : s.reg 1 0 = none) (h3 : s.reg 1 1 = none)
    (f : MBuf (F := F) c (slotB (9 * t1.val + t2.val))) (a14 : BitVec 32) (s0 : Mxu F) (W : Waits sig Unit)
    (Q : Mxu F → sProp 𝕄),
    iprop(inflAt c f6 (9 * t1.val + t2.val) f ∗ freeB c f6 (9 * t1.val + t2.val + 3) ∗ owes (c : Thread nD τ) 0 W
        ∗ (arg0.view.loc (c : Thread nD τ) ↦[arg0.view.set]{fullShare} f0)
        ∗ (arg1.view.loc (c : Thread nD τ) ↦[arg1.view.set]{fullShare} f1)
        ∗ (arg2.view.loc (c : Thread nD τ) ↦[arg2.view.set]{fullShare} f2)
        ∗ (ssqM.view.loc (c : Thread nD τ) ↦[ssqM.view.set]{fullShare} f11)
        ∗ ((freeB c f6 (9 * t1.val + t2.val) ∗ askedB c f6 (9 * t1.val + t2.val + 3) ∗ (∃ W', owes (c : Thread nD τ) 0 W')
          ∗ (arg0.view.loc (c : Thread nD τ) ↦[arg0.view.set]{fullShare} f0)
          ∗ (arg1.view.loc (c : Thread nD τ) ↦[arg1.view.set]{fullShare} f1)
          ∗ (arg2.view.loc (c : Thread nD τ) ↦[arg2.view.set]{fullShare} f2)
          ∗ (ssqM.view.loc (c : Thread nD τ) ↦[ssqM.view.set]{fullShare} R.2)) -∗ Q R.1))
      ⊢ wp frame (wpE (defs₀ (F := F)) Variants.none (c : Thread nD τ) none) Set.univ
          (k0_t2_body arg0 harg0 arg1 harg1 arg2 harg2 arg3 harg3 arg4 harg4 arg5 harg5 wM (Memref.isWhole_whole _) arg7 harg7 yM (Memref.isWhole_whole _)
            ringM (Memref.isWhole_whole _) cc0_scratch1 ssqM (Memref.isWhole_whole _) ybufM (Memref.isWhole_whole _) cc0_scratch4 0#32 1#32 t1 s0 a14 t2 s) Q } := by
  refine ⟨(?_, ?_), fun h0 h1 h2 h3 f a14 s0 W Q => ?run⟩
  case run =>
    have hi11 := load_incl (9 * t1.val + t2.val) (Gen.k0_off11_eq t1 t2) (k0_off11_inb t1 t2) (by decide) (by decide)
    have hi13 := load_incl (9 * t1.val + t2.val) (Gen.k0_off13_eq t1 t2) (k0_off13_inb t1 t2) (by decide) (by decide)
    have hi14 := load_incl (9 * t1.val + t2.val) (Gen.k0_off14_eq t1 t2) (k0_off14_inb t1 t2) (by decide) (by decide)
    have hi15 := load_incl (9 * t1.val + t2.val) (Gen.k0_off15_eq t1 t2) (k0_off15_inb t1 t2) (by decide) (by decide)
    have hi16 := load_incl (9 * t1.val + t2.val) (Gen.k0_off16_eq t1 t2) (k0_off16_inb t1 t2) (by decide) (by decide)
    have hi17 := load_incl (9 * t1.val + t2.val) (Gen.k0_off17_eq t1 t2) (k0_off17_inb t1 t2) (by decide) (by decide)
    have hi18 := load_incl (9 * t1.val + t2.val) (Gen.k0_off18_eq t1 t2) (k0_off18_inb t1 t2) (by decide) (by decide)
    have hi19 := load_incl (9 * t1.val + t2.val) (Gen.k0_off19_eq t1 t2) (k0_off19_inb t1 t2) (by decide) (by decide)
    have hi20 := load_incl (9 * t1.val + t2.val) (Gen.k0_off20_eq t1 t2) (k0_off20_inb t1 t2) (by decide) (by decide)
    have hi21 := load_incl (9 * t1.val + t2.val) (Gen.k0_off21_eq t1 t2) (k0_off21_inb t1 t2) (by decide) (by decide)
    have hi22 := load_incl (9 * t1.val + t2.val) (Gen.k0_off22_eq t1 t2) (k0_off22_inb t1 t2) (by decide) (by decide)
    have hi23 := load_incl (9 * t1.val + t2.val) (Gen.k0_off23_eq t1 t2) (k0_off23_inb t1 t2) (by decide) (by decide)
    have hi24 := load_incl (9 * t1.val + t2.val) (Gen.k0_off24_eq t1 t2) (k0_off24_inb t1 t2) (by decide) (by decide)
    have hi25 := load_incl (9 * t1.val + t2.val) (Gen.k0_off25_eq t1 t2) (k0_off25_inb t1 t2) (by decide) (by decide)
    have hi26 := load_incl (9 * t1.val + t2.val) (Gen.k0_off26_eq t1 t2) (k0_off26_inb t1 t2) (by decide) (by decide)
    have hi27 := load_incl (9 * t1.val + t2.val) (Gen.k0_off27_eq t1 t2) (k0_off27_inb t1 t2) (by decide) (by decide)
    have hi28 := load_incl (9 * t1.val + t2.val) (Gen.k0_off28_eq t1 t2) (k0_off28_inb t1 t2) (by decide) (by decide)
    have hi29 := load_incl (9 * t1.val + t2.val) (Gen.k0_off29_eq t1 t2) (k0_off29_inb t1 t2) (by decide) (by decide)
    have hi30 := load_incl (9 * t1.val + t2.val) (Gen.k0_off30_eq t1 t2) (k0_off30_inb t1 t2) (by decide) (by decide)
    have hi31 := load_incl (9 * t1.val + t2.val) (Gen.k0_off31_eq t1 t2) (k0_off31_inb t1 t2) (by decide) (by decide)
    have hi32 := load_incl (9 * t1.val + t2.val) (Gen.k0_off32_eq t1 t2) (k0_off32_inb t1 t2) (by decide) (by decide)
    have hi33 := load_incl (9 * t1.val + t2.val) (Gen.k0_off33_eq t1 t2) (k0_off33_inb t1 t2) (by decide) (by decide)
    have hi34 := load_incl (9 * t1.val + t2.val) (Gen.k0_off34_eq t1 t2) (k0_off34_inb t1 t2) (by decide) (by decide)
    have hi35 := load_incl (9 * t1.val + t2.val) (Gen.k0_off35_eq t1 t2) (k0_off35_inb t1 t2) (by decide) (by decide)
    have hi36 := load_incl (9 * t1.val + t2.val) (Gen.k0_off36_eq t1 t2) (k0_off36_inb t1 t2) (by decide) (by decide)
    have hi37 := load_incl (9 * t1.val + t2.val) (Gen.k0_off37_eq t1 t2) (k0_off37_inb t1 t2) (by decide) (by decide)
    have hi38 := load_incl (9 * t1.val + t2.val) (Gen.k0_off38_eq t1 t2) (k0_off38_inb t1 t2) (by decide) (by decide)
    have hi39 := load_incl (9 * t1.val + t2.val) (Gen.k0_off39_eq t1 t2) (k0_off39_inb t1 t2) (by decide) (by decide)
    have hi40 := load_incl (9 * t1.val + t2.val) (Gen.k0_off40_eq t1 t2) (k0_off40_inb t1 t2) (by decide) (by decide)
    have hi41 := load_incl (9 * t1.val + t2.val) (Gen.k0_off41_eq t1 t2) (k0_off41_inb t1 t2) (by decide) (by decide)
    have hi42 := load_incl (9 * t1.val + t2.val) (Gen.k0_off42_eq t1 t2) (k0_off42_inb t1 t2) (by decide) (by decide)
    have hi43 := load_incl (9 * t1.val + t2.val) (Gen.k0_off43_eq t1 t2) (k0_off43_inb t1 t2) (by decide) (by decide)
    have hi44 := load_incl (9 * t1.val + t2.val) (Gen.k0_off44_eq t1 t2) (k0_off44_inb t1 t2) (by decide) (by decide)
    have hi45 := load_incl (9 * t1.val + t2.val) (Gen.k0_off45_eq t1 t2) (k0_off45_inb t1 t2) (by decide) (by decide)
    have hi46 := load_incl (9 * t1.val + t2.val) (Gen.k0_off46_eq t1 t2) (k0_off46_inb t1 t2) (by decide) (by decide)
    have hi47 := load_incl (9 * t1.val + t2.val) (Gen.k0_off47_eq t1 t2) (k0_off47_inb t1 t2) (by decide) (by decide)
    have hi48 := load_incl (9 * t1.val + t2.val) (Gen.k0_off48_eq t1 t2) (k0_off48_inb t1 t2) (by decide) (by decide)
    have hi49 := load_incl (9 * t1.val + t2.val) (Gen.k0_off49_eq t1 t2) (k0_off49_inb t1 t2) (by decide) (by decide)
    have hi50 := load_incl (9 * t1.val + t2.val) (Gen.k0_off50_eq t1 t2) (k0_off50_inb t1 t2) (by decide) (by decide)
    have hi51 := load_incl (9 * t1.val + t2.val) (Gen.k0_off51_eq t1 t2) (k0_off51_inb t1 t2) (by decide) (by decide)
    have hi52 := load_incl (9 * t1.val + t2.val) (Gen.k0_off52_eq t1 t2) (k0_off52_inb t1 t2) (by decide) (by decide)
    have hi53 := load_incl (9 * t1.val + t2.val) (Gen.k0_off53_eq t1 t2) (k0_off53_inb t1 t2) (by decide) (by decide)
    have hi54 := load_incl (9 * t1.val + t2.val) (Gen.k0_off54_eq t1 t2) (k0_off54_inb t1 t2) (by decide) (by decide)
    have hi55 := load_incl (9 * t1.val + t2.val) (Gen.k0_off55_eq t1 t2) (k0_off55_inb t1 t2) (by decide) (by decide)
    have hi56 := load_incl (9 * t1.val + t2.val) (Gen.k0_off56_eq t1 t2) (k0_off56_inb t1 t2) (by decide) (by decide)
    have hi57 := load_incl (9 * t1.val + t2.val) (Gen.k0_off57_eq t1 t2) (k0_off57_inb t1 t2) (by decide) (by decide)
    have hi58 := load_incl (9 * t1.val + t2.val) (Gen.k0_off58_eq t1 t2) (k0_off58_inb t1 t2) (by decide) (by decide)
    have hi59 := load_incl (9 * t1.val + t2.val) (Gen.k0_off59_eq t1 t2) (k0_off59_inb t1 t2) (by decide) (by decide)
    have hi60 := load_incl (9 * t1.val + t2.val) (Gen.k0_off60_eq t1 t2) (k0_off60_inb t1 t2) (by decide) (by decide)
    have hi61 := load_incl (9 * t1.val + t2.val) (Gen.k0_off61_eq t1 t2) (k0_off61_inb t1 t2) (by decide) (by decide)
    have hi62 := load_incl (9 * t1.val + t2.val) (Gen.k0_off62_eq t1 t2) (k0_off62_inb t1 t2) (by decide) (by decide)
    have hi63 := load_incl (9 * t1.val + t2.val) (Gen.k0_off63_eq t1 t2) (k0_off63_inb t1 t2) (by decide) (by decide)
    have hi64 := load_incl (9 * t1.val + t2.val) (Gen.k0_off64_eq t1 t2) (k0_off64_inb t1 t2) (by decide) (by decide)
    have hi65 := load_incl (9 * t1.val + t2.val) (Gen.k0_off65_eq t1 t2) (k0_off65_inb t1 t2) (by decide) (by decide)
    have hi66 := load_incl (9 * t1.val + t2.val) (Gen.k0_off66_eq t1 t2) (k0_off66_inb t1 t2) (by decide) (by decide)
    have hi67 := load_incl (9 * t1.val + t2.val) (Gen.k0_off67_eq t1 t2) (k0_off67_inb t1 t2) (by decide) (by decide)
    have hi68 := load_incl (9 * t1.val + t2.val) (Gen.k0_off68_eq t1 t2) (k0_off68_inb t1 t2) (by decide) (by decide)
    have hi69 := load_incl (9 * t1.val + t2.val) (Gen.k0_off69_eq t1 t2) (k0_off69_inb t1 t2) (by decide) (by decide)
    have hi70 := load_incl (9 * t1.val + t2.val) (Gen.k0_off70_eq t1 t2) (k0_off70_inb t1 t2) (by decide) (by decide)
    have hi71 := load_incl (9 * t1.val + t2.val) (Gen.k0_off71_eq t1 t2) (k0_off71_inb t1 t2) (by decide) (by decide)
    have hi72 := load_incl (9 * t1.val + t2.val) (Gen.k0_off72_eq t1 t2) (k0_off72_inb t1 t2) (by decide) (by decide)
    have hi73 := load_incl (9 * t1.val + t2.val) (Gen.k0_off73_eq t1 t2) (k0_off73_inb t1 t2) (by decide) (by decide)
    have hi74 := load_incl (9 * t1.val + t2.val) (Gen.k0_off74_eq t1 t2) (k0_off74_inb t1 t2) (by decide) (by decide)
    have hi75 := load_incl (9 * t1.val + t2.val) (Gen.k0_off75_eq t1 t2) (k0_off75_inb t1 t2) (by decide) (by decide)
    have hcut : iprop(inflAt c f6 (9 * t1.val + t2.val) f ∗ freeB c f6 (9 * t1.val + t2.val + 3) ∗ owes (c : Thread nD τ) 0 W)
        ⊢ wp frame (wpE (defs₀ (F := F)) Variants.none (c : Thread nD τ) none) Set.univ
            (k0_part1 arg0 harg0 arg1 harg1 arg2 harg2 arg3 harg3 arg4 harg4 arg5 harg5 wM (Memref.isWhole_whole _) arg7 harg7 yM (Memref.isWhole_whole _)
              ringM (Memref.isWhole_whole _) cc0_scratch1 ssqM (Memref.isWhole_whole _) ybufM (Memref.isWhole_whole _) cc0_scratch4 t1 a14 0#32 1#32 t2)
            (fun _ => iprop(semVal ((c : Thread nD τ), SemLoc.dma (cellB (9 * t1.val + t2.val))) 0
              ∗ ((slotB (9 * t1.val + t2.val)).view.loc (c : Thread nD τ) ↦[(slotB (9 * t1.val + t2.val)).view.set]{fullShare} landed c f6 (9 * t1.val + t2.val) f)
              ∗ (wM.view.loc (c : Thread nD τ) ↦[Finset.univ]{shB (9 * t1.val + t2.val)} f6)
              ∗ askedB c f6 (9 * t1.val + t2.val + 3) ∗ (∃ W', owes (c : Thread nD τ) 0 W'))) := by
      iintro ⟨H1, H2, H3⟩
      iapply (ring_step c arg0 harg0 arg1 harg1 arg2 harg2 arg3 harg3 arg4 harg4 arg5 harg5 arg7 harg7 t1 t2 a14 f6 f W)
      isplitl [H1]; · iexact H1
      isplitl [H2]; · iexact H2
      isplitl [H3]; · iexact H3
      iintro %v %W' ⟨H1, H2, H3⟩
      unfold doneAt
      icases H1 with ⟨H1, H4, H5⟩
      isplitl [H1]; · iexact H1
      isplitl [H4]; · iexact H4
      isplitl [H5]; · iexact H5
      isplitl [H2]; · iexact H2
      iexists _; iexact H3
    have hp00 : s.PushOk 0 0 false := Mxu.pushOk_of_none _ _ _ _ h0
    have hp01 : s.PushOk 0 1 false := Mxu.pushOk_of_none _ _ _ _ h1
    have hp10 : s.PushOk 1 0 false := Mxu.pushOk_of_none _ _ _ _ h2
    have hp11 : s.PushOk 1 1 false := Mxu.pushOk_of_none _ _ _ _ h3
    iintro ⟨H1, H2, H3, Ha0, Ha1, Ha2, Hs, Hk⟩
    unfold k0_t2_body
    sl_exec_parts (disch := first | (mxu_pushok_peel; done) | (mxu_pushok_peel; assumption))
    sl_step
    iapply Hk
    isplitl [Hk0_part1_0 Hk0_part1_1 Hk0_part1_2]
    · unfold freeB
      isplitl [Hk0_part1_0]; · iexact Hk0_part1_0
      isplitl [Hk0_part1_1]; · iexists _; iexact Hk0_part1_1
      iexact Hk0_part1_2
    isplitl [Hk0_part1_3]; · iexact Hk0_part1_3
    isplitl [Hk0_part1_4]; · iexists _; iexact Hk0_part1_4
    isplitl [Ha0]; · iexact Ha0
    isplitl [Ha1]; · iexact Ha1
    isplitl [Ha2]; · iexact Ha2
    iexact Hs

end Cert.KernelIdeal.Hand

end
-- ==== Proof.KI.Inner.lean ====
/-
  The inner loop of the main call: nine steps.
-/
module

public import proofs.«01_k».proof.Proof.KI.Trip
public import Idealize.ShloMosaic.Lib.Mxu.Walk

@[expose] public section

set_option maxRecDepth 8192

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

/-- What holds of the matrix units between steps: only the first 320 rows may be live, and no register holds a tile. -/
structure MxuB (s : Mxu F) : Prop where
  l0 : ∀ R : Fin 1024, s.live 0 R = true → R.val < 320
  l1 : ∀ R : Fin 1024, s.live 1 R = true → R.val < 320
  r00 : s.reg 0 0 = none
  r01 : s.reg 0 1 = none
  r10 : s.reg 1 0 = none
  r11 : s.reg 1 1 = none

/-- The units and the partial sums of squares after one step. -/
noncomputable abbrev tripFn (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole)
    (t1 : Fin k0_t1_loop.trips) (t2 : Fin k0_t2_loop.trips) (s : Mxu F)
    (f0 : MBuf (F := F) c arg0) (f1 : MBuf (F := F) c arg1) (f2 : MBuf (F := F) c arg2) (f11 : MBuf (F := F) c ssqM)
    (f6 : MBuf (F := F) c wM) : Mxu F × MBuf (F := F) c ssqM := (tripRun c arg0 harg0 arg1 harg1 arg2 harg2 arg3 harg3 arg4 harg4 arg5 harg5 arg7 harg7 t1 t2 s f0 f1 f2 f11 f6).1

set_option maxHeartbeats 4000000 in
theorem trip_ok (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole)
    (t1 : Fin k0_t1_loop.trips) (t2 : Fin k0_t2_loop.trips) (s : Mxu F)
    (f0 : MBuf (F := F) c arg0) (f1 : MBuf (F := F) c arg1) (f2 : MBuf (F := F) c arg2) (f11 : MBuf (F := F) c ssqM)
    (f6 : MBuf (F := F) c wM) (h : MxuB s) : MxuB (tripFn c arg0 harg0 arg1 harg1 arg2 harg2 arg3 harg3 arg4 harg4 arg5 harg5 arg7 harg7 t1 t2 s f0 f1 f2 f11 f6).1 := by
  have h0 := h.l0
  have h1 := h.l1
  have e : (tripFn c arg0 harg0 arg1 harg1 arg2 harg2 arg3 harg3 arg4 harg4 arg5 harg5 arg7 harg7 t1 t2 s f0 f1 f2 f11 f6).1 = tripRun.sl.r_253 c arg0 arg1 arg2 t1 t2 s f0 f1 f2 f6 := rfl
  rw [e]
  refine ⟨?_, ?_, ?_, ?_, ?_, ?_⟩
  · mxu_walk h0 as w0
    exact fun R hR => (w0.within_range 0 320 rfl R hR).2
  · mxu_walk h1 as w0
    exact fun R hR => (w0.within_range 0 320 rfl R hR).2
  · mxu_walk h0 as w0
    exact w0.reg0_empty rfl
  · mxu_walk h0 as w0
    exact w0.reg1_empty rfl
  · mxu_walk h1 as w0
    exact w0.reg0_empty rfl
  · mxu_walk h1 as w0
    exact w0.reg1_empty rfl

/-- The units and the partial sums of squares before step `k` of the inner loop. -/
noncomputable def innerSt (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole)
    (t1 : Fin k0_t1_loop.trips) (s : Mxu F)
    (f0 : MBuf (F := F) c arg0) (f1 : MBuf (F := F) c arg1) (f2 : MBuf (F := F) c arg2) (f11 : MBuf (F := F) c ssqM)
    (f6 : MBuf (F := F) c wM) : ℕ → Mxu F × MBuf (F := F) c ssqM
  | 0 => (s, f11)
  | k + 1 => if h : k < k0_t2_loop.trips then
      tripFn c arg0 harg0 arg1 harg1 arg2 harg2 arg3 harg3 arg4 harg4 arg5 harg5 arg7 harg7 t1 ⟨k, h⟩ (innerSt c arg0 harg0 arg1 harg1 arg2 harg2 arg3 harg3 arg4 harg4 arg5 harg5 arg7 harg7 t1 s f0 f1 f2 f11 f6 k).1 f0 f1 f2 (innerSt c arg0 harg0 arg1 harg1 arg2 harg2 arg3 harg3 arg4 harg4 arg5 harg5 arg7 harg7 t1 s f0 f1 f2 f11 f6 k).2 f6
    else innerSt c arg0 harg0 arg1 harg1 arg2 harg2 arg3 harg3 arg4 harg4 arg5 harg5 arg7 harg7 t1 s f0 f1 f2 f11 f6 k

theorem inner_ok (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole)
    (t1 : Fin k0_t1_loop.trips) (s : Mxu F)
    (f0 : MBuf (F := F) c arg0) (f1 : MBuf (F := F) c arg1) (f2 : MBuf (F := F) c arg2) (f11 : MBuf (F := F) c ssqM)
    (f6 : MBuf (F := F) c wM) (h : MxuB s) : ∀ k, MxuB (innerSt c arg0 harg0 arg1 harg1 arg2 harg2 arg3 harg3 arg4 harg4 arg5 harg5 arg7 harg7 t1 s f0 f1 f2 f11 f6 k).1
  | 0 => h
  | k + 1 => by
    unfold innerSt
    split
    · exact trip_ok _ _ _ _ _ _ _ _ _ _ _ _ _ _ _ _ _ _ _ _ _ _ _ (inner_ok c arg0 harg0 arg1 harg1 arg2 harg2 arg3 harg3 arg4 harg4 arg5 harg5 arg7 harg7 t1 s f0 f1 f2 f11 f6 h k)
    · exact inner_ok c arg0 harg0 arg1 harg1 arg2 harg2 arg3 harg3 arg4 harg4 arg5 harg5 arg7 harg7 t1 s f0 f1 f2 f11 f6 h k

/-- The ring before step `g`. -/
def ringAt (c : Dev nD) (f6 : MBuf (F := F) c wM) (g : ℕ) : sProp 𝕄 :=
  iprop(askedB c f6 g ∗ askedB c f6 (g + 1) ∗ askedB c f6 (g + 2) ∗ freeB c f6 (g + 3))

theorem asked_lt (c : Dev nD) (f6 : MBuf (F := F) c wM) (b : ℕ) (h : b < 126) : askedB c f6 b = inflB c f6 b := by
  unfold askedB; exact if_pos h

theorem freeB_move (c : Dev nD) (f6 : MBuf (F := F) c wM) (b b' : ℕ) (h : b % 4 = b' % 4) : freeB c f6 b ⊢ freeB c f6 b' := by
  rw [freeB_mod c f6 b b' h]

/-- The inner loop's invariant. -/
def innerInv (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole)
    (t1 : Fin k0_t1_loop.trips) (s : Mxu F)
    (f0 : MBuf (F := F) c arg0) (f1 : MBuf (F := F) c arg1) (f2 : MBuf (F := F) c arg2) (f11 : MBuf (F := F) c ssqM)
    (f6 : MBuf (F := F) c wM) (k : ℕ) (x : Mxu F) : sProp 𝕄 :=
  iprop(⌜x = (innerSt c arg0 harg0 arg1 harg1 arg2 harg2 arg3 harg3 arg4 harg4 arg5 harg5 arg7 harg7 t1 s f0 f1 f2 f11 f6 k).1⌝ ∗ ringAt c f6 (9 * t1.val + k) ∗ (∃ W, owes (c : Thread nD τ) 0 W)
        ∗ (arg0.view.loc (c : Thread nD τ) ↦[arg0.view.set]{fullShare} f0)
        ∗ (arg1.view.loc (c : Thread nD τ) ↦[arg1.view.set]{fullShare} f1)
        ∗ (arg2.view.loc (c : Thread nD τ) ↦[arg2.view.set]{fullShare} f2)
        ∗ (ssqM.view.loc (c : Thread nD τ) ↦[ssqM.view.set]{fullShare} (innerSt c arg0 harg0 arg1 harg1 arg2 harg2 arg3 harg3 arg4 harg4 arg5 harg5 arg7 harg7 t1 s f0 f1 f2 f11 f6 k).2))

theorem inner_step (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole)
    (t1 : Fin k0_t1_loop.trips) (s : Mxu F)
    (f0 : MBuf (F := F) c arg0) (f1 : MBuf (F := F) c arg1) (f2 : MBuf (F := F) c arg2) (f11 : MBuf (F := F) c ssqM)
    (f6 : MBuf (F := F) c wM) (h : MxuB s) (a14 : BitVec 32) (s0 : Mxu F) (k : Fin k0_t2_loop.trips) (x : Mxu F) :
    innerInv c arg0 harg0 arg1 harg1 arg2 harg2 arg3 harg3 arg4 harg4 arg5 harg5 arg7 harg7 t1 s f0 f1 f2 f11 f6 k.val x
      ⊢ wp frame (wpE (defs₀ (F := F)) Variants.none (c : Thread nD τ) none) Set.univ
          (k0_t2_body arg0 harg0 arg1 harg1 arg2 harg2 arg3 harg3 arg4 harg4 arg5 harg5 wM (Memref.isWhole_whole _) arg7 harg7 yM (Memref.isWhole_whole _)
            ringM (Memref.isWhole_whole _) cc0_scratch1 ssqM (Memref.isWhole_whole _) ybufM (Memref.isWhole_whole _) cc0_scratch4 0#32 1#32 t1 s0 a14 k x)
          (fun y => innerInv c arg0 harg0 arg1 harg1 arg2 harg2 arg3 harg3 arg4 harg4 arg5 harg5 arg7 harg7 t1 s f0 f1 f2 f11 f6 (k.val + 1) y) := by
  have hb := inner_ok c arg0 harg0 arg1 harg1 arg2 harg2 arg3 harg3 arg4 harg4 arg5 harg5 arg7 harg7 t1 s f0 f1 f2 f11 f6 h k.val
  have hg : 9 * t1.val + k.val < 126 := by
    have h1 : t1.val < 14 := t1.isLt
    have h2 : k.val < 9 := k.isLt
    omega
  have e : innerSt c arg0 harg0 arg1 harg1 arg2 harg2 arg3 harg3 arg4 harg4 arg5 harg5 arg7 harg7 t1 s f0 f1 f2 f11 f6 (k.val + 1) = tripFn c arg0 harg0 arg1 harg1 arg2 harg2 arg3 harg3 arg4 harg4 arg5 harg5 arg7 harg7 t1 k (innerSt c arg0 harg0 arg1 harg1 arg2 harg2 arg3 harg3 arg4 harg4 arg5 harg5 arg7 harg7 t1 s f0 f1 f2 f11 f6 k.val).1 f0 f1 f2 (innerSt c arg0 harg0 arg1 harg1 arg2 harg2 arg3 harg3 arg4 harg4 arg5 harg5 arg7 harg7 t1 s f0 f1 f2 f11 f6 k.val).2 f6 := by
    rw [innerSt]; exact dif_pos k.isLt
  unfold innerInv ringAt
  rw [e, asked_lt c f6 _ hg]
  unfold inflB
  iintro ⟨%hx, ⟨⟨%f, H0⟩, H1, H2, H3⟩, ⟨%W, HW⟩, Ha0, Ha1, Ha2, Hs⟩
  subst hx
  iapply ((tripRun c arg0 harg0 arg1 harg1 arg2 harg2 arg3 harg3 arg4 harg4 arg5 harg5 arg7 harg7 t1 k (innerSt c arg0 harg0 arg1 harg1 arg2 harg2 arg3 harg3 arg4 harg4 arg5 harg5 arg7 harg7 t1 s f0 f1 f2 f11 f6 k.val).1 f0 f1 f2 (innerSt c arg0 harg0 arg1 harg1 arg2 harg2 arg3 harg3 arg4 harg4 arg5 harg5 arg7 harg7 t1 s f0 f1 f2 f11 f6 k.val).2 f6).2 hb.r00 hb.r01 hb.r10 hb.r11 f a14 s0 W
    (fun y => iprop(⌜y = (tripFn c arg0 harg0 arg1 harg1 arg2 harg2 arg3 harg3 arg4 harg4 arg5 harg5 arg7 harg7 t1 k (innerSt c arg0 harg0 arg1 harg1 arg2 harg2 arg3 harg3 arg4 harg4 arg5 harg5 arg7 harg7 t1 s f0 f1 f2 f11 f6 k.val).1 f0 f1 f2 (innerSt c arg0 harg0 arg1 harg1 arg2 harg2 arg3 harg3 arg4 harg4 arg5 harg5 arg7 harg7 t1 s f0 f1 f2 f11 f6 k.val).2 f6).1⌝ ∗ (askedB c f6 (9 * t1.val + (k.val + 1)) ∗ askedB c f6 (9 * t1.val + (k.val + 1) + 1) ∗ askedB c f6 (9 * t1.val + (k.val + 1) + 2) ∗ freeB c f6 (9 * t1.val + (k.val + 1) + 3)) ∗ (∃ W, owes (c : Thread nD τ) 0 W)
        ∗ (arg0.view.loc (c : Thread nD τ) ↦[arg0.view.set]{fullShare} f0)
        ∗ (arg1.view.loc (c : Thread nD τ) ↦[arg1.view.set]{fullShare} f1)
        ∗ (arg2.view.loc (c : Thread nD τ) ↦[arg2.view.set]{fullShare} f2)
        ∗ (ssqM.view.loc (c : Thread nD τ) ↦[ssqM.view.set]{fullShare} (tripFn c arg0 harg0 arg1 harg1 arg2 harg2 arg3 harg3 arg4 harg4 arg5 harg5 arg7 harg7 t1 k (innerSt c arg0 harg0 arg1 harg1 arg2 harg2 arg3 harg3 arg4 harg4 arg5 harg5 arg7 harg7 t1 s f0 f1 f2 f11 f6 k.val).1 f0 f1 f2 (innerSt c arg0 harg0 arg1 harg1 arg2 harg2 arg3 harg3 arg4 harg4 arg5 harg5 arg7 harg7 t1 s f0 f1 f2 f11 f6 k.val).2 f6).2))))
  isplitl [H0]; · iexact H0
  isplitl [H3]; · iexact H3
  isplitl [HW]; · iexact HW
  isplitl [Ha0]; · iexact Ha0
  isplitl [Ha1]; · iexact Ha1
  isplitl [Ha2]; · iexact Ha2
  isplitl [Hs]; · iexact Hs
  iintro ⟨K0, K3, KW, Ka0, Ka1, Ka2, Ks⟩
  isplitr; · ipureintro; rfl
  isplitl [H1 H2 K0 K3]
  · isplitl [H1]; · iexact H1
    isplitl [H2]; · iexact H2
    isplitl [K3]; · iexact K3
    iapply (freeB_move c f6 (9 * t1.val + k.val) (9 * t1.val + (k.val + 1) + 3) (by omega))
    iexact K0
  isplitl [KW]; · iexact KW
  isplitl [Ka0]; · iexact Ka0
  isplitl [Ka1]; · iexact Ka1
  isplitl [Ka2]; · iexact Ka2
  iexact Ks

end Cert.KernelIdeal.Hand

end
-- ==== Proof.KI.Outer.lean ====
/-
  One step of the outer loop of the main call.
-/
module

public import proofs.«01_k».proof.Proof.KI.Inner
public import Idealize.ShloMosaic.Lib.VecWindow
public import Idealize.ShloMosaic.Lib.WritesUnit
public import Idealize.ShloMosaic.Lib.Mxu.Walk

@[expose] public section

set_option maxRecDepth 8192

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

noncomputable abbrev o_ssq0 (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole)
    (t1 : Fin k0_t1_loop.trips) (s : Mxu F)
    (f0 : MBuf (F := F) c arg0) (f1 : MBuf (F := F) c arg1) (f2 : MBuf (F := F) c arg2) (f3 : MBuf (F := F) c arg3) (f4 : MBuf (F := F) c arg4) (f5 : MBuf (F := F) c arg5) (f7 : MBuf (F := F) c arg7)
    (f6 : MBuf (F := F) c wM) : MBuf (F := F) c ssqM :=
  ssqM.view.writes (Elt F) ssqM.view.junk [⟨Rect.unit (s := S8x512) ![0, 0] S8x512.size inb_S8x512_S8x512_0_0, k0_pay217 (F := F)⟩]

noncomputable abbrev o_in (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole)
    (t1 : Fin k0_t1_loop.trips) (s : Mxu F)
    (f0 : MBuf (F := F) c arg0) (f1 : MBuf (F := F) c arg1) (f2 : MBuf (F := F) c arg2) (f3 : MBuf (F := F) c arg3) (f4 : MBuf (F := F) c arg4) (f5 : MBuf (F := F) c arg5) (f7 : MBuf (F := F) c arg7)
    (f6 : MBuf (F := F) c wM) : Mxu F × MBuf (F := F) c ssqM :=
  innerSt c arg0 harg0 arg1 harg1 arg2 harg2 arg3 harg3 arg4 harg4 arg5 harg5 arg7 harg7 t1 s f0 f1 f2 (o_ssq0 c arg0 harg0 arg1 harg1 arg2 harg2 arg3 harg3 arg4 harg4 arg5 harg5 arg7 harg7 t1 s f0 f1 f2 f3 f4 f5 f7 f6) f6 9

noncomputable def o_up (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole)
    (t1 : Fin k0_t1_loop.trips) (s : Mxu F)
    (f0 : MBuf (F := F) c arg0) (f1 : MBuf (F := F) c arg1) (f2 : MBuf (F := F) c arg2) (f3 : MBuf (F := F) c arg3) (f4 : MBuf (F := F) c arg4) (f5 : MBuf (F := F) c arg5) (f7 : MBuf (F := F) c arg7)
    (f6 : MBuf (F := F) c wM) : Vec F S64x512 .bf16 :=
  View.readAt (Elt F) arg4.view (Rect.unit (s := S64x7168) (k0_off76 t1) S64x512.size (k0_off76_inb t1)).toLoadRect f4

noncomputable def o_sq (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole)
    (t1 : Fin k0_t1_loop.trips) (s : Mxu F)
    (f0 : MBuf (F := F) c arg0) (f1 : MBuf (F := F) c arg1) (f2 : MBuf (F := F) c arg2) (f3 : MBuf (F := F) c arg3) (f4 : MBuf (F := F) c arg4) (f5 : MBuf (F := F) c arg5) (f7 : MBuf (F := F) c arg7)
    (f6 : MBuf (F := F) c wM) : FVec F S1x512 .f32 :=
  k0_pay222 (View.readAt (Elt F) ssqM.view (Rect.unit (s := S8x512) ![0, 0] S8x512.size inb_S8x512_S8x512_0_0).toLoadRect (o_in c arg0 harg0 arg1 harg1 arg2 harg2 arg3 harg3 arg4 harg4 arg5 harg5 arg7 harg7 t1 s f0 f1 f2 f3 f4 f5 f7 f6).2)

noncomputable def o_h (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole)
    (t1 : Fin k0_t1_loop.trips) (s : Mxu F)
    (f0 : MBuf (F := F) c arg0) (f1 : MBuf (F := F) c arg1) (f2 : MBuf (F := F) c arg2) (f3 : MBuf (F := F) c arg3) (f4 : MBuf (F := F) c arg4) (f5 : MBuf (F := F) c arg5) (f7 : MBuf (F := F) c arg7)
    (f6 : MBuf (F := F) c wM) : Vec F S256x256 .bf16 :=
  View.readAt (Elt F) arg3.view (Rect.unit (s := S320x256) ![0, 0] S256x256.size inb_S320x256_S256x256_0_0).toLoadRect f3

noncomputable def o_g (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole)
    (t1 : Fin k0_t1_loop.trips) (s : Mxu F)
    (f0 : MBuf (F := F) c arg0) (f1 : MBuf (F := F) c arg1) (f2 : MBuf (F := F) c arg2) (f3 : MBuf (F := F) c arg3) (f4 : MBuf (F := F) c arg4) (f5 : MBuf (F := F) c arg5) (f7 : MBuf (F := F) c arg7)
    (f6 : MBuf (F := F) c wM) : Vec F S64x256 .bf16 :=
  View.readAt (Elt F) arg3.view (Rect.unit (s := S320x256) ![256, 0] S64x256.size inb_S320x256_S64x256_256_0).toLoadRect f3

noncomputable def o_m58 (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole)
    (t1 : Fin k0_t1_loop.trips) (s : Mxu F)
    (f0 : MBuf (F := F) c arg0) (f1 : MBuf (F := F) c arg1) (f2 : MBuf (F := F) c arg2) (f3 : MBuf (F := F) c arg3) (f4 : MBuf (F := F) c arg4) (f5 : MBuf (F := F) c arg5) (f7 : MBuf (F := F) c arg7)
    (f6 : MBuf (F := F) c wM) : Mxu F :=
  (o_in c arg0 harg0 arg1 harg1 arg2 harg2 arg3 harg3 arg4 harg4 arg5 harg5 arg7 harg7 t1 s f0 f1 f2 f3 f4 f5 f7 f6).1.pushed 0 0 false (k0_pay223 (o_up c arg0 harg0 arg1 harg1 arg2 harg2 arg3 harg3 arg4 harg4 arg5 harg5 arg7 harg7 t1 s f0 f1 f2 f3 f4 f5 f7 f6))

noncomputable def o_m59 (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole)
    (t1 : Fin k0_t1_loop.trips) (s : Mxu F)
    (f0 : MBuf (F := F) c arg0) (f1 : MBuf (F := F) c arg1) (f2 : MBuf (F := F) c arg2) (f3 : MBuf (F := F) c arg3) (f4 : MBuf (F := F) c arg4) (f5 : MBuf (F := F) c arg5) (f7 : MBuf (F := F) c arg7)
    (f6 : MBuf (F := F) c wM) : Mxu F :=
  (o_m58 c arg0 harg0 arg1 harg1 arg2 harg2 arg3 harg3 arg4 harg4 arg5 harg5 arg7 harg7 t1 s f0 f1 f2 f3 f4 f5 f7 f6).accLhs 0 0 0 (o_h c arg0 harg0 arg1 harg1 arg2 harg2 arg3 harg3 arg4 harg4 arg5 harg5 arg7 harg7 t1 s f0 f1 f2 f3 f4 f5 f7 f6) fits_0_256

noncomputable def o_m60 (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole)
    (t1 : Fin k0_t1_loop.trips) (s : Mxu F)
    (f0 : MBuf (F := F) c arg0) (f1 : MBuf (F := F) c arg1) (f2 : MBuf (F := F) c arg2) (f3 : MBuf (F := F) c arg3) (f4 : MBuf (F := F) c arg4) (f5 : MBuf (F := F) c arg5) (f7 : MBuf (F := F) c arg7)
    (f6 : MBuf (F := F) c wM) : Mxu F :=
  (o_m59 c arg0 harg0 arg1 harg1 arg2 harg2 arg3 harg3 arg4 harg4 arg5 harg5 arg7 harg7 t1 s f0 f1 f2 f3 f4 f5 f7 f6).accBy 0 ((o_m58 c arg0 harg0 arg1 harg1 arg2 harg2 arg3 harg3 arg4 harg4 arg5 harg5 arg7 harg7 t1 s f0 f1 f2 f3 f4 f5 f7 f6).staged 0 0) 64 (o_g c arg0 harg0 arg1 harg1 arg2 harg2 arg3 harg3 arg4 harg4 arg5 harg5 arg7 harg7 t1 s f0 f1 f2 f3 f4 f5 f7 f6) fits_64_64

noncomputable def o_m61 (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole)
    (t1 : Fin k0_t1_loop.trips) (s : Mxu F)
    (f0 : MBuf (F := F) c arg0) (f1 : MBuf (F := F) c arg1) (f2 : MBuf (F := F) c arg2) (f3 : MBuf (F := F) c arg3) (f4 : MBuf (F := F) c arg4) (f5 : MBuf (F := F) c arg5) (f7 : MBuf (F := F) c arg7)
    (f6 : MBuf (F := F) c wM) : Mxu F :=
  (o_m60 c arg0 harg0 arg1 harg1 arg2 harg2 arg3 harg3 arg4 harg4 arg5 harg5 arg7 harg7 t1 s f0 f1 f2 f3 f4 f5 f7 f6).pushed 1 0 false (k0_pay224 (o_up c arg0 harg0 arg1 harg1 arg2 harg2 arg3 harg3 arg4 harg4 arg5 harg5 arg7 harg7 t1 s f0 f1 f2 f3 f4 f5 f7 f6))

noncomputable def o_m62 (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole)
    (t1 : Fin k0_t1_loop.trips) (s : Mxu F)
    (f0 : MBuf (F := F) c arg0) (f1 : MBuf (F := F) c arg1) (f2 : MBuf (F := F) c arg2) (f3 : MBuf (F := F) c arg3) (f4 : MBuf (F := F) c arg4) (f5 : MBuf (F := F) c arg5) (f7 : MBuf (F := F) c arg7)
    (f6 : MBuf (F := F) c wM) : Mxu F :=
  (o_m61 c arg0 harg0 arg1 harg1 arg2 harg2 arg3 harg3 arg4 harg4 arg5 harg5 arg7 harg7 t1 s f0 f1 f2 f3 f4 f5 f7 f6).accLhs 1 0 0 (o_h c arg0 harg0 arg1 harg1 arg2 harg2 arg3 harg3 arg4 harg4 arg5 harg5 arg7 harg7 t1 s f0 f1 f2 f3 f4 f5 f7 f6) fits_0_256

noncomputable def o_m63 (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole)
    (t1 : Fin k0_t1_loop.trips) (s : Mxu F)
    (f0 : MBuf (F := F) c arg0) (f1 : MBuf (F := F) c arg1) (f2 : MBuf (F := F) c arg2) (f3 : MBuf (F := F) c arg3) (f4 : MBuf (F := F) c arg4) (f5 : MBuf (F := F) c arg5) (f7 : MBuf (F := F) c arg7)
    (f6 : MBuf (F := F) c wM) : Mxu F :=
  (o_m62 c arg0 harg0 arg1 harg1 arg2 harg2 arg3 harg3 arg4 harg4 arg5 harg5 arg7 harg7 t1 s f0 f1 f2 f3 f4 f5 f7 f6).accBy 1 ((o_m61 c arg0 harg0 arg1 harg1 arg2 harg2 arg3 harg3 arg4 harg4 arg5 harg5 arg7 harg7 t1 s f0 f1 f2 f3 f4 f5 f7 f6).staged 1 0) 64 (o_g c arg0 harg0 arg1 harg1 arg2 harg2 arg3 harg3 arg4 harg4 arg5 harg5 arg7 harg7 t1 s f0 f1 f2 f3 f4 f5 f7 f6) fits_64_64

noncomputable def o_c0 (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole)
    (t1 : Fin k0_t1_loop.trips) (s : Mxu F)
    (f0 : MBuf (F := F) c arg0) (f1 : MBuf (F := F) c arg1) (f2 : MBuf (F := F) c arg2) (f3 : MBuf (F := F) c arg3) (f4 : MBuf (F := F) c arg4) (f5 : MBuf (F := F) c arg5) (f7 : MBuf (F := F) c arg7)
    (f6 : MBuf (F := F) c wM) : FVec F S64x256 .f32 :=
  (o_m63 c arg0 harg0 arg1 harg1 arg2 harg2 arg3 harg3 arg4 harg4 arg5 harg5 arg7 harg7 t1 s f0 f1 f2 f3 f4 f5 f7 f6).read 0 64 fits_64_64

noncomputable def o_m64 (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole)
    (t1 : Fin k0_t1_loop.trips) (s : Mxu F)
    (f0 : MBuf (F := F) c arg0) (f1 : MBuf (F := F) c arg1) (f2 : MBuf (F := F) c arg2) (f3 : MBuf (F := F) c arg3) (f4 : MBuf (F := F) c arg4) (f5 : MBuf (F := F) c arg5) (f7 : MBuf (F := F) c arg7)
    (f6 : MBuf (F := F) c wM) : Mxu F :=
  (o_m63 c arg0 harg0 arg1 harg1 arg2 harg2 arg3 harg3 arg4 harg4 arg5 harg5 arg7 harg7 t1 s f0 f1 f2 f3 f4 f5 f7 f6).pop 0 64 64 fits_64_64

noncomputable def o_mag0 (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole)
    (t1 : Fin k0_t1_loop.trips) (s : Mxu F)
    (f0 : MBuf (F := F) c arg0) (f1 : MBuf (F := F) c arg1) (f2 : MBuf (F := F) c arg2) (f3 : MBuf (F := F) c arg3) (f4 : MBuf (F := F) c arg4) (f5 : MBuf (F := F) c arg5) (f7 : MBuf (F := F) c arg7)
    (f6 : MBuf (F := F) c wM) : Vec F S1x256 .f32 :=
  View.readAt (Elt F) arg5.view (Rect.unit (s := S1x7168) (k0_off80 t1 0#32) S1x256.size (k0_off80_inb t1 0)).toLoadRect f5

noncomputable def o_y0 (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole)
    (t1 : Fin k0_t1_loop.trips) (s : Mxu F)
    (f0 : MBuf (F := F) c arg0) (f1 : MBuf (F := F) c arg1) (f2 : MBuf (F := F) c arg2) (f3 : MBuf (F := F) c arg3) (f4 : MBuf (F := F) c arg4) (f5 : MBuf (F := F) c arg5) (f7 : MBuf (F := F) c arg7)
    (f6 : MBuf (F := F) c wM) : FVec F S256x256 .f32 :=
  (o_m64 c arg0 harg0 arg1 harg1 arg2 harg2 arg3 harg3 arg4 harg4 arg5 harg5 arg7 harg7 t1 s f0 f1 f2 f3 f4 f5 f7 f6).read 0 0 fits_0_256

noncomputable def o_m65 (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole)
    (t1 : Fin k0_t1_loop.trips) (s : Mxu F)
    (f0 : MBuf (F := F) c arg0) (f1 : MBuf (F := F) c arg1) (f2 : MBuf (F := F) c arg2) (f3 : MBuf (F := F) c arg3) (f4 : MBuf (F := F) c arg4) (f5 : MBuf (F := F) c arg5) (f7 : MBuf (F := F) c arg7)
    (f6 : MBuf (F := F) c wM) : Mxu F :=
  (o_m64 c arg0 harg0 arg1 harg1 arg2 harg2 arg3 harg3 arg4 harg4 arg5 harg5 arg7 harg7 t1 s f0 f1 f2 f3 f4 f5 f7 f6).pop 0 0 256 fits_0_256

noncomputable def o_c1 (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole)
    (t1 : Fin k0_t1_loop.trips) (s : Mxu F)
    (f0 : MBuf (F := F) c arg0) (f1 : MBuf (F := F) c arg1) (f2 : MBuf (F := F) c arg2) (f3 : MBuf (F := F) c arg3) (f4 : MBuf (F := F) c arg4) (f5 : MBuf (F := F) c arg5) (f7 : MBuf (F := F) c arg7)
    (f6 : MBuf (F := F) c wM) : FVec F S64x256 .f32 :=
  (o_m65 c arg0 harg0 arg1 harg1 arg2 harg2 arg3 harg3 arg4 harg4 arg5 harg5 arg7 harg7 t1 s f0 f1 f2 f3 f4 f5 f7 f6).read 1 64 fits_64_64

noncomputable def o_m66 (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole)
    (t1 : Fin k0_t1_loop.trips) (s : Mxu F)
    (f0 : MBuf (F := F) c arg0) (f1 : MBuf (F := F) c arg1) (f2 : MBuf (F := F) c arg2) (f3 : MBuf (F := F) c arg3) (f4 : MBuf (F := F) c arg4) (f5 : MBuf (F := F) c arg5) (f7 : MBuf (F := F) c arg7)
    (f6 : MBuf (F := F) c wM) : Mxu F :=
  (o_m65 c arg0 harg0 arg1 harg1 arg2 harg2 arg3 harg3 arg4 harg4 arg5 harg5 arg7 harg7 t1 s f0 f1 f2 f3 f4 f5 f7 f6).pop 1 64 64 fits_64_64

noncomputable def o_mag1 (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole)
    (t1 : Fin k0_t1_loop.trips) (s : Mxu F)
    (f0 : MBuf (F := F) c arg0) (f1 : MBuf (F := F) c arg1) (f2 : MBuf (F := F) c arg2) (f3 : MBuf (F := F) c arg3) (f4 : MBuf (F := F) c arg4) (f5 : MBuf (F := F) c arg5) (f7 : MBuf (F := F) c arg7)
    (f6 : MBuf (F := F) c wM) : Vec F S1x256 .f32 :=
  View.readAt (Elt F) arg5.view (Rect.unit (s := S1x7168) (k0_off80 t1 256#32) S1x256.size (k0_off80_inb t1 1)).toLoadRect f5

noncomputable def o_y1 (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole)
    (t1 : Fin k0_t1_loop.trips) (s : Mxu F)
    (f0 : MBuf (F := F) c arg0) (f1 : MBuf (F := F) c arg1) (f2 : MBuf (F := F) c arg2) (f3 : MBuf (F := F) c arg3) (f4 : MBuf (F := F) c arg4) (f5 : MBuf (F := F) c arg5) (f7 : MBuf (F := F) c arg7)
    (f6 : MBuf (F := F) c wM) : FVec F S256x256 .f32 :=
  (o_m66 c arg0 harg0 arg1 harg1 arg2 harg2 arg3 harg3 arg4 harg4 arg5 harg5 arg7 harg7 t1 s f0 f1 f2 f3 f4 f5 f7 f6).read 1 0 fits_0_256

noncomputable def o_m67 (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole)
    (t1 : Fin k0_t1_loop.trips) (s : Mxu F)
    (f0 : MBuf (F := F) c arg0) (f1 : MBuf (F := F) c arg1) (f2 : MBuf (F := F) c arg2) (f3 : MBuf (F := F) c arg3) (f4 : MBuf (F := F) c arg4) (f5 : MBuf (F := F) c arg5) (f7 : MBuf (F := F) c arg7)
    (f6 : MBuf (F := F) c wM) : Mxu F :=
  (o_m66 c arg0 harg0 arg1 harg1 arg2 harg2 arg3 harg3 arg4 harg4 arg5 harg5 arg7 harg7 t1 s f0 f1 f2 f3 f4 f5 f7 f6).pop 1 0 256 fits_0_256

noncomputable def o_n0 (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole)
    (t1 : Fin k0_t1_loop.trips) (s : Mxu F)
    (f0 : MBuf (F := F) c arg0) (f1 : MBuf (F := F) c arg1) (f2 : MBuf (F := F) c arg2) (f3 : MBuf (F := F) c arg3) (f4 : MBuf (F := F) c arg4) (f5 : MBuf (F := F) c arg5) (f7 : MBuf (F := F) c arg7)
    (f6 : MBuf (F := F) c wM) : FVec F S1x256 .f32 :=
  k0_pay225 (o_up c arg0 harg0 arg1 harg1 arg2 harg2 arg3 harg3 arg4 harg4 arg5 harg5 arg7 harg7 t1 s f0 f1 f2 f3 f4 f5 f7 f6) (o_sq c arg0 harg0 arg1 harg1 arg2 harg2 arg3 harg3 arg4 harg4 arg5 harg5 arg7 harg7 t1 s f0 f1 f2 f3 f4 f5 f7 f6) (o_c0 c arg0 harg0 arg1 harg1 arg2 harg2 arg3 harg3 arg4 harg4 arg5 harg5 arg7 harg7 t1 s f0 f1 f2 f3 f4 f5 f7 f6)

noncomputable def o_n1 (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole)
    (t1 : Fin k0_t1_loop.trips) (s : Mxu F)
    (f0 : MBuf (F := F) c arg0) (f1 : MBuf (F := F) c arg1) (f2 : MBuf (F := F) c arg2) (f3 : MBuf (F := F) c arg3) (f4 : MBuf (F := F) c arg4) (f5 : MBuf (F := F) c arg5) (f7 : MBuf (F := F) c arg7)
    (f6 : MBuf (F := F) c wM) : FVec F S1x256 .f32 :=
  k0_pay228 (o_sq c arg0 harg0 arg1 harg1 arg2 harg2 arg3 harg3 arg4 harg4 arg5 harg5 arg7 harg7 t1 s f0 f1 f2 f3 f4 f5 f7 f6) (k0_pay227 (o_up c arg0 harg0 arg1 harg1 arg2 harg2 arg3 harg3 arg4 harg4 arg5 harg5 arg7 harg7 t1 s f0 f1 f2 f3 f4 f5 f7 f6) (o_c1 c arg0 harg0 arg1 harg1 arg2 harg2 arg3 harg3 arg4 harg4 arg5 harg5 arg7 harg7 t1 s f0 f1 f2 f3 f4 f5 f7 f6))

noncomputable def o_norm (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole)
    (t1 : Fin k0_t1_loop.trips) (s : Mxu F)
    (f0 : MBuf (F := F) c arg0) (f1 : MBuf (F := F) c arg1) (f2 : MBuf (F := F) c arg2) (f3 : MBuf (F := F) c arg3) (f4 : MBuf (F := F) c arg4) (f5 : MBuf (F := F) c arg5) (f7 : MBuf (F := F) c arg7)
    (f6 : MBuf (F := F) c wM) : MBuf (F := F) c arg7 :=
  arg7.view.writes (Elt F) f7 [⟨Rect.unit (s := S1x7168) (k0_off80 t1 256#32) S1x256.size (k0_off80_inb t1 1), (o_n1 c arg0 harg0 arg1 harg1 arg2 harg2 arg3 harg3 arg4 harg4 arg5 harg5 arg7 harg7 t1 s f0 f1 f2 f3 f4 f5 f7 f6)⟩, ⟨Rect.unit (s := S1x7168) (k0_off80 t1 0#32) S1x256.size (k0_off80_inb t1 0), (o_n0 c arg0 harg0 arg1 harg1 arg2 harg2 arg3 harg3 arg4 harg4 arg5 harg5 arg7 harg7 t1 s f0 f1 f2 f3 f4 f5 f7 f6)⟩]

noncomputable def o_s0 (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole)
    (t1 : Fin k0_t1_loop.trips) (s : Mxu F)
    (f0 : MBuf (F := F) c arg0) (f1 : MBuf (F := F) c arg1) (f2 : MBuf (F := F) c arg2) (f3 : MBuf (F := F) c arg3) (f4 : MBuf (F := F) c arg4) (f5 : MBuf (F := F) c arg5) (f7 : MBuf (F := F) c arg7)
    (f6 : MBuf (F := F) c wM) : FVec F S1x256x256 .bf16 :=
  k0_pay226 (o_up c arg0 harg0 arg1 harg1 arg2 harg2 arg3 harg3 arg4 harg4 arg5 harg5 arg7 harg7 t1 s f0 f1 f2 f3 f4 f5 f7 f6) (o_sq c arg0 harg0 arg1 harg1 arg2 harg2 arg3 harg3 arg4 harg4 arg5 harg5 arg7 harg7 t1 s f0 f1 f2 f3 f4 f5 f7 f6) (o_c0 c arg0 harg0 arg1 harg1 arg2 harg2 arg3 harg3 arg4 harg4 arg5 harg5 arg7 harg7 t1 s f0 f1 f2 f3 f4 f5 f7 f6) (o_mag0 c arg0 harg0 arg1 harg1 arg2 harg2 arg3 harg3 arg4 harg4 arg5 harg5 arg7 harg7 t1 s f0 f1 f2 f3 f4 f5 f7 f6) (o_y0 c arg0 harg0 arg1 harg1 arg2 harg2 arg3 harg3 arg4 harg4 arg5 harg5 arg7 harg7 t1 s f0 f1 f2 f3 f4 f5 f7 f6)

noncomputable def o_s1 (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole)
    (t1 : Fin k0_t1_loop.trips) (s : Mxu F)
    (f0 : MBuf (F := F) c arg0) (f1 : MBuf (F := F) c arg1) (f2 : MBuf (F := F) c arg2) (f3 : MBuf (F := F) c arg3) (f4 : MBuf (F := F) c arg4) (f5 : MBuf (F := F) c arg5) (f7 : MBuf (F := F) c arg7)
    (f6 : MBuf (F := F) c wM) : FVec F S1x256x256 .bf16 :=
  k0_pay229 (o_sq c arg0 harg0 arg1 harg1 arg2 harg2 arg3 harg3 arg4 harg4 arg5 harg5 arg7 harg7 t1 s f0 f1 f2 f3 f4 f5 f7 f6) (k0_pay227 (o_up c arg0 harg0 arg1 harg1 arg2 harg2 arg3 harg3 arg4 harg4 arg5 harg5 arg7 harg7 t1 s f0 f1 f2 f3 f4 f5 f7 f6) (o_c1 c arg0 harg0 arg1 harg1 arg2 harg2 arg3 harg3 arg4 harg4 arg5 harg5 arg7 harg7 t1 s f0 f1 f2 f3 f4 f5 f7 f6)) (o_mag1 c arg0 harg0 arg1 harg1 arg2 harg2 arg3 harg3 arg4 harg4 arg5 harg5 arg7 harg7 t1 s f0 f1 f2 f3 f4 f5 f7 f6) (o_y1 c arg0 harg0 arg1 harg1 arg2 harg2 arg3 harg3 arg4 harg4 arg5 harg5 arg7 harg7 t1 s f0 f1 f2 f3 f4 f5 f7 f6)

noncomputable abbrev o_ybuf (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole)
    (t1 : Fin k0_t1_loop.trips) (s : Mxu F)
    (f0 : MBuf (F := F) c arg0) (f1 : MBuf (F := F) c arg1) (f2 : MBuf (F := F) c arg2) (f3 : MBuf (F := F) c arg3) (f4 : MBuf (F := F) c arg4) (f5 : MBuf (F := F) c arg5) (f7 : MBuf (F := F) c arg7)
    (f6 : MBuf (F := F) c wM) (f12 : MBuf (F := F) c ybufM) : MBuf (F := F) c ybufM :=
  ybufM.view.writes (Elt F) f12 [⟨Rect.unit (s := S2x256x512) (k0_off82 t1) S1x256x256.size (k0_off82_inb t1), (o_s1 c arg0 harg0 arg1 harg1 arg2 harg2 arg3 harg3 arg4 harg4 arg5 harg5 arg7 harg7 t1 s f0 f1 f2 f3 f4 f5 f7 f6)⟩, ⟨Rect.unit (s := S2x256x512) (k0_off81 t1) S1x256x256.size (k0_off81_inb t1), (o_s0 c arg0 harg0 arg1 harg1 arg2 harg2 arg3 harg3 arg4 harg4 arg5 harg5 arg7 harg7 t1 s f0 f1 f2 f3 f4 f5 f7 f6)⟩]

/-! ## The two slots of the result -/

theorem yslot_inb (b : ℕ) : ∀ a, (![b % 2, 0, 0] : Fin 3 → ℕ) a + S1x256x512.size a ≤ S2x256x512.size a := by
  have := Nat.mod_lt b (by decide : 2 > 0); intro a; fin_cases a
  · show b % 2 + 1 ≤ 2; omega
  · show 0 + 256 ≤ 256; omega
  · show 0 + 512 ≤ 512; omega
theorem ycell_inb (b : ℕ) : ∀ a, (![b % 2] : Fin 1 → ℕ) a + S1.size a ≤ S2.size a := by
  have := Nat.mod_lt b (by decide : 2 > 0); intro a; fin_cases a
  show b % 2 + 1 ≤ 2; omega
theorem ydst_inb (b : ℕ) : ∀ a, (![0, 512 * (b % 14)] : Fin 2 → ℕ) a + S256x512.size a ≤ S256x7168.size a := by
  have := Nat.mod_lt b (by decide : 14 > 0); intro a; fin_cases a
  · show 0 + 256 ≤ 256; omega
  · show 512 * (b % 14) + 512 ≤ 7168; omega

/-- The slot of columns `512 b .. 512 b + 511` of the result. -/
abbrev slotY (b : ℕ) : Memref sig .tc .vmem S256x512 .bf16 :=
  (ybufM.slice (Rect.unit (s := S2x256x512) ![b % 2, 0, 0] S1x256x512.size (yslot_inb b)) (fun _ => rfl)).squeeze S256x512 squeezes_S1x256x512_S256x512
/-- Its semaphore. -/
abbrev cellY (b : ℕ) : DmaSem sig :=
  ((cc0_scratch4.slice (Rect.unit (s := S2) ![b % 2] S1.size (ycell_inb b))).squeeze S_ squeezes_S1_S_).sem
/-- Columns `512 b .. 512 b + 511` of the result. -/
abbrev dstY (b : ℕ) : Memref sig .tc .hbm S256x512 .bf16 :=
  yM.slice (Rect.unit (s := S256x7168) ![0, 512 * (b % 14)] S256x512.size (ydst_inb b)) (fun _ => rfl)

theorem yslot_congr {o : Fin 3 → ℕ} (b : ℕ) (h : o = ![b % 2, 0, 0]) (hi : ∀ a, o a + S1x256x512.size a ≤ S2x256x512.size a) :
    (ybufM.slice (Rect.unit (s := S2x256x512) o S1x256x512.size hi) (fun _ => rfl)).squeeze S256x512 squeezes_S1x256x512_S256x512 = slotY b := by
  subst h; rfl
theorem ycell_congr {o : Fin 1 → ℕ} (b : ℕ) (h : o = ![b % 2]) (hi : ∀ a, o a + S1.size a ≤ S2.size a) :
    (cc0_scratch4.slice (Rect.unit (s := S2) o S1.size hi)).squeeze S_ squeezes_S1_S_
      = (cc0_scratch4.slice (Rect.unit (s := S2) ![b % 2] S1.size (ycell_inb b))).squeeze S_ squeezes_S1_S_ := by subst h; rfl
theorem ydst_congr {o : Fin 2 → ℕ} (b : ℕ) (h : o = ![0, 512 * (b % 14)]) (hi : ∀ a, o a + S256x512.size a ≤ S256x7168.size a) :
    yM.slice (Rect.unit (s := S256x7168) o S256x512.size hi) (fun _ => rfl) = dstY b := by subst h; rfl

theorem ystore_incl {o : Fin 3 → ℕ} (b : ℕ) {j : ℕ} (h : o = ![b % 2, 0, j]) (hi : ∀ a, o a + S1x256x256.size a ≤ S2x256x512.size a) :
    LE.le (α := Finset (slotY b).view.ty.Idx) (ybufM.access (Rect.unit (s := S2x256x512) o S1x256x256.size hi)).set (slotY b).view.set := by
  subst h
  have e1 : (slotY b).view.set = (Rect.unit (s := S2x256x512) ![b % 2, 0, 0] S1x256x512.size (yslot_inb b)).set :=
    (View.set_reshape _ _).trans (View.set_slice_whole cc0_scratch3 _)
  have e2 : (ybufM.access (Rect.unit (s := S2x256x512) ![b % 2, 0, j] S1x256x256.size hi)).set
      = (Rect.unit (s := S2x256x512) ![b % 2, 0, j] S1x256x256.size hi).set := View.set_slice_whole cc0_scratch3 _
  rw [e1, e2]
  intro x hx
  rw [Rect.mem_set_unit] at hx ⊢
  intro a
  have := hx a
  fin_cases a
  · exact this
  · exact this
  · have h2 := (x 2).isLt
    exact ⟨Nat.zero_le _, by simp only [Matrix.cons_val, Matrix.cons_val_one]; exact (Nat.zero_add _).symm ▸ h2⟩

theorem off77_eq : ∀ (t1 : Fin k0_t1_loop.trips), 2 ≤ t1.val → k0_off77 t1 = ![t1.val % 2] := by decide +kernel
theorem off78_eq : ∀ (t1 : Fin k0_t1_loop.trips), 2 ≤ t1.val → k0_off78 t1 = ![0, 512 * ((t1.val - 2) % 14)] := by decide +kernel
theorem off79_eq : ∀ (t1 : Fin k0_t1_loop.trips), 2 ≤ t1.val → k0_off79 t1 = ![t1.val % 2, 0, 0] := by decide +kernel
theorem off84_eq : ∀ (t1 : Fin k0_t1_loop.trips), k0_off84 t1 = ![0, 512 * (t1.val % 14)] := by decide +kernel
theorem cond2_iff : ∀ (t1 : Fin k0_t1_loop.trips), k0_cond2 t1 = 1#1 ↔ 2 ≤ t1.val := by decide +kernel

/-- Columns `512 b ..` of the result, holding nothing in particular. -/
def todoY (c : Dev nD) (b : ℕ) : sProp 𝕄 := iprop(∃ f, (dstY b).view.loc (c : Thread nD τ) ↦[(dstY b).view.set]{fullShare} f)
/-- Columns `512 b ..` of the result, holding `v`. -/
def gotY (c : Dev nD) (b : ℕ) (v : Vec F S256x512 .bf16) : sProp 𝕄 :=
  iprop(∃ f : MBuf (F := F) c (dstY b), ⌜(dstY b).view.read (Elt F) f = v⌝ ∗ ((dstY b).view.loc (c : Thread nD τ) ↦[(dstY b).view.set]{fullShare} f))
/-- A slot FREE. -/
def freeY (c : Dev nD) (b : ℕ) : sProp 𝕄 :=
  iprop(semVal ((c : Thread nD τ), SemLoc.dma (cellY b)) 0 ∗ (∃ f : MBuf (F := F) c ybufM, ybufM.view.loc (c : Thread nD τ) ↦[(slotY b).view.set]{fullShare} f))
/-- The slot of `b'` IN FLIGHT, `v` on its way to columns `512 b ..`. -/
def inflY (c : Dev nD) (b' b : ℕ) (v : Vec F S256x512 .bf16) : sProp 𝕄 :=
  iprop(∃ (f : MBuf (F := F) c ybufM) (g : MBuf (F := F) c (dstY b)), ⌜(slotY b').view.read (Elt F) f = v⌝ ∗
    Transfers.Flight (countersEmb (U := Pipeline.UD sig nD τ)) (c : Thread nD τ) (SemLoc.dma (cellY b')) () 8192
            iprop(((dstY b).view.loc (c : Thread nD τ) ↦[(dstY b).view.set]{fullShare} (dstY b).view.writes (Elt F) g [⟨Rect.whole S256x512, ReadAs.same.apply ((slotY b').view.read (Elt F) f)⟩])
              ∗ ((slotY b').view.loc (c : Thread nD τ) ↦[(slotY b').view.set]{fullShare} f)))

set_option maxHeartbeats 400000 in
theorem outer_run1 (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole)
    (t1 : Fin k0_t1_loop.trips) (s : Mxu F)
    (f0 : MBuf (F := F) c arg0) (f1 : MBuf (F := F) c arg1) (f2 : MBuf (F := F) c arg2) (f3 : MBuf (F := F) c arg3) (f4 : MBuf (F := F) c arg4) (f5 : MBuf (F := F) c arg5) (f7 : MBuf (F := F) c arg7)
    (f6 : MBuf (F := F) c wM) (f11 : MBuf (F := F) c ssqM) (h : MxuB s) (h2 : 2 ≤ t1.val) (v : Vec F S256x512 .bf16)
    (Q : Mxu F → sProp 𝕄) :
    iprop(ringAt c f6 (9 * t1.val) ∗ inflY c t1.val (t1.val - 2) v ∗ todoY (F := F) c t1.val ∗ (∃ W, owes (c : Thread nD τ) 0 W)
        ∗ (arg0.view.loc (c : Thread nD τ) ↦[arg0.view.set]{fullShare} f0)
        ∗ (arg1.view.loc (c : Thread nD τ) ↦[arg1.view.set]{fullShare} f1)
        ∗ (arg2.view.loc (c : Thread nD τ) ↦[arg2.view.set]{fullShare} f2)
        ∗ (arg3.view.loc (c : Thread nD τ) ↦[arg3.view.set]{fullShare} f3)
        ∗ (arg4.view.loc (c : Thread nD τ) ↦[arg4.view.set]{fullShare} f4)
        ∗ (arg5.view.loc (c : Thread nD τ) ↦[arg5.view.set]{fullShare} f5)
        ∗ (arg7.view.loc (c : Thread nD τ) ↦[arg7.view.set]{fullShare} f7)
        ∗ (ssqM.view.loc (c : Thread nD τ) ↦[ssqM.view.set]{fullShare} f11)
        ∗ ((ringAt c f6 (9 * (t1.val + 1)) ∗ (∃ f12 : MBuf (F := F) c ybufM, inflY c t1.val t1.val ((slotY t1.val).view.read (Elt F) (o_ybuf c arg0 harg0 arg1 harg1 arg2 harg2 arg3 harg3 arg4 harg4 arg5 harg5 arg7 harg7 t1 s f0 f1 f2 f3 f4 f5 f7 f6 f12))) ∗ gotY c (t1.val - 2) v ∗ (∃ W, owes (c : Thread nD τ) 0 W)
        ∗ (arg0.view.loc (c : Thread nD τ) ↦[arg0.view.set]{fullShare} f0)
        ∗ (arg1.view.loc (c : Thread nD τ) ↦[arg1.view.set]{fullShare} f1)
        ∗ (arg2.view.loc (c : Thread nD τ) ↦[arg2.view.set]{fullShare} f2)
        ∗ (arg3.view.loc (c : Thread nD τ) ↦[arg3.view.set]{fullShare} f3)
        ∗ (arg4.view.loc (c : Thread nD τ) ↦[arg4.view.set]{fullShare} f4)
        ∗ (arg5.view.loc (c : Thread nD τ) ↦[arg5.view.set]{fullShare} f5)
        ∗ (arg7.view.loc (c : Thread nD τ) ↦[arg7.view.set]{fullShare} (o_norm c arg0 harg0 arg1 harg1 arg2 harg2 arg3 harg3 arg4 harg4 arg5 harg5 arg7 harg7 t1 s f0 f1 f2 f3 f4 f5 f7 f6))
        ∗ (ssqM.view.loc (c : Thread nD τ) ↦[ssqM.view.set]{fullShare} (o_in c arg0 harg0 arg1 harg1 arg2 harg2 arg3 harg3 arg4 harg4 arg5 harg5 arg7 harg7 t1 s f0 f1 f2 f3 f4 f5 f7 f6).2)) -∗ Q (o_m67 c arg0 harg0 arg1 harg1 arg2 harg2 arg3 harg3 arg4 harg4 arg5 harg5 arg7 harg7 t1 s f0 f1 f2 f3 f4 f5 f7 f6)))
      ⊢ wp frame (wpE (defs₀ (F := F)) Variants.none (c : Thread nD τ) none) Set.univ
          (k0_t1_body arg0 harg0 arg1 harg1 arg2 harg2 arg3 harg3 arg4 harg4 arg5 harg5 wM (Memref.isWhole_whole _) arg7 harg7 yM (Memref.isWhole_whole _)
            ringM (Memref.isWhole_whole _) cc0_scratch1 ssqM (Memref.isWhole_whole _) ybufM (Memref.isWhole_whole _) cc0_scratch4 t1 s) Q := by
  have hc := (cond2_iff t1).mpr h2
  have hcanon1 := ycell_congr t1.val (off77_eq t1 h2) (k0_off77_inb t1 hc)
  have hcanon2 := ydst_congr (t1.val - 2) (off78_eq t1 h2) (k0_off78_inb t1 hc)
  have hcanon3 := yslot_congr t1.val (off79_eq t1 h2) (k0_off79_inb t1 hc)
  have hcanon4 := ycell_congr t1.val (Gen.k0_off83_eq t1) (k0_off83_inb t1)
  have hcanon5 := ydst_congr t1.val (off84_eq t1) (k0_off84_inb t1)
  have hcanon6 := yslot_congr t1.val (Gen.k0_off85_eq t1) (k0_off85_inb t1)
  have hi81 := ystore_incl t1.val (Gen.k0_off81_eq t1) (k0_off81_inb t1)
  have hi82 := ystore_incl t1.val (Gen.k0_off82_eq t1) (k0_off82_inb t1)
  have hb9 := inner_ok c arg0 harg0 arg1 harg1 arg2 harg2 arg3 harg3 arg4 harg4 arg5 harg5 arg7 harg7 t1 s f0 f1 f2 (o_ssq0 c arg0 harg0 arg1 harg1 arg2 harg2 arg3 harg3 arg4 harg4 arg5 harg5 arg7 harg7 t1 s f0 f1 f2 f3 f4 f5 f7 f6) f6 h 9
  have hp00 : (innerSt c arg0 harg0 arg1 harg1 arg2 harg2 arg3 harg3 arg4 harg4 arg5 harg5 arg7 harg7 t1 s f0 f1 f2 (o_ssq0 c arg0 harg0 arg1 harg1 arg2 harg2 arg3 harg3 arg4 harg4 arg5 harg5 arg7 harg7 t1 s f0 f1 f2 f3 f4 f5 f7 f6) f6 9).1.PushOk 0 0 false := Mxu.pushOk_of_none _ _ _ _ hb9.r00
  have hp10 : (innerSt c arg0 harg0 arg1 harg1 arg2 harg2 arg3 harg3 arg4 harg4 arg5 harg5 arg7 harg7 t1 s f0 f1 f2 (o_ssq0 c arg0 harg0 arg1 harg1 arg2 harg2 arg3 harg3 arg4 harg4 arg5 harg5 arg7 harg7 t1 s f0 f1 f2 f3 f4 f5 f7 f6) f6 9).1.PushOk 1 0 false := Mxu.pushOk_of_none _ _ _ _ hb9.r10
  unfold inflY todoY
  iintro ⟨Hr, ⟨%fy, %gy, %hv, Hfl⟩, ⟨%g, Hy⟩, ⟨%W, HO⟩, Ha0, Ha1, Ha2, Ha3, Ha4, Ha5, Ha7, Hs, Hk⟩
  unfold k0_t1_body
  sl_exec_parts (disch := first | (mxu_pushok_peel; done) | (mxu_pushok_peel; assumption))
  sl_for (innerInv c arg0 harg0 arg1 harg1 arg2 harg2 arg3 harg3 arg4 harg4 arg5 harg5 arg7 harg7 t1 s f0 f1 f2 (o_ssq0 c arg0 harg0 arg1 harg1 arg2 harg2 arg3 harg3 arg4 harg4 arg5 harg5 arg7 harg7 t1 s f0 f1 f2 f3 f4 f5 f7 f6) f6) $$ [Hr HO Ha0 Ha1 Ha2 Hs]
  case region =>
    intro k x
    exact inner_step c arg0 harg0 arg1 harg1 arg2 harg2 arg3 harg3 arg4 harg4 arg5 harg5 arg7 harg7 t1 s f0 f1 f2 (o_ssq0 c arg0 harg0 arg1 harg1 arg2 harg2 arg3 harg3 arg4 harg4 arg5 harg5 arg7 harg7 t1 s f0 f1 f2 f3 f4 f5 f7 f6) f6 h _ _ k x
  · unfold innerInv
    isplitr; · ipureintro; rfl
    isplitl [Hr]; · iexact Hr
    isplitl [HO]; · iexists _; iexact HO
    isplitl [Ha0]; · iexact Ha0
    isplitl [Ha1]; · iexact Ha1
    isplitl [Ha2]; · iexact Ha2
    rw [show innerSt c arg0 harg0 arg1 harg1 arg2 harg2 arg3 harg3 arg4 harg4 arg5 harg5 arg7 harg7 t1 s f0 f1 f2 (o_ssq0 c arg0 harg0 arg1 harg1 arg2 harg2 arg3 harg3 arg4 harg4 arg5 harg5 arg7 harg7 t1 s f0 f1 f2 f3 f4 f5 f7 f6) f6 0 = (s, (o_ssq0 c arg0 harg0 arg1 harg1 arg2 harg2 arg3 harg3 arg4 harg4 arg5 harg5 arg7 harg7 t1 s f0 f1 f2 f3 f4 f5 f7 f6)) from rfl]
    sl_unfold_run_names
    iexact Hs
  iintro %x HI
  unfold innerInv
  icases HI with ⟨%hx, Hr, ⟨%W1, HO⟩, Ha0, Ha1, Ha2, Hs⟩
  subst hx
  sl_exec_parts (disch := first | (mxu_pushok_peel; done) | (mxu_pushok_peel; assumption))
  sl_step
  have em : outer_run1.sl.k0_mxu67 c arg0 harg0 arg1 harg1 arg2 harg2 arg3 harg3 arg4 harg4 arg5 harg5 arg7 harg7 t1 s f0 f1 f2 f3 f4 f5 f7 f6 = (o_m67 c arg0 harg0 arg1 harg1 arg2 harg2 arg3 harg3 arg4 harg4 arg5 harg5 arg7 harg7 t1 s f0 f1 f2 f3 f4 f5 f7 f6) := rfl
  rw [em]
  iapply Hk
  isplitl [Hr]; · iexact Hr
  isplitl [Hfl]
  · iexists fy
    iexists (outer_run1.sl.Hfl_src_w2 c arg0 harg0 arg1 harg1 arg2 harg2 arg3 harg3 arg4 harg4 arg5 harg5 arg7 harg7 t1 s f0 f1 f2 f3 f4 f5 f7 f6 fy); iexists g
    isplitr
    · ipureintro; rfl
    iexact Hfl
  isplitl [Hfl_dst]
  · unfold gotY
    iexists _
    isplitr
    · ipureintro
      exact (View.read_writes_full (dstY (t1.val - 2)).view gy (off := fun _ => 0) (fun a => by omega) _ []).trans hv
    iexact Hfl_dst
  isplitl [HO]; · iexists _; iexact HO
  isplitl [Ha0]; · iexact Ha0
  isplitl [Ha1]; · iexact Ha1
  isplitl [Ha2]; · iexact Ha2
  isplitl [Ha3]; · iexact Ha3
  isplitl [Ha4]; · iexact Ha4
  isplitl [Ha5]; · iexact Ha5
  isplitl [Ha7]; · iexact Ha7
  iexact Hs

end Cert.KernelIdeal.Hand

end
-- ==== Proof.KI.Drain.lean ====
/-
  The state of the main call between the steps of its outer loop.
-/
module

public import proofs.«01_k».proof.Proof.KI.Outer
public import Idealize.ShloMosaic.Lib.VecWindow
public import Idealize.ShloMosaic.Lib.HeldBySlice
public import Idealize.ShloMosaic.Lib.WritesUnit
public import Idealize.ShloMosaic.Lib.Mxu.Walk

@[expose] public section

set_option maxRecDepth 8192

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

/-- The units hold no tile and no live row. -/
theorem MxuB.of_drained {s : Mxu F} (h : s.Drained) : MxuB s where
  l0 R hR := absurd hR (by rw [h.2]; decide)
  l1 R hR := absurd hR (by rw [h.2]; decide)
  r00 := Option.isNone_iff_eq_none.1 (h.1 0 0)
  r01 := Option.isNone_iff_eq_none.1 (h.1 0 1)
  r10 := Option.isNone_iff_eq_none.1 (h.1 1 0)
  r11 := Option.isNone_iff_eq_none.1 (h.1 1 1)

set_option maxHeartbeats 400000 in
theorem outer_drained (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole)
    (t1 : Fin k0_t1_loop.trips) (s : Mxu F)
    (f0 : MBuf (F := F) c arg0) (f1 : MBuf (F := F) c arg1) (f2 : MBuf (F := F) c arg2) (f3 : MBuf (F := F) c arg3) (f4 : MBuf (F := F) c arg4) (f5 : MBuf (F := F) c arg5) (f7 : MBuf (F := F) c arg7)
    (f6 : MBuf (F := F) c wM) (h : MxuB s) : Mxu.Drained (o_m67 c arg0 harg0 arg1 harg1 arg2 harg2 arg3 harg3 arg4 harg4 arg5 harg5 arg7 harg7 t1 s f0 f1 f2 f3 f4 f5 f7 f6) := by
  have hb := inner_ok c arg0 harg0 arg1 harg1 arg2 harg2 arg3 harg3 arg4 harg4 arg5 harg5 arg7 harg7 t1 s f0 f1 f2 (o_ssq0 c arg0 harg0 arg1 harg1 arg2 harg2 arg3 harg3 arg4 harg4 arg5 harg5 arg7 harg7 t1 s f0 f1 f2 f3 f4 f5 f7 f6) f6 h 9
  have h0 := hb.l0
  have h1 := hb.l1
  unfold o_m67 o_m66 o_m65 o_m64 o_m63 o_m62 o_m61 o_m60 o_m59 o_m58
  mxu_walk h0 as w0
  mxu_walk h1 as w1
  refine ⟨fun q r => ?_, fun q R => Bool.eq_false_iff.mpr ?_⟩
  · match q, r with
    | 0, 0 => rw [w0.reg0_empty rfl]; rfl
    | 0, 1 => rw [(w0.reg1_base rfl).trans hb.r01]; rfl
    | 1, 0 => rw [w1.reg0_empty rfl]; rfl
    | 1, 1 => rw [(w1.reg1_base rfl).trans hb.r11]; rfl
  · match q with
    | 0 => exact w0.none_live rfl R
    | 1 => exact w1.none_live rfl R

/-- The units when the outer loop starts. -/
noncomputable def mxu0 : Mxu F :=
  (((Mxu.init.pop 0 0 256 fits_0_256).pop 1 0 256 fits_0_256).pop 0 64 64 fits_64_64).pop 1 64 64 fits_64_64

theorem mxu0_drained : Mxu.Drained (mxu0 (F := F)) := by
  unfold mxu0
  refine ⟨fun q r => rfl, fun q R => ?_⟩
  simp only [Mxu.live_pop]
  split
  · rfl
  split
  · rfl
  split
  · rfl
  split
  · rfl
  rfl

/-- The units and the column norms before step `k` of the outer loop. -/
noncomputable def outerSt (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole) (f0 : MBuf (F := F) c arg0) (f1 : MBuf (F := F) c arg1) (f2 : MBuf (F := F) c arg2) (f3 : MBuf (F := F) c arg3) (f4 : MBuf (F := F) c arg4) (f5 : MBuf (F := F) c arg5) (f7 : MBuf (F := F) c arg7) (f6 : MBuf (F := F) c wM) : ℕ → Mxu F × MBuf (F := F) c arg7
  | 0 => (mxu0, f7)
  | k + 1 => if h : k < k0_t1_loop.trips then
      (o_m67 c arg0 harg0 arg1 harg1 arg2 harg2 arg3 harg3 arg4 harg4 arg5 harg5 arg7 harg7 ⟨k, h⟩ (outerSt c arg0 harg0 arg1 harg1 arg2 harg2 arg3 harg3 arg4 harg4 arg5 harg5 arg7 harg7 f0 f1 f2 f3 f4 f5 f7 f6 k).1 f0 f1 f2 f3 f4 f5 (outerSt c arg0 harg0 arg1 harg1 arg2 harg2 arg3 harg3 arg4 harg4 arg5 harg5 arg7 harg7 f0 f1 f2 f3 f4 f5 f7 f6 k).2 f6, o_norm c arg0 harg0 arg1 harg1 arg2 harg2 arg3 harg3 arg4 harg4 arg5 harg5 arg7 harg7 ⟨k, h⟩ (outerSt c arg0 harg0 arg1 harg1 arg2 harg2 arg3 harg3 arg4 harg4 arg5 harg5 arg7 harg7 f0 f1 f2 f3 f4 f5 f7 f6 k).1 f0 f1 f2 f3 f4 f5 (outerSt c arg0 harg0 arg1 harg1 arg2 harg2 arg3 harg3 arg4 harg4 arg5 harg5 arg7 harg7 f0 f1 f2 f3 f4 f5 f7 f6 k).2 f6)
    else outerSt c arg0 harg0 arg1 harg1 arg2 harg2 arg3 harg3 arg4 harg4 arg5 harg5 arg7 harg7 f0 f1 f2 f3 f4 f5 f7 f6 k

theorem outerSt_drained (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole) (f0 : MBuf (F := F) c arg0) (f1 : MBuf (F := F) c arg1) (f2 : MBuf (F := F) c arg2) (f3 : MBuf (F := F) c arg3) (f4 : MBuf (F := F) c arg4) (f5 : MBuf (F := F) c arg5) (f7 : MBuf (F := F) c arg7) (f6 : MBuf (F := F) c wM) : ∀ k, Mxu.Drained (outerSt c arg0 harg0 arg1 harg1 arg2 harg2 arg3 harg3 arg4 harg4 arg5 harg5 arg7 harg7 f0 f1 f2 f3 f4 f5 f7 f6 k).1
  | 0 => mxu0_drained
  | k + 1 => by
    unfold outerSt
    split
    · exact outer_drained c arg0 harg0 arg1 harg1 arg2 harg2 arg3 harg3 arg4 harg4 arg5 harg5 arg7 harg7 _ _ f0 f1 f2 f3 f4 f5 _ f6 (MxuB.of_drained (outerSt_drained c arg0 harg0 arg1 harg1 arg2 harg2 arg3 harg3 arg4 harg4 arg5 harg5 arg7 harg7 f0 f1 f2 f3 f4 f5 f7 f6 k))
    · exact outerSt_drained c arg0 harg0 arg1 harg1 arg2 harg2 arg3 harg3 arg4 harg4 arg5 harg5 arg7 harg7 f0 f1 f2 f3 f4 f5 f7 f6 k

theorem outerSt_succ (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole) (f0 : MBuf (F := F) c arg0) (f1 : MBuf (F := F) c arg1) (f2 : MBuf (F := F) c arg2) (f3 : MBuf (F := F) c arg3) (f4 : MBuf (F := F) c arg4) (f5 : MBuf (F := F) c arg5) (f7 : MBuf (F := F) c arg7) (f6 : MBuf (F := F) c wM) (t1 : Fin k0_t1_loop.trips) : outerSt c arg0 harg0 arg1 harg1 arg2 harg2 arg3 harg3 arg4 harg4 arg5 harg5 arg7 harg7 f0 f1 f2 f3 f4 f5 f7 f6 (t1.val + 1)
    = (o_m67 c arg0 harg0 arg1 harg1 arg2 harg2 arg3 harg3 arg4 harg4 arg5 harg5 arg7 harg7 t1 (outerSt c arg0 harg0 arg1 harg1 arg2 harg2 arg3 harg3 arg4 harg4 arg5 harg5 arg7 harg7 f0 f1 f2 f3 f4 f5 f7 f6 t1.val).1 f0 f1 f2 f3 f4 f5 (outerSt c arg0 harg0 arg1 harg1 arg2 harg2 arg3 harg3 arg4 harg4 arg5 harg5 arg7 harg7 f0 f1 f2 f3 f4 f5 f7 f6 t1.val).2 f6, o_norm c arg0 harg0 arg1 harg1 arg2 harg2 arg3 harg3 arg4 harg4 arg5 harg5 arg7 harg7 t1 (outerSt c arg0 harg0 arg1 harg1 arg2 harg2 arg3 harg3 arg4 harg4 arg5 harg5 arg7 harg7 f0 f1 f2 f3 f4 f5 f7 f6 t1.val).1 f0 f1 f2 f3 f4 f5 (outerSt c arg0 harg0 arg1 harg1 arg2 harg2 arg3 harg3 arg4 harg4 arg5 harg5 arg7 harg7 f0 f1 f2 f3 f4 f5 f7 f6 t1.val).2 f6) := by
  rw [outerSt]; exact dif_pos t1.isLt

/-- What a step stores of the result does not depend on what its slot held. -/
theorem o_ybuf_indep (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole)
    (t1 : Fin k0_t1_loop.trips) (s : Mxu F)
    (f0 : MBuf (F := F) c arg0) (f1 : MBuf (F := F) c arg1) (f2 : MBuf (F := F) c arg2) (f3 : MBuf (F := F) c arg3) (f4 : MBuf (F := F) c arg4) (f5 : MBuf (F := F) c arg5) (f7 : MBuf (F := F) c arg7)
    (f6 : MBuf (F := F) c wM) (f12 f12' : MBuf (F := F) c ybufM) :
    (slotY t1.val).view.read (Elt F) (o_ybuf c arg0 harg0 arg1 harg1 arg2 harg2 arg3 harg3 arg4 harg4 arg5 harg5 arg7 harg7 t1 s f0 f1 f2 f3 f4 f5 f7 f6 f12) = (slotY t1.val).view.read (Elt F) (o_ybuf c arg0 harg0 arg1 harg1 arg2 harg2 arg3 harg3 arg4 harg4 arg5 harg5 arg7 harg7 t1 s f0 f1 f2 f3 f4 f5 f7 f6 f12') := by
  have hc : ∀ j : (Rect.unit (s := S2x256x512) ![t1.val % 2, 0, 0] S1x256x512.size (yslot_inb t1.val)).toLoadRect.shape.Idx,
      ∃ p ∈ [(⟨Rect.unit (s := S2x256x512) (k0_off82 t1) S1x256x256.size (k0_off82_inb t1), (o_s1 c arg0 harg0 arg1 harg1 arg2 harg2 arg3 harg3 arg4 harg4 arg5 harg5 arg7 harg7 t1 s f0 f1 f2 f3 f4 f5 f7 f6)⟩ : View.Piece (Elt F) S2x256x512 .bf16), ⟨Rect.unit (s := S2x256x512) (k0_off81 t1) S1x256x256.size (k0_off81_inb t1), (o_s0 c arg0 harg0 arg1 harg1 arg2 harg2 arg3 harg3 arg4 harg4 arg5 harg5 arg7 harg7 t1 s f0 f1 f2 f3 f4 f5 f7 f6)⟩],
        (Rect.unit (s := S2x256x512) ![t1.val % 2, 0, 0] S1x256x512.size (yslot_inb t1.val)).toLoadRect.idx j ∈ p.1.set := by
    intro j
    have hj0 : (j 0).val < 1 := (j 0).isLt
    have hj1 : (j 1).val < 256 := (j 1).isLt
    have hj2 : (j 2).val < 512 := (j 2).isLt
    by_cases h : (j 2).val < 256
    · refine ⟨_, List.mem_cons_of_mem _ (List.mem_singleton.mpr rfl), ?_⟩
      rw [Rect.mem_set_unit, Gen.k0_off81_eq t1]
      intro a
      fin_cases a
      · show t1.val % 2 ≤ t1.val % 2 + 1 * (j 0).val ∧ t1.val % 2 + 1 * (j 0).val < t1.val % 2 + 1; omega
      · show 0 ≤ 0 + 1 * (j 1).val ∧ 0 + 1 * (j 1).val < 0 + 256; omega
      · show 0 ≤ 0 + 1 * (j 2).val ∧ 0 + 1 * (j 2).val < 0 + 256; omega
    · refine ⟨_, List.mem_cons_self, ?_⟩
      rw [Rect.mem_set_unit, Gen.k0_off82_eq t1]
      intro a
      fin_cases a
      · show t1.val % 2 ≤ t1.val % 2 + 1 * (j 0).val ∧ t1.val % 2 + 1 * (j 0).val < t1.val % 2 + 1; omega
      · show 0 ≤ 0 + 1 * (j 1).val ∧ 0 + 1 * (j 1).val < 0 + 256; omega
      · show 256 ≤ 0 + 1 * (j 2).val ∧ 0 + 1 * (j 2).val < 256 + 256; omega
  have := View.readAt_writes_eq_of_cover (Val := Elt F) ybufM.view f12 f12' _ _ hc
  funext x
  exact congrFun this _

/-- Columns `512 k ..` of the result, as step `k` of the outer loop leaves them. -/
noncomputable def Yv (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole) (f0 : MBuf (F := F) c arg0) (f1 : MBuf (F := F) c arg1) (f2 : MBuf (F := F) c arg2) (f3 : MBuf (F := F) c arg3) (f4 : MBuf (F := F) c arg4) (f5 : MBuf (F := F) c arg5) (f7 : MBuf (F := F) c arg7) (f6 : MBuf (F := F) c wM) (k : ℕ) : Vec F S256x512 .bf16 :=
  if h : k < k0_t1_loop.trips then
    (slotY k).view.read (Elt F) (o_ybuf c arg0 harg0 arg1 harg1 arg2 harg2 arg3 harg3 arg4 harg4 arg5 harg5 arg7 harg7 ⟨k, h⟩ (outerSt c arg0 harg0 arg1 harg1 arg2 harg2 arg3 harg3 arg4 harg4 arg5 harg5 arg7 harg7 f0 f1 f2 f3 f4 f5 f7 f6 k).1 f0 f1 f2 f3 f4 f5 (outerSt c arg0 harg0 arg1 harg1 arg2 harg2 arg3 harg3 arg4 harg4 arg5 harg5 arg7 harg7 f0 f1 f2 f3 f4 f5 f7 f6 k).2 f6 ybufM.view.junk)
  else (slotY k).view.read (Elt F) ybufM.view.junk

theorem Yv_eq (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole) (f0 : MBuf (F := F) c arg0) (f1 : MBuf (F := F) c arg1) (f2 : MBuf (F := F) c arg2) (f3 : MBuf (F := F) c arg3) (f4 : MBuf (F := F) c arg4) (f5 : MBuf (F := F) c arg5) (f7 : MBuf (F := F) c arg7) (f6 : MBuf (F := F) c wM) (t1 : Fin k0_t1_loop.trips) (f12 : MBuf (F := F) c ybufM) :
    (slotY t1.val).view.read (Elt F) (o_ybuf c arg0 harg0 arg1 harg1 arg2 harg2 arg3 harg3 arg4 harg4 arg5 harg5 arg7 harg7 t1 (outerSt c arg0 harg0 arg1 harg1 arg2 harg2 arg3 harg3 arg4 harg4 arg5 harg5 arg7 harg7 f0 f1 f2 f3 f4 f5 f7 f6 t1.val).1 f0 f1 f2 f3 f4 f5 (outerSt c arg0 harg0 arg1 harg1 arg2 harg2 arg3 harg3 arg4 harg4 arg5 harg5 arg7 harg7 f0 f1 f2 f3 f4 f5 f7 f6 t1.val).2 f6 f12) = Yv c arg0 harg0 arg1 harg1 arg2 harg2 arg3 harg3 arg4 harg4 arg5 harg5 arg7 harg7 f0 f1 f2 f3 f4 f5 f7 f6 t1.val := by
  rw [Yv, dif_pos t1.isLt]
  exact o_ybuf_indep c arg0 harg0 arg1 harg1 arg2 harg2 arg3 harg3 arg4 harg4 arg5 harg5 arg7 harg7 t1 _ f0 f1 f2 f3 f4 f5 _ f6 _ _

end Cert.KernelIdeal.Hand

end
-- ==== Proof.KI.Pieces.lean ====
/-
  The result of the main call as fourteen groups of columns, and its buffers as their slots.
-/
module

public import proofs.«01_k».proof.Proof.KI.Outer
public import Idealize.ShloMosaic.Lib.Ring.AtN

@[expose] public section

set_option maxRecDepth 8192

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

/-! ## The groups of columns -/

/-- Groups `0 .. k-1`, each holding its value. -/
def doneY (c : Dev nD) (Y : ℕ → Vec F S256x512 .bf16) : ℕ → sProp 𝕄
  | 0 => iprop(emp)
  | k + 1 => iprop(doneY c Y k ∗ gotY c k (Y k))

/-- Groups `14 - n .. 13`, holding nothing in particular. -/
def todoYs (c : Dev nD) : ℕ → sProp 𝕄
  | 0 => iprop(emp)
  | n + 1 => iprop(todoY (F := F) c (14 - (n + 1)) ∗ todoYs c n)

/-- The elements of groups `lo .. hi-1`. -/
def colsY (c : Dev nD) (lo hi : ℕ) : Finset (Idx (yM.view.loc (c : Thread nD τ))) :=
  Finset.univ.filter fun i : S256x7168.Idx => 512 * lo ≤ (i 1).val ∧ (i 1).val < 512 * hi

theorem mem_colsY (c : Dev nD) (lo hi : ℕ) (i : S256x7168.Idx) : i ∈ colsY c lo hi ↔ 512 * lo ≤ (i 1).val ∧ (i 1).val < 512 * hi :=
  (Finset.mem_filter.trans (and_iff_right (Finset.mem_univ _)))

theorem dst_set (c : Dev nD) (b : ℕ) (hb : b < 14) : (dstY b).view.set = colsY c b (b + 1) := by
  refine (View.set_slice_whole main_v1_1 _).trans ?_
  ext i
  rw [Rect.mem_set_unit]
  refine Iff.trans ?_ (mem_colsY c b (b + 1) i).symm
  have h0 : ((i : S256x7168.Idx) 0).val < 256 := ((i : S256x7168.Idx) 0).isLt
  have e : b % 14 = b := Nat.mod_eq_of_lt hb
  constructor
  · intro h
    have h1 : 512 * (b % 14) ≤ ((i : S256x7168.Idx) 1).val ∧ ((i : S256x7168.Idx) 1).val < 512 * (b % 14) + 512 := h 1
    omega
  · intro h a
    fin_cases a
    · show 0 ≤ ((i : S256x7168.Idx) 0).val ∧ ((i : S256x7168.Idx) 0).val < 0 + 256; omega
    · show 512 * (b % 14) ≤ ((i : S256x7168.Idx) 1).val ∧ ((i : S256x7168.Idx) 1).val < 512 * (b % 14) + 512; omega

theorem colsY_union (c : Dev nD) {lo mid hi : ℕ} (h1 : lo ≤ mid) (h2 : mid ≤ hi) : colsY c lo mid ∪ colsY c mid hi = colsY c lo hi := by
  ext i
  rw [Finset.mem_union]
  rw [mem_colsY, mem_colsY, mem_colsY]; omega

theorem colsY_disjoint (c : Dev nD) {lo mid hi : ℕ} : Disjoint (colsY c lo mid) (colsY c mid hi) := by
  rw [Finset.disjoint_left]
  intro i h1 h2
  rw [mem_colsY] at h1 h2; omega

theorem colsY_all (c : Dev nD) : colsY c 0 14 = Finset.univ := by
  ext i
  have h1 : ((i : S256x7168.Idx) 1).val < 7168 := ((i : S256x7168.Idx) 1).isLt
  rw [mem_colsY]; exact ⟨fun _ => Finset.mem_univ _, fun _ => by omega⟩

theorem colsY_none (c : Dev nD) (k : ℕ) : colsY c k k = ∅ := by
  ext i
  rw [mem_colsY]; exact ⟨fun h => by omega, fun h => absurd h (Finset.notMem_empty _)⟩

theorem todoYs_split (c : Dev nD) (g : MBuf (F := F) c yM) : ∀ n, n ≤ 14 →
    ((yM.view.loc (c : Thread nD τ) ↦[colsY c (14 - n) 14]{fullShare} g : sProp 𝕄) ⊢ todoYs c n)
  | 0, _ => by
    rw [todoYs, show 14 - 0 = 14 from rfl, colsY_none, pointsTo_empty]
  | n + 1, h => by
    rw [todoYs, ← colsY_union c (show 14 - (n + 1) ≤ 14 - n by omega) (show 14 - n ≤ 14 by omega)]
    iintro H
    ihave H' := (pointsTo_union (colsY_disjoint c)).1 $$ H
    icases H' with ⟨Ha, Hb⟩
    isplitl [Ha]
    · unfold todoY
      iexists g
      rw [dst_set c (14 - (n + 1)) (by omega), show 14 - (n + 1) + 1 = 14 - n by omega]
      iexact Ha
    iapply (todoYs_split c g n (by omega))
    iexact Hb

theorem todoYs_of_whole (c : Dev nD) (g : MBuf (F := F) c yM) :
    (yM.view.loc (c : Thread nD τ) ↦[Finset.univ]{fullShare} g : sProp 𝕄) ⊢ todoYs c 14 := by
  have := todoYs_split c g 14 le_rfl
  rw [show 14 - 14 = 0 from rfl, colsY_all] at this
  exact this

theorem doneY_join (c : Dev nD) (Y : ℕ → Vec F S256x512 .bf16) (g₀ : MBuf (F := F) c yM) : ∀ k, k ≤ 14 →
    (doneY c Y k ⊢ (iprop(∃ g : MBuf (F := F) c yM, ⌜∀ b, b < k → (dstY b).view.read (Elt F) g = Y b⌝ ∗ (yM.view.loc (c : Thread nD τ) ↦[colsY c 0 k]{fullShare} g)) : sProp 𝕄))
  | 0, _ => by
    rw [doneY, colsY_none]
    iintro _
    iexists g₀
    rw [pointsTo_empty]
    isplitr; · ipureintro; intro b hb; omega
    iempintro
  | k + 1, h => by
    rw [doneY]
    unfold gotY
    iintro ⟨Hd, ⟨%f, %hf, Hf⟩⟩
    ihave H := (doneY_join c Y g₀ k (by omega)) $$ Hd
    icases H with ⟨%g, %hg, Hg⟩
    iexists ((colsY c k (k + 1)).piecewise f g)
    isplitr
    · ipureintro
      intro b hb
      by_cases e : b = k
      · subst e
        rw [← hf]
        refine View.read_congr fun i hi => ?_
        rw [dst_set c b (by omega)] at hi
        exact Finset.piecewise_eq_of_mem _ _ _ hi
      · rw [← hg b (by omega)]
        refine View.read_congr fun i hi => ?_
        rw [dst_set c b (by omega)] at hi
        refine Finset.piecewise_eq_of_notMem _ _ _ fun h' => ?_
        have h1 := (mem_colsY c _ _ i).mp hi
        have h2 := (mem_colsY c _ _ i).mp h'
        omega
    rw [dst_set c k (by omega), ← colsY_union c (Nat.zero_le k) (Nat.le_succ k)]
    iapply (pointsTo_join (colsY_disjoint c))
    isplitl [Hg]; · iexact Hg
    iexact Hf

theorem doneY_whole (c : Dev nD) (Y : ℕ → Vec F S256x512 .bf16) (g₀ : MBuf (F := F) c yM) :
    doneY c Y 14 ⊢ (iprop(∃ g : MBuf (F := F) c yM, ⌜∀ b, b < 14 → (dstY b).view.read (Elt F) g = Y b⌝ ∗ (yM.view.loc (c : Thread nD τ) ↦[Finset.univ]{fullShare} g)) : sProp 𝕄) := by
  have := doneY_join c Y g₀ 14 le_rfl
  rw [colsY_all] at this
  exact this

/-! ## The buffers as their slots -/

theorem slotB_set (c : Dev nD) (s : Fin 4) : (slotB s.val).view.set = (Finset.univ.filter fun i : S4x2048x512.Idx => (i 0).val = s.val : Finset (Idx (ringM.view.loc (c : Thread nD τ)))) := by
  refine (View.set_reshape _ _).trans ((View.set_slice_whole cc0_scratch0 _).trans ?_)
  ext i
  rw [Rect.mem_set_unit]
  refine Iff.trans ?_ (Finset.mem_filter.trans (and_iff_right (Finset.mem_univ _))).symm
  have h1 : ((i : S4x2048x512.Idx) 1).val < 2048 := ((i : S4x2048x512.Idx) 1).isLt
  have h2 : ((i : S4x2048x512.Idx) 2).val < 512 := ((i : S4x2048x512.Idx) 2).isLt
  have e : s.val % 4 = s.val := Nat.mod_eq_of_lt s.isLt
  constructor
  · intro h
    have h1 : s.val % 4 ≤ ((i : S4x2048x512.Idx) 0).val ∧ ((i : S4x2048x512.Idx) 0).val < s.val % 4 + 1 := h 0
    show ((i : S4x2048x512.Idx) 0).val = s.val
    omega
  · intro h a
    have h' : ((i : S4x2048x512.Idx) 0).val = s.val := h
    fin_cases a
    · show s.val % 4 ≤ ((i : S4x2048x512.Idx) 0).val ∧ ((i : S4x2048x512.Idx) 0).val < s.val % 4 + 1; omega
    · show 0 ≤ ((i : S4x2048x512.Idx) 1).val ∧ ((i : S4x2048x512.Idx) 1).val < 0 + 2048; omega
    · show 0 ≤ ((i : S4x2048x512.Idx) 2).val ∧ ((i : S4x2048x512.Idx) 2).val < 0 + 512; omega

theorem slotY_set (c : Dev nD) (s : Fin 2) : (slotY s.val).view.set = (Finset.univ.filter fun i : S2x256x512.Idx => (i 0).val = s.val : Finset (Idx (ybufM.view.loc (c : Thread nD τ)))) := by
  refine (View.set_reshape _ _).trans ((View.set_slice_whole cc0_scratch3 _).trans ?_)
  ext i
  rw [Rect.mem_set_unit]
  refine Iff.trans ?_ (Finset.mem_filter.trans (and_iff_right (Finset.mem_univ _))).symm
  have h1 : ((i : S2x256x512.Idx) 1).val < 256 := ((i : S2x256x512.Idx) 1).isLt
  have h2 : ((i : S2x256x512.Idx) 2).val < 512 := ((i : S2x256x512.Idx) 2).isLt
  have e : s.val % 2 = s.val := Nat.mod_eq_of_lt s.isLt
  constructor
  · intro h
    have h1 : s.val % 2 ≤ ((i : S2x256x512.Idx) 0).val ∧ ((i : S2x256x512.Idx) 0).val < s.val % 2 + 1 := h 0
    show ((i : S2x256x512.Idx) 0).val = s.val
    omega
  · intro h a
    have h' : ((i : S2x256x512.Idx) 0).val = s.val := h
    fin_cases a
    · show s.val % 2 ≤ ((i : S2x256x512.Idx) 0).val ∧ ((i : S2x256x512.Idx) 0).val < s.val % 2 + 1; omega
    · show 0 ≤ ((i : S2x256x512.Idx) 1).val ∧ ((i : S2x256x512.Idx) 1).val < 0 + 256; omega
    · show 0 ≤ ((i : S2x256x512.Idx) 2).val ∧ ((i : S2x256x512.Idx) 2).val < 0 + 512; omega

/-- The elements of slot `s`. -/
abbrev jsetB (c : Dev nD) (s : Fin 4) : Finset (Idx (ringM.view.loc (c : Thread nD τ))) := (slotB s.val).view.set
abbrev jsetY (c : Dev nD) (s : Fin 2) : Finset (Idx (ybufM.view.loc (c : Thread nD τ))) := (slotY s.val).view.set

theorem slotB_disjoint (c : Dev nD) (s s' : Fin 4) (h : s ≠ s') :
    Disjoint (α := Finset (Idx (ringM.view.loc (c : Thread nD τ)))) (slotB s.val).view.set (slotB s'.val).view.set := by
  rw [slotB_set c s, slotB_set c s', Finset.disjoint_left]
  intro i h1 h2
  exact h (Fin.ext ((Finset.mem_filter.mp h1).2.symm.trans (Finset.mem_filter.mp h2).2))

theorem slotB_cover (c : Dev nD) : (Finset.univ : Finset (Fin 4)).biUnion (fun s => (jsetB c s)) = Finset.univ := by
  ext i
  refine ⟨fun _ => Finset.mem_univ _, fun _ => Finset.mem_biUnion.mpr ⟨(i : S4x2048x512.Idx) 0, Finset.mem_univ _, ?_⟩⟩
  exact (Finset.ext_iff.mp (slotB_set c ((i : S4x2048x512.Idx) 0)) i).mpr (Finset.mem_filter.mpr ⟨Finset.mem_univ _, rfl⟩)

theorem slotY_disjoint (c : Dev nD) (s s' : Fin 2) (h : s ≠ s') :
    Disjoint (α := Finset (Idx (ybufM.view.loc (c : Thread nD τ)))) (slotY s.val).view.set (slotY s'.val).view.set := by
  rw [slotY_set c s, slotY_set c s', Finset.disjoint_left]
  intro i h1 h2
  exact h (Fin.ext ((Finset.mem_filter.mp h1).2.symm.trans (Finset.mem_filter.mp h2).2))

theorem slotY_cover (c : Dev nD) : (Finset.univ : Finset (Fin 2)).biUnion (fun s => (jsetY c s)) = Finset.univ := by
  ext i
  refine ⟨fun _ => Finset.mem_univ _, fun _ => Finset.mem_biUnion.mpr ⟨(i : S2x256x512.Idx) 0, Finset.mem_univ _, ?_⟩⟩
  exact (Finset.ext_iff.mp (slotY_set c ((i : S2x256x512.Idx) 0)) i).mpr (Finset.mem_filter.mpr ⟨Finset.mem_univ _, rfl⟩)

/-- A slot of the ring, at anything. -/
abbrev anyB (c : Dev nD) (b : ℕ) : sProp 𝕄 := iprop(∃ f, (slotB b).view.loc (c : Thread nD τ) ↦[(slotB b).view.set]{fullShare} f)
/-- A slot of the result's buffer, at anything. -/
abbrev anyY (c : Dev nD) (b : ℕ) : sProp 𝕄 := iprop(∃ f : MBuf (F := F) c ybufM, ybufM.view.loc (c : Thread nD τ) ↦[(slotY b).view.set]{fullShare} f)

theorem ring_split (c : Dev nD) : iprop(∃ f, ringM.view.loc (c : Thread nD τ) ↦[Finset.univ]{fullShare} f)
    ⊢ (iprop(anyB (F := F) c 0 ∗ anyB c 1 ∗ anyB c 2 ∗ anyB c 3) : sProp 𝕄) :=
  Idealize.ShloMosaic.Ring.slots_split_n (jsetB c) (slotB_disjoint c) (slotB_cover c) [0, 1, 2, 3] (by decide) (by decide)
    (fun s f => (ringM.view.loc (c : Thread nD τ) ↦[(slotB s.val).view.set]{fullShare} f : sProp 𝕄)) (fun _ _ => rfl)
theorem ring_join (c : Dev nD) : iprop(anyB (F := F) c 0 ∗ anyB c 1 ∗ anyB c 2 ∗ anyB c 3)
    ⊢ (iprop(∃ f, ringM.view.loc (c : Thread nD τ) ↦[Finset.univ]{fullShare} f) : sProp 𝕄) :=
  Idealize.ShloMosaic.Ring.slots_join_n (jsetB c) (slotB_disjoint c) (slotB_cover c) [0, 1, 2, 3] (by decide) (by decide)
    (fun s f => (ringM.view.loc (c : Thread nD τ) ↦[(slotB s.val).view.set]{fullShare} f : sProp 𝕄)) (fun _ _ => rfl)
theorem ybuf_split (c : Dev nD) : iprop(∃ f, ybufM.view.loc (c : Thread nD τ) ↦[Finset.univ]{fullShare} f)
    ⊢ (iprop(anyY (F := F) c 0 ∗ anyY c 1) : sProp 𝕄) :=
  Idealize.ShloMosaic.Ring.slots_split_n (jsetY c) (slotY_disjoint c) (slotY_cover c) [0, 1] (by decide) (by decide)
    (fun s f => (ybufM.view.loc (c : Thread nD τ) ↦[(slotY s.val).view.set]{fullShare} f : sProp 𝕄)) (fun _ _ => rfl)
theorem ybuf_join (c : Dev nD) : iprop(anyY (F := F) c 0 ∗ anyY c 1)
    ⊢ (iprop(∃ f, ybufM.view.loc (c : Thread nD τ) ↦[Finset.univ]{fullShare} f) : sProp 𝕄) :=
  Idealize.ShloMosaic.Ring.slots_join_n (jsetY c) (slotY_disjoint c) (slotY_cover c) [0, 1] (by decide) (by decide)
    (fun s f => (ybufM.view.loc (c : Thread nD τ) ↦[(slotY s.val).view.set]{fullShare} f : sProp 𝕄)) (fun _ _ => rfl)

theorem w_split (c : Dev nD) (f6 : MBuf (F := F) c wM) : (wM.view.loc (c : Thread nD τ) ↦[Finset.univ]{fullShare} f6 : sProp 𝕄)
    ⊢ iprop((wM.view.loc (c : Thread nD τ) ↦[Finset.univ]{Transfers.shareDrop fullShare 4} f6) ∗ (wM.view.loc (c : Thread nD τ) ↦[Finset.univ]{shB 0} f6)
      ∗ (wM.view.loc (c : Thread nD τ) ↦[Finset.univ]{shB 1} f6) ∗ (wM.view.loc (c : Thread nD τ) ↦[Finset.univ]{shB 2} f6) ∗ (wM.view.loc (c : Thread nD τ) ↦[Finset.univ]{shB 3} f6)) := by
  have h := Transfers.pointsTo_toks (ℓ := wM.view.loc (c : Thread nD τ)) (S := Finset.univ) (f := f6) (Ix := Unit) (Name := ℕ) (U := Pipeline.UD sig nD τ) (Lvl := ℕ) fullShare 4
  rw [BI.bigSep_univ_eq_bigSepL [0, 1, 2, 3] (by decide) (by decide)] at h
  exact h.1
theorem w_join (c : Dev nD) (f6 : MBuf (F := F) c wM) :
    iprop((wM.view.loc (c : Thread nD τ) ↦[Finset.univ]{Transfers.shareDrop fullShare 4} f6) ∗ (wM.view.loc (c : Thread nD τ) ↦[Finset.univ]{shB 0} f6)
      ∗ (wM.view.loc (c : Thread nD τ) ↦[Finset.univ]{shB 1} f6) ∗ (wM.view.loc (c : Thread nD τ) ↦[Finset.univ]{shB 2} f6) ∗ (wM.view.loc (c : Thread nD τ) ↦[Finset.univ]{shB 3} f6))
    ⊢ (wM.view.loc (c : Thread nD τ) ↦[Finset.univ]{fullShare} f6 : sProp 𝕄) := by
  have h := Transfers.pointsTo_toks (ℓ := wM.view.loc (c : Thread nD τ)) (S := Finset.univ) (f := f6) (Ix := Unit) (Name := ℕ) (U := Pipeline.UD sig nD τ) (Lvl := ℕ) fullShare 4
  rw [BI.bigSep_univ_eq_bigSepL [0, 1, 2, 3] (by decide) (by decide)] at h
  exact h.2

end Cert.KernelIdeal.Hand

end
-- ==== Proof.KI.Outer0.lean ====
/-
  One step of the outer loop of the main call, its first two steps.
-/
module

public import proofs.«01_k».proof.Proof.KI.Outer
public import Idealize.ShloMosaic.Lib.VecWindow
public import Idealize.ShloMosaic.Lib.WritesUnit
public import Idealize.ShloMosaic.Lib.Mxu.Walk

@[expose] public section

set_option maxRecDepth 8192

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

set_option maxHeartbeats 400000 in
theorem outer_run0 (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole)
    (t1 : Fin k0_t1_loop.trips) (s : Mxu F)
    (f0 : MBuf (F := F) c arg0) (f1 : MBuf (F := F) c arg1) (f2 : MBuf (F := F) c arg2) (f3 : MBuf (F := F) c arg3) (f4 : MBuf (F := F) c arg4) (f5 : MBuf (F := F) c arg5) (f7 : MBuf (F := F) c arg7)
    (f6 : MBuf (F := F) c wM) (f11 : MBuf (F := F) c ssqM) (h : MxuB s) (h2 : ¬ 2 ≤ t1.val)
    (Q : Mxu F → sProp 𝕄) :
    iprop(ringAt c f6 (9 * t1.val) ∗ freeY (F := F) c t1.val ∗ todoY (F := F) c t1.val ∗ (∃ W, owes (c : Thread nD τ) 0 W)
        ∗ (arg0.view.loc (c : Thread nD τ) ↦[arg0.view.set]{fullShare} f0)
        ∗ (arg1.view.loc (c : Thread nD τ) ↦[arg1.view.set]{fullShare} f1)
        ∗ (arg2.view.loc (c : Thread nD τ) ↦[arg2.view.set]{fullShare} f2)
        ∗ (arg3.view.loc (c : Thread nD τ) ↦[arg3.view.set]{fullShare} f3)
        ∗ (arg4.view.loc (c : Thread nD τ) ↦[arg4.view.set]{fullShare} f4)
        ∗ (arg5.view.loc (c : Thread nD τ) ↦[arg5.view.set]{fullShare} f5)
        ∗ (arg7.view.loc (c : Thread nD τ) ↦[arg7.view.set]{fullShare} f7)
        ∗ (ssqM.view.loc (c : Thread nD τ) ↦[ssqM.view.set]{fullShare} f11)
        ∗ ((ringAt c f6 (9 * (t1.val + 1)) ∗ (∃ f12 : MBuf (F := F) c ybufM, inflY c t1.val t1.val ((slotY t1.val).view.read (Elt F) (o_ybuf c arg0 harg0 arg1 harg1 arg2 harg2 arg3 harg3 arg4 harg4 arg5 harg5 arg7 harg7 t1 s f0 f1 f2 f3 f4 f5 f7 f6 f12))) ∗ (∃ W, owes (c : Thread nD τ) 0 W)
        ∗ (arg0.view.loc (c : Thread nD τ) ↦[arg0.view.set]{fullShare} f0)
        ∗ (arg1.view.loc (c : Thread nD τ) ↦[arg1.view.set]{fullShare} f1)
        ∗ (arg2.view.loc (c : Thread nD τ) ↦[arg2.view.set]{fullShare} f2)
        ∗ (arg3.view.loc (c : Thread nD τ) ↦[arg3.view.set]{fullShare} f3)
        ∗ (arg4.view.loc (c : Thread nD τ) ↦[arg4.view.set]{fullShare} f4)
        ∗ (arg5.view.loc (c : Thread nD τ) ↦[arg5.view.set]{fullShare} f5)
        ∗ (arg7.view.loc (c : Thread nD τ) ↦[arg7.view.set]{fullShare} (o_norm c arg0 harg0 arg1 harg1 arg2 harg2 arg3 harg3 arg4 harg4 arg5 harg5 arg7 harg7 t1 s f0 f1 f2 f3 f4 f5 f7 f6))
        ∗ (ssqM.view.loc (c : Thread nD τ) ↦[ssqM.view.set]{fullShare} (o_in c arg0 harg0 arg1 harg1 arg2 harg2 arg3 harg3 arg4 harg4 arg5 harg5 arg7 harg7 t1 s f0 f1 f2 f3 f4 f5 f7 f6).2)) -∗ Q (o_m67 c arg0 harg0 arg1 harg1 arg2 harg2 arg3 harg3 arg4 harg4 arg5 harg5 arg7 harg7 t1 s f0 f1 f2 f3 f4 f5 f7 f6)))
      ⊢ wp frame (wpE (defs₀ (F := F)) Variants.none (c : Thread nD τ) none) Set.univ
          (k0_t1_body arg0 harg0 arg1 harg1 arg2 harg2 arg3 harg3 arg4 harg4 arg5 harg5 wM (Memref.isWhole_whole _) arg7 harg7 yM (Memref.isWhole_whole _)
            ringM (Memref.isWhole_whole _) cc0_scratch1 ssqM (Memref.isWhole_whole _) ybufM (Memref.isWhole_whole _) cc0_scratch4 t1 s) Q := by
  have hc : ¬ k0_cond2 t1 = 1#1 := fun h => h2 ((cond2_iff t1).mp h)
  have ef : freeY (F := F) c t1.val = iprop(semVal ((c : Thread nD τ), SemLoc.dma (cellY t1.val)) 0 ∗ (∃ f : MBuf (F := F) c ybufM, (slotY t1.val).view.loc (c : Thread nD τ) ↦[(slotY t1.val).view.set]{fullShare} f)) := rfl
  have hcanon4 := ycell_congr t1.val (Gen.k0_off83_eq t1) (k0_off83_inb t1)
  have hcanon5 := ydst_congr t1.val (off84_eq t1) (k0_off84_inb t1)
  have hcanon6 := yslot_congr t1.val (Gen.k0_off85_eq t1) (k0_off85_inb t1)
  have hi81 := ystore_incl t1.val (Gen.k0_off81_eq t1) (k0_off81_inb t1)
  have hi82 := ystore_incl t1.val (Gen.k0_off82_eq t1) (k0_off82_inb t1)
  have hb9 := inner_ok c arg0 harg0 arg1 harg1 arg2 harg2 arg3 harg3 arg4 harg4 arg5 harg5 arg7 harg7 t1 s f0 f1 f2 (o_ssq0 c arg0 harg0 arg1 harg1 arg2 harg2 arg3 harg3 arg4 harg4 arg5 harg5 arg7 harg7 t1 s f0 f1 f2 f3 f4 f5 f7 f6) f6 h 9
  have hp00 : (innerSt c arg0 harg0 arg1 harg1 arg2 harg2 arg3 harg3 arg4 harg4 arg5 harg5 arg7 harg7 t1 s f0 f1 f2 (o_ssq0 c arg0 harg0 arg1 harg1 arg2 harg2 arg3 harg3 arg4 harg4 arg5 harg5 arg7 harg7 t1 s f0 f1 f2 f3 f4 f5 f7 f6) f6 9).1.PushOk 0 0 false := Mxu.pushOk_of_none _ _ _ _ hb9.r00
  have hp10 : (innerSt c arg0 harg0 arg1 harg1 arg2 harg2 arg3 harg3 arg4 harg4 arg5 harg5 arg7 harg7 t1 s f0 f1 f2 (o_ssq0 c arg0 harg0 arg1 harg1 arg2 harg2 arg3 harg3 arg4 harg4 arg5 harg5 arg7 harg7 t1 s f0 f1 f2 f3 f4 f5 f7 f6) f6 9).1.PushOk 1 0 false := Mxu.pushOk_of_none _ _ _ _ hb9.r10
  rw [ef]
  unfold inflY todoY
  iintro ⟨Hr, ⟨Hsem, ⟨%fy, Hfl⟩⟩, ⟨%g, Hy⟩, ⟨%W, HO⟩, Ha0, Ha1, Ha2, Ha3, Ha4, Ha5, Ha7, Hs, Hk⟩
  unfold k0_t1_body
  sl_exec_parts (disch := first | (mxu_pushok_peel; done) | (mxu_pushok_peel; assumption))
  sl_for (innerInv c arg0 harg0 arg1 harg1 arg2 harg2 arg3 harg3 arg4 harg4 arg5 harg5 arg7 harg7 t1 s f0 f1 f2 (o_ssq0 c arg0 harg0 arg1 harg1 arg2 harg2 arg3 harg3 arg4 harg4 arg5 harg5 arg7 harg7 t1 s f0 f1 f2 f3 f4 f5 f7 f6) f6) $$ [Hr HO Ha0 Ha1 Ha2 Hs]
  case region =>
    intro k x
    exact inner_step c arg0 harg0 arg1 harg1 arg2 harg2 arg3 harg3 arg4 harg4 arg5 harg5 arg7 harg7 t1 s f0 f1 f2 (o_ssq0 c arg0 harg0 arg1 harg1 arg2 harg2 arg3 harg3 arg4 harg4 arg5 harg5 arg7 harg7 t1 s f0 f1 f2 f3 f4 f5 f7 f6) f6 h _ _ k x
  · unfold innerInv
    isplitr; · ipureintro; rfl
    isplitl [Hr]; · iexact Hr
    isplitl [HO]; · iexists _; iexact HO
    isplitl [Ha0]; · iexact Ha0
    isplitl [Ha1]; · iexact Ha1
    isplitl [Ha2]; · iexact Ha2
    rw [show innerSt c arg0 harg0 arg1 harg1 arg2 harg2 arg3 harg3 arg4 harg4 arg5 harg5 arg7 harg7 t1 s f0 f1 f2 (o_ssq0 c arg0 harg0 arg1 harg1 arg2 harg2 arg3 harg3 arg4 harg4 arg5 harg5 arg7 harg7 t1 s f0 f1 f2 f3 f4 f5 f7 f6) f6 0 = (s, (o_ssq0 c arg0 harg0 arg1 harg1 arg2 harg2 arg3 harg3 arg4 harg4 arg5 harg5 arg7 harg7 t1 s f0 f1 f2 f3 f4 f5 f7 f6)) from rfl]
    sl_unfold_run_names
    iexact Hs
  iintro %x HI
  unfold innerInv
  icases HI with ⟨%hx, Hr, ⟨%W1, HO⟩, Ha0, Ha1, Ha2, Hs⟩
  subst hx
  sl_exec_parts (disch := first | (mxu_pushok_peel; done) | (mxu_pushok_peel; assumption))
  sl_step
  have em : outer_run0.sl.k0_mxu67 c arg0 harg0 arg1 harg1 arg2 harg2 arg3 harg3 arg4 harg4 arg5 harg5 arg7 harg7 t1 s f0 f1 f2 f3 f4 f5 f7 f6 = (o_m67 c arg0 harg0 arg1 harg1 arg2 harg2 arg3 harg3 arg4 harg4 arg5 harg5 arg7 harg7 t1 s f0 f1 f2 f3 f4 f5 f7 f6) := rfl
  rw [em]
  iapply Hk
  isplitl [Hr]; · iexact Hr
  isplitl [Hsem]
  · iexists fy
    iexists (outer_run0.sl.Hfl_w2 c arg0 harg0 arg1 harg1 arg2 harg2 arg3 harg3 arg4 harg4 arg5 harg5 arg7 harg7 t1 s f0 f1 f2 f3 f4 f5 f7 f6 fy); iexists g
    isplitr
    · ipureintro; rfl
    iexact Hsem
  isplitl [HO]; · iexists _; iexact HO
  isplitl [Ha0]; · iexact Ha0
  isplitl [Ha1]; · iexact Ha1
  isplitl [Ha2]; · iexact Ha2
  isplitl [Ha3]; · iexact Ha3
  isplitl [Ha4]; · iexact Ha4
  isplitl [Ha5]; · iexact Ha5
  isplitl [Ha7]; · iexact Ha7
  iexact Hs

end Cert.KernelIdeal.Hand

end
-- ==== Proof.KI.Body.lean ====
/-
  The main call's outer loop and its whole body.
-/
module

public import proofs.«01_k».proof.Proof.KI.Drain
public import proofs.«01_k».proof.Proof.KI.Pieces
public import proofs.«01_k».proof.Proof.KI.Outer0
public import Idealize.ShloMosaic.Lib.VecWindow
public import Idealize.ShloMosaic.Lib.WritesUnit
public import Idealize.ShloMosaic.Lib.Mxu.Walk

@[expose] public section

set_option maxRecDepth 8192

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

/-- The slot of step `k`, before that step: its last transfer in flight, if it had one. -/
def pendY (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole) (f0 : MBuf (F := F) c arg0) (f1 : MBuf (F := F) c arg1) (f2 : MBuf (F := F) c arg2) (f3 : MBuf (F := F) c arg3) (f4 : MBuf (F := F) c arg4) (f5 : MBuf (F := F) c arg5) (f7 : MBuf (F := F) c arg7) (f6 : MBuf (F := F) c wM) (k : ℕ) : sProp 𝕄 := if 2 ≤ k then inflY c k (k - 2) (Yv c arg0 harg0 arg1 harg1 arg2 harg2 arg3 harg3 arg4 harg4 arg5 harg5 arg7 harg7 f0 f1 f2 f3 f4 f5 f7 f6 (k - 2)) else freeY (F := F) c k

/-- A result transfer in flight, its slot and semaphore at the offsets given. -/
def inflO (c : Dev nD) (o : Fin 3 → ℕ) (hi : ∀ a, o a + S1x256x512.size a ≤ S2x256x512.size a) (o1 : Fin 1 → ℕ) (hi1 : ∀ a, o1 a + S1.size a ≤ S2.size a) (b : ℕ) (v : Vec F S256x512 .bf16) : sProp 𝕄 :=
  iprop(∃ (f : MBuf (F := F) c ybufM) (g : MBuf (F := F) c (dstY b)), ⌜((ybufM.slice (Rect.unit (s := S2x256x512) o S1x256x512.size hi) (fun _ => rfl)).squeeze S256x512 squeezes_S1x256x512_S256x512).view.read (Elt F) f = v⌝ ∗
    Transfers.Flight (countersEmb (U := Pipeline.UD sig nD τ)) (c : Thread nD τ) (SemLoc.dma ((cc0_scratch4.slice (Rect.unit (s := S2) o1 S1.size hi1)).squeeze S_ squeezes_S1_S_).sem) () 8192
            iprop(((dstY b).view.loc (c : Thread nD τ) ↦[(dstY b).view.set]{fullShare} (dstY b).view.writes (Elt F) g [⟨Rect.whole S256x512, ReadAs.same.apply (((ybufM.slice (Rect.unit (s := S2x256x512) o S1x256x512.size hi) (fun _ => rfl)).squeeze S256x512 squeezes_S1x256x512_S256x512).view.read (Elt F) f)⟩])
              ∗ (((ybufM.slice (Rect.unit (s := S2x256x512) o S1x256x512.size hi) (fun _ => rfl)).squeeze S256x512 squeezes_S1x256x512_S256x512).view.loc (c : Thread nD τ) ↦[((ybufM.slice (Rect.unit (s := S2x256x512) o S1x256x512.size hi) (fun _ => rfl)).squeeze S256x512 squeezes_S1x256x512_S256x512).view.set]{fullShare} f)))

theorem inflO_congr (c : Dev nD) {o o' : Fin 3 → ℕ} (e : o = o') (hi) (hi') {o1 o1' : Fin 1 → ℕ} (e1 : o1 = o1') (hi1) (hi1') (b : ℕ) (v : Vec F S256x512 .bf16) :
    inflO c o hi o1 hi1 b v = inflO c o' hi' o1' hi1' b v := by subst e e1; rfl

theorem inflY_move (c : Dev nD) (b' b'' b : ℕ) (v : Vec F S256x512 .bf16) (h : b' % 2 = b'' % 2) : inflY c b' b v ⊢ inflY c b'' b v :=
  Entails.of_eq (inflO_congr c (by rw [h]) (yslot_inb b') (yslot_inb b'') (by rw [h]) (ycell_inb b') (ycell_inb b'') b v)

/-- The outer loop's invariant. -/
def outerInv (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole) (f0 : MBuf (F := F) c arg0) (f1 : MBuf (F := F) c arg1) (f2 : MBuf (F := F) c arg2) (f3 : MBuf (F := F) c arg3) (f4 : MBuf (F := F) c arg4) (f5 : MBuf (F := F) c arg5) (f7 : MBuf (F := F) c arg7) (f6 : MBuf (F := F) c wM) (k : ℕ) (x : Mxu F) : sProp 𝕄 :=
  iprop(⌜x = (outerSt c arg0 harg0 arg1 harg1 arg2 harg2 arg3 harg3 arg4 harg4 arg5 harg5 arg7 harg7 f0 f1 f2 f3 f4 f5 f7 f6 k).1⌝ ∗ ringAt c f6 (9 * k) ∗ pendY c arg0 harg0 arg1 harg1 arg2 harg2 arg3 harg3 arg4 harg4 arg5 harg5 arg7 harg7 f0 f1 f2 f3 f4 f5 f7 f6 k ∗ pendY c arg0 harg0 arg1 harg1 arg2 harg2 arg3 harg3 arg4 harg4 arg5 harg5 arg7 harg7 f0 f1 f2 f3 f4 f5 f7 f6 (k + 1) ∗ doneY c (Yv c arg0 harg0 arg1 harg1 arg2 harg2 arg3 harg3 arg4 harg4 arg5 harg5 arg7 harg7 f0 f1 f2 f3 f4 f5 f7 f6) (k - 2) ∗ todoYs (F := F) c (14 - k)
    ∗ (∃ W, owes (c : Thread nD τ) 0 W) ∗ (arg0.view.loc (c : Thread nD τ) ↦[arg0.view.set]{fullShare} f0) ∗ (arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg7.view.loc (c : Thread nD τ) ↦[arg7.view.set]{fullShare} (outerSt c arg0 harg0 arg1 harg1 arg2 harg2 arg3 harg3 arg4 harg4 arg5 harg5 arg7 harg7 f0 f1 f2 f3 f4 f5 f7 f6 k).2)
    ∗ (∃ f11 : MBuf (F := F) c ssqM, ssqM.view.loc (c : Thread nD τ) ↦[ssqM.view.set]{fullShare} f11))

theorem outer_step (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole) (f0 : MBuf (F := F) c arg0) (f1 : MBuf (F := F) c arg1) (f2 : MBuf (F := F) c arg2) (f3 : MBuf (F := F) c arg3) (f4 : MBuf (F := F) c arg4) (f5 : MBuf (F := F) c arg5) (f7 : MBuf (F := F) c arg7) (f6 : MBuf (F := F) c wM) (k : Fin k0_t1_loop.trips) (x : Mxu F) :
    outerInv c arg0 harg0 arg1 harg1 arg2 harg2 arg3 harg3 arg4 harg4 arg5 harg5 arg7 harg7 f0 f1 f2 f3 f4 f5 f7 f6 k.val x
      ⊢ wp frame (wpE (defs₀ (F := F)) Variants.none (c : Thread nD τ) none) Set.univ
          (k0_t1_body arg0 harg0 arg1 harg1 arg2 harg2 arg3 harg3 arg4 harg4 arg5 harg5 wM (Memref.isWhole_whole _) arg7 harg7 yM (Memref.isWhole_whole _)
            ringM (Memref.isWhole_whole _) cc0_scratch1 ssqM (Memref.isWhole_whole _) ybufM (Memref.isWhole_whole _) cc0_scratch4 k x)
          (fun y => outerInv c arg0 harg0 arg1 harg1 arg2 harg2 arg3 harg3 arg4 harg4 arg5 harg5 arg7 harg7 f0 f1 f2 f3 f4 f5 f7 f6 (k.val + 1) y) := by
  have hb := MxuB.of_drained (outerSt_drained c arg0 harg0 arg1 harg1 arg2 harg2 arg3 harg3 arg4 harg4 arg5 harg5 arg7 harg7 f0 f1 f2 f3 f4 f5 f7 f6 k.val)
  have hk : k.val < 14 := k.isLt
  have es := outerSt_succ c arg0 harg0 arg1 harg1 arg2 harg2 arg3 harg3 arg4 harg4 arg5 harg5 arg7 harg7 f0 f1 f2 f3 f4 f5 f7 f6 k
  unfold outerInv
  rw [es, show 14 - k.val = (14 - (k.val + 1)) + 1 by omega, todoYs, show 14 - (14 - (k.val + 1) + 1) = k.val by omega]
  by_cases h2 : 2 ≤ k.val
  · unfold pendY
    rw [if_pos h2, if_pos (show 2 ≤ k.val + 1 by omega), if_pos (show 2 ≤ k.val + 1 + 1 by omega)]
    iintro ⟨%hx, Hr, Hp, Hp', Hd, ⟨Ht, Hts⟩, HO, Ha0, Ha1, Ha2, Ha3, Ha4, Ha5, Ha7, ⟨%f11, Hs⟩⟩
    subst hx
    iapply (outer_run1 c arg0 harg0 arg1 harg1 arg2 harg2 arg3 harg3 arg4 harg4 arg5 harg5 arg7 harg7 k _ f0 f1 f2 f3 f4 f5 _ f6 f11 hb h2 (Yv c arg0 harg0 arg1 harg1 arg2 harg2 arg3 harg3 arg4 harg4 arg5 harg5 arg7 harg7 f0 f1 f2 f3 f4 f5 f7 f6 (k.val - 2)))
    isplitl [Hr]; · iexact Hr
    isplitl [Hp]; · iexact Hp
    isplitl [Ht]; · iexact Ht
    isplitl [HO]; · iexact HO
    isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    isplitl [Ha7]; · iexact Ha7
    isplitl [Hs]; · iexact Hs
    iintro ⟨Hr, ⟨%f12, Hq⟩, Hg, HO, Ha0, Ha1, Ha2, Ha3, Ha4, Ha5, Ha7, Hs⟩
    isplitr; · ipureintro; rfl
    isplitl [Hr]; · iexact Hr
    isplitl [Hp']; · iexact Hp'
    isplitl [Hq]
    · rw [Yv_eq c arg0 harg0 arg1 harg1 arg2 harg2 arg3 harg3 arg4 harg4 arg5 harg5 arg7 harg7 f0 f1 f2 f3 f4 f5 f7 f6 k f12, show k.val + 1 + 1 - 2 = k.val by omega]
      iapply (inflY_move c k.val (k.val + 1 + 1) k.val _ (by omega))
      iexact Hq
    isplitl [Hd Hg]
    · rw [show k.val + 1 - 2 = (k.val - 2) + 1 by omega, doneY]
      isplitl [Hd]; · iexact Hd
      iexact Hg
    isplitl [Hts]; · iexact Hts
    isplitl [HO]; · iexact HO
    isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    isplitl [Ha7]; · iexact Ha7
    iexists _; iexact Hs
  · unfold pendY
    rw [if_neg h2, if_pos (show 2 ≤ k.val + 1 + 1 by omega)]
    iintro ⟨%hx, Hr, Hp, Hp', Hd, ⟨Ht, Hts⟩, HO, Ha0, Ha1, Ha2, Ha3, Ha4, Ha5, Ha7, ⟨%f11, Hs⟩⟩
    subst hx
    iapply (outer_run0 c arg0 harg0 arg1 harg1 arg2 harg2 arg3 harg3 arg4 harg4 arg5 harg5 arg7 harg7 k _ f0 f1 f2 f3 f4 f5 _ f6 f11 hb h2)
    isplitl [Hr]; · iexact Hr
    isplitl [Hp]; · iexact Hp
    isplitl [Ht]; · iexact Ht
    isplitl [HO]; · iexact HO
    isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    isplitl [Ha7]; · iexact Ha7
    isplitl [Hs]; · iexact Hs
    iintro ⟨Hr, ⟨%f12, Hq⟩, HO, Ha0, Ha1, Ha2, Ha3, Ha4, Ha5, Ha7, Hs⟩
    isplitr; · ipureintro; rfl
    isplitl [Hr]; · iexact Hr
    isplitl [Hp']; · iexact Hp'
    isplitl [Hq]
    · rw [Yv_eq c arg0 harg0 arg1 harg1 arg2 harg2 arg3 harg3 arg4 harg4 arg5 harg5 arg7 harg7 f0 f1 f2 f3 f4 f5 f7 f6 k f12, show k.val + 1 + 1 - 2 = k.val by omega]
      iapply (inflY_move c k.val (k.val + 1 + 1) k.val _ (by omega))
      iexact Hq
    isplitl [Hd]
    · rw [show k.val + 1 - 2 = k.val - 2 by omega]
      iexact Hd
    isplitl [Hts]; · iexact Hts
    isplitl [HO]; · iexact HO
    isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    isplitl [Ha7]; · iexact Ha7
    iexists _; iexact Hs

/-- The column group of an element of the result. -/
abbrev ygrp (i : S256x7168.Idx) : ℕ := (i 1).val / 512
/-- Its place within the group. -/
abbrev yloc (i : S256x7168.Idx) : S256x512.Idx := fun | ⟨0, _⟩ => i 0 | ⟨1, _⟩ => ⟨(i 1).val % 512, Nat.mod_lt _ (by decide)⟩

/-- The result of the main call. -/
noncomputable def yOut (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole) (f0 : MBuf (F := F) c arg0) (f1 : MBuf (F := F) c arg1) (f2 : MBuf (F := F) c arg2) (f3 : MBuf (F := F) c arg3) (f4 : MBuf (F := F) c arg4) (f5 : MBuf (F := F) c arg5) (f7 : MBuf (F := F) c arg7) (f6 : MBuf (F := F) c wM) : MBuf (F := F) c yM := fun i : S256x7168.Idx => Yv c arg0 harg0 arg1 harg1 arg2 harg2 arg3 harg3 arg4 harg4 arg5 harg5 arg7 harg7 f0 f1 f2 f3 f4 f5 f7 f6 (ygrp i) (yloc i)

theorem y_eq (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole) (f0 : MBuf (F := F) c arg0) (f1 : MBuf (F := F) c arg1) (f2 : MBuf (F := F) c arg2) (f3 : MBuf (F := F) c arg3) (f4 : MBuf (F := F) c arg4) (f5 : MBuf (F := F) c arg5) (f7 : MBuf (F := F) c arg7) (f6 : MBuf (F := F) c wM) (g : MBuf (F := F) c yM) (h : ∀ b, b < 14 → (dstY b).view.read (Elt F) g = Yv c arg0 harg0 arg1 harg1 arg2 harg2 arg3 harg3 arg4 harg4 arg5 harg5 arg7 harg7 f0 f1 f2 f3 f4 f5 f7 f6 b) : g = yOut c arg0 harg0 arg1 harg1 arg2 harg2 arg3 harg3 arg4 harg4 arg5 harg5 arg7 harg7 f0 f1 f2 f3 f4 f5 f7 f6 := by
  funext i
  have hi : ((i : S256x7168.Idx) 1).val < 7168 := ((i : S256x7168.Idx) 1).isLt
  have hb : ygrp i < 14 := by show ((i : S256x7168.Idx) 1).val / 512 < 14; omega
  have e : (dstY (ygrp i)).view.emb (yloc i) = i := by
    funext a
    apply Fin.ext
    fin_cases a
    · show 0 + 1 * ((i : S256x7168.Idx) 0).val = ((i : S256x7168.Idx) 0).val; omega
    · show 512 * (((i : S256x7168.Idx) 1).val / 512 % 14) + 1 * (((i : S256x7168.Idx) 1).val % 512) = ((i : S256x7168.Idx) 1).val; omega
  have h2 := congrFun (h _ hb) (yloc i)
  have h3 : (dstY (ygrp i)).view.read (Elt F) g (yloc i) = g ((dstY (ygrp i)).view.emb (yloc i)) := rfl
  rw [h3, e] at h2
  exact h2

theorem asked_ge (c : Dev nD) (f6 : MBuf (F := F) c wM) (b : ℕ) (h : ¬ b < 126) : askedB c f6 b = freeB c f6 b := by
  unfold askedB; exact if_neg h

theorem outerInv_exit (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole) (f0 : MBuf (F := F) c arg0) (f1 : MBuf (F := F) c arg1) (f2 : MBuf (F := F) c arg2) (f3 : MBuf (F := F) c arg3) (f4 : MBuf (F := F) c arg4) (f5 : MBuf (F := F) c arg5) (f7 : MBuf (F := F) c arg7) (f6 : MBuf (F := F) c wM) (x : Mxu F) : outerInv c arg0 harg0 arg1 harg1 arg2 harg2 arg3 harg3 arg4 harg4 arg5 harg5 arg7 harg7 f0 f1 f2 f3 f4 f5 f7 f6 (Scf.trips k0_t1_loop.lb k0_t1_loop.ub k0_t1_loop.st) x ⊢ iprop(⌜x = (outerSt c arg0 harg0 arg1 harg1 arg2 harg2 arg3 harg3 arg4 harg4 arg5 harg5 arg7 harg7 f0 f1 f2 f3 f4 f5 f7 f6 14).1⌝ ∗ ringAt c f6 (9 * 14) ∗ inflY c 14 12 (Yv c arg0 harg0 arg1 harg1 arg2 harg2 arg3 harg3 arg4 harg4 arg5 harg5 arg7 harg7 f0 f1 f2 f3 f4 f5 f7 f6 12) ∗ inflY c 15 13 (Yv c arg0 harg0 arg1 harg1 arg2 harg2 arg3 harg3 arg4 harg4 arg5 harg5 arg7 harg7 f0 f1 f2 f3 f4 f5 f7 f6 13) ∗ doneY c (Yv c arg0 harg0 arg1 harg1 arg2 harg2 arg3 harg3 arg4 harg4 arg5 harg5 arg7 harg7 f0 f1 f2 f3 f4 f5 f7 f6) 12
    ∗ (∃ W, owes (c : Thread nD τ) 0 W) ∗ (arg0.view.loc (c : Thread nD τ) ↦[arg0.view.set]{fullShare} f0) ∗ (arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg7.view.loc (c : Thread nD τ) ↦[arg7.view.set]{fullShare} (outerSt c arg0 harg0 arg1 harg1 arg2 harg2 arg3 harg3 arg4 harg4 arg5 harg5 arg7 harg7 f0 f1 f2 f3 f4 f5 f7 f6 14).2)
    ∗ (∃ f11 : MBuf (F := F) c ssqM, ssqM.view.loc (c : Thread nD τ) ↦[ssqM.view.set]{fullShare} f11)) := by
  rw [show Scf.trips k0_t1_loop.lb k0_t1_loop.ub k0_t1_loop.st = 14 from rfl]
  unfold outerInv pendY
  rw [if_pos (show 2 ≤ 14 by decide), if_pos (show 2 ≤ 14 + 1 by decide)]
  iintro ⟨H1, H2, H3, H4, H5, -, H⟩
  isplitl [H1]; · iexact H1
  isplitl [H2]; · iexact H2
  isplitl [H3]; · iexact H3
  isplitl [H4]; · iexact H4
  isplitl [H5]; · iexact H5
  iexact H
/-- What is left of the weight codes beside the ring's shares. -/
def restW (c : Dev nD) (f6 : MBuf (F := F) c wM) : sProp 𝕄 := iprop(wM.view.loc (c : Thread nD τ) ↦[Finset.univ]{Transfers.shareDrop fullShare 4} f6)
set_option maxHeartbeats 400000 in
theorem cc0_run (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole) (f0 : MBuf (F := F) c arg0) (f1 : MBuf (F := F) c arg1) (f2 : MBuf (F := F) c arg2) (f3 : MBuf (F := F) c arg3) (f4 : MBuf (F := F) c arg4) (f5 : MBuf (F := F) c arg5) (f7 : MBuf (F := F) c arg7) (f6 : MBuf (F := F) c wM) (g : MBuf (F := F) c yM) (Q : PUnit → sProp 𝕄) :
    iprop((∃ f : MBuf (F := F) c ringM, ringM.view.loc (c : Thread nD τ) ↦[Finset.univ]{fullShare} f) ∗ (∃ f : MBuf (F := F) c ssqM, ssqM.view.loc (c : Thread nD τ) ↦[ssqM.view.set]{fullShare} f) ∗ (∃ f : MBuf (F := F) c ybufM, ybufM.view.loc (c : Thread nD τ) ↦[Finset.univ]{fullShare} f) ∗ semVal ((c : Thread nD τ), SemLoc.dma (cellB 0)) 0 ∗ semVal ((c : Thread nD τ), SemLoc.dma (cellB 1)) 0 ∗ semVal ((c : Thread nD τ), SemLoc.dma (cellB 2)) 0 ∗ semVal ((c : Thread nD τ), SemLoc.dma (cellB 3)) 0 ∗ semVal ((c : Thread nD τ), SemLoc.dma (cellY 0)) 0 ∗ semVal ((c : Thread nD τ), SemLoc.dma (cellY 1)) 0 ∗ (wM.view.loc (c : Thread nD τ) ↦[Finset.univ]{fullShare} f6) ∗ (yM.view.loc (c : Thread nD τ) ↦[Finset.univ]{fullShare} g) ∗ (∃ W, owes (c : Thread nD τ) 0 W)
        ∗ (arg0.view.loc (c : Thread nD τ) ↦[arg0.view.set]{fullShare} f0) ∗ (arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg7.view.loc (c : Thread nD τ) ↦[arg7.view.set]{fullShare} f7)
        ∗ (((∃ f : MBuf (F := F) c ringM, ringM.view.loc (c : Thread nD τ) ↦[Finset.univ]{fullShare} f) ∗ (∃ f : MBuf (F := F) c ssqM, ssqM.view.loc (c : Thread nD τ) ↦[ssqM.view.set]{fullShare} f) ∗ (∃ f : MBuf (F := F) c ybufM, ybufM.view.loc (c : Thread nD τ) ↦[Finset.univ]{fullShare} f) ∗ semVal ((c : Thread nD τ), SemLoc.dma (cellB 0)) 0 ∗ semVal ((c : Thread nD τ), SemLoc.dma (cellB 1)) 0 ∗ semVal ((c : Thread nD τ), SemLoc.dma (cellB 2)) 0 ∗ semVal ((c : Thread nD τ), SemLoc.dma (cellB 3)) 0 ∗ semVal ((c : Thread nD τ), SemLoc.dma (cellY 0)) 0 ∗ semVal ((c : Thread nD τ), SemLoc.dma (cellY 1)) 0 ∗ (wM.view.loc (c : Thread nD τ) ↦[Finset.univ]{fullShare} f6) ∗ (yM.view.loc (c : Thread nD τ) ↦[Finset.univ]{fullShare} yOut c arg0 harg0 arg1 harg1 arg2 harg2 arg3 harg3 arg4 harg4 arg5 harg5 arg7 harg7 f0 f1 f2 f3 f4 f5 f7 f6) ∗ (∃ W, owes (c : Thread nD τ) 0 W)
        ∗ (arg0.view.loc (c : Thread nD τ) ↦[arg0.view.set]{fullShare} f0) ∗ (arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg7.view.loc (c : Thread nD τ) ↦[arg7.view.set]{fullShare} (outerSt c arg0 harg0 arg1 harg1 arg2 harg2 arg3 harg3 arg4 harg4 arg5 harg5 arg7 harg7 f0 f1 f2 f3 f4 f5 f7 f6 14).2)) -∗ Q ⟨⟩))
      ⊢ wp frame (wpE (defs₀ (F := F)) Variants.none (c : Thread nD τ) none) Set.univ
          (cc0_dora_main arg0 harg0 arg1 harg1 arg2 harg2 arg3 harg3 arg4 harg4 arg5 harg5 wM (Memref.isWhole_whole _) arg7 harg7 yM (Memref.isWhole_whole _)
            ringM (Memref.isWhole_whole _) cc0_scratch1 ssqM (Memref.isWhole_whole _) ybufM (Memref.isWhole_whole _) cc0_scratch4) Q := by
  have hcanon1 := cell_congr 0 (o := k0_off1 0#32) (by decide) (k0_off1_inb 0)
  have hcanon2 := cell_congr 1 (o := k0_off1 1#32) (by decide) (k0_off1_inb 1)
  have hcanon3 := cell_congr 2 (o := k0_off1 2#32) (by decide) (k0_off1_inb 2)
  have hcanon4 := slot_congr 0 (o := k0_off2 0#32) (by decide) (k0_off2_inb 0)
  have hcanon5 := slot_congr 1 (o := k0_off2 1#32) (by decide) (k0_off2_inb 1)
  have hcanon6 := slot_congr 2 (o := k0_off2 2#32) (by decide) (k0_off2_inb 2)
  have hcanon7 := src_congr 0 (o := ![0, 0]) (by decide) inb_S18432x7168_S2048x512_0_0
  have hcanon8 := src_congr 1 (o := ![2048, 0]) (by decide) inb_S18432x7168_S2048x512_2048_0
  have hcanon9 := src_congr 2 (o := ![4096, 0]) (by decide) inb_S18432x7168_S2048x512_4096_0
  have hcanon10 := ycell_congr 14 (o := ![0]) (by decide) (by decide)
  have hcanon11 := ycell_congr 15 (o := ![1]) (by decide) (by decide)
  have hcanon12 := yslot_congr 14 (o := ![0, 0, 0]) (by decide) (by decide)
  have hcanon13 := yslot_congr 15 (o := ![1, 0, 0]) (by decide) (by decide)
  have hcanon14 := ydst_congr 12 (o := ![0, 6144]) (by decide) inb_S256x7168_S256x512_0_6144
  have hcanon15 := ydst_congr 13 (o := ![0, 6656]) (by decide) inb_S256x7168_S256x512_0_6656
  have hd := outerSt_drained c arg0 harg0 arg1 harg1 arg2 harg2 arg3 harg3 arg4 harg4 arg5 harg5 arg7 harg7 f0 f1 f2 f3 f4 f5 f7 f6 14
  rw [cc0_dora_main_eq_skeleton]
  unfold cc0_dora_main_skel
  rw [k0_part43_eq_skeleton]
  unfold k0_part43_skel
  iintro ⟨HR, HS, HYb, Hc0, Hc1, Hc2, Hc3, Hy0, Hy1, HW, HY, ⟨%W, HO⟩, Ha0, Ha1, Ha2, Ha3, Ha4, Ha5, Ha7, Hk⟩
  ihave HR' := (ring_split c) $$ HR
  icases HR' with ⟨⟨%r0, Hr0⟩, ⟨%r1, Hr1⟩, ⟨%r2, Hr2⟩, Hr3⟩
  ihave HYb' := (ybuf_split c) $$ HYb
  icases HYb' with ⟨Hb0, Hb1⟩
  ihave HW' := (w_split c f6) $$ HW
  icases HW' with ⟨Hw, Hw0, Hw1, Hw2, Hw3⟩
  ihave Hw := (show (wM.view.loc (c : Thread nD τ) ↦[Finset.univ]{Transfers.shareDrop fullShare 4} f6 : sProp 𝕄) ⊢ restW c f6 from Entails.of_eq rfl) $$ Hw
  sl_exec_parts
  sl_for (outerInv c arg0 harg0 arg1 harg1 arg2 harg2 arg3 harg3 arg4 harg4 arg5 harg5 arg7 harg7 f0 f1 f2 f3 f4 f5 f7 f6) $$ [Hc0 Hc1 Hc2 Hc3 Hr3 Hw0 Hw1 Hw2 Hw3 Hy0 Hy1 Hb0 Hb1 HY HO Ha0 Ha1 Ha2 Ha3 Ha4 Ha5 Ha7 HS Hw Hk]
  case region =>
    intro k x
    exact outer_step c arg0 harg0 arg1 harg1 arg2 harg2 arg3 harg3 arg4 harg4 arg5 harg5 arg7 harg7 f0 f1 f2 f3 f4 f5 f7 f6 k x
  isplitl [Hc0 Hc1 Hc2 Hc3 Hr3 Hw0 Hw1 Hw2 Hw3 Hy0 Hy1 Hb0 Hb1 HY HO Ha0 Ha1 Ha2 Ha3 Ha4 Ha5 Ha7 HS]
  · unfold outerInv
    isplitr; · ipureintro; rfl
    isplitl [Hc0 Hc1 Hc2 Hc3 Hr3 Hw0 Hw1 Hw2 Hw3]
    · unfold ringAt
      rw [asked_lt c f6 _ (by decide), asked_lt c f6 _ (by decide), asked_lt c f6 _ (by decide)]
      unfold inflB inflAt freeB
      isplitl [Hc0 Hw0]
      · iexists r0
        isplitl [Hc0]; · iexact Hc0
        iexact Hw0
      isplitl [Hc1 Hw1]
      · iexists r1
        isplitl [Hc1]; · iexact Hc1
        iexact Hw1
      isplitl [Hc2 Hw2]
      · iexists r2
        isplitl [Hc2]; · iexact Hc2
        iexact Hw2
      isplitl [Hc3]; · iexact Hc3
      isplitl [Hr3]; · iexact Hr3
      iexact Hw3
    isplitl [Hy0 Hb0]
    · unfold pendY
      rw [if_neg (by decide)]
      unfold freeY
      isplitl [Hy0]; · iexact Hy0
      iexact Hb0
    isplitl [Hy1 Hb1]
    · unfold pendY
      rw [if_neg (by decide)]
      unfold freeY
      isplitl [Hy1]; · iexact Hy1
      iexact Hb1
    isplitr; · rw [show 0 - 2 = 0 from rfl, doneY]; iempintro
    isplitl [HY]
    · iapply (todoYs_of_whole c g)
      iexact HY
    isplitl [HO]; · iexists _; iexact HO
    isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    isplitl [Ha7]; · iexact Ha7
    iexact HS
  iintro %x HI
  ihave HI := (outerInv_exit c arg0 harg0 arg1 harg1 arg2 harg2 arg3 harg3 arg4 harg4 arg5 harg5 arg7 harg7 f0 f1 f2 f3 f4 f5 f7 f6 x) $$ HI
  unfold inflY ringAt
  icases HI with ⟨%hx, ⟨Hq0, Hq1, Hq2, Hq3⟩, ⟨%fy, %gy, %hv, Hy0⟩, ⟨%fy', %gy', %hv', Hy1⟩, Hd, ⟨%W1, HO⟩, Ha0, Ha1, Ha2, Ha3, Ha4, Ha5, Ha7, HS⟩
  subst hx
  sl_exec_parts
  sl_step
  ihave Hd := (doneY_whole c (Yv c arg0 harg0 arg1 harg1 arg2 harg2 arg3 harg3 arg4 harg4 arg5 harg5 arg7 harg7 f0 f1 f2 f3 f4 f5 f7 f6) g) $$ [Hd Hy0_dst Hy1_dst]
  · iapply (show iprop((doneY c (Yv c arg0 harg0 arg1 harg1 arg2 harg2 arg3 harg3 arg4 harg4 arg5 harg5 arg7 harg7 f0 f1 f2 f3 f4 f5 f7 f6) 12 ∗ gotY c 12 (Yv c arg0 harg0 arg1 harg1 arg2 harg2 arg3 harg3 arg4 harg4 arg5 harg5 arg7 harg7 f0 f1 f2 f3 f4 f5 f7 f6 12)) ∗ gotY c 13 (Yv c arg0 harg0 arg1 harg1 arg2 harg2 arg3 harg3 arg4 harg4 arg5 harg5 arg7 harg7 f0 f1 f2 f3 f4 f5 f7 f6 13)) ⊢ doneY c (Yv c arg0 harg0 arg1 harg1 arg2 harg2 arg3 harg3 arg4 harg4 arg5 harg5 arg7 harg7 f0 f1 f2 f3 f4 f5 f7 f6) 14 from Entails.of_eq rfl)
    isplitl [Hd Hy0_dst]
    · isplitl [Hd]; · iexact Hd
      unfold gotY
      iexists _
      isplitr
      · ipureintro
        exact (View.read_writes_full (dstY 12).view gy (off := fun _ => 0) (fun a => by omega) _ []).trans hv
      iexact Hy0_dst
    unfold gotY
    iexists _
    isplitr
    · ipureintro
      exact (View.read_writes_full (dstY 13).view gy' (off := fun _ => 0) (fun a => by omega) _ []).trans hv'
    iexact Hy1_dst
  icases Hd with ⟨%gf, %hgf, HY⟩
  have egf := y_eq c arg0 harg0 arg1 harg1 arg2 harg2 arg3 harg3 arg4 harg4 arg5 harg5 arg7 harg7 f0 f1 f2 f3 f4 f5 f7 f6 gf hgf
  subst egf
  ihave Hq0 := (Entails.of_eq (asked_ge c f6 (9 * 14) (by decide))) $$ Hq0
  ihave Hq1 := (Entails.of_eq (asked_ge c f6 (9 * 14 + 1) (by decide))) $$ Hq1
  ihave Hq2 := (Entails.of_eq (asked_ge c f6 (9 * 14 + 2) (by decide))) $$ Hq2
  ihave Hq0 := (freeB_move c f6 (9 * 14) 2 (by decide)) $$ Hq0
  ihave Hq1 := (freeB_move c f6 (9 * 14 + 1) 3 (by decide)) $$ Hq1
  ihave Hq2 := (freeB_move c f6 (9 * 14 + 2) 0 (by decide)) $$ Hq2
  ihave Hq3 := (freeB_move c f6 (9 * 14 + 3) 1 (by decide)) $$ Hq3
  unfold freeB
  icases Hq0 with ⟨Hc2, Hr2, Hw2⟩
  icases Hq1 with ⟨Hc3, Hr3, Hw3⟩
  icases Hq2 with ⟨Hc0, Hr0, Hw0⟩
  icases Hq3 with ⟨Hc1, Hr1, Hw1⟩
  iapply Hk
  isplitl [Hr0 Hr1 Hr2 Hr3]
  · iapply (ring_join c)
    isplitl [Hr0]; · iexact Hr0
    isplitl [Hr1]; · iexact Hr1
    isplitl [Hr2]; · iexact Hr2
    iexact Hr3
  isplitl [HS]; · iexact HS
  isplitl [Hy0_src Hy1_src]
  · iapply (ybuf_join c)
    isplitl [Hy0_src]; · iexists fy; iexact Hy0_src
    iexists fy'; iexact Hy1_src
  isplitl [Hc0]; · iexact Hc0
  isplitl [Hc1]; · iexact Hc1
  isplitl [Hc2]; · iexact Hc2
  isplitl [Hc3]; · iexact Hc3
  isplitl [Hy0]; · iexact Hy0
  isplitl [Hy1]; · iexact Hy1
  isplitl [Hw Hw0 Hw1 Hw2 Hw3]
  · iapply (w_join c f6)
    isplitl [Hw]; · unfold restW; iexact Hw
    isplitl [Hw0]; · iexact Hw0
    isplitl [Hw1]; · iexact Hw1
    isplitl [Hw2]; · iexact Hw2
    iexact Hw3
  isplitl [HY]; · iexact HY
  isplitl [HO]; · iexists _; iexact HO
  isplitl [Ha0]; · iexact Ha0
  isplitl [Ha1]; · iexact Ha1
  isplitl [Ha2]; · iexact Ha2
  isplitl [Ha3]; · iexact Ha3
  isplitl [Ha4]; · iexact Ha4
  isplitl [Ha5]; · iexact Ha5
  iexact Ha7

end Cert.KernelIdeal.Hand

end
-- ==== Proof.KI.Frame.lean ====
/-
  The frame of the call: it ends, and leaves its operands as they were.
-/
module

public import proofs.«01_k».proof.Proof.KI.Body
public import proofs.«01_k».proof.Proof.Gen.KernelIdeal.Frame
public import Idealize.ShloMosaic.Lib.Claim

@[expose] public section

set_option maxRecDepth 8192

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

variable (m : (ℓ : Loc nD τ sig) → Buf (Elt F) ℓ) (ρ : Dev nD → PrngReg)

/-- The program up to the call, at this proof's algebra. -/
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The call's own semaphores: the four of the ring, the two of the result. -/
abbrev osem0 : Fin 6 → SemLoc sig := fun j => (![SemLoc.dma 7, SemLoc.dma 8, SemLoc.dma 9, SemLoc.dma 10, SemLoc.dma 11, SemLoc.dma 12] : Fin 6 → SemLoc sig) j
theorem ownSemFacts0 : Pipeline.OwnSemFacts spec0 osem0 := by decide
/-- The operand the call's own transfers read. -/
def H0 : Finset (Ref sig .tc) := {main_arg6}
/-- The result they write. -/
def R0 : Finset (Ref sig .tc) := {main_v1_1}
theorem H0_sub : H0 ⊆ Pipeline.restRefs sig spec0 := by decide
theorem R0_sub : R0 ⊆ Pipeline.restRefs sig spec0 \ H0 := by decide

theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma (cellB 0)) 0 ∗ semVal ((c : Thread nD τ), SemLoc.dma (cellB 1)) 0
          ∗ semVal ((c : Thread nD τ), SemLoc.dma (cellB 2)) 0 ∗ semVal ((c : Thread nD τ), SemLoc.dma (cellB 3)) 0
          ∗ semVal ((c : Thread nD τ), SemLoc.dma (cellY 0)) 0 ∗ semVal ((c : Thread nD τ), SemLoc.dma (cellY 1)) 0) := by
  rw [Pipeline.ownSems0_eq_of_list c osem0 [0, 1, 2, 3, 4, 5] (by decide) (by decide)]; rfl

theorem hbmPts0_eq (c : Dev nD) :
    (bigSep H0 (fun b => ((c : Thread nD τ).loc b) ↦{fullShare} V m c b) : sProp 𝕄)
      = iprop(wM.view.loc (c : Thread nD τ) ↦[Finset.univ]{fullShare} V m c main_arg6) := by
  unfold H0; rw [BI.bigSep_singleton]

theorem ownedPts0_eq (c : Dev nD) :
    (Pipeline.owned R0 c : sProp 𝕄) = iprop(∃ g : MBuf (F := F) c yM, yM.view.loc (c : Thread nD τ) ↦[Finset.univ]{fullShare} g) := by
  unfold Pipeline.owned R0; rw [BI.bigSep_singleton]

/-- The call's scratch memory, each buffer at some contents. -/
theorem scopedRest0_eq' (c : Dev nD) :
    (Pipeline.scopedRest (Ix := Unit) (Name := ℕ) (U := Pipeline.UD sig nD τ) (Lvl := ℕ) (Val := Elt F) spec0 c : sProp 𝕄)
      = iprop((∃ f : MBuf (F := F) c ringM, ringM.view.loc (c : Thread nD τ) ↦[Finset.univ]{fullShare} f)
          ∗ (∃ f : MBuf (F := F) c ssqM, ssqM.view.loc (c : Thread nD τ) ↦[ssqM.view.set]{fullShare} f)
          ∗ (∃ f : MBuf (F := F) c ybufM, ybufM.view.loc (c : Thread nD τ) ↦[Finset.univ]{fullShare} f)) := by
  rw [scopedRest0_eq, show ssqM.view.set = Finset.univ from View.set_whole _]

theorem PhiDR0_eq (c : Dev nD) :
    (Pipeline.ΦDR osem0 spec0 H0 R0 (V m) c : sProp 𝕄)
      = iprop(iprop((∃ f : MBuf (F := F) c ringM, ringM.view.loc (c : Thread nD τ) ↦[Finset.univ]{fullShare} f)
          ∗ (∃ f : MBuf (F := F) c ssqM, ssqM.view.loc (c : Thread nD τ) ↦[ssqM.view.set]{fullShare} f)
          ∗ (∃ f : MBuf (F := F) c ybufM, ybufM.view.loc (c : Thread nD τ) ↦[Finset.univ]{fullShare} f))
        ∗ (∃ r, prngReg c r)
        ∗ iprop(semVal ((c : Thread nD τ), SemLoc.dma (cellB 0)) 0 ∗ semVal ((c : Thread nD τ), SemLoc.dma (cellB 1)) 0
          ∗ semVal ((c : Thread nD τ), SemLoc.dma (cellB 2)) 0 ∗ semVal ((c : Thread nD τ), SemLoc.dma (cellB 3)) 0
          ∗ semVal ((c : Thread nD τ), SemLoc.dma (cellY 0)) 0 ∗ semVal ((c : Thread nD τ), SemLoc.dma (cellY 1)) 0)
        ∗ (wM.view.loc (c : Thread nD τ) ↦[Finset.univ]{fullShare} V m c main_arg6)
        ∗ (∃ g : MBuf (F := F) c yM, yM.view.loc (c : Thread nD τ) ↦[Finset.univ]{fullShare} g)) := by
  rw [Pipeline.ΦDR_eq, scopedRest0_eq', ownSems00_eq, hbmPts0_eq, ownedPts0_eq]

/-- The window whose contents the frame does not name: the norms. -/
def forgets0 : Fin 7 → Bool := fun w => w.val == 6

/-- The proof data: arrays as the call finds them, blocks left in place, nothing owed. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
  Φ _ := Pipeline.ΦDR osem0 spec0 H0 R0 (V m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)

/-- What the body is called with, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare d))
/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (∃ d, owns (c : Thread nD τ) (st0_6 t) fullShare d))

theorem leaves (c : Dev nD) (t : Fin cfg0.N) (w : Fin cfg0.W) (h : cfg0.idle w (cfg0.grid.coords t) = false) :
    (dats m 0 c).leavesExact w t = (owns (c : Thread nD τ) ((cfg0.win w).stage (cfg0.slots t w)) fullShare ((dats m 0 c).after w t) : sProp 𝕄) := by
  unfold Dat.leavesExact; rw [h]

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [leaves m c t 0 rfl, after0_0]
  rw [leaves m c t 1 rfl, after0_1]
  rw [leaves m c t 2 rfl, after0_2]
  rw [leaves m c t 3 rfl, after0_3]
  rw [leaves m c t 4 rfl, after0_4]
  rw [leaves m c t 5 rfl, after0_5]
  simp only [before0_0, before0_1, before0_2, before0_3, before0_4, before0_5]
  rw [show (dats m 0 c).Φ t.succ = (dats m 0 c).Φ t.castSucc from rfl]
  rw [show (dats m 0 c).Φ t.castSucc = Pipeline.ΦDR osem0 spec0 H0 R0 (V m) c from rfl, PhiDR0_eq]
  unfold Dat.owesAt Pipeline.owesWithin
  rw [show (dats m 0 c).owed t.castSucc = 0 from rfl, show (dats m 0 c).owed t.succ = 0 from rfl]
  unfold owns
  iintro ⟨⟨⟨HS0, HS1, HS2⟩, Hg, ⟨Hq0, Hq1, Hq2, Hq3, Hq4, Hq5⟩, Hw, ⟨%g, Hy⟩⟩, ⟨%W, -, HW⟩, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩⟩
  iapply (cc0_run c (st0_0 t) (hstage0_0 0) (st0_1 t) (hstage0_1 0) (st0_2 t) (hstage0_2 0) (st0_3 t) (hstage0_3 0) (st0_4 t) (hstage0_4 0) (st0_5 t) (hstage0_5 0) (st0_6 t) (hstage0_6 0) f0 f1 f2 f3 f4 f5 f6 (V m c main_arg6) g)
  isplitl [HS0]; · iexact HS0
  isplitl [HS1]; · iexact HS1
  isplitl [HS2]; · iexact HS2
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hw]; · iexact Hw
  isplitl [Hy]; · iexact Hy
  isplitl [HW]; · iexists W; iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨HS0, HS1, HS2, Hq0, Hq1, Hq2, Hq3, Hq4, Hq5, Hw, Hy, ⟨%W', HW'⟩, H0, H1, H2, H3, H4, H5, H6⟩
  isplitl [HS0 HS1 HS2 Hg Hq0 Hq1 Hq2 Hq3 Hq4 Hq5 Hw Hy]
  · isplitl [HS0 HS1 HS2]
    · isplitl [HS0]; · iexact HS0
      isplitl [HS1]; · iexact HS1
      iexact HS2
    isplitl [Hg]; · iexact Hg
    isplitl [Hq0 Hq1 Hq2 Hq3 Hq4 Hq5]
    · isplitl [Hq0]; · iexact Hq0
      isplitl [Hq1]; · iexact Hq1
      isplitl [Hq2]; · iexact Hq2
      isplitl [Hq3]; · iexact Hq3
      isplitl [Hq4]; · iexact Hq4
      iexact Hq5
    isplitl [Hw]; · iexact Hw
    iexists _; iexact Hy
  isplitl [HW']
  · iexists W'; isplitr; · ipureintro; exact fun _ _ => Or.inl trivial
    iexact HW'
  isplitl [H0]
  · iexists f0; isplitr; · ipureintro; exact e0
    iexact H0
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  iexists _; iexists _; isplitr
  swap; · iexact H6
  ipureintro; rfl

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
theorem run_main : θ_run defs (onTc (τ := τ) (main (F := F))) (s₀ m ρ) (fun r => Pipeline.RDat.FramePostR (cfgs 0) (fun c => (dats m 0 c).toRForget forgets0) R0 (V m) r ∧ r.2.sem = fun _ => 0) :=
  Pipeline.θ_run_frame_dmaR_forget (Q' := _) cfgs (dats m) (0 : Fin 1) launch0 osem0 defs₀ Variants.none forgets0 ownSemFacts0 H0 R0 H0_sub R0_sub m ρ main
    (hbody := fun c => (body_obligation m c).loose) (hshare := fun c => (dats m 0 c).share_full fun _ => rfl)
    (howed := fun _ _ => rfl) (V := V m) (hmain := hmainD m Variants.none) (hA := A_eq m)
    (hin := fun _ => .rfl) (hout := fun _ => .rfl)

theorem rest_mem {b : Ref sig .tc} (h : b ∈ Pipeline.restRefs sig spec0) (h' : b ∉ R0) : b ∈ Pipeline.restRefs sig spec0 \ R0 :=
  Finset.mem_sdiff.mpr ⟨h, h'⟩

/-- The frame: every weakly fair execution ends, the argument arrays as they were, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨((congrFun (Pipeline.RDat.ArrAt_in ((dats m 0 c).toRForget forgets0) 0 rfl cfg0.N) _).mp ((h.1 c).1 0)).trans (V_main_arg0 m c),
      ((congrFun (Pipeline.RDat.ArrAt_in ((dats m 0 c).toRForget forgets0) 1 rfl cfg0.N) _).mp ((h.1 c).1 1)).trans (V_main_arg1 m c),
      ((congrFun (Pipeline.RDat.ArrAt_in ((dats m 0 c).toRForget forgets0) 2 rfl cfg0.N) _).mp ((h.1 c).1 2)).trans (V_main_arg2 m c),
      ((congrFun (Pipeline.RDat.ArrAt_in ((dats m 0 c).toRForget forgets0) 3 rfl cfg0.N) _).mp ((h.1 c).1 3)).trans (V_main_arg3 m c),
      ((congrFun (Pipeline.RDat.ArrAt_in ((dats m 0 c).toRForget forgets0) 4 rfl cfg0.N) _).mp ((h.1 c).1 4)).trans (V_main_arg4 m c),
      ((h.1 c).2 main_arg5 (rest_mem (Pipeline.mem_restRefs_of main_arg5 (by decide) (by decide)) (by decide))).trans (V_main_arg5 m c),
      ((h.1 c).2 main_arg6 (rest_mem (Pipeline.mem_restRefs_of main_arg6 (by decide) (by decide)) (by decide))).trans (V_main_arg6 m c)⟩, h.2⟩) (run_main m ρ)

end Cert.KernelIdeal.Hand

end
-- ==== Proof.KI.VUnit.lean ====
/-
  The matrix units' steps and the loads of the ring, at the ideal values.
-/
module

public import proofs.«01_k».proof.Proof.KI.Inner
public import Idealize.ShloMosaic.Lib.MatmulPlain
public import Idealize.ShloMosaic.Lib.Mxu.Lemmas
public import Idealize.ShloMosaic.Lib.Exec.Geometry
public import Idealize.ShloMosaic.Lib.Pipeline.Value

@[expose] public section

set_option maxRecDepth 8192

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped BigOperators

/-- A matrix of extended reals over all naturals: what an array holds, read at its coordinates. -/
abbrev NF := ℕ → ℕ → EReal

theorem sum_blocks (f : ℕ → EReal) (n : ℕ) : ∀ m, ∑ a ∈ Finset.range m, ∑ b ∈ Finset.range n, f (n * a + b) = ∑ k ∈ Finset.range (m * n), f k
  | 0 => by simp
  | m + 1 => by
    rw [Finset.sum_range_succ, sum_blocks f n m, Nat.succ_mul, Finset.sum_range_add]
    simp only [Nat.mul_comm m n]

theorem ix2_self {n m : ℕ} (i : (⟨2, ![n, m]⟩ : Shape).Idx) : (ix2 (i 0) (i 1) : (⟨2, ![n, m]⟩ : Shape).Idx) = i := by
  funext a; fin_cases a <;> rfl

/-- The pass of the matrix unit, read at its coordinates. -/
theorem pass_apply {M : ℕ} (lx : FVec Ideal (Mxu.STile M) .bf16) (rhs : FVec Ideal (Mxu.STile 256) .bf16) (xf wf : NF)
    (hx : ∀ i : (Mxu.STile M).Idx, lx i = xf (i 0).val (i 1).val) (hw : ∀ i : (Mxu.STile 256).Idx, rhs i = wf (i 0).val (i 1).val)
    (i : (Mxu.STile M).Idx) :
    Ideal.mxuPass (DotDims.plain M 256 256) lx rhs i = ∑ k ∈ Finset.range 256, xf (i 0).val k * wf k (i 1).val := by
  have h := Ideal.matmul_plain_apply (M := M) (K := 256) (N := 256) (φ₁ := .bf16) (φ₂ := .bf16) none lx rhs (fun _ => 0) (i 0) (i 1)
  have h2 : Ideal.mxuPass (DotDims.plain M 256 256) lx rhs (ix2 (i 0) (i 1)) = ∑ k : Fin 256, lx (ix2 (i 0) k) * rhs (ix2 k (i 1)) := by
    have h3 : (0 : EReal) + Ideal.mxuPass (DotDims.plain M 256 256) lx rhs (ix2 (i 0) (i 1)) = 0 + ∑ k : Fin 256, lx (ix2 (i 0) k) * rhs (ix2 k (i 1)) := h
    rwa [zero_add, zero_add] at h3
  have e : (ix2 (i 0) (i 1) : (⟨2, ![M, 256]⟩ : Shape).Idx) = i := ix2_self i
  rw [e] at h2
  rw [h2, Finset.sum_range]
  exact Finset.sum_congr rfl fun k _ => by rw [hx, hw]; rfl

theorem deposit_ideal (s : Mxu Ideal) (q : Fin 2) (R : Fin 1024) (C : Fin 256) (x : EReal) :
    Mxu.deposit (s.live q R) (s.acc q R C) x = (s.acc q R C + x : EReal) := by
  cases hl : s.live q R
  · have := s.clean q R C hl
    have e0 : (s.acc q R C : EReal) = 0 := this.trans Ideal.ofBits_zero_f32
    show x = (s.acc q R C + x : EReal)
    rw [e0, zero_add]
  · rfl

/-- What the two matrix units hold, at the ideal values: no register holds a tile, and the two accumulators of each. -/
structure St (s : Mxu Ideal) (X0 X1 A0 A1 : NF) : Prop where
  r : ∀ q r, s.reg q r = none
  x0 : ∀ i, s.read 0 0 fits_0_256 i = X0 (i 0).val (i 1).val
  x1 : ∀ i, s.read 1 0 fits_0_256 i = X1 (i 0).val (i 1).val
  a0 : ∀ i, s.read 0 64 fits_64_64 i = A0 (i 0).val (i 1).val
  a1 : ∀ i, s.read 1 64 fits_64_64 i = A1 (i 0).val (i 1).val

/-- The state after a tile is pushed and both left-hand sides are multiplied by it. -/
abbrev unitSt (s : Mxu Ideal) (q r : Fin 2) (rhs : FVec Ideal (Mxu.STile 256) .bf16) (lx : FVec Ideal (Mxu.STile 256) .bf16)
    (la : FVec Ideal (Mxu.STile 64) .bf16) (t : Mxu.Staged Ideal) : Mxu Ideal :=
  ((s.pushed q r false rhs).accLhs q r 0 lx fits_0_256).accBy q t 64 la fits_64_64

theorem unit_step (s : Mxu Ideal) (q r : Fin 2) (rhs : FVec Ideal (Mxu.STile 256) .bf16) (lx : FVec Ideal (Mxu.STile 256) .bf16)
    (la : FVec Ideal (Mxu.STile 64) .bf16) (hr : ∀ q r, s.reg q r = none) (xf af wf : NF)
    (hx : ∀ i : (Mxu.STile 256).Idx, lx i = xf (i 0).val (i 1).val) (ha : ∀ i : (Mxu.STile 64).Idx, la i = af (i 0).val (i 1).val)
    (hw : ∀ i : (Mxu.STile 256).Idx, rhs i = wf (i 0).val (i 1).val) (t : Mxu.Staged Ideal) (ht : t = (s.pushed q r false rhs).staged q r) :
    (∀ q' r', (unitSt s q r rhs lx la t).reg q' r' = none)
    ∧ (∀ i, (unitSt s q r rhs lx la t).read q 0 fits_0_256 i = (s.read q 0 fits_0_256 i + ∑ k ∈ Finset.range 256, xf (i 0).val k * wf k (i 1).val : EReal))
    ∧ (∀ i, (unitSt s q r rhs lx la t).read q 64 fits_64_64 i = (s.read q 64 fits_64_64 i + ∑ k ∈ Finset.range 256, af (i 0).val k * wf k (i 1).val : EReal))
    ∧ (∀ q' (hq : q' ≠ q) i, (unitSt s q r rhs lx la t).read q' 0 fits_0_256 i = s.read q' 0 fits_0_256 i)
    ∧ (∀ q' (hq : q' ≠ q) i, (unitSt s q r rhs lx la t).read q' 64 fits_64_64 i = s.read q' 64 fits_64_64 i) := by
  have hstg : (s.pushed q r false rhs).staged q r = ⟨.bf16, false, rhs⟩ := by
    rw [Mxu.staged_eq, Mxu.reg_pushed_of_none _ _ _ _ _ (hr q r)]; rfl
  have hreg : ∀ q' r', (unitSt s q r rhs lx la t).reg q' r' = none := by
    intro q' r'
    rw [Mxu.reg_accBy]
    by_cases hqr : q' = q ∧ r' = r
    · rw [hqr.1, hqr.2]; exact Mxu.reg_accLhs _ _ _ _ _ _
    · rw [Mxu.reg_accLhs_ne _ _ _ _ _ _ _ _ hqr, Mxu.reg_pushed_ne _ _ _ _ _ _ _ hqr]; exact hr q' r'
  subst ht
  refine ⟨hreg, fun i => ?_, fun i => ?_, fun q' hq i => ?_, fun q' hq i => ?_⟩
  · rw [unitSt, Mxu.read_accBy_ne _ _ _ _ _ _ _ _ _ (Or.inr (Or.inl (by decide))), Mxu.read_accLhs, hstg]
    refine (deposit_ideal (s.pushed q r false rhs) q _ _ _).trans ?_
    rw [Mxu.Staged.pass_false]
    refine congrArg₂ (fun a b : EReal => a + b) ?_ (pass_apply lx rhs xf wf hx hw i)
    exact congrFun (Mxu.read_pushed _ _ _ _ _ q 0 fits_0_256) i
  · rw [unitSt, Mxu.read_accBy, hstg]
    refine (deposit_ideal ((s.pushed q r false rhs).accLhs q r 0 lx fits_0_256) q _ _ _).trans ?_
    rw [Mxu.Staged.pass_false]
    refine congrArg₂ (fun a b : EReal => a + b) ?_ (pass_apply la rhs af wf ha hw i)
    refine (congrFun (Mxu.read_accLhs_ne _ _ _ _ _ _ q 64 fits_64_64 (Or.inr (Or.inr (by decide)))) i).trans ?_
    exact congrFun (Mxu.read_pushed _ _ _ _ _ q 64 fits_64_64) i
  · rw [unitSt, Mxu.read_accBy_ne _ _ _ _ _ _ _ _ _ (Or.inl hq), Mxu.read_accLhs_ne _ _ _ _ _ _ _ _ _ (Or.inl hq), Mxu.read_pushed]
  · rw [unitSt, Mxu.read_accBy_ne _ _ _ _ _ _ _ _ _ (Or.inl hq), Mxu.read_accLhs_ne _ _ _ _ _ _ _ _ _ (Or.inl hq), Mxu.read_pushed]

/-- The products a tile adds. -/
abbrev dot256 (xf wf : NF) : NF := fun i j => ∑ k ∈ Finset.range 256, xf i k * wf k j

theorem St.step0 {s : Mxu Ideal} {X0 X1 A0 A1 : NF} (h : St s X0 X1 A0 A1) (r : Fin 2) (rhs lx : FVec Ideal (Mxu.STile 256) .bf16)
    (la : FVec Ideal (Mxu.STile 64) .bf16) (xf af wf : NF)
    (hx : ∀ i : (Mxu.STile 256).Idx, lx i = xf (i 0).val (i 1).val) (ha : ∀ i : (Mxu.STile 64).Idx, la i = af (i 0).val (i 1).val)
    (hw : ∀ i : (Mxu.STile 256).Idx, rhs i = wf (i 0).val (i 1).val) (t : Mxu.Staged Ideal) (ht : t = (s.pushed 0 r false rhs).staged 0 r) :
    St (unitSt s 0 r rhs lx la t) (X0 + dot256 xf wf) X1 (A0 + dot256 af wf) A1 := by
  obtain ⟨h1, h2, h3, h4, h5⟩ := unit_step s 0 r rhs lx la h.r xf af wf hx ha hw t ht
  exact ⟨h1, fun i => by rw [h2, h.x0]; rfl, fun i => by rw [h4 1 (by decide), h.x1], fun i => by rw [h3, h.a0]; rfl, fun i => by rw [h5 1 (by decide), h.a1]⟩

theorem St.step1 {s : Mxu Ideal} {X0 X1 A0 A1 : NF} (h : St s X0 X1 A0 A1) (r : Fin 2) (rhs lx : FVec Ideal (Mxu.STile 256) .bf16)
    (la : FVec Ideal (Mxu.STile 64) .bf16) (xf af wf : NF)
    (hx : ∀ i : (Mxu.STile 256).Idx, lx i = xf (i 0).val (i 1).val) (ha : ∀ i : (Mxu.STile 64).Idx, la i = af (i 0).val (i 1).val)
    (hw : ∀ i : (Mxu.STile 256).Idx, rhs i = wf (i 0).val (i 1).val) (t : Mxu.Staged Ideal) (ht : t = (s.pushed 1 r false rhs).staged 1 r) :
    St (unitSt s 1 r rhs lx la t) X0 (X1 + dot256 xf wf) A0 (A1 + dot256 af wf) := by
  obtain ⟨h1, h2, h3, h4, h5⟩ := unit_step s 1 r rhs lx la h.r xf af wf hx ha hw t ht
  exact ⟨h1, fun i => by rw [h4 0 (by decide), h.x0], fun i => by rw [h2, h.x1]; rfl, fun i => by rw [h5 0 (by decide), h.a0], fun i => by rw [h3, h.a1]; rfl⟩

/-- The tile loaded by an accumulate is the one staged. -/
theorem gmr_get (s : Mxu Ideal) (q r : Fin 2) {M A : ℕ} (lx : FVec Ideal (Mxu.STile M) .bf16) (hf : Mxu.Fits A M)
    (hg : ((s.accLhs q r A lx hf).gmr q).isSome) : ((s.accLhs q r A lx hf).gmr q).get hg = s.staged q r :=
  Option.get_of_mem hg (Mxu.gmr_accLhs _ _ _ _ _ _)

/-! ## Reads -/

/-- A matrix read at its coordinates, zero outside. -/
def nf {n m : ℕ} (x : (⟨2, ![n, m]⟩ : Shape).Idx → EReal) : NF := fun k o => if h : k < n ∧ o < m then x (ix2 ⟨k, h.1⟩ ⟨o, h.2⟩) else 0

theorem nf_apply {n m : ℕ} (x : (⟨2, ![n, m]⟩ : Shape).Idx → EReal) (i : (⟨2, ![n, m]⟩ : Shape).Idx) (k o : ℕ) (hk : (i 0).val = k) (ho : (i 1).val = o) :
    nf x k o = x i := by
  subst hk; subst ho
  have h0 : (i 0).val < n := (i 0).isLt
  have h1 : (i 1).val < m := (i 1).isLt
  unfold nf
  rw [dif_pos ⟨h0, h1⟩]
  exact congrArg x (ix2_self i)

/-- A block of the codes, as a load of the ring finds it. -/
theorem blk_apply (c : Dev nD) (f6 : MBuf (F := Ideal) c wM) (b : ℕ) (f : MBuf (F := Ideal) c (slotB b)) {o : Fin 3 → ℕ} {i j : ℕ} (h : o = ![b % 4, i, j])
    (hi : ∀ a, o a + S1x128x128.size a ≤ S4x2048x512.size a) (hi' : i + 128 ≤ 2048) (hj' : j + 128 ≤ 512) (k : S1x128x128.Idx) :
    (View.readAt (Elt Ideal) ringM.view (Rect.unit (s := S4x2048x512) o S1x128x128.size hi).toLoadRect (landed c f6 b f) k : EReal)
      = nf (n := 18432) (m := 7168) f6 (2048 * (b % 9) + i + (k 1).val) (512 * (b / 9 % 14) + j + (k 2).val) := by
  subst h
  have hk0 : (k 0).val < 1 := (k 0).isLt
  have hk1 : (k 1).val < 128 := (k 1).isLt
  have hk2 : (k 2).val < 128 := (k 2).isLt
  let y : S2048x512.Idx := ix2 ⟨i + (k 1).val, by omega⟩ ⟨j + (k 2).val, by omega⟩
  have e : ringM.view.emb ((Rect.unit (s := S4x2048x512) ![b % 4, i, j] S1x128x128.size hi).toLoadRect.idx k) = (slotB b).view.emb y := by
    have hsq : ∀ z : S2048x512.Idx, (slotB b).view.emb z = ringM.view.emb ((Rect.unit (s := S4x2048x512) ![b % 4, 0, 0] S1x2048x512.size (slot_inb b)).emb (Fin.cons ⟨0, Nat.one_pos⟩ z)) := by
      intro z
      show ringM.view.emb ((Rect.unit (s := S4x2048x512) ![b % 4, 0, 0] S1x2048x512.size (slot_inb b)).emb (Shape.reshapeEquiv _ z)) = _
      rw [Shape.reshapeEquiv_cons_one]
    rw [hsq]
    refine congrArg _ ?_
    funext a
    apply Fin.ext
    fin_cases a
    · show b % 4 + 1 * (k 0).val = b % 4 + 1 * 0
      omega
    · show i + 1 * (k 1).val = 0 + 1 * (i + (k 1).val)
      omega
    · show j + 1 * (k 2).val = 0 + 1 * (j + (k 2).val)
      omega
  have h1 : ∀ g : MBuf (F := Ideal) c (slotB b), View.readAt (Elt Ideal) ringM.view (Rect.unit (s := S4x2048x512) ![b % 4, i, j] S1x128x128.size hi).toLoadRect g k
      = (slotB b).view.read (Elt Ideal) g y := fun g => congrArg g e
  refine (h1 _).trans ?_
  rw [landed, View.read_writes_whole]
  refine (nf_apply (n := 18432) (m := 7168) f6 ((srcB b).view.emb y) _ _ ?_ ?_).symm
  · show 2048 * (b % 9) + 1 * (i + (k 1).val) = 2048 * (b % 9) + i + (k 1).val
    omega
  · show 512 * (b / 9 % 14) + 1 * (j + (k 2).val) = 512 * (b / 9 % 14) + j + (k 2).val
    omega

end Cert.KernelIdeal.Hand

end
-- ==== Proof.KI.VTile.lean ====
/-
  The tiles of one chunk at their coordinates.
-/
module

public import proofs.«01_k».proof.Proof.KI.VUnit

@[expose] public section

set_option maxRecDepth 8192

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped BigOperators

/-- The merged matrix at its coordinates: a code times the scale of its block of 128 by 128. -/
abbrev wv (fw fs : NF) : NF := fun k o => fw k o * fs (k / 128) (o / 128)

/-- A stack of tiles read at its coordinates: the column `K` of the long matrix is column `K % 256` of tile `K / 256`. -/
def xr {n m : ℕ} (x : (⟨3, ![n, m, 256]⟩ : Shape).Idx → EReal) : NF := fun i K =>
  if h : K / 256 < n ∧ i < m then x (ix3 ⟨K / 256, h.1⟩ ⟨i, h.2⟩ ⟨K % 256, Nat.mod_lt _ (by decide)⟩) else 0

theorem xr_apply {n m : ℕ} (x : (⟨3, ![n, m, 256]⟩ : Shape).Idx → EReal) (i : (⟨3, ![n, m, 256]⟩ : Shape).Idx) (r K : ℕ) (hr : (i 1).val = r)
    (hK : 256 * (i 0).val + (i 2).val = K) : xr x r K = x i := by
  have h0 : (i 0).val < n := (i 0).isLt
  have h1 : (i 1).val < m := (i 1).isLt
  have h2 : (i 2).val < 256 := (i 2).isLt
  have e1 : K / 256 = (i 0).val := by omega
  have e2 : K % 256 = (i 2).val := by omega
  subst hr
  unfold xr
  rw [dif_pos ⟨by omega, h1⟩]
  congr 1
  funext a
  apply Fin.ext
  fin_cases a
  · exact e1
  · rfl
  · exact e2

theorem pay3_apply (B : Vec Ideal S1x128x128 .fp8e4m3) (s : EReal) (fw fs : NF) (R C : ℕ) (hR : R % 128 = 0) (hC : C % 128 = 0)
    (hB : ∀ k, (B k : EReal) = fw (R + (k 1).val) (C + (k 2).val)) (hs : s = fs (R / 128) (C / 128)) (i : S128x128.Idx) :
    (k0_pay3 (F := Ideal) B s i : EReal) = wv fw fs (R + (i 0).val) (C + (i 1).val) := by
  have h0 : (i 0).val < 128 := (i 0).isLt
  have h1 : (i 1).val < 128 := (i 1).isLt
  have e0 : (R + (i 0).val) / 128 = R / 128 := by omega
  have e1 : (C + (i 1).val) / 128 = C / 128 := by omega
  show ((shapeCast S128x128 B shapeCasts_S1x128x128_S128x128 i : EReal) * s : EReal) = fw (R + (i 0).val) (C + (i 1).val) * fs ((R + (i 0).val) / 128) ((C + (i 1).val) / 128)
  rw [e0, e1, ← hs]
  congr 1
  exact (shapeCast_dropUnit_apply ![128, 128] B shapeCasts_S1x128x128_S128x128 i).trans (hB _)

/-- The tile of 256 by 256 of the merged matrix, from four blocks. -/
abbrev quad (b00 b01 b10 b11 : Vec Ideal S1x128x128 .fp8e4m3) (s00 s01 s10 s11 : EReal) : FVec Ideal S256x256 .bf16 :=
  concatenate S256x256 0 [⟨S128x256, concatenate S128x256 1 [⟨S128x128, k0_pay3 (F := Ideal) b00 s00⟩, ⟨S128x128, k0_pay3 (F := Ideal) b01 s01⟩] concatenates_S128x128_S128x128_S128x256_d1⟩,
    ⟨S128x256, concatenate S128x256 1 [⟨S128x128, k0_pay3 (F := Ideal) b10 s10⟩, ⟨S128x128, k0_pay3 (F := Ideal) b11 s11⟩] concatenates_S128x128_S128x128_S128x256_d1⟩] concatenates_S128x256_S128x256_S256x256_d0

theorem row_apply (u v : FVec Ideal S128x128 .bf16) (f : NF) (R C : ℕ) (hu : ∀ i, (u i : EReal) = f (R + (i 0).val) (C + (i 1).val))
    (hv : ∀ i, (v i : EReal) = f (R + (i 0).val) (C + 128 + (i 1).val)) (i : S128x256.Idx) :
    (concatenate S128x256 1 [⟨S128x128, u⟩, ⟨S128x128, v⟩] concatenates_S128x128_S128x128_S128x256_d1 i : EReal) = f (R + (i 0).val) (C + (i 1).val) := by
  have h0 : (i 0).val < 128 := (i 0).isLt
  have h1 : (i 1).val < 256 := (i 1).isLt
  by_cases h : (i 1).val < 128
  · refine (concatenate_pair_apply_left (t := S128x256) (s₁ := S128x128) (s₂ := S128x128) 1 u v _ i rfl (ix2 ⟨(i 0).val, h0⟩ ⟨(i 1).val, h⟩) ?_).trans (hu _)
    intro a; fin_cases a <;> rfl
  · refine (concatenate_pair_apply_right (t := S128x256) (s₁ := S128x128) (s₂ := S128x128) 1 u v _ i rfl rfl (ix2 ⟨(i 0).val, h0⟩ ⟨(i 1).val - 128, by omega⟩) ?_ ?_).trans ((hv _).trans ?_)
    · intro a; fin_cases a
      · intro; rfl
      · intro hh; exact absurd rfl hh
    · show (i 1).val - 128 + 128 = (i 1).val
      omega
    · show f (R + (i 0).val) (C + 128 + ((i 1).val - 128)) = _
      congr 1; omega

theorem col_apply (u v : FVec Ideal S128x256 .bf16) (f : NF) (R C : ℕ) (hu : ∀ i, (u i : EReal) = f (R + (i 0).val) (C + (i 1).val))
    (hv : ∀ i, (v i : EReal) = f (R + 128 + (i 0).val) (C + (i 1).val)) (i : S256x256.Idx) :
    (concatenate S256x256 0 [⟨S128x256, u⟩, ⟨S128x256, v⟩] concatenates_S128x256_S128x256_S256x256_d0 i : EReal) = f (R + (i 0).val) (C + (i 1).val) := by
  have h0 : (i 0).val < 256 := (i 0).isLt
  have h1 : (i 1).val < 256 := (i 1).isLt
  by_cases h : (i 0).val < 128
  · refine (concatenate_pair_apply_left (t := S256x256) (s₁ := S128x256) (s₂ := S128x256) 0 u v _ i rfl (ix2 ⟨(i 0).val, h⟩ ⟨(i 1).val, h1⟩) ?_).trans (hu _)
    intro a; fin_cases a <;> rfl
  · refine (concatenate_pair_apply_right (t := S256x256) (s₁ := S128x256) (s₂ := S128x256) 0 u v _ i rfl rfl (ix2 ⟨(i 0).val - 128, by omega⟩ ⟨(i 1).val, h1⟩) ?_ ?_).trans ((hv _).trans ?_)
    · intro a; fin_cases a
      · intro hh; exact absurd rfl hh
      · intro; rfl
    · show (i 0).val - 128 + 128 = (i 0).val
      omega
    · show f (R + 128 + ((i 0).val - 128)) (C + (i 1).val) = _
      congr 1; omega

/-- The squares of a column, every eighth row, sixteen times. -/
abbrev sq16 (w : NF) (R C : ℕ) : EReal := ∑ g ∈ Finset.range 16, w (R + 8 * g) C * w (R + 8 * g) C

/-- The sum of squares of a block over its sixteen groups of eight rows. -/
theorem pay4_apply (B : Vec Ideal S1x128x128 .fp8e4m3) (s : EReal) (f : NF) (R C : ℕ)
    (hw : ∀ i, (k0_pay3 (F := Ideal) B s i : EReal) = f (R + (i 0).val) (C + (i 1).val)) (i : S8x128.Idx) :
    (k0_pay4 (F := Ideal) B s i : EReal) = sq16 f (R + (i 0).val) (C + (i 1).val) := by
  have h0 : (i 0).val < 8 := (i 0).isLt
  have h1 : (i 1).val < 128 := (i 1).isLt
  have e := Ideal.multiReduction_add_single (s := S16x8x128) (t := S8x128) (a := 0) (shapeCast S16x8x128 (fun j => (k0_pay3 (F := Ideal) B s j * k0_pay3 (F := Ideal) B s j : EReal)) shapeCasts_S128x128_S16x8x128)
    0x00000000#32 reduces_S16x8x128_S8x128 (φ := .f32) (.inl rfl) rfl i
  refine Eq.trans e ?_
  unfold sq16
  rw [← Fin.sum_univ_eq_sum_range (fun g => f (R + (i 0).val + 8 * g) (C + (i 1).val) * f (R + (i 0).val + 8 * g) (C + (i 1).val)) 16]
  refine Finset.sum_congr rfl fun g _ => ?_
  have hg : g.val < 16 := g.isLt
  refine (shapeCast_apply (t := S16x8x128) (fun j => (k0_pay3 (F := Ideal) B s j * k0_pay3 (F := Ideal) B s j : EReal)) shapeCasts_S128x128_S16x8x128 _ (ix2 ⟨8 * g.val + (i 0).val, by omega⟩ ⟨(i 1).val, h1⟩) ?_).trans ?_
  · rw [Shape.rowMajor_val_two, Shape.rowMajor_val_three]
    have l0 : ((Shape.Reduces.lift reduces_S16x8x128_S8x128 i g) 0).val = g.val := rfl
    have l1 : ((Shape.Reduces.lift reduces_S16x8x128_S8x128 i g) 1).val = (i 0).val := rfl
    have l2 : ((Shape.Reduces.lift reduces_S16x8x128_S8x128 i g) 2).val = (i 1).val := rfl
    rw [l0, l1, l2]
    show (8 * g.val + (i 0).val) * 128 + (i 1).val = (g.val * 8 + (i 0).val) * 128 + (i 1).val
    omega
  · show (k0_pay3 (F := Ideal) B s (ix2 ⟨8 * g.val + (i 0).val, by omega⟩ ⟨(i 1).val, h1⟩) * k0_pay3 (F := Ideal) B s (ix2 ⟨8 * g.val + (i 0).val, by omega⟩ ⟨(i 1).val, h1⟩) : EReal) = _
    rw [hw]
    show (f (R + (8 * g.val + (i 0).val)) (C + (i 1).val) * f (R + (8 * g.val + (i 0).val)) (C + (i 1).val) : EReal) = _
    rw [show R + (8 * g.val + (i 0).val) = R + (i 0).val + 8 * g.val by omega]

/-- The loads of a chunk: a block of the codes off the ring, and a scale. -/
abbrev bk (c : Dev nD) (f6 : MBuf (F := Ideal) c wM) (b : ℕ) (o : Fin 3 → ℕ) (h : ∀ a, o a + S1x128x128.size a ≤ S4x2048x512.size a) : Vec Ideal S1x128x128 .fp8e4m3 :=
  View.readAt (Elt Ideal) ringM.view (Rect.unit (s := S4x2048x512) o S1x128x128.size h).toLoadRect (landed c f6 b (slotB b).view.junk)

abbrev sk (c : Dev nD) (arg0 : Memref sig .tc .smem S144x56 .f32) (f0 : MBuf (F := Ideal) c arg0) (t1 : Fin k0_t1_loop.trips) (t2 : Fin k0_t2_loop.trips) (T : Fin 8) (kb q ob : Fin 2) : EReal :=
  View.readAt (Elt Ideal) arg0.view (Rect.unit (s := S144x56) (k0_off12 t1 t2 (BitVec.ofNat 32 T.val) (BitVec.ofNat 32 kb.val) (BitVec.ofNat 32 (2 * q.val)) (BitVec.ofNat 32 ob.val)) S1x1.size
    (k0_off12_inb t1 t2 T kb q ob)).toLoadRect f0 (Shape.Idx.first (show 0 < S1x1.numel by decide))

theorem scale_apply (c : Dev nD) (arg0 : Memref sig .tc .smem S144x56 .f32) (f0 : MBuf (F := Ideal) c arg0) {p : Fin 2 → ℕ} {a b : ℕ} (hp : p = ![a, b])
    (h : ∀ a, p a + S1x1.size a ≤ S144x56.size a) (h1 : 0 < S1x1.numel) :
    (View.readAt (Elt Ideal) arg0.view (Rect.unit (s := S144x56) p S1x1.size h).toLoadRect f0 (Shape.Idx.first h1) : EReal)
      = nf (n := 144) (m := 56) (arg0.view.read (Elt Ideal) f0) a b := by
  subst hp
  exact (nf_apply (n := 144) (m := 56) (arg0.view.read (Elt Ideal) f0) ((Rect.unit (s := S144x56) ![a, b] S1x1.size h).toLoadRect.idx (Shape.Idx.first h1)) a b rfl rfl).symm

/-- One block of the merged matrix. -/
theorem w_apply (c : Dev nD) (arg0 : Memref sig .tc .smem S144x56 .f32) (f0 : MBuf (F := Ideal) c arg0) (f6 : MBuf (F := Ideal) c wM)
    (t1 : Fin k0_t1_loop.trips) (t2 : Fin k0_t2_loop.trips) (T : Fin 8) (kb q ob : Fin 2) {o : Fin 3 → ℕ}
    (h : ∀ a, o a + S1x128x128.size a ≤ S4x2048x512.size a) (ho : o = ![(9 * t1.val + t2.val) % 4, 256 * T.val + 128 * kb.val, 256 * q.val + 128 * ob.val]) (i : S128x128.Idx) :
    (k0_pay3 (F := Ideal) (bk c f6 (9 * t1.val + t2.val) o h) (sk c arg0 f0 t1 t2 T kb q ob) i : EReal)
      = wv (nf (n := 18432) (m := 7168) f6) (nf (n := 144) (m := 56) (arg0.view.read (Elt Ideal) f0)) (256 * (8 * t2.val + T.val) + 128 * kb.val + (i 0).val) (512 * t1.val + 256 * q.val + 128 * ob.val + (i 1).val) := by
  have l1 : t1.val < 14 := t1.isLt
  have l2 : t2.val < 9 := t2.isLt
  have l3 := T.isLt; have l4 := kb.isLt; have l5 := q.isLt; have l6 := ob.isLt
  refine pay3_apply _ _ _ _ _ _ (by omega) (by omega) (fun k => ?_) ?_ i
  · refine (blk_apply c f6 _ _ ho h (by omega) (by omega) k).trans ?_
    congr 1 <;> omega
  · refine (scale_apply c arg0 f0 (k0_off12_eq t1 t2 T kb q ob) _ _).trans ?_
    congr 1 <;> omega

/-- A tile of the merged matrix. -/
theorem quad_apply (c : Dev nD) (arg0 : Memref sig .tc .smem S144x56 .f32) (f0 : MBuf (F := Ideal) c arg0) (f6 : MBuf (F := Ideal) c wM)
    (t1 : Fin k0_t1_loop.trips) (t2 : Fin k0_t2_loop.trips) (T : Fin 8) (q : Fin 2) {o00 o01 o10 o11 : Fin 3 → ℕ}
    (h00 : ∀ a, o00 a + S1x128x128.size a ≤ S4x2048x512.size a) (e00 : o00 = ![(9 * t1.val + t2.val) % 4, 256 * T.val + 128 * 0, 256 * q.val + 128 * 0])
    (h01 : ∀ a, o01 a + S1x128x128.size a ≤ S4x2048x512.size a) (e01 : o01 = ![(9 * t1.val + t2.val) % 4, 256 * T.val + 128 * 0, 256 * q.val + 128 * 1])
    (h10 : ∀ a, o10 a + S1x128x128.size a ≤ S4x2048x512.size a) (e10 : o10 = ![(9 * t1.val + t2.val) % 4, 256 * T.val + 128 * 1, 256 * q.val + 128 * 0])
    (h11 : ∀ a, o11 a + S1x128x128.size a ≤ S4x2048x512.size a) (e11 : o11 = ![(9 * t1.val + t2.val) % 4, 256 * T.val + 128 * 1, 256 * q.val + 128 * 1])
    (i : S256x256.Idx) :
    (quad (bk c f6 (9 * t1.val + t2.val) o00 h00) (bk c f6 (9 * t1.val + t2.val) o01 h01) (bk c f6 (9 * t1.val + t2.val) o10 h10) (bk c f6 (9 * t1.val + t2.val) o11 h11)
      (sk c arg0 f0 t1 t2 T 0 q 0) (sk c arg0 f0 t1 t2 T 0 q 1) (sk c arg0 f0 t1 t2 T 1 q 0) (sk c arg0 f0 t1 t2 T 1 q 1) i : EReal)
      = wv (nf (n := 18432) (m := 7168) f6) (nf (n := 144) (m := 56) (arg0.view.read (Elt Ideal) f0)) (256 * (8 * t2.val + T.val) + (i 0).val) (512 * t1.val + 256 * q.val + (i 1).val) :=
  col_apply _ _ _ _ _
    (row_apply _ _ _ _ _ (w_apply c arg0 f0 f6 t1 t2 T 0 q 0 h00 e00) (w_apply c arg0 f0 f6 t1 t2 T 0 q 1 h01 e01))
    (row_apply _ _ _ _ _ (w_apply c arg0 f0 f6 t1 t2 T 1 q 0 h10 e10) (w_apply c arg0 f0 f6 t1 t2 T 1 q 1 h11 e11)) i

/-- A block's squares. -/
theorem sq_apply (c : Dev nD) (arg0 : Memref sig .tc .smem S144x56 .f32) (f0 : MBuf (F := Ideal) c arg0) (f6 : MBuf (F := Ideal) c wM)
    (t1 : Fin k0_t1_loop.trips) (t2 : Fin k0_t2_loop.trips) (T : Fin 8) (kb q ob : Fin 2) {o : Fin 3 → ℕ}
    (h : ∀ a, o a + S1x128x128.size a ≤ S4x2048x512.size a) (ho : o = ![(9 * t1.val + t2.val) % 4, 256 * T.val + 128 * kb.val, 256 * q.val + 128 * ob.val]) (i : S8x128.Idx) :
    (k0_pay4 (F := Ideal) (bk c f6 (9 * t1.val + t2.val) o h) (sk c arg0 f0 t1 t2 T kb q ob) i : EReal)
      = sq16 (wv (nf (n := 18432) (m := 7168) f6) (nf (n := 144) (m := 56) (arg0.view.read (Elt Ideal) f0))) (128 * (16 * t2.val + (2 * T.val + kb.val)) + (i 0).val) (512 * t1.val + 256 * q.val + 128 * ob.val + (i 1).val) := by
  refine (pay4_apply _ _ _ _ _ (w_apply c arg0 f0 f6 t1 t2 T kb q ob h ho) i).trans ?_
  rw [show 256 * (8 * t2.val + T.val) + 128 * kb.val = 128 * (16 * t2.val + (2 * T.val + kb.val)) by omega]

/-- A tile of the left-hand stacks. -/
theorem xt_apply (c : Dev nD) (arg1 : Memref sig .tc .vmem S72x256x256 .bf16) (f1 : MBuf (F := Ideal) c arg1) (t2 : Fin k0_t2_loop.trips) (T : Fin 8) (i : S256x256.Idx) :
    (k0_pay1 (F := Ideal) (View.readAt (Elt Ideal) arg1.view (Rect.unit (s := S72x256x256) (k0_off9 t2 (BitVec.ofNat 32 T.val)) S1x256x256.size (k0_off9_inb t2 T)).toLoadRect f1) i : EReal)
      = xr (n := 72) (m := 256) (arg1.view.read (Elt Ideal) f1) (i 0).val (256 * (8 * t2.val + T.val) + (i 1).val) := by
  have e : ∀ B : Vec Ideal S1x256x256 .bf16, (k0_pay1 (F := Ideal) B i : EReal) = B (Fin.cons ⟨0, Nat.one_pos⟩ i) := fun B =>
    shapeCast_dropUnit_apply ![256, 256] B shapeCasts_S1x256x256_S256x256 i
  refine (e _).trans ?_
  refine (xr_apply (n := 72) (m := 256) (arg1.view.read (Elt Ideal) f1) _ _ _ ?_ ?_).symm
  · show (k0_off9 t2 (BitVec.ofNat 32 T.val)) 1 + 1 * (i 0).val = _
    rw [k0_off9_eq]; show 0 + 1 * (i 0).val = _; omega
  · show 256 * ((k0_off9 t2 (BitVec.ofNat 32 T.val)) 0 + 1 * 0) + ((k0_off9 t2 (BitVec.ofNat 32 T.val)) 2 + 1 * (i 1).val) = _
    rw [k0_off9_eq]; show 256 * (8 * t2.val + T.val + 1 * 0) + (0 + 1 * (i 1).val) = _; omega

theorem at_apply (c : Dev nD) (arg2 : Memref sig .tc .vmem S72x64x256 .bf16) (f2 : MBuf (F := Ideal) c arg2) (t2 : Fin k0_t2_loop.trips) (T : Fin 8) (i : S64x256.Idx) :
    (k0_pay2 (F := Ideal) (View.readAt (Elt Ideal) arg2.view (Rect.unit (s := S72x64x256) (k0_off10 t2 (BitVec.ofNat 32 T.val)) S1x64x256.size (k0_off10_inb t2 T)).toLoadRect f2) i : EReal)
      = xr (n := 72) (m := 64) (arg2.view.read (Elt Ideal) f2) (i 0).val (256 * (8 * t2.val + T.val) + (i 1).val) := by
  have e : ∀ B : Vec Ideal S1x64x256 .bf16, (k0_pay2 (F := Ideal) B i : EReal) = B (Fin.cons ⟨0, Nat.one_pos⟩ i) := fun B =>
    shapeCast_dropUnit_apply ![64, 256] B shapeCasts_S1x64x256_S64x256 i
  refine (e _).trans ?_
  refine (xr_apply (n := 72) (m := 64) (arg2.view.read (Elt Ideal) f2) _ _ _ ?_ ?_).symm
  · show (k0_off10 t2 (BitVec.ofNat 32 T.val)) 1 + 1 * (i 0).val = _
    rw [k0_off10_eq]; show 0 + 1 * (i 0).val = _; omega
  · show 256 * ((k0_off10 t2 (BitVec.ofNat 32 T.val)) 0 + 1 * 0) + ((k0_off10 t2 (BitVec.ofNat 32 T.val)) 2 + 1 * (i 1).val) = _
    rw [k0_off10_eq]; show 256 * (8 * t2.val + T.val + 1 * 0) + (0 + 1 * (i 1).val) = _; omega

end Cert.KernelIdeal.Hand
-- ==== Proof.KI.VTrip.lean ====
/-
  One step of the inner loop at its coordinates.
-/
module

public import proofs.«01_k».proof.Proof.KI.VTile

@[expose] public section

set_option maxRecDepth 8192

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped BigOperators

theorem sum8 (x : EReal) (f : ℕ → EReal) : x + f 0 + f 1 + f 2 + f 3 + f 4 + f 5 + f 6 + f 7 = x + ∑ T ∈ Finset.range 8, f T := by
  simp only [Finset.sum_range_succ, Finset.sum_range_zero, zero_add, add_assoc]

theorem sum16 (f : ℕ → EReal) : f 0 + f 1 + f 2 + f 3 + f 4 + f 5 + f 6 + f 7 + f 8 + f 9 + f 10 + f 11 + f 12 + f 13 + f 14 + f 15 = ∑ T ∈ Finset.range 16, f T := by
  simp only [Finset.sum_range_succ, Finset.sum_range_zero, zero_add]

/-- The merged matrix from the arrays of a call. -/
abbrev wA (c : Dev nD) (arg0 : Memref sig .tc .smem S144x56 .f32) (f0 : MBuf (F := Ideal) c arg0) (f6 : MBuf (F := Ideal) c wM) : NF :=
  wv (nf (n := 18432) (m := 7168) f6) (nf (n := 144) (m := 56) (arg0.view.read (Elt Ideal) f0))

/-- What tile `m` of the inner dimension adds to a product. -/
abbrev tile (xf w : NF) (C m : ℕ) : NF := dot256 (fun i k => xf i (256 * m + k)) (fun k j => w (256 * m + k) (C + j))

theorem step_0_0 (c : Dev nD) (arg0 : Memref sig .tc .smem S144x56 .f32) (arg1 : Memref sig .tc .vmem S72x256x256 .bf16) (arg2 : Memref sig .tc .vmem S72x64x256 .bf16) (t1 : Fin k0_t1_loop.trips) (t2 : Fin k0_t2_loop.trips) (s : Mxu Ideal)
    (f0 : MBuf (F := Ideal) c arg0) (f1 : MBuf (F := Ideal) c arg1) (f2 : MBuf (F := Ideal) c arg2) (f6 : MBuf (F := Ideal) c wM) (X0 X1 A0 A1 : NF)
    (h : St s X0 X1 A0 A1) : St (tripRun.sl.r_15 c arg0 arg1 arg2 t1 t2 s f0 f1 f2 f6)
      (X0 + tile (xr (n := 72) (m := 256) (arg1.view.read (Elt Ideal) f1)) (wA c arg0 f0 f6) (512 * t1.val + 256 * 0) (8 * t2.val + 0)) X1 (A0 + tile (xr (n := 72) (m := 64) (arg2.view.read (Elt Ideal) f2)) (wA c arg0 f0 f6) (512 * t1.val + 256 * 0) (8 * t2.val + 0)) A1 :=
  h.step0 0 _ _ _ _ _ _ (xt_apply c arg1 f1 t2 0) (at_apply c arg2 f2 t2 0)
    (quad_apply c arg0 f0 f6 t1 t2 0 0 (k0_off11_inb t1 t2) (k0_off11_eq t1 t2) (k0_off13_inb t1 t2) (k0_off13_eq t1 t2) (k0_off14_inb t1 t2) (k0_off14_eq t1 t2) (k0_off15_inb t1 t2) (k0_off15_eq t1 t2)) _ (gmr_get _ _ _ _ _ _)

theorem step_0_1 (c : Dev nD) (arg0 : Memref sig .tc .smem S144x56 .f32) (arg1 : Memref sig .tc .vmem S72x256x256 .bf16) (arg2 : Memref sig .tc .vmem S72x64x256 .bf16) (t1 : Fin k0_t1_loop.trips) (t2 : Fin k0_t2_loop.trips) (s : Mxu Ideal)
    (f0 : MBuf (F := Ideal) c arg0) (f1 : MBuf (F := Ideal) c arg1) (f2 : MBuf (F := Ideal) c arg2) (f6 : MBuf (F := Ideal) c wM) (X0 X1 A0 A1 : NF)
    (h : St (tripRun.sl.r_15 c arg0 arg1 arg2 t1 t2 s f0 f1 f2 f6) X0 X1 A0 A1) : St (tripRun.sl.r_28 c arg0 arg1 arg2 t1 t2 s f0 f1 f2 f6)
      X0 (X1 + tile (xr (n := 72) (m := 256) (arg1.view.read (Elt Ideal) f1)) (wA c arg0 f0 f6) (512 * t1.val + 256 * 1) (8 * t2.val + 0)) A0 (A1 + tile (xr (n := 72) (m := 64) (arg2.view.read (Elt Ideal) f2)) (wA c arg0 f0 f6) (512 * t1.val + 256 * 1) (8 * t2.val + 0)) :=
  h.step1 0 _ _ _ _ _ _ (xt_apply c arg1 f1 t2 0) (at_apply c arg2 f2 t2 0)
    (quad_apply c arg0 f0 f6 t1 t2 0 1 (k0_off16_inb t1 t2) (k0_off16_eq t1 t2) (k0_off17_inb t1 t2) (k0_off17_eq t1 t2) (k0_off18_inb t1 t2) (k0_off18_eq t1 t2) (k0_off19_inb t1 t2) (k0_off19_eq t1 t2)) _ (gmr_get _ _ _ _ _ _)

theorem step_1_0 (c : Dev nD) (arg0 : Memref sig .tc .smem S144x56 .f32) (arg1 : Memref sig .tc .vmem S72x256x256 .bf16) (arg2 : Memref sig .tc .vmem S72x64x256 .bf16) (t1 : Fin k0_t1_loop.trips) (t2 : Fin k0_t2_loop.trips) (s : Mxu Ideal)
    (f0 : MBuf (F := Ideal) c arg0) (f1 : MBuf (F := Ideal) c arg1) (f2 : MBuf (F := Ideal) c arg2) (f6 : MBuf (F := Ideal) c wM) (X0 X1 A0 A1 : NF)
    (h : St (tripRun.sl.r_28 c arg0 arg1 arg2 t1 t2 s f0 f1 f2 f6) X0 X1 A0 A1) : St (tripRun.sl.r_48 c arg0 arg1 arg2 t1 t2 s f0 f1 f2 f6)
      (X0 + tile (xr (n := 72) (m := 256) (arg1.view.read (Elt Ideal) f1)) (wA c arg0 f0 f6) (512 * t1.val + 256 * 0) (8 * t2.val + 1)) X1 (A0 + tile (xr (n := 72) (m := 64) (arg2.view.read (Elt Ideal) f2)) (wA c arg0 f0 f6) (512 * t1.val + 256 * 0) (8 * t2.val + 1)) A1 :=
  h.step0 1 _ _ _ _ _ _ (xt_apply c arg1 f1 t2 1) (at_apply c arg2 f2 t2 1)
    (quad_apply c arg0 f0 f6 t1 t2 1 0 (k0_off20_inb t1 t2) (k0_off20_eq t1 t2) (k0_off21_inb t1 t2) (k0_off21_eq t1 t2) (k0_off22_inb t1 t2) (k0_off22_eq t1 t2) (k0_off23_inb t1 t2) (k0_off23_eq t1 t2)) _ (gmr_get _ _ _ _ _ _)

theorem step_1_1 (c : Dev nD) (arg0 : Memref sig .tc .smem S144x56 .f32) (arg1 : Memref sig .tc .vmem S72x256x256 .bf16) (arg2 : Memref sig .tc .vmem S72x64x256 .bf16) (t1 : Fin k0_t1_loop.trips) (t2 : Fin k0_t2_loop.trips) (s : Mxu Ideal)
    (f0 : MBuf (F := Ideal) c arg0) (f1 : MBuf (F := Ideal) c arg1) (f2 : MBuf (F := Ideal) c arg2) (f6 : MBuf (F := Ideal) c wM) (X0 X1 A0 A1 : NF)
    (h : St (tripRun.sl.r_48 c arg0 arg1 arg2 t1 t2 s f0 f1 f2 f6) X0 X1 A0 A1) : St (tripRun.sl.r_63 c arg0 arg1 arg2 t1 t2 s f0 f1 f2 f6)
      X0 (X1 + tile (xr (n := 72) (m := 256) (arg1.view.read (Elt Ideal) f1)) (wA c arg0 f0 f6) (512 * t1.val + 256 * 1) (8 * t2.val + 1)) A0 (A1 + tile (xr (n := 72) (m := 64) (arg2.view.read (Elt Ideal) f2)) (wA c arg0 f0 f6) (512 * t1.val + 256 * 1) (8 * t2.val + 1)) :=
  h.step1 1 _ _ _ _ _ _ (xt_apply c arg1 f1 t2 1) (at_apply c arg2 f2 t2 1)
    (quad_apply c arg0 f0 f6 t1 t2 1 1 (k0_off24_inb t1 t2) (k0_off24_eq t1 t2) (k0_off25_inb t1 t2) (k0_off25_eq t1 t2) (k0_off26_inb t1 t2) (k0_off26_eq t1 t2) (k0_off27_inb t1 t2) (k0_off27_eq t1 t2)) _ (gmr_get _ _ _ _ _ _)

theorem step_2_0 (c : Dev nD) (arg0 : Memref sig .tc .smem S144x56 .f32) (arg1 : Memref sig .tc .vmem S72x256x256 .bf16) (arg2 : Memref sig .tc .vmem S72x64x256 .bf16) (t1 : Fin k0_t1_loop.trips) (t2 : Fin k0_t2_loop.trips) (s : Mxu Ideal)
    (f0 : MBuf (F := Ideal) c arg0) (f1 : MBuf (F := Ideal) c arg1) (f2 : MBuf (F := Ideal) c arg2) (f6 : MBuf (F := Ideal) c wM) (X0 X1 A0 A1 : NF)
    (h : St (tripRun.sl.r_63 c arg0 arg1 arg2 t1 t2 s f0 f1 f2 f6) X0 X1 A0 A1) : St (tripRun.sl.r_77 c arg0 arg1 arg2 t1 t2 s f0 f1 f2 f6)
      (X0 + tile (xr (n := 72) (m := 256) (arg1.view.read (Elt Ideal) f1)) (wA c arg0 f0 f6) (512 * t1.val + 256 * 0) (8 * t2.val + 2)) X1 (A0 + tile (xr (n := 72) (m := 64) (arg2.view.read (Elt Ideal) f2)) (wA c arg0 f0 f6) (512 * t1.val + 256 * 0) (8 * t2.val + 2)) A1 :=
  h.step0 0 _ _ _ _ _ _ (xt_apply c arg1 f1 t2 2) (at_apply c arg2 f2 t2 2)
    (quad_apply c arg0 f0 f6 t1 t2 2 0 (k0_off28_inb t1 t2) (k0_off28_eq t1 t2) (k0_off29_inb t1 t2) (k0_off29_eq t1 t2) (k0_off30_inb t1 t2) (k0_off30_eq t1 t2) (k0_off31_inb t1 t2) (k0_off31_eq t1 t2)) _ (gmr_get _ _ _ _ _ _)

theorem step_2_1 (c : Dev nD) (arg0 : Memref sig .tc .smem S144x56 .f32) (arg1 : Memref sig .tc .vmem S72x256x256 .bf16) (arg2 : Memref sig .tc .vmem S72x64x256 .bf16) (t1 : Fin k0_t1_loop.trips) (t2 : Fin k0_t2_loop.trips) (s : Mxu Ideal)
    (f0 : MBuf (F := Ideal) c arg0) (f1 : MBuf (F := Ideal) c arg1) (f2 : MBuf (F := Ideal) c arg2) (f6 : MBuf (F := Ideal) c wM) (X0 X1 A0 A1 : NF)
    (h : St (tripRun.sl.r_77 c arg0 arg1 arg2 t1 t2 s f0 f1 f2 f6) X0 X1 A0 A1) : St (tripRun.sl.r_95 c arg0 arg1 arg2 t1 t2 s f0 f1 f2 f6)
      X0 (X1 + tile (xr (n := 72) (m := 256) (arg1.view.read (Elt Ideal) f1)) (wA c arg0 f0 f6) (512 * t1.val + 256 * 1) (8 * t2.val + 2)) A0 (A1 + tile (xr (n := 72) (m := 64) (arg2.view.read (Elt Ideal) f2)) (wA c arg0 f0 f6) (512 * t1.val + 256 * 1) (8 * t2.val + 2)) :=
  h.step1 0 _ _ _ _ _ _ (xt_apply c arg1 f1 t2 2) (at_apply c arg2 f2 t2 2)
    (quad_apply c arg0 f0 f6 t1 t2 2 1 (k0_off32_inb t1 t2) (k0_off32_eq t1 t2) (k0_off33_inb t1 t2) (k0_off33_eq t1 t2) (k0_off34_inb t1 t2) (k0_off34_eq t1 t2) (k0_off35_inb t1 t2) (k0_off35_eq t1 t2)) _ (gmr_get _ _ _ _ _ _)

theorem step_3_0 (c : Dev nD) (arg0 : Memref sig .tc .smem S144x56 .f32) (arg1 : Memref sig .tc .vmem S72x256x256 .bf16) (arg2 : Memref sig .tc .vmem S72x64x256 .bf16) (t1 : Fin k0_t1_loop.trips) (t2 : Fin k0_t2_loop.trips) (s : Mxu Ideal)
    (f0 : MBuf (F := Ideal) c arg0) (f1 : MBuf (F := Ideal) c arg1) (f2 : MBuf (F := Ideal) c arg2) (f6 : MBuf (F := Ideal) c wM) (X0 X1 A0 A1 : NF)
    (h : St (tripRun.sl.r_95 c arg0 arg1 arg2 t1 t2 s f0 f1 f2 f6) X0 X1 A0 A1) : St (tripRun.sl.r_111 c arg0 arg1 arg2 t1 t2 s f0 f1 f2 f6)
      (X0 + tile (xr (n := 72) (m := 256) (arg1.view.read (Elt Ideal) f1)) (wA c arg0 f0 f6) (512 * t1.val + 256 * 0) (8 * t2.val + 3)) X1 (A0 + tile (xr (n := 72) (m := 64) (arg2.view.read (Elt Ideal) f2)) (wA c arg0 f0 f6) (512 * t1.val + 256 * 0) (8 * t2.val + 3)) A1 :=
  h.step0 1 _ _ _ _ _ _ (xt_apply c arg1 f1 t2 3) (at_apply c arg2 f2 t2 3)
    (quad_apply c arg0 f0 f6 t1 t2 3 0 (k0_off36_inb t1 t2) (k0_off36_eq t1 t2) (k0_off37_inb t1 t2) (k0_off37_eq t1 t2) (k0_off38_inb t1 t2) (k0_off38_eq t1 t2) (k0_off39_inb t1 t2) (k0_off39_eq t1 t2)) _ (gmr_get _ _ _ _ _ _)

theorem step_3_1 (c : Dev nD) (arg0 : Memref sig .tc .smem S144x56 .f32) (arg1 : Memref sig .tc .vmem S72x256x256 .bf16) (arg2 : Memref sig .tc .vmem S72x64x256 .bf16) (t1 : Fin k0_t1_loop.trips) (t2 : Fin k0_t2_loop.trips) (s : Mxu Ideal)
    (f0 : MBuf (F := Ideal) c arg0) (f1 : MBuf (F := Ideal) c arg1) (f2 : MBuf (F := Ideal) c arg2) (f6 : MBuf (F := Ideal) c wM) (X0 X1 A0 A1 : NF)
    (h : St (tripRun.sl.r_111 c arg0 arg1 arg2 t1 t2 s f0 f1 f2 f6) X0 X1 A0 A1) : St (tripRun.sl.r_124 c arg0 arg1 arg2 t1 t2 s f0 f1 f2 f6)
      X0 (X1 + tile (xr (n := 72) (m := 256) (arg1.view.read (Elt Ideal) f1)) (wA c arg0 f0 f6) (512 * t1.val + 256 * 1) (8 * t2.val + 3)) A0 (A1 + tile (xr (n := 72) (m := 64) (arg2.view.read (Elt Ideal) f2)) (wA c arg0 f0 f6) (512 * t1.val + 256 * 1) (8 * t2.val + 3)) :=
  h.step1 1 _ _ _ _ _ _ (xt_apply c arg1 f1 t2 3) (at_apply c arg2 f2 t2 3)
    (quad_apply c arg0 f0 f6 t1 t2 3 1 (k0_off40_inb t1 t2) (k0_off40_eq t1 t2) (k0_off41_inb t1 t2) (k0_off41_eq t1 t2) (k0_off42_inb t1 t2) (k0_off42_eq t1 t2) (k0_off43_inb t1 t2) (k0_off43_eq t1 t2)) _ (gmr_get _ _ _ _ _ _)

theorem step_4_0 (c : Dev nD) (arg0 : Memref sig .tc .smem S144x56 .f32) (arg1 : Memref sig .tc .vmem S72x256x256 .bf16) (arg2 : Memref sig .tc .vmem S72x64x256 .bf16) (t1 : Fin k0_t1_loop.trips) (t2 : Fin k0_t2_loop.trips) (s : Mxu Ideal)
    (f0 : MBuf (F := Ideal) c arg0) (f1 : MBuf (F := Ideal) c arg1) (f2 : MBuf (F := Ideal) c arg2) (f6 : MBuf (F := Ideal) c wM) (X0 X1 A0 A1 : NF)
    (h : St (tripRun.sl.r_124 c arg0 arg1 arg2 t1 t2 s f0 f1 f2 f6) X0 X1 A0 A1) : St (tripRun.sl.r_142 c arg0 arg1 arg2 t1 t2 s f0 f1 f2 f6)
      (X0 + tile (xr (n := 72) (m := 256) (arg1.view.read (Elt Ideal) f1)) (wA c arg0 f0 f6) (512 * t1.val + 256 * 0) (8 * t2.val + 4)) X1 (A0 + tile (xr (n := 72) (m := 64) (arg2.view.read (Elt Ideal) f2)) (wA c arg0 f0 f6) (512 * t1.val + 256 * 0) (8 * t2.val + 4)) A1 :=
  h.step0 0 _ _ _ _ _ _ (xt_apply c arg1 f1 t2 4) (at_apply c arg2 f2 t2 4)
    (quad_apply c arg0 f0 f6 t1 t2 4 0 (k0_off44_inb t1 t2) (k0_off44_eq t1 t2) (k0_off45_inb t1 t2) (k0_off45_eq t1 t2) (k0_off46_inb t1 t2) (k0_off46_eq t1 t2) (k0_off47_inb t1 t2) (k0_off47_eq t1 t2)) _ (gmr_get _ _ _ _ _ _)

theorem step_4_1 (c : Dev nD) (arg0 : Memref sig .tc .smem S144x56 .f32) (arg1 : Memref sig .tc .vmem S72x256x256 .bf16) (arg2 : Memref sig .tc .vmem S72x64x256 .bf16) (t1 : Fin k0_t1_loop.trips) (t2 : Fin k0_t2_loop.trips) (s : Mxu Ideal)
    (f0 : MBuf (F := Ideal) c arg0) (f1 : MBuf (F := Ideal) c arg1) (f2 : MBuf (F := Ideal) c arg2) (f6 : MBuf (F := Ideal) c wM) (X0 X1 A0 A1 : NF)
    (h : St (tripRun.sl.r_142 c arg0 arg1 arg2 t1 t2 s f0 f1 f2 f6) X0 X1 A0 A1) : St (tripRun.sl.r_156 c arg0 arg1 arg2 t1 t2 s f0 f1 f2 f6)
      X0 (X1 + tile (xr (n := 72) (m := 256) (arg1.view.read (Elt Ideal) f1)) (wA c arg0 f0 f6) (512 * t1.val + 256 * 1) (8 * t2.val + 4)) A0 (A1 + tile (xr (n := 72) (m := 64) (arg2.view.read (Elt Ideal) f2)) (wA c arg0 f0 f6) (512 * t1.val + 256 * 1) (8 * t2.val + 4)) :=
  h.step1 0 _ _ _ _ _ _ (xt_apply c arg1 f1 t2 4) (at_apply c arg2 f2 t2 4)
    (quad_apply c arg0 f0 f6 t1 t2 4 1 (k0_off48_inb t1 t2) (k0_off48_eq t1 t2) (k0_off49_inb t1 t2) (k0_off49_eq t1 t2) (k0_off50_inb t1 t2) (k0_off50_eq t1 t2) (k0_off51_inb t1 t2) (k0_off51_eq t1 t2)) _ (gmr_get _ _ _ _ _ _)

theorem step_5_0 (c : Dev nD) (arg0 : Memref sig .tc .smem S144x56 .f32) (arg1 : Memref sig .tc .vmem S72x256x256 .bf16) (arg2 : Memref sig .tc .vmem S72x64x256 .bf16) (t1 : Fin k0_t1_loop.trips) (t2 : Fin k0_t2_loop.trips) (s : Mxu Ideal)
    (f0 : MBuf (F := Ideal) c arg0) (f1 : MBuf (F := Ideal) c arg1) (f2 : MBuf (F := Ideal) c arg2) (f6 : MBuf (F := Ideal) c wM) (X0 X1 A0 A1 : NF)
    (h : St (tripRun.sl.r_156 c arg0 arg1 arg2 t1 t2 s f0 f1 f2 f6) X0 X1 A0 A1) : St (tripRun.sl.r_175 c arg0 arg1 arg2 t1 t2 s f0 f1 f2 f6)
      (X0 + tile (xr (n := 72) (m := 256) (arg1.view.read (Elt Ideal) f1)) (wA c arg0 f0 f6) (512 * t1.val + 256 * 0) (8 * t2.val + 5)) X1 (A0 + tile (xr (n := 72) (m := 64) (arg2.view.read (Elt Ideal) f2)) (wA c arg0 f0 f6) (512 * t1.val + 256 * 0) (8 * t2.val + 5)) A1 :=
  h.step0 1 _ _ _ _ _ _ (xt_apply c arg1 f1 t2 5) (at_apply c arg2 f2 t2 5)
    (quad_apply c arg0 f0 f6 t1 t2 5 0 (k0_off52_inb t1 t2) (k0_off52_eq t1 t2) (k0_off53_inb t1 t2) (k0_off53_eq t1 t2) (k0_off54_inb t1 t2) (k0_off54_eq t1 t2) (k0_off55_inb t1 t2) (k0_off55_eq t1 t2)) _ (gmr_get _ _ _ _ _ _)

theorem step_5_1 (c : Dev nD) (arg0 : Memref sig .tc .smem S144x56 .f32) (arg1 : Memref sig .tc .vmem S72x256x256 .bf16) (arg2 : Memref sig .tc .vmem S72x64x256 .bf16) (t1 : Fin k0_t1_loop.trips) (t2 : Fin k0_t2_loop.trips) (s : Mxu Ideal)
    (f0 : MBuf (F := Ideal) c arg0) (f1 : MBuf (F := Ideal) c arg1) (f2 : MBuf (F := Ideal) c arg2) (f6 : MBuf (F := Ideal) c wM) (X0 X1 A0 A1 : NF)
    (h : St (tripRun.sl.r_175 c arg0 arg1 arg2 t1 t2 s f0 f1 f2 f6) X0 X1 A0 A1) : St (tripRun.sl.r_190 c arg0 arg1 arg2 t1 t2 s f0 f1 f2 f6)
      X0 (X1 + tile (xr (n := 72) (m := 256) (arg1.view.read (Elt Ideal) f1)) (wA c arg0 f0 f6) (512 * t1.val + 256 * 1) (8 * t2.val + 5)) A0 (A1 + tile (xr (n := 72) (m := 64) (arg2.view.read (Elt Ideal) f2)) (wA c arg0 f0 f6) (512 * t1.val + 256 * 1) (8 * t2.val + 5)) :=
  h.step1 1 _ _ _ _ _ _ (xt_apply c arg1 f1 t2 5) (at_apply c arg2 f2 t2 5)
    (quad_apply c arg0 f0 f6 t1 t2 5 1 (k0_off56_inb t1 t2) (k0_off56_eq t1 t2) (k0_off57_inb t1 t2) (k0_off57_eq t1 t2) (k0_off58_inb t1 t2) (k0_off58_eq t1 t2) (k0_off59_inb t1 t2) (k0_off59_eq t1 t2)) _ (gmr_get _ _ _ _ _ _)

theorem step_6_0 (c : Dev nD) (arg0 : Memref sig .tc .smem S144x56 .f32) (arg1 : Memref sig .tc .vmem S72x256x256 .bf16) (arg2 : Memref sig .tc .vmem S72x64x256 .bf16) (t1 : Fin k0_t1_loop.trips) (t2 : Fin k0_t2_loop.trips) (s : Mxu Ideal)
    (f0 : MBuf (F := Ideal) c arg0) (f1 : MBuf (F := Ideal) c arg1) (f2 : MBuf (F := Ideal) c arg2) (f6 : MBuf (F := Ideal) c wM) (X0 X1 A0 A1 : NF)
    (h : St (tripRun.sl.r_190 c arg0 arg1 arg2 t1 t2 s f0 f1 f2 f6) X0 X1 A0 A1) : St (tripRun.sl.r_207 c arg0 arg1 arg2 t1 t2 s f0 f1 f2 f6)
      (X0 + tile (xr (n := 72) (m := 256) (arg1.view.read (Elt Ideal) f1)) (wA c arg0 f0 f6) (512 * t1.val + 256 * 0) (8 * t2.val + 6)) X1 (A0 + tile (xr (n := 72) (m := 64) (arg2.view.read (Elt Ideal) f2)) (wA c arg0 f0 f6) (512 * t1.val + 256 * 0) (8 * t2.val + 6)) A1 :=
  h.step0 0 _ _ _ _ _ _ (xt_apply c arg1 f1 t2 6) (at_apply c arg2 f2 t2 6)
    (quad_apply c arg0 f0 f6 t1 t2 6 0 (k0_off60_inb t1 t2) (k0_off60_eq t1 t2) (k0_off61_inb t1 t2) (k0_off61_eq t1 t2) (k0_off62_inb t1 t2) (k0_off62_eq t1 t2) (k0_off63_inb t1 t2) (k0_off63_eq t1 t2)) _ (gmr_get _ _ _ _ _ _)

theorem step_6_1 (c : Dev nD) (arg0 : Memref sig .tc .smem S144x56 .f32) (arg1 : Memref sig .tc .vmem S72x256x256 .bf16) (arg2 : Memref sig .tc .vmem S72x64x256 .bf16) (t1 : Fin k0_t1_loop.trips) (t2 : Fin k0_t2_loop.trips) (s : Mxu Ideal)
    (f0 : MBuf (F := Ideal) c arg0) (f1 : MBuf (F := Ideal) c arg1) (f2 : MBuf (F := Ideal) c arg2) (f6 : MBuf (F := Ideal) c wM) (X0 X1 A0 A1 : NF)
    (h : St (tripRun.sl.r_207 c arg0 arg1 arg2 t1 t2 s f0 f1 f2 f6) X0 X1 A0 A1) : St (tripRun.sl.r_222 c arg0 arg1 arg2 t1 t2 s f0 f1 f2 f6)
      X0 (X1 + tile (xr (n := 72) (m := 256) (arg1.view.read (Elt Ideal) f1)) (wA c arg0 f0 f6) (512 * t1.val + 256 * 1) (8 * t2.val + 6)) A0 (A1 + tile (xr (n := 72) (m := 64) (arg2.view.read (Elt Ideal) f2)) (wA c arg0 f0 f6) (512 * t1.val + 256 * 1) (8 * t2.val + 6)) :=
  h.step1 0 _ _ _ _ _ _ (xt_apply c arg1 f1 t2 6) (at_apply c arg2 f2 t2 6)
    (quad_apply c arg0 f0 f6 t1 t2 6 1 (k0_off64_inb t1 t2) (k0_off64_eq t1 t2) (k0_off65_inb t1 t2) (k0_off65_eq t1 t2) (k0_off66_inb t1 t2) (k0_off66_eq t1 t2) (k0_off67_inb t1 t2) (k0_off67_eq t1 t2)) _ (gmr_get _ _ _ _ _ _)

theorem step_7_0 (c : Dev nD) (arg0 : Memref sig .tc .smem S144x56 .f32) (arg1 : Memref sig .tc .vmem S72x256x256 .bf16) (arg2 : Memref sig .tc .vmem S72x64x256 .bf16) (t1 : Fin k0_t1_loop.trips) (t2 : Fin k0_t2_loop.trips) (s : Mxu Ideal)
    (f0 : MBuf (F := Ideal) c arg0) (f1 : MBuf (F := Ideal) c arg1) (f2 : MBuf (F := Ideal) c arg2) (f6 : MBuf (F := Ideal) c wM) (X0 X1 A0 A1 : NF)
    (h : St (tripRun.sl.r_222 c arg0 arg1 arg2 t1 t2 s f0 f1 f2 f6) X0 X1 A0 A1) : St (tripRun.sl.r_237 c arg0 arg1 arg2 t1 t2 s f0 f1 f2 f6)
      (X0 + tile (xr (n := 72) (m := 256) (arg1.view.read (Elt Ideal) f1)) (wA c arg0 f0 f6) (512 * t1.val + 256 * 0) (8 * t2.val + 7)) X1 (A0 + tile (xr (n := 72) (m := 64) (arg2.view.read (Elt Ideal) f2)) (wA c arg0 f0 f6) (512 * t1.val + 256 * 0) (8 * t2.val + 7)) A1 :=
  h.step0 1 _ _ _ _ _ _ (xt_apply c arg1 f1 t2 7) (at_apply c arg2 f2 t2 7)
    (quad_apply c arg0 f0 f6 t1 t2 7 0 (k0_off68_inb t1 t2) (k0_off68_eq t1 t2) (k0_off69_inb t1 t2) (k0_off69_eq t1 t2) (k0_off70_inb t1 t2) (k0_off70_eq t1 t2) (k0_off71_inb t1 t2) (k0_off71_eq t1 t2)) _ (gmr_get _ _ _ _ _ _)

theorem step_7_1 (c : Dev nD) (arg0 : Memref sig .tc .smem S144x56 .f32) (arg1 : Memref sig .tc .vmem S72x256x256 .bf16) (arg2 : Memref sig .tc .vmem S72x64x256 .bf16) (t1 : Fin k0_t1_loop.trips) (t2 : Fin k0_t2_loop.trips) (s : Mxu Ideal)
    (f0 : MBuf (F := Ideal) c arg0) (f1 : MBuf (F := Ideal) c arg1) (f2 : MBuf (F := Ideal) c arg2) (f6 : MBuf (F := Ideal) c wM) (X0 X1 A0 A1 : NF)
    (h : St (tripRun.sl.r_237 c arg0 arg1 arg2 t1 t2 s f0 f1 f2 f6) X0 X1 A0 A1) : St (tripRun.sl.r_253 c arg0 arg1 arg2 t1 t2 s f0 f1 f2 f6)
      X0 (X1 + tile (xr (n := 72) (m := 256) (arg1.view.read (Elt Ideal) f1)) (wA c arg0 f0 f6) (512 * t1.val + 256 * 1) (8 * t2.val + 7)) A0 (A1 + tile (xr (n := 72) (m := 64) (arg2.view.read (Elt Ideal) f2)) (wA c arg0 f0 f6) (512 * t1.val + 256 * 1) (8 * t2.val + 7)) :=
  h.step1 1 _ _ _ _ _ _ (xt_apply c arg1 f1 t2 7) (at_apply c arg2 f2 t2 7)
    (quad_apply c arg0 f0 f6 t1 t2 7 1 (k0_off72_inb t1 t2) (k0_off72_eq t1 t2) (k0_off73_inb t1 t2) (k0_off73_eq t1 t2) (k0_off74_inb t1 t2) (k0_off74_eq t1 t2) (k0_off75_inb t1 t2) (k0_off75_eq t1 t2)) _ (gmr_get _ _ _ _ _ _)

theorem squares_0_0 (c : Dev nD) (arg0 : Memref sig .tc .smem S144x56 .f32) (t1 : Fin k0_t1_loop.trips) (t2 : Fin k0_t2_loop.trips)
    (f0 : MBuf (F := Ideal) c arg0) (f6 : MBuf (F := Ideal) c wM) (i : S8x128.Idx) :
    (tripRun.sl.r_238 c arg0 t1 t2 f0 f6 i : EReal) = ∑ m ∈ Finset.range 16, sq16 (wA c arg0 f0 f6) (128 * (16 * t2.val + m) + (i 0).val) (512 * t1.val + 256 * 0 + 128 * 0 + (i 1).val) := by
  have e : (tripRun.sl.r_238 c arg0 t1 t2 f0 f6 i : EReal) = (((((((((((((((k0_pay4 (F := Ideal) (bk c f6 (9 * t1.val + t2.val) (k0_off11 t1 t2) (k0_off11_inb t1 t2)) (sk c arg0 f0 t1 t2 0 0 0 0) i
        + k0_pay4 (F := Ideal) (bk c f6 (9 * t1.val + t2.val) (k0_off14 t1 t2) (k0_off14_inb t1 t2)) (sk c arg0 f0 t1 t2 0 1 0 0) i)
        + k0_pay4 (F := Ideal) (bk c f6 (9 * t1.val + t2.val) (k0_off20 t1 t2) (k0_off20_inb t1 t2)) (sk c arg0 f0 t1 t2 1 0 0 0) i)
        + k0_pay4 (F := Ideal) (bk c f6 (9 * t1.val + t2.val) (k0_off22 t1 t2) (k0_off22_inb t1 t2)) (sk c arg0 f0 t1 t2 1 1 0 0) i)
        + k0_pay4 (F := Ideal) (bk c f6 (9 * t1.val + t2.val) (k0_off28 t1 t2) (k0_off28_inb t1 t2)) (sk c arg0 f0 t1 t2 2 0 0 0) i)
        + k0_pay4 (F := Ideal) (bk c f6 (9 * t1.val + t2.val) (k0_off30 t1 t2) (k0_off30_inb t1 t2)) (sk c arg0 f0 t1 t2 2 1 0 0) i)
        + k0_pay4 (F := Ideal) (bk c f6 (9 * t1.val + t2.val) (k0_off36 t1 t2) (k0_off36_inb t1 t2)) (sk c arg0 f0 t1 t2 3 0 0 0) i)
        + k0_pay4 (F := Ideal) (bk c f6 (9 * t1.val + t2.val) (k0_off38 t1 t2) (k0_off38_inb t1 t2)) (sk c arg0 f0 t1 t2 3 1 0 0) i)
        + k0_pay4 (F := Ideal) (bk c f6 (9 * t1.val + t2.val) (k0_off44 t1 t2) (k0_off44_inb t1 t2)) (sk c arg0 f0 t1 t2 4 0 0 0) i)
        + k0_pay4 (F := Ideal) (bk c f6 (9 * t1.val + t2.val) (k0_off46 t1 t2) (k0_off46_inb t1 t2)) (sk c arg0 f0 t1 t2 4 1 0 0) i)
        + k0_pay4 (F := Ideal) (bk c f6 (9 * t1.val + t2.val) (k0_off52 t1 t2) (k0_off52_inb t1 t2)) (sk c arg0 f0 t1 t2 5 0 0 0) i)
        + k0_pay4 (F := Ideal) (bk c f6 (9 * t1.val + t2.val) (k0_off54 t1 t2) (k0_off54_inb t1 t2)) (sk c arg0 f0 t1 t2 5 1 0 0) i)
        + k0_pay4 (F := Ideal) (bk c f6 (9 * t1.val + t2.val) (k0_off60 t1 t2) (k0_off60_inb t1 t2)) (sk c arg0 f0 t1 t2 6 0 0 0) i)
        + k0_pay4 (F := Ideal) (bk c f6 (9 * t1.val + t2.val) (k0_off62 t1 t2) (k0_off62_inb t1 t2)) (sk c arg0 f0 t1 t2 6 1 0 0) i)
        + k0_pay4 (F := Ideal) (bk c f6 (9 * t1.val + t2.val) (k0_off68 t1 t2) (k0_off68_inb t1 t2)) (sk c arg0 f0 t1 t2 7 0 0 0) i)
        + k0_pay4 (F := Ideal) (bk c f6 (9 * t1.val + t2.val) (k0_off70 t1 t2) (k0_off70_inb t1 t2)) (sk c arg0 f0 t1 t2 7 1 0 0) i) := rfl
  rw [e]
  rw [sq_apply c arg0 f0 f6 t1 t2 0 0 0 0 (k0_off11_inb t1 t2) (k0_off11_eq t1 t2) i]
  rw [sq_apply c arg0 f0 f6 t1 t2 0 1 0 0 (k0_off14_inb t1 t2) (k0_off14_eq t1 t2) i]
  rw [sq_apply c arg0 f0 f6 t1 t2 1 0 0 0 (k0_off20_inb t1 t2) (k0_off20_eq t1 t2) i]
  rw [sq_apply c arg0 f0 f6 t1 t2 1 1 0 0 (k0_off22_inb t1 t2) (k0_off22_eq t1 t2) i]
  rw [sq_apply c arg0 f0 f6 t1 t2 2 0 0 0 (k0_off28_inb t1 t2) (k0_off28_eq t1 t2) i]
  rw [sq_apply c arg0 f0 f6 t1 t2 2 1 0 0 (k0_off30_inb t1 t2) (k0_off30_eq t1 t2) i]
  rw [sq_apply c arg0 f0 f6 t1 t2 3 0 0 0 (k0_off36_inb t1 t2) (k0_off36_eq t1 t2) i]
  rw [sq_apply c arg0 f0 f6 t1 t2 3 1 0 0 (k0_off38_inb t1 t2) (k0_off38_eq t1 t2) i]
  rw [sq_apply c arg0 f0 f6 t1 t2 4 0 0 0 (k0_off44_inb t1 t2) (k0_off44_eq t1 t2) i]
  rw [sq_apply c arg0 f0 f6 t1 t2 4 1 0 0 (k0_off46_inb t1 t2) (k0_off46_eq t1 t2) i]
  rw [sq_apply c arg0 f0 f6 t1 t2 5 0 0 0 (k0_off52_inb t1 t2) (k0_off52_eq t1 t2) i]
  rw [sq_apply c arg0 f0 f6 t1 t2 5 1 0 0 (k0_off54_inb t1 t2) (k0_off54_eq t1 t2) i]
  rw [sq_apply c arg0 f0 f6 t1 t2 6 0 0 0 (k0_off60_inb t1 t2) (k0_off60_eq t1 t2) i]
  rw [sq_apply c arg0 f0 f6 t1 t2 6 1 0 0 (k0_off62_inb t1 t2) (k0_off62_eq t1 t2) i]
  rw [sq_apply c arg0 f0 f6 t1 t2 7 0 0 0 (k0_off68_inb t1 t2) (k0_off68_eq t1 t2) i]
  rw [sq_apply c arg0 f0 f6 t1 t2 7 1 0 0 (k0_off70_inb t1 t2) (k0_off70_eq t1 t2) i]
  exact sum16 (fun m => sq16 (wA c arg0 f0 f6) (128 * (16 * t2.val + m) + (i 0).val) (512 * t1.val + 256 * 0 + 128 * 0 + (i 1).val))

theorem squares_0_1 (c : Dev nD) (arg0 : Memref sig .tc .smem S144x56 .f32) (t1 : Fin k0_t1_loop.trips) (t2 : Fin k0_t2_loop.trips)
    (f0 : MBuf (F := Ideal) c arg0) (f6 : MBuf (F := Ideal) c wM) (i : S8x128.Idx) :
    (tripRun.sl.r_239 c arg0 t1 t2 f0 f6 i : EReal) = ∑ m ∈ Finset.range 16, sq16 (wA c arg0 f0 f6) (128 * (16 * t2.val + m) + (i 0).val) (512 * t1.val + 256 * 0 + 128 * 1 + (i 1).val) := by
  have e : (tripRun.sl.r_239 c arg0 t1 t2 f0 f6 i : EReal) = (((((((((((((((k0_pay4 (F := Ideal) (bk c f6 (9 * t1.val + t2.val) (k0_off13 t1 t2) (k0_off13_inb t1 t2)) (sk c arg0 f0 t1 t2 0 0 0 1) i
        + k0_pay4 (F := Ideal) (bk c f6 (9 * t1.val + t2.val) (k0_off15 t1 t2) (k0_off15_inb t1 t2)) (sk c arg0 f0 t1 t2 0 1 0 1) i)
        + k0_pay4 (F := Ideal) (bk c f6 (9 * t1.val + t2.val) (k0_off21 t1 t2) (k0_off21_inb t1 t2)) (sk c arg0 f0 t1 t2 1 0 0 1) i)
        + k0_pay4 (F := Ideal) (bk c f6 (9 * t1.val + t2.val) (k0_off23 t1 t2) (k0_off23_inb t1 t2)) (sk c arg0 f0 t1 t2 1 1 0 1) i)
        + k0_pay4 (F := Ideal) (bk c f6 (9 * t1.val + t2.val) (k0_off29 t1 t2) (k0_off29_inb t1 t2)) (sk c arg0 f0 t1 t2 2 0 0 1) i)
        + k0_pay4 (F := Ideal) (bk c f6 (9 * t1.val + t2.val) (k0_off31 t1 t2) (k0_off31_inb t1 t2)) (sk c arg0 f0 t1 t2 2 1 0 1) i)
        + k0_pay4 (F := Ideal) (bk c f6 (9 * t1.val + t2.val) (k0_off37 t1 t2) (k0_off37_inb t1 t2)) (sk c arg0 f0 t1 t2 3 0 0 1) i)
        + k0_pay4 (F := Ideal) (bk c f6 (9 * t1.val + t2.val) (k0_off39 t1 t2) (k0_off39_inb t1 t2)) (sk c arg0 f0 t1 t2 3 1 0 1) i)
        + k0_pay4 (F := Ideal) (bk c f6 (9 * t1.val + t2.val) (k0_off45 t1 t2) (k0_off45_inb t1 t2)) (sk c arg0 f0 t1 t2 4 0 0 1) i)
        + k0_pay4 (F := Ideal) (bk c f6 (9 * t1.val + t2.val) (k0_off47 t1 t2) (k0_off47_inb t1 t2)) (sk c arg0 f0 t1 t2 4 1 0 1) i)
        + k0_pay4 (F := Ideal) (bk c f6 (9 * t1.val + t2.val) (k0_off53 t1 t2) (k0_off53_inb t1 t2)) (sk c arg0 f0 t1 t2 5 0 0 1) i)
        + k0_pay4 (F := Ideal) (bk c f6 (9 * t1.val + t2.val) (k0_off55 t1 t2) (k0_off55_inb t1 t2)) (sk c arg0 f0 t1 t2 5 1 0 1) i)
        + k0_pay4 (F := Ideal) (bk c f6 (9 * t1.val + t2.val) (k0_off61 t1 t2) (k0_off61_inb t1 t2)) (sk c arg0 f0 t1 t2 6 0 0 1) i)
        + k0_pay4 (F := Ideal) (bk c f6 (9 * t1.val + t2.val) (k0_off63 t1 t2) (k0_off63_inb t1 t2)) (sk c arg0 f0 t1 t2 6 1 0 1) i)
        + k0_pay4 (F := Ideal) (bk c f6 (9 * t1.val + t2.val) (k0_off69 t1 t2) (k0_off69_inb t1 t2)) (sk c arg0 f0 t1 t2 7 0 0 1) i)
        + k0_pay4 (F := Ideal) (bk c f6 (9 * t1.val + t2.val) (k0_off71 t1 t2) (k0_off71_inb t1 t2)) (sk c arg0 f0 t1 t2 7 1 0 1) i) := rfl
  rw [e]
  rw [sq_apply c arg0 f0 f6 t1 t2 0 0 0 1 (k0_off13_inb t1 t2) (k0_off13_eq t1 t2) i]
  rw [sq_apply c arg0 f0 f6 t1 t2 0 1 0 1 (k0_off15_inb t1 t2) (k0_off15_eq t1 t2) i]
  rw [sq_apply c arg0 f0 f6 t1 t2 1 0 0 1 (k0_off21_inb t1 t2) (k0_off21_eq t1 t2) i]
  rw [sq_apply c arg0 f0 f6 t1 t2 1 1 0 1 (k0_off23_inb t1 t2) (k0_off23_eq t1 t2) i]
  rw [sq_apply c arg0 f0 f6 t1 t2 2 0 0 1 (k0_off29_inb t1 t2) (k0_off29_eq t1 t2) i]
  rw [sq_apply c arg0 f0 f6 t1 t2 2 1 0 1 (k0_off31_inb t1 t2) (k0_off31_eq t1 t2) i]
  rw [sq_apply c arg0 f0 f6 t1 t2 3 0 0 1 (k0_off37_inb t1 t2) (k0_off37_eq t1 t2) i]
  rw [sq_apply c arg0 f0 f6 t1 t2 3 1 0 1 (k0_off39_inb t1 t2) (k0_off39_eq t1 t2) i]
  rw [sq_apply c arg0 f0 f6 t1 t2 4 0 0 1 (k0_off45_inb t1 t2) (k0_off45_eq t1 t2) i]
  rw [sq_apply c arg0 f0 f6 t1 t2 4 1 0 1 (k0_off47_inb t1 t2) (k0_off47_eq t1 t2) i]
  rw [sq_apply c arg0 f0 f6 t1 t2 5 0 0 1 (k0_off53_inb t1 t2) (k0_off53_eq t1 t2) i]
  rw [sq_apply c arg0 f0 f6 t1 t2 5 1 0 1 (k0_off55_inb t1 t2) (k0_off55_eq t1 t2) i]
  rw [sq_apply c arg0 f0 f6 t1 t2 6 0 0 1 (k0_off61_inb t1 t2) (k0_off61_eq t1 t2) i]
  rw [sq_apply c arg0 f0 f6 t1 t2 6 1 0 1 (k0_off63_inb t1 t2) (k0_off63_eq t1 t2) i]
  rw [sq_apply c arg0 f0 f6 t1 t2 7 0 0 1 (k0_off69_inb t1 t2) (k0_off69_eq t1 t2) i]
  rw [sq_apply c arg0 f0 f6 t1 t2 7 1 0 1 (k0_off71_inb t1 t2) (k0_off71_eq t1 t2) i]
  exact sum16 (fun m => sq16 (wA c arg0 f0 f6) (128 * (16 * t2.val + m) + (i 0).val) (512 * t1.val + 256 * 0 + 128 * 1 + (i 1).val))

theorem squares_1_0 (c : Dev nD) (arg0 : Memref sig .tc .smem S144x56 .f32) (t1 : Fin k0_t1_loop.trips) (t2 : Fin k0_t2_loop.trips)
    (f0 : MBuf (F := Ideal) c arg0) (f6 : MBuf (F := Ideal) c wM) (i : S8x128.Idx) :
    (tripRun.sl.r_249 c arg0 t1 t2 f0 f6 i : EReal) = ∑ m ∈ Finset.range 16, sq16 (wA c arg0 f0 f6) (128 * (16 * t2.val + m) + (i 0).val) (512 * t1.val + 256 * 1 + 128 * 0 + (i 1).val) := by
  have e : (tripRun.sl.r_249 c arg0 t1 t2 f0 f6 i : EReal) = (((((((((((((((k0_pay4 (F := Ideal) (bk c f6 (9 * t1.val + t2.val) (k0_off16 t1 t2) (k0_off16_inb t1 t2)) (sk c arg0 f0 t1 t2 0 0 1 0) i
        + k0_pay4 (F := Ideal) (bk c f6 (9 * t1.val + t2.val) (k0_off18 t1 t2) (k0_off18_inb t1 t2)) (sk c arg0 f0 t1 t2 0 1 1 0) i)
        + k0_pay4 (F := Ideal) (bk c f6 (9 * t1.val + t2.val) (k0_off24 t1 t2) (k0_off24_inb t1 t2)) (sk c arg0 f0 t1 t2 1 0 1 0) i)
        + k0_pay4 (F := Ideal) (bk c f6 (9 * t1.val + t2.val) (k0_off26 t1 t2) (k0_off26_inb t1 t2)) (sk c arg0 f0 t1 t2 1 1 1 0) i)
        + k0_pay4 (F := Ideal) (bk c f6 (9 * t1.val + t2.val) (k0_off32 t1 t2) (k0_off32_inb t1 t2)) (sk c arg0 f0 t1 t2 2 0 1 0) i)
        + k0_pay4 (F := Ideal) (bk c f6 (9 * t1.val + t2.val) (k0_off34 t1 t2) (k0_off34_inb t1 t2)) (sk c arg0 f0 t1 t2 2 1 1 0) i)
        + k0_pay4 (F := Ideal) (bk c f6 (9 * t1.val + t2.val) (k0_off40 t1 t2) (k0_off40_inb t1 t2)) (sk c arg0 f0 t1 t2 3 0 1 0) i)
        + k0_pay4 (F := Ideal) (bk c f6 (9 * t1.val + t2.val) (k0_off42 t1 t2) (k0_off42_inb t1 t2)) (sk c arg0 f0 t1 t2 3 1 1 0) i)
        + k0_pay4 (F := Ideal) (bk c f6 (9 * t1.val + t2.val) (k0_off48 t1 t2) (k0_off48_inb t1 t2)) (sk c arg0 f0 t1 t2 4 0 1 0) i)
        + k0_pay4 (F := Ideal) (bk c f6 (9 * t1.val + t2.val) (k0_off50 t1 t2) (k0_off50_inb t1 t2)) (sk c arg0 f0 t1 t2 4 1 1 0) i)
        + k0_pay4 (F := Ideal) (bk c f6 (9 * t1.val + t2.val) (k0_off56 t1 t2) (k0_off56_inb t1 t2)) (sk c arg0 f0 t1 t2 5 0 1 0) i)
        + k0_pay4 (F := Ideal) (bk c f6 (9 * t1.val + t2.val) (k0_off58 t1 t2) (k0_off58_inb t1 t2)) (sk c arg0 f0 t1 t2 5 1 1 0) i)
        + k0_pay4 (F := Ideal) (bk c f6 (9 * t1.val + t2.val) (k0_off64 t1 t2) (k0_off64_inb t1 t2)) (sk c arg0 f0 t1 t2 6 0 1 0) i)
        + k0_pay4 (F := Ideal) (bk c f6 (9 * t1.val + t2.val) (k0_off66 t1 t2) (k0_off66_inb t1 t2)) (sk c arg0 f0 t1 t2 6 1 1 0) i)
        + k0_pay4 (F := Ideal) (bk c f6 (9 * t1.val + t2.val) (k0_off72 t1 t2) (k0_off72_inb t1 t2)) (sk c arg0 f0 t1 t2 7 0 1 0) i)
        + k0_pay4 (F := Ideal) (bk c f6 (9 * t1.val + t2.val) (k0_off74 t1 t2) (k0_off74_inb t1 t2)) (sk c arg0 f0 t1 t2 7 1 1 0) i) := rfl
  rw [e]
  rw [sq_apply c arg0 f0 f6 t1 t2 0 0 1 0 (k0_off16_inb t1 t2) (k0_off16_eq t1 t2) i]
  rw [sq_apply c arg0 f0 f6 t1 t2 0 1 1 0 (k0_off18_inb t1 t2) (k0_off18_eq t1 t2) i]
  rw [sq_apply c arg0 f0 f6 t1 t2 1 0 1 0 (k0_off24_inb t1 t2) (k0_off24_eq t1 t2) i]
  rw [sq_apply c arg0 f0 f6 t1 t2 1 1 1 0 (k0_off26_inb t1 t2) (k0_off26_eq t1 t2) i]
  rw [sq_apply c arg0 f0 f6 t1 t2 2 0 1 0 (k0_off32_inb t1 t2) (k0_off32_eq t1 t2) i]
  rw [sq_apply c arg0 f0 f6 t1 t2 2 1 1 0 (k0_off34_inb t1 t2) (k0_off34_eq t1 t2) i]
  rw [sq_apply c arg0 f0 f6 t1 t2 3 0 1 0 (k0_off40_inb t1 t2) (k0_off40_eq t1 t2) i]
  rw [sq_apply c arg0 f0 f6 t1 t2 3 1 1 0 (k0_off42_inb t1 t2) (k0_off42_eq t1 t2) i]
  rw [sq_apply c arg0 f0 f6 t1 t2 4 0 1 0 (k0_off48_inb t1 t2) (k0_off48_eq t1 t2) i]
  rw [sq_apply c arg0 f0 f6 t1 t2 4 1 1 0 (k0_off50_inb t1 t2) (k0_off50_eq t1 t2) i]
  rw [sq_apply c arg0 f0 f6 t1 t2 5 0 1 0 (k0_off56_inb t1 t2) (k0_off56_eq t1 t2) i]
  rw [sq_apply c arg0 f0 f6 t1 t2 5 1 1 0 (k0_off58_inb t1 t2) (k0_off58_eq t1 t2) i]
  rw [sq_apply c arg0 f0 f6 t1 t2 6 0 1 0 (k0_off64_inb t1 t2) (k0_off64_eq t1 t2) i]
  rw [sq_apply c arg0 f0 f6 t1 t2 6 1 1 0 (k0_off66_inb t1 t2) (k0_off66_eq t1 t2) i]
  rw [sq_apply c arg0 f0 f6 t1 t2 7 0 1 0 (k0_off72_inb t1 t2) (k0_off72_eq t1 t2) i]
  rw [sq_apply c arg0 f0 f6 t1 t2 7 1 1 0 (k0_off74_inb t1 t2) (k0_off74_eq t1 t2) i]
  exact sum16 (fun m => sq16 (wA c arg0 f0 f6) (128 * (16 * t2.val + m) + (i 0).val) (512 * t1.val + 256 * 1 + 128 * 0 + (i 1).val))

theorem squares_1_1 (c : Dev nD) (arg0 : Memref sig .tc .smem S144x56 .f32) (t1 : Fin k0_t1_loop.trips) (t2 : Fin k0_t2_loop.trips)
    (f0 : MBuf (F := Ideal) c arg0) (f6 : MBuf (F := Ideal) c wM) (i : S8x128.Idx) :
    (tripRun.sl.r_250 c arg0 t1 t2 f0 f6 i : EReal) = ∑ m ∈ Finset.range 16, sq16 (wA c arg0 f0 f6) (128 * (16 * t2.val + m) + (i 0).val) (512 * t1.val + 256 * 1 + 128 * 1 + (i 1).val) := by
  have e : (tripRun.sl.r_250 c arg0 t1 t2 f0 f6 i : EReal) = (((((((((((((((k0_pay4 (F := Ideal) (bk c f6 (9 * t1.val + t2.val) (k0_off17 t1 t2) (k0_off17_inb t1 t2)) (sk c arg0 f0 t1 t2 0 0 1 1) i
        + k0_pay4 (F := Ideal) (bk c f6 (9 * t1.val + t2.val) (k0_off19 t1 t2) (k0_off19_inb t1 t2)) (sk c arg0 f0 t1 t2 0 1 1 1) i)
        + k0_pay4 (F := Ideal) (bk c f6 (9 * t1.val + t2.val) (k0_off25 t1 t2) (k0_off25_inb t1 t2)) (sk c arg0 f0 t1 t2 1 0 1 1) i)
        + k0_pay4 (F := Ideal) (bk c f6 (9 * t1.val + t2.val) (k0_off27 t1 t2) (k0_off27_inb t1 t2)) (sk c arg0 f0 t1 t2 1 1 1 1) i)
        + k0_pay4 (F := Ideal) (bk c f6 (9 * t1.val + t2.val) (k0_off33 t1 t2) (k0_off33_inb t1 t2)) (sk c arg0 f0 t1 t2 2 0 1 1) i)
        + k0_pay4 (F := Ideal) (bk c f6 (9 * t1.val + t2.val) (k0_off35 t1 t2) (k0_off35_inb t1 t2)) (sk c arg0 f0 t1 t2 2 1 1 1) i)
        + k0_pay4 (F := Ideal) (bk c f6 (9 * t1.val + t2.val) (k0_off41 t1 t2) (k0_off41_inb t1 t2)) (sk c arg0 f0 t1 t2 3 0 1 1) i)
        + k0_pay4 (F := Ideal) (bk c f6 (9 * t1.val + t2.val) (k0_off43 t1 t2) (k0_off43_inb t1 t2)) (sk c arg0 f0 t1 t2 3 1 1 1) i)
        + k0_pay4 (F := Ideal) (bk c f6 (9 * t1.val + t2.val) (k0_off49 t1 t2) (k0_off49_inb t1 t2)) (sk c arg0 f0 t1 t2 4 0 1 1) i)
        + k0_pay4 (F := Ideal) (bk c f6 (9 * t1.val + t2.val) (k0_off51 t1 t2) (k0_off51_inb t1 t2)) (sk c arg0 f0 t1 t2 4 1 1 1) i)
        + k0_pay4 (F := Ideal) (bk c f6 (9 * t1.val + t2.val) (k0_off57 t1 t2) (k0_off57_inb t1 t2)) (sk c arg0 f0 t1 t2 5 0 1 1) i)
        + k0_pay4 (F := Ideal) (bk c f6 (9 * t1.val + t2.val) (k0_off59 t1 t2) (k0_off59_inb t1 t2)) (sk c arg0 f0 t1 t2 5 1 1 1) i)
        + k0_pay4 (F := Ideal) (bk c f6 (9 * t1.val + t2.val) (k0_off65 t1 t2) (k0_off65_inb t1 t2)) (sk c arg0 f0 t1 t2 6 0 1 1) i)
        + k0_pay4 (F := Ideal) (bk c f6 (9 * t1.val + t2.val) (k0_off67 t1 t2) (k0_off67_inb t1 t2)) (sk c arg0 f0 t1 t2 6 1 1 1) i)
        + k0_pay4 (F := Ideal) (bk c f6 (9 * t1.val + t2.val) (k0_off73 t1 t2) (k0_off73_inb t1 t2)) (sk c arg0 f0 t1 t2 7 0 1 1) i)
        + k0_pay4 (F := Ideal) (bk c f6 (9 * t1.val + t2.val) (k0_off75 t1 t2) (k0_off75_inb t1 t2)) (sk c arg0 f0 t1 t2 7 1 1 1) i) := rfl
  rw [e]
  rw [sq_apply c arg0 f0 f6 t1 t2 0 0 1 1 (k0_off17_inb t1 t2) (k0_off17_eq t1 t2) i]
  rw [sq_apply c arg0 f0 f6 t1 t2 0 1 1 1 (k0_off19_inb t1 t2) (k0_off19_eq t1 t2) i]
  rw [sq_apply c arg0 f0 f6 t1 t2 1 0 1 1 (k0_off25_inb t1 t2) (k0_off25_eq t1 t2) i]
  rw [sq_apply c arg0 f0 f6 t1 t2 1 1 1 1 (k0_off27_inb t1 t2) (k0_off27_eq t1 t2) i]
  rw [sq_apply c arg0 f0 f6 t1 t2 2 0 1 1 (k0_off33_inb t1 t2) (k0_off33_eq t1 t2) i]
  rw [sq_apply c arg0 f0 f6 t1 t2 2 1 1 1 (k0_off35_inb t1 t2) (k0_off35_eq t1 t2) i]
  rw [sq_apply c arg0 f0 f6 t1 t2 3 0 1 1 (k0_off41_inb t1 t2) (k0_off41_eq t1 t2) i]
  rw [sq_apply c arg0 f0 f6 t1 t2 3 1 1 1 (k0_off43_inb t1 t2) (k0_off43_eq t1 t2) i]
  rw [sq_apply c arg0 f0 f6 t1 t2 4 0 1 1 (k0_off49_inb t1 t2) (k0_off49_eq t1 t2) i]
  rw [sq_apply c arg0 f0 f6 t1 t2 4 1 1 1 (k0_off51_inb t1 t2) (k0_off51_eq t1 t2) i]
  rw [sq_apply c arg0 f0 f6 t1 t2 5 0 1 1 (k0_off57_inb t1 t2) (k0_off57_eq t1 t2) i]
  rw [sq_apply c arg0 f0 f6 t1 t2 5 1 1 1 (k0_off59_inb t1 t2) (k0_off59_eq t1 t2) i]
  rw [sq_apply c arg0 f0 f6 t1 t2 6 0 1 1 (k0_off65_inb t1 t2) (k0_off65_eq t1 t2) i]
  rw [sq_apply c arg0 f0 f6 t1 t2 6 1 1 1 (k0_off67_inb t1 t2) (k0_off67_eq t1 t2) i]
  rw [sq_apply c arg0 f0 f6 t1 t2 7 0 1 1 (k0_off73_inb t1 t2) (k0_off73_eq t1 t2) i]
  rw [sq_apply c arg0 f0 f6 t1 t2 7 1 1 1 (k0_off75_inb t1 t2) (k0_off75_eq t1 t2) i]
  exact sum16 (fun m => sq16 (wA c arg0 f0 f6) (128 * (16 * t2.val + m) + (i 0).val) (512 * t1.val + 256 * 1 + 128 * 1 + (i 1).val))

end Cert.KernelIdeal.Hand
-- ==== Proof.KI.VInner.lean ====
/-
  The inner loop at its coordinates.
-/
module

public import proofs.«01_k».proof.Proof.KI.VTrip
public import Idealize.ShloMosaic.Lib.WritesUnit

@[expose] public section

set_option maxRecDepth 8192

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped BigOperators

/-- The first `n` tiles of a product. -/
abbrev part (xf w : NF) (C n : ℕ) : NF := fun i j => ∑ m ∈ Finset.range n, tile xf w C m i j

theorem trip_st (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole)
    (t1 : Fin k0_t1_loop.trips) (t2 : Fin k0_t2_loop.trips) (s : Mxu Ideal) (f0 : MBuf (F := Ideal) c arg0) (f1 : MBuf (F := Ideal) c arg1) (f2 : MBuf (F := Ideal) c arg2) (f11 : MBuf (F := Ideal) c ssqM) (f6 : MBuf (F := Ideal) c wM)
    (h : St s (part (xr (n := 72) (m := 256) (arg1.view.read (Elt Ideal) f1)) (wA c arg0 f0 f6) (512 * t1.val + 256 * 0) (8 * t2.val)) (part (xr (n := 72) (m := 256) (arg1.view.read (Elt Ideal) f1)) (wA c arg0 f0 f6) (512 * t1.val + 256 * 1) (8 * t2.val))
      (part (xr (n := 72) (m := 64) (arg2.view.read (Elt Ideal) f2)) (wA c arg0 f0 f6) (512 * t1.val + 256 * 0) (8 * t2.val)) (part (xr (n := 72) (m := 64) (arg2.view.read (Elt Ideal) f2)) (wA c arg0 f0 f6) (512 * t1.val + 256 * 1) (8 * t2.val))) :
    St (tripFn c arg0 harg0 arg1 harg1 arg2 harg2 arg3 harg3 arg4 harg4 arg5 harg5 arg7 harg7 t1 t2 s f0 f1 f2 f11 f6).1 (part (xr (n := 72) (m := 256) (arg1.view.read (Elt Ideal) f1)) (wA c arg0 f0 f6) (512 * t1.val + 256 * 0) (8 * t2.val + 8)) (part (xr (n := 72) (m := 256) (arg1.view.read (Elt Ideal) f1)) (wA c arg0 f0 f6) (512 * t1.val + 256 * 1) (8 * t2.val + 8))
      (part (xr (n := 72) (m := 64) (arg2.view.read (Elt Ideal) f2)) (wA c arg0 f0 f6) (512 * t1.val + 256 * 0) (8 * t2.val + 8)) (part (xr (n := 72) (m := 64) (arg2.view.read (Elt Ideal) f2)) (wA c arg0 f0 f6) (512 * t1.val + 256 * 1) (8 * t2.val + 8)) := by
  have e : (tripFn c arg0 harg0 arg1 harg1 arg2 harg2 arg3 harg3 arg4 harg4 arg5 harg5 arg7 harg7 t1 t2 s f0 f1 f2 f11 f6).1 = tripRun.sl.r_253 c arg0 arg1 arg2 t1 t2 s f0 f1 f2 f6 := rfl
  rw [e]
  have h' := (step_7_1 c arg0 arg1 arg2 t1 t2 s f0 f1 f2 f6 _ _ _ _ (step_7_0 c arg0 arg1 arg2 t1 t2 s f0 f1 f2 f6 _ _ _ _ (step_6_1 c arg0 arg1 arg2 t1 t2 s f0 f1 f2 f6 _ _ _ _ (step_6_0 c arg0 arg1 arg2 t1 t2 s f0 f1 f2 f6 _ _ _ _ (step_5_1 c arg0 arg1 arg2 t1 t2 s f0 f1 f2 f6 _ _ _ _ (step_5_0 c arg0 arg1 arg2 t1 t2 s f0 f1 f2 f6 _ _ _ _ (step_4_1 c arg0 arg1 arg2 t1 t2 s f0 f1 f2 f6 _ _ _ _ (step_4_0 c arg0 arg1 arg2 t1 t2 s f0 f1 f2 f6 _ _ _ _ (step_3_1 c arg0 arg1 arg2 t1 t2 s f0 f1 f2 f6 _ _ _ _ (step_3_0 c arg0 arg1 arg2 t1 t2 s f0 f1 f2 f6 _ _ _ _ (step_2_1 c arg0 arg1 arg2 t1 t2 s f0 f1 f2 f6 _ _ _ _ (step_2_0 c arg0 arg1 arg2 t1 t2 s f0 f1 f2 f6 _ _ _ _ (step_1_1 c arg0 arg1 arg2 t1 t2 s f0 f1 f2 f6 _ _ _ _ (step_1_0 c arg0 arg1 arg2 t1 t2 s f0 f1 f2 f6 _ _ _ _ (step_0_1 c arg0 arg1 arg2 t1 t2 s f0 f1 f2 f6 _ _ _ _ (step_0_0 c arg0 arg1 arg2 t1 t2 s f0 f1 f2 f6 _ _ _ _ h))))))))))))))))
  exact ⟨h'.r, fun i => (h'.x0 i).trans ((sum8 _ (fun T => tile (xr (n := 72) (m := 256) (arg1.view.read (Elt Ideal) f1)) (wA c arg0 f0 f6) (512 * t1.val + 256 * 0) (8 * t2.val + T) (i 0).val (i 1).val)).trans (Finset.sum_range_add (fun m => tile (xr (n := 72) (m := 256) (arg1.view.read (Elt Ideal) f1)) (wA c arg0 f0 f6) (512 * t1.val + 256 * 0) m (i 0).val (i 1).val) (8 * t2.val) 8).symm),
    fun i => (h'.x1 i).trans ((sum8 _ (fun T => tile (xr (n := 72) (m := 256) (arg1.view.read (Elt Ideal) f1)) (wA c arg0 f0 f6) (512 * t1.val + 256 * 1) (8 * t2.val + T) (i 0).val (i 1).val)).trans (Finset.sum_range_add (fun m => tile (xr (n := 72) (m := 256) (arg1.view.read (Elt Ideal) f1)) (wA c arg0 f0 f6) (512 * t1.val + 256 * 1) m (i 0).val (i 1).val) (8 * t2.val) 8).symm),
    fun i => (h'.a0 i).trans ((sum8 _ (fun T => tile (xr (n := 72) (m := 64) (arg2.view.read (Elt Ideal) f2)) (wA c arg0 f0 f6) (512 * t1.val + 256 * 0) (8 * t2.val + T) (i 0).val (i 1).val)).trans (Finset.sum_range_add (fun m => tile (xr (n := 72) (m := 64) (arg2.view.read (Elt Ideal) f2)) (wA c arg0 f0 f6) (512 * t1.val + 256 * 0) m (i 0).val (i 1).val) (8 * t2.val) 8).symm),
    fun i => (h'.a1 i).trans ((sum8 _ (fun T => tile (xr (n := 72) (m := 64) (arg2.view.read (Elt Ideal) f2)) (wA c arg0 f0 f6) (512 * t1.val + 256 * 1) (8 * t2.val + T) (i 0).val (i 1).val)).trans (Finset.sum_range_add (fun m => tile (xr (n := 72) (m := 64) (arg2.view.read (Elt Ideal) f2)) (wA c arg0 f0 f6) (512 * t1.val + 256 * 1) m (i 0).val (i 1).val) (8 * t2.val) 8).symm)⟩

theorem band (c : Dev nD) (f11 : MBuf (F := Ideal) c ssqM) (o : ℕ) (inb : ∀ a, (![0, o] : Fin 2 → ℕ) a + S8x128.size a ≤ S8x512.size a)
    (y : S8x512.Idx) (x : S8x128.Idx) (h0 : (y 0).val = (x 0).val) (h1 : (y 1).val = o + (x 1).val) :
    (View.readAt (Elt Ideal) ssqM.view (Rect.unit (s := S8x512) ![0, o] S8x128.size inb).toLoadRect f11 x : EReal) = ssqM.view.read (Elt Ideal) f11 y := by
  have e : (Rect.unit (s := S8x512) ![0, o] S8x128.size inb).toLoadRect.idx x = y := by
    funext a; apply Fin.ext; fin_cases a
    · show 0 + 1 * (x 0).val = (y 0).val
      omega
    · show o + 1 * (x 1).val = (y 1).val
      omega
  exact congrArg (fun z => (ssqM.view.read (Elt Ideal) f11 z : EReal)) e

theorem add_215 (u v : FVec Ideal S8x128 .f32) (x : S8x128.Idx) : (k0_pay215 (F := Ideal) u v x : EReal) = v x + u x := by
  unfold k0_pay215; rw [shapeCast_self]; rfl
theorem add_218 (u v : FVec Ideal S8x128 .f32) (x : S8x128.Idx) : (k0_pay218 (F := Ideal) (k0_pay216 u v) x : EReal) = v x + u x := by
  unfold k0_pay218; rw [shapeCast_self]; rfl
theorem add_219 (u v : FVec Ideal S8x128 .f32) (x : S8x128.Idx) : (k0_pay219 (F := Ideal) u v x : EReal) = v x + u x := by
  unfold k0_pay219; rw [shapeCast_self]; rfl
theorem add_220 (u v : FVec Ideal S8x128 .f32) (x : S8x128.Idx) : (k0_pay220 (F := Ideal) u v x : EReal) = v x + u x := by
  unfold k0_pay220; rw [shapeCast_self]; rfl

theorem trip_sq (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole)
    (t1 : Fin k0_t1_loop.trips) (t2 : Fin k0_t2_loop.trips) (s : Mxu Ideal) (f0 : MBuf (F := Ideal) c arg0) (f1 : MBuf (F := Ideal) c arg1) (f2 : MBuf (F := Ideal) c arg2) (f11 : MBuf (F := Ideal) c ssqM) (f6 : MBuf (F := Ideal) c wM) (y : S8x512.Idx) :
    (ssqM.view.read (Elt Ideal) (tripFn c arg0 harg0 arg1 harg1 arg2 harg2 arg3 harg3 arg4 harg4 arg5 harg5 arg7 harg7 t1 t2 s f0 f1 f2 f11 f6).2 y : EReal)
      = ssqM.view.read (Elt Ideal) f11 y + ∑ m ∈ Finset.range 16, sq16 (wA c arg0 f0 f6) (128 * (16 * t2.val + m) + (y 0).val) (512 * t1.val + (y 1).val) := by
  have h0 : (y 0).val < 8 := (y 0).isLt
  have h1 : (y 1).val < 512 := (y 1).isLt
  have e : (tripFn c arg0 harg0 arg1 harg1 arg2 harg2 arg3 harg3 arg4 harg4 arg5 harg5 arg7 harg7 t1 t2 s f0 f1 f2 f11 f6).2 = ssqM.view.writes (Elt Ideal) f11
      [⟨Rect.unit (s := S8x512) ![0, 384] S8x128.size inb_S8x512_S8x128_0_384, k0_pay220 (tripRun.sl.r_250 c arg0 t1 t2 f0 f6) (tripRun.sl.v1730_r0 c f11)⟩,
       ⟨Rect.unit (s := S8x512) ![0, 256] S8x128.size inb_S8x512_S8x128_0_256, k0_pay219 (tripRun.sl.r_249 c arg0 t1 t2 f0 f6) (tripRun.sl.v1725_r0 c f11)⟩,
       ⟨Rect.unit (s := S8x512) ![0, 128] S8x128.size inb_S8x512_S8x128_0_128, k0_pay218 (k0_pay216 (tripRun.sl.r_239 c arg0 t1 t2 f0 f6) (tripRun.sl.v1720_r0 c f11))⟩,
       ⟨Rect.unit (s := S8x512) ![0, 0] S8x128.size inb_S8x512_S8x128_0_0, k0_pay215 (tripRun.sl.r_238 c arg0 t1 t2 f0 f6) (View.readAt (Elt Ideal) ssqM.view (Rect.unit (s := S8x512) ![0, 0] S8x128.size inb_S8x512_S8x128_0_0).toLoadRect f11)⟩] := rfl
  rw [e]
  by_cases c384 : 384 ≤ (y 1).val
  · have hx : ∀ a, (y a).val = (![0, 384] : Fin 2 → ℕ) a + ((ix2 ⟨(y 0).val, h0⟩ ⟨(y 1).val - 384, by omega⟩ : S8x128.Idx) a).val := by
      intro a; fin_cases a
      · show (y 0).val = 0 + (y 0).val
        omega
      · show (y 1).val = 384 + ((y 1).val - 384)
        omega
    refine (View.read_writes_cons_unit_of_mem ssqM.view f11 inb_S8x512_S8x128_0_384 _ _ y (show S8x128.Idx from ix2 ⟨(y 0).val, h0⟩ ⟨(y 1).val - 384, by omega⟩) rfl hx).trans ?_
    refine (add_220 (tripRun.sl.r_250 c arg0 t1 t2 f0 f6) _ _).trans (congrArg₂ (fun a b : EReal => a + b) (band c f11 384 inb_S8x512_S8x128_0_384 y _ rfl (hx 1)) ((squares_1_1 c arg0 t1 t2 f0 f6 _).trans ?_))
    refine Finset.sum_congr rfl fun m _ => ?_
    congr 1
    show 512 * t1.val + 256 * 1 + 128 * 1 + ((y 1).val - 384) = 512 * t1.val + (y 1).val
    omega
  refine (View.read_writes_cons_unit_of_not_mem ssqM.view f11 inb_S8x512_S8x128_0_384 _ _ y rfl 1 (Or.inl (by show (y 1).val < 384; omega))).trans ?_
  by_cases c256 : 256 ≤ (y 1).val
  · have hx : ∀ a, (y a).val = (![0, 256] : Fin 2 → ℕ) a + ((ix2 ⟨(y 0).val, h0⟩ ⟨(y 1).val - 256, by omega⟩ : S8x128.Idx) a).val := by
      intro a; fin_cases a
      · show (y 0).val = 0 + (y 0).val
        omega
      · show (y 1).val = 256 + ((y 1).val - 256)
        omega
    refine (View.read_writes_cons_unit_of_mem ssqM.view f11 inb_S8x512_S8x128_0_256 _ _ y (show S8x128.Idx from ix2 ⟨(y 0).val, h0⟩ ⟨(y 1).val - 256, by omega⟩) rfl hx).trans ?_
    refine (add_219 (tripRun.sl.r_249 c arg0 t1 t2 f0 f6) _ _).trans (congrArg₂ (fun a b : EReal => a + b) (band c f11 256 inb_S8x512_S8x128_0_256 y _ rfl (hx 1)) ((squares_1_0 c arg0 t1 t2 f0 f6 _).trans ?_))
    refine Finset.sum_congr rfl fun m _ => ?_
    congr 1
    show 512 * t1.val + 256 * 1 + 128 * 0 + ((y 1).val - 256) = 512 * t1.val + (y 1).val
    omega
  refine (View.read_writes_cons_unit_of_not_mem ssqM.view f11 inb_S8x512_S8x128_0_256 _ _ y rfl 1 (Or.inl (by show (y 1).val < 256; omega))).trans ?_
  by_cases c128 : 128 ≤ (y 1).val
  · have hx : ∀ a, (y a).val = (![0, 128] : Fin 2 → ℕ) a + ((ix2 ⟨(y 0).val, h0⟩ ⟨(y 1).val - 128, by omega⟩ : S8x128.Idx) a).val := by
      intro a; fin_cases a
      · show (y 0).val = 0 + (y 0).val
        omega
      · show (y 1).val = 128 + ((y 1).val - 128)
        omega
    refine (View.read_writes_cons_unit_of_mem ssqM.view f11 inb_S8x512_S8x128_0_128 _ _ y (show S8x128.Idx from ix2 ⟨(y 0).val, h0⟩ ⟨(y 1).val - 128, by omega⟩) rfl hx).trans ?_
    refine (add_218 (tripRun.sl.r_239 c arg0 t1 t2 f0 f6) _ _).trans (congrArg₂ (fun a b : EReal => a + b) (band c f11 128 inb_S8x512_S8x128_0_128 y _ rfl (hx 1)) ((squares_0_1 c arg0 t1 t2 f0 f6 _).trans ?_))
    refine Finset.sum_congr rfl fun m _ => ?_
    congr 1
    show 512 * t1.val + 256 * 0 + 128 * 1 + ((y 1).val - 128) = 512 * t1.val + (y 1).val
    omega
  refine (View.read_writes_cons_unit_of_not_mem ssqM.view f11 inb_S8x512_S8x128_0_128 _ _ y rfl 1 (Or.inl (by show (y 1).val < 128; omega))).trans ?_
  have hx : ∀ a, (y a).val = (![0, 0] : Fin 2 → ℕ) a + ((ix2 ⟨(y 0).val, h0⟩ ⟨(y 1).val - 0, by omega⟩ : S8x128.Idx) a).val := by
    intro a; fin_cases a
    · show (y 0).val = 0 + (y 0).val
      omega
    · show (y 1).val = 0 + ((y 1).val - 0)
      omega
  refine (View.read_writes_cons_unit_of_mem ssqM.view f11 inb_S8x512_S8x128_0_0 _ _ y (show S8x128.Idx from ix2 ⟨(y 0).val, h0⟩ ⟨(y 1).val - 0, by omega⟩) rfl hx).trans ?_
  refine (add_215 (tripRun.sl.r_238 c arg0 t1 t2 f0 f6) _ _).trans (congrArg₂ (fun a b : EReal => a + b) (band c f11 0 inb_S8x512_S8x128_0_0 y _ rfl (hx 1)) ((squares_0_0 c arg0 t1 t2 f0 f6 _).trans ?_))
  refine Finset.sum_congr rfl fun m _ => ?_
  congr 1

theorem inner_val (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole)
    (t1 : Fin k0_t1_loop.trips) (s : Mxu Ideal) (f0 : MBuf (F := Ideal) c arg0) (f1 : MBuf (F := Ideal) c arg1) (f2 : MBuf (F := Ideal) c arg2) (f11 : MBuf (F := Ideal) c ssqM) (f6 : MBuf (F := Ideal) c wM)
    (h : St s (part (xr (n := 72) (m := 256) (arg1.view.read (Elt Ideal) f1)) (wA c arg0 f0 f6) (512 * t1.val + 256 * 0) (0)) (part (xr (n := 72) (m := 256) (arg1.view.read (Elt Ideal) f1)) (wA c arg0 f0 f6) (512 * t1.val + 256 * 1) (0))
      (part (xr (n := 72) (m := 64) (arg2.view.read (Elt Ideal) f2)) (wA c arg0 f0 f6) (512 * t1.val + 256 * 0) (0)) (part (xr (n := 72) (m := 64) (arg2.view.read (Elt Ideal) f2)) (wA c arg0 f0 f6) (512 * t1.val + 256 * 1) (0))) (hq : ∀ y, (ssqM.view.read (Elt Ideal) f11 y : EReal) = 0) :
    ∀ k, k ≤ 9 → St (innerSt c arg0 harg0 arg1 harg1 arg2 harg2 arg3 harg3 arg4 harg4 arg5 harg5 arg7 harg7 t1 s f0 f1 f2 f11 f6 k).1 (part (xr (n := 72) (m := 256) (arg1.view.read (Elt Ideal) f1)) (wA c arg0 f0 f6) (512 * t1.val + 256 * 0) (8 * k)) (part (xr (n := 72) (m := 256) (arg1.view.read (Elt Ideal) f1)) (wA c arg0 f0 f6) (512 * t1.val + 256 * 1) (8 * k))
      (part (xr (n := 72) (m := 64) (arg2.view.read (Elt Ideal) f2)) (wA c arg0 f0 f6) (512 * t1.val + 256 * 0) (8 * k)) (part (xr (n := 72) (m := 64) (arg2.view.read (Elt Ideal) f2)) (wA c arg0 f0 f6) (512 * t1.val + 256 * 1) (8 * k))
      ∧ ∀ y, (ssqM.view.read (Elt Ideal) (innerSt c arg0 harg0 arg1 harg1 arg2 harg2 arg3 harg3 arg4 harg4 arg5 harg5 arg7 harg7 t1 s f0 f1 f2 f11 f6 k).2 y : EReal)
        = ∑ m ∈ Finset.range (16 * k), sq16 (wA c arg0 f0 f6) (128 * m + (y 0).val) (512 * t1.val + (y 1).val)
  | 0, _ => ⟨h, fun y => (hq y).trans (by simp)⟩
  | k + 1, hk => by
    have hk' : k < k0_t2_loop.trips := hk
    obtain ⟨h1, h2⟩ := inner_val c arg0 harg0 arg1 harg1 arg2 harg2 arg3 harg3 arg4 harg4 arg5 harg5 arg7 harg7 t1 s f0 f1 f2 f11 f6 h hq k (by omega)
    have e : innerSt c arg0 harg0 arg1 harg1 arg2 harg2 arg3 harg3 arg4 harg4 arg5 harg5 arg7 harg7 t1 s f0 f1 f2 f11 f6 (k + 1) = tripFn c arg0 harg0 arg1 harg1 arg2 harg2 arg3 harg3 arg4 harg4 arg5 harg5 arg7 harg7 t1 ⟨k, hk'⟩ (innerSt c arg0 harg0 arg1 harg1 arg2 harg2 arg3 harg3 arg4 harg4 arg5 harg5 arg7 harg7 t1 s f0 f1 f2 f11 f6 k).1 f0 f1 f2 (innerSt c arg0 harg0 arg1 harg1 arg2 harg2 arg3 harg3 arg4 harg4 arg5 harg5 arg7 harg7 t1 s f0 f1 f2 f11 f6 k).2 f6 := by
      rw [innerSt]; exact dif_pos hk'
    rw [e, show 8 * (k + 1) = 8 * k + 8 by omega, show 16 * (k + 1) = 16 * k + 16 by omega]
    refine ⟨trip_st c arg0 harg0 arg1 harg1 arg2 harg2 arg3 harg3 arg4 harg4 arg5 harg5 arg7 harg7 t1 ⟨k, hk'⟩ _ f0 f1 f2 _ f6 h1, fun y => ?_⟩
    rw [trip_sq, h2, Finset.sum_range_add]

end Cert.KernelIdeal.Hand
-- ==== Proof.KI.VSpec.lean ====
/-
  The values of the call, and what a step's results are at their coordinates.
-/
module

public import proofs.«01_k».proof.Proof.KI.VInner
public import Idealize.ShloMosaic.Lib.IdealHost

@[expose] public section

set_option maxRecDepth 8192

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped BigOperators

/-! ## The values of the call, as functions of its arrays -/

/-- One half, as the kernel writes it. -/
def half : EReal := (FloatOps.ofBits .bf16 0x3F00#16 : Ideal .bf16)

/-- The root of the positive part. -/
def nrm (a : EReal) : EReal := (FloatOps.sqrt (FloatOps.maximumf (a : Ideal .f32) (FloatOps.ofBits .f32 0x00000000#32)) : Ideal .f32)

/-- The quotient by a norm, by one where the norm is zero. -/
def quo (mag n : EReal) : EReal :=
  (FloatOps.divf (mag : Ideal .f32) (Scalar.select (FloatOps.cmpf (F := Ideal) (φ := .f32) .oeq n (FloatOps.ofBits .f32 0x00000000#32)) (FloatOps.ofBits .f32 0x3F800000#32 : Ideal .f32) (n : Ideal .f32)) : Ideal .f32)

/-- A product with the merged matrix plus one with three halves of the low-rank factor. -/
def yS (X W H U : NF) : NF := fun i o => ∑ K ∈ Finset.range 18432, X i K * W K o + ∑ k ∈ Finset.range 192, H i k * (U (k % 64) o * half)

/-- The rows below the first 256. -/
abbrev lowRows (H : NF) : NF := fun i k => H (256 + i) k

/-- The norm of a column. -/
def nS (A W H U : NF) : ℕ → EReal := fun o => nrm (∑ K ∈ Finset.range 18432, W K o * W K o + ∑ r ∈ Finset.range 64, yS A W (lowRows H) U r o * U r o)

/-- The scaled product. -/
def oS (X A W H U M : NF) : NF := fun i o => yS X W H U i o * quo (M 0 o) (nS A W H U o)

/-! ## Sums -/

/-- A column's sum, of a vector of two axes. -/
theorem colsum {n m : ℕ} (v : FVec Ideal ⟨2, ![n, m]⟩ .f32) (f : NF) (hv : ∀ i, (v i : EReal) = f (i 0).val (i 1).val) (acc : BitVec (FTy.bits .f32)) (h : (⟨2, ![n, m]⟩ : Shape).Reduces [0] ⟨1, ![m]⟩)
    (hφ : FKind.Formats .f32) (hacc : acc = FKind.add.neutral .f32 hφ) (hs : (⟨1, ![m]⟩ : Shape).ShapeCasts ⟨2, ![1, m]⟩) (i : (⟨2, ![1, m]⟩ : Shape).Idx) :
    (shapeCast ⟨2, ![1, m]⟩ (multiReduction .add [0] ⟨1, ![m]⟩ v acc h hφ hacc) hs i : EReal) = ∑ r ∈ Finset.range n, f r (i 1).val := by
  have h0 : (i 0).val < 1 := (i 0).isLt
  refine (shapeCast_apply (s := ⟨1, ![m]⟩) (t := ⟨2, ![1, m]⟩) _ hs i (fun a => ⟨(i 1).val, by fin_cases a; exact (i 1).isLt⟩) ?_).trans ?_
  · rw [Shape.rowMajor_val_one, Shape.rowMajor_val_two]
    show (i 1).val = (i 0).val * m + (i 1).val
    have : (i 0).val = 0 := by omega
    rw [this]; omega
  · refine (Ideal.multiReduction_add_single (s := ⟨2, ![n, m]⟩) (t := ⟨1, ![m]⟩) (a := 0) v acc h hφ hacc _).trans ?_
    rw [← Fin.sum_univ_eq_sum_range (fun r => f r (i 1).val) n]
    refine Finset.sum_congr rfl fun r _ => ?_
    rw [hv]
    rfl

/-- The squares of a column, over the eight rows of the partial sums. -/
theorem sum_squares (f : ℕ → EReal) : ∑ r ∈ Finset.range 8, ∑ m ∈ Finset.range 144, ∑ g ∈ Finset.range 16, f (128 * m + r + 8 * g) = ∑ K ∈ Finset.range 18432, f K := by
  rw [Finset.sum_comm]
  refine Eq.trans (Finset.sum_congr rfl fun m _ => ?_) (sum_blocks f 128 144)
  rw [Finset.sum_comm]
  refine Eq.trans ?_ (sum_blocks (fun b => f (128 * m + b)) 8 16)
  refine Finset.sum_congr rfl fun g _ => Finset.sum_congr rfl fun r _ => ?_
  rw [show 128 * m + r + 8 * g = 128 * m + (8 * g + r) by omega]

theorem part_all (xf w : NF) (C i j : ℕ) : part xf w C 72 i j = ∑ K ∈ Finset.range 18432, xf i K * w K (C + j) :=
  sum_blocks (fun K => xf i K * w K (C + j)) 256 72

/-- The three halves and the rows of zeros under them. -/
def padU (U : NF) : NF := fun k o => if k < 192 then U (k % 64) o * half else 0

theorem dot_pad (h U : NF) (C i j : ℕ) : dot256 h (fun k j => padU U k (C + j)) i j = ∑ k ∈ Finset.range 192, h i k * (U (k % 64) (C + j) * half) := by
  show ∑ k ∈ Finset.range (192 + 64), h i k * padU U k (C + j) = _
  rw [Finset.sum_range_add]
  have e : ∑ k ∈ Finset.range 64, h i (192 + k) * padU U (192 + k) (C + j) = 0 := by
    refine Finset.sum_eq_zero fun k _ => ?_
    unfold padU
    rw [if_neg (by omega), mul_zero]
  rw [e, add_zero]
  refine Finset.sum_congr rfl fun k hk => ?_
  unfold padU
  rw [if_pos (Finset.mem_range.1 hk)]

theorem yS_eq (xf w h U : NF) (C i j : ℕ) : (part xf w C 72 + dot256 h (fun k j => padU U k (C + j)) : NF) i j = yS xf w h U i (C + j) := by
  show part xf w C 72 i j + dot256 h (fun k j => padU U k (C + j)) i j = _
  rw [part_all, dot_pad]
  rfl

/-! ## The payloads -/

theorem pay221_apply (up : Vec Ideal S64x512 .bf16) (U : NF) (C : ℕ) (hu : ∀ i, (up i : EReal) = U (i 0).val (C + (i 1).val)) (i : S256x512.Idx) :
    (k0_pay221 (F := Ideal) up i : EReal) = padU U (i 0).val (C + (i 1).val) := by
  have h0 : (i 0).val < 256 := (i 0).isLt
  have h1 : (i 1).val < 512 := (i 1).isLt
  have hm : ∀ j : S64x512.Idx, (mulf (F := Ideal) (s := S64x512) (φ := .bf16) up (broadcast S64x512 (Scalar.ofBits .bf16 0x3F00#16)) j : EReal) = U (j 0).val (C + (j 1).val) * half := fun j =>
    congrArg (fun z : EReal => z * half) (hu j)
  unfold k0_pay221 padU
  by_cases c3 : (i 0).val < 192
  · rw [if_pos c3]
    by_cases c1 : (i 0).val < 64
    · refine (concatenate_apply_piece (t := S256x512) 0 _ _ i 0 (by simp) S64x512 _ rfl rfl 0 rfl (ix2 ⟨(i 0).val, c1⟩ ⟨(i 1).val, h1⟩) ?_ ?_).trans ((hm _).trans ?_)
      · intro a; fin_cases a
        · intro hh; exact absurd rfl hh
        · intro; rfl
      · show 0 + (i 0).val = (i 0).val
        omega
      · show U (i 0).val _ * half = _
        rw [Nat.mod_eq_of_lt c1]
    by_cases c2 : (i 0).val < 128
    · refine (concatenate_apply_piece (t := S256x512) 0 _ _ i 1 (by simp) S64x512 _ rfl rfl 64 rfl (ix2 ⟨(i 0).val - 64, by omega⟩ ⟨(i 1).val, h1⟩) ?_ ?_).trans ((hm _).trans ?_)
      · intro a; fin_cases a
        · intro hh; exact absurd rfl hh
        · intro; rfl
      · show 64 + ((i 0).val - 64) = (i 0).val
        omega
      · show U ((i 0).val - 64) _ * half = _
        rw [show (i 0).val % 64 = (i 0).val - 64 by omega]
    · refine (concatenate_apply_piece (t := S256x512) 0 _ _ i 2 (by simp) S64x512 _ rfl rfl 128 rfl (ix2 ⟨(i 0).val - 128, by omega⟩ ⟨(i 1).val, h1⟩) ?_ ?_).trans ((hm _).trans ?_)
      · intro a; fin_cases a
        · intro hh; exact absurd rfl hh
        · intro; rfl
      · show 128 + ((i 0).val - 128) = (i 0).val
        omega
      · show U ((i 0).val - 128) _ * half = _
        rw [show (i 0).val % 64 = (i 0).val - 128 by omega]
  · rw [if_neg c3]
    refine (concatenate_apply_piece (t := S256x512) 0 _ _ i 3 (by simp) S64x512 _ rfl rfl 192 rfl (ix2 ⟨(i 0).val - 192, by omega⟩ ⟨(i 1).val, h1⟩) ?_ ?_).trans ?_
    · intro a; fin_cases a
      · intro hh; exact absurd rfl hh
      · intro; rfl
    · show 192 + ((i 0).val - 192) = (i 0).val
      omega
    · exact Ideal.ofBits_zero_bf16

theorem pay223_apply (up : Vec Ideal S64x512 .bf16) (U : NF) (C : ℕ) (hu : ∀ i, (up i : EReal) = U (i 0).val (C + (i 1).val)) (i : S256x256.Idx) :
    (k0_pay223 (F := Ideal) up i : EReal) = padU U (i 0).val (C + 256 * 0 + (i 1).val) := by
  have h0 : (i 0).val < 256 := (i 0).isLt
  have h1 : (i 1).val < 256 := (i 1).isLt
  refine (extractStridedSlice_apply ![0, 0] (k0_pay221 up) slices_S256x512_o0_0_S256x256 i (ix2 ⟨(i 0).val, h0⟩ ⟨(i 1).val, by omega⟩) ?_).trans ((pay221_apply up U C hu _).trans ?_)
  · intro a; fin_cases a
    · show (i 0).val = 0 + (i 0).val
      omega
    · show (i 1).val = 0 + (i 1).val
      omega
  · rfl

theorem pay224_apply (up : Vec Ideal S64x512 .bf16) (U : NF) (C : ℕ) (hu : ∀ i, (up i : EReal) = U (i 0).val (C + (i 1).val)) (i : S256x256.Idx) :
    (k0_pay224 (F := Ideal) up i : EReal) = padU U (i 0).val (C + 256 * 1 + (i 1).val) := by
  have h0 : (i 0).val < 256 := (i 0).isLt
  have h1 : (i 1).val < 256 := (i 1).isLt
  refine (extractStridedSlice_apply ![0, 256] (k0_pay221 up) slices_S256x512_o0_256_S256x256 i (ix2 ⟨(i 0).val, h0⟩ ⟨256 + (i 1).val, by omega⟩) ?_).trans ((pay221_apply up U C hu _).trans ?_)
  · intro a; fin_cases a
    · show (i 0).val = 0 + (i 0).val
      omega
    · rfl
  · show padU U (i 0).val (C + (256 + (i 1).val)) = _
    congr 1; omega

theorem pay225_apply (up : Vec Ideal S64x512 .bf16) (sq : FVec Ideal S1x512 .f32) (cc : FVec Ideal S64x256 .f32) (U S Y : NF) (C : ℕ) (hu : ∀ i, (up i : EReal) = U (i 0).val (C + (i 1).val))
    (hs : ∀ i, (sq i : EReal) = S 0 (C + (i 1).val)) (hc : ∀ i, (cc i : EReal) = Y (i 0).val (C + 256 * 0 + (i 1).val)) (i : S1x256.Idx) :
    (k0_pay225 (F := Ideal) up sq cc i : EReal) = nrm (S 0 (C + 256 * 0 + (i 1).val) + ∑ r ∈ Finset.range 64, Y r (C + 256 * 0 + (i 1).val) * U r (C + 256 * 0 + (i 1).val)) := by
  have h0 : (i 0).val < 1 := (i 0).isLt
  have h1 : (i 1).val < 256 := (i 1).isLt
  have e1 : (extractStridedSlice S1x256 ![0, 0] sq slices_S1x512_o0_0_S1x256 i : EReal) = S 0 (C + 256 * 0 + (i 1).val) := by
    refine (extractStridedSlice_apply ![0, 0] sq slices_S1x512_o0_0_S1x256 i (ix2 ⟨(i 0).val, h0⟩ ⟨(i 1).val, by omega⟩) ?_).trans ((hs _).trans rfl)
    intro a; fin_cases a
    · show (i 0).val = 0 + (i 0).val
      omega
    · show (i 1).val = 0 + (i 1).val
      omega
  have e2 : ∀ j : S64x256.Idx, (mulf (F := Ideal) (s := S64x256) (φ := .f32) cc (extf .f32 (extractStridedSlice S64x256 ![0, 0] up slices_S64x512_o0_0_S64x256) bitsLt_bf16_f32) j : EReal)
      = (fun r o => Y r (C + 256 * 0 + o) * U r (C + 256 * 0 + o) : NF) (j 0).val (j 1).val := by
    intro j
    have j0 : (j 0).val < 64 := (j 0).isLt
    have j1 : (j 1).val < 256 := (j 1).isLt
    refine congrArg₂ (fun a b : EReal => a * b) (hc j) ?_
    refine (extractStridedSlice_apply ![0, 0] up slices_S64x512_o0_0_S64x256 j (ix2 ⟨(j 0).val, j0⟩ ⟨(j 1).val, by omega⟩) ?_).trans ((hu _).trans rfl)
    intro a; fin_cases a
    · show (j 0).val = 0 + (j 0).val
      omega
    · show (j 1).val = 0 + (j 1).val
      omega
  have e3 := colsum (n := 64) (m := 256) (mulf (F := Ideal) (s := S64x256) (φ := .f32) cc (extf .f32 (extractStridedSlice S64x256 ![0, 0] up slices_S64x512_o0_0_S64x256) bitsLt_bf16_f32)) (fun r o => Y r (C + 256 * 0 + o) * U r (C + 256 * 0 + o) : NF) e2 0x00000000#32 reduces_S64x256_S256 (.inl rfl) rfl shapeCasts_S256_S1x256 i
  have e4 : ∀ a b a' b' : EReal, a = a' → b = b' → nrm (a + (FloatOps.ofBits .f32 0x3F800000#32 : Ideal .f32) * b) = nrm (a' + b') := by
    intro a b a' b' ha hb
    rw [ha, hb, show (FloatOps.ofBits .f32 0x3F800000#32 : Ideal .f32) = (1 : EReal) from Ideal.ofBits_one_f32, one_mul]
  exact e4 _ _ _ _ e1 e3

theorem pay228_apply (up : Vec Ideal S64x512 .bf16) (sq : FVec Ideal S1x512 .f32) (cc : FVec Ideal S64x256 .f32) (U S Y : NF) (C : ℕ) (hu : ∀ i, (up i : EReal) = U (i 0).val (C + (i 1).val))
    (hs : ∀ i, (sq i : EReal) = S 0 (C + (i 1).val)) (hc : ∀ i, (cc i : EReal) = Y (i 0).val (C + 256 * 1 + (i 1).val)) (i : S1x256.Idx) :
    (k0_pay228 (F := Ideal) sq (k0_pay227 up cc) i : EReal) = nrm (S 0 (C + 256 * 1 + (i 1).val) + ∑ r ∈ Finset.range 64, Y r (C + 256 * 1 + (i 1).val) * U r (C + 256 * 1 + (i 1).val)) := by
  have h0 : (i 0).val < 1 := (i 0).isLt
  have h1 : (i 1).val < 256 := (i 1).isLt
  have e1 : (extractStridedSlice S1x256 ![0, 256] sq slices_S1x512_o0_256_S1x256 i : EReal) = S 0 (C + 256 * 1 + (i 1).val) := by
    refine (extractStridedSlice_apply ![0, 256] sq slices_S1x512_o0_256_S1x256 i (ix2 ⟨(i 0).val, h0⟩ ⟨256 + (i 1).val, by omega⟩) ?_).trans ((hs _).trans ?_)
    · intro a; fin_cases a
      · show (i 0).val = 0 + (i 0).val
        omega
      · rfl
    · show S 0 (C + (256 + (i 1).val)) = _
      congr 1; omega
  have e2 : ∀ j : S64x256.Idx, (k0_pay227 (F := Ideal) up cc j : EReal) = (fun r o => Y r (C + 256 * 1 + o) * U r (C + 256 * 1 + o) : NF) (j 0).val (j 1).val := by
    intro j
    have j0 : (j 0).val < 64 := (j 0).isLt
    have j1 : (j 1).val < 256 := (j 1).isLt
    refine congrArg₂ (fun a b : EReal => a * b) (hc j) ?_
    refine (extractStridedSlice_apply ![0, 256] up slices_S64x512_o0_256_S64x256 j (ix2 ⟨(j 0).val, j0⟩ ⟨256 + (j 1).val, by omega⟩) ?_).trans ((hu _).trans ?_)
    · intro a; fin_cases a
      · show (j 0).val = 0 + (j 0).val
        omega
      · rfl
    · show U (j 0).val (C + (256 + (j 1).val)) = _
      congr 1; omega
  have e3 := colsum (n := 64) (m := 256) (k0_pay227 (F := Ideal) up cc) (fun r o => Y r (C + 256 * 1 + o) * U r (C + 256 * 1 + o) : NF) e2 0x00000000#32 reduces_S64x256_S256 (.inl rfl) rfl shapeCasts_S256_S1x256 i
  have e4 : ∀ a b a' b' : EReal, a = a' → b = b' → nrm (a + (FloatOps.ofBits .f32 0x3F800000#32 : Ideal .f32) * b) = nrm (a' + b') := by
    intro a b a' b' ha hb
    rw [ha, hb, show (FloatOps.ofBits .f32 0x3F800000#32 : Ideal .f32) = (1 : EReal) from Ideal.ofBits_one_f32, one_mul]
  exact e4 _ _ _ _ e1 e3

theorem pay222_apply (v : Vec Ideal S8x512 .f32) (f : NF) (hv : ∀ i, (v i : EReal) = f (i 0).val (i 1).val) (i : S1x512.Idx) :
    (k0_pay222 (F := Ideal) v i : EReal) = ∑ r ∈ Finset.range 8, f r (i 1).val :=
  colsum (n := 8) (m := 512) v f hv 0x00000000#32 reduces_S8x512_S512 (.inl rfl) rfl shapeCasts_S512_S1x512 i

/-- The stored block of the result. -/
theorem out_apply (n mag : FVec Ideal S1x256 .f32) (y : FVec Ideal S256x256 .f32) (N M : ℕ → EReal) (Y : NF) (C : ℕ) (hn : ∀ i, (n i : EReal) = N (C + (i 1).val)) (hm : ∀ i, (mag i : EReal) = M (C + (i 1).val))
    (hy : ∀ i, (y i : EReal) = Y (i 0).val (C + (i 1).val)) (i : S256x256.Idx) :
    (mulf y (broadcastTo S256x256 (divf (shapeCast S1x256 mag shapeCasts_S1x256_S1x256) (select (cmpf .oeq n (broadcast S1x256 (Scalar.ofBits .f32 0x00000000#32))) (broadcast S1x256 (Scalar.ofBits .f32 0x3F800000#32)) n)) broadcasts_S1x256_S256x256) i : EReal)
      = Y (i 0).val (C + (i 1).val) * quo (M (C + (i 1).val)) (N (C + (i 1).val)) := by
  have h1 : (i 1).val < 256 := (i 1).isLt
  rw [shapeCast_self]
  refine congrArg₂ (fun a b : EReal => a * b) (hy i) ?_
  refine (broadcastTo_apply _ broadcasts_S1x256_S256x256 i (ix2 ⟨0, Nat.one_pos⟩ ⟨(i 1).val, h1⟩) ?_).trans ?_
  · intro a; fin_cases a <;> rfl
  · exact congrArg₂ quo (hm (ix2 ⟨0, Nat.one_pos⟩ ⟨(i 1).val, h1⟩)) (hn (ix2 ⟨0, Nat.one_pos⟩ ⟨(i 1).val, h1⟩))

theorem pay226_apply (up : Vec Ideal S64x512 .bf16) (sq : FVec Ideal S1x512 .f32) (cc : FVec Ideal S64x256 .f32) (mag : Vec Ideal S1x256 .f32) (y : FVec Ideal S256x256 .f32) (N M : ℕ → EReal) (Y : NF) (C : ℕ)
    (hn : ∀ i, (k0_pay225 (F := Ideal) up sq cc i : EReal) = N (C + (i 1).val)) (hm : ∀ i, (mag i : EReal) = M (C + (i 1).val))
    (hy : ∀ i, (y i : EReal) = Y (i 0).val (C + (i 1).val)) (i : S1x256x256.Idx) :
    (k0_pay226 (F := Ideal) up sq cc mag y i : EReal) = Y (i 1).val (C + (i 2).val) * quo (M (C + (i 2).val)) (N (C + (i 2).val)) :=
  (shapeCast_addUnit_apply ![256, 256] _ shapeCasts_S256x256_S1x256x256 i).trans (out_apply _ mag y N M Y C hn hm hy _)

theorem pay229_apply (up : Vec Ideal S64x512 .bf16) (sq : FVec Ideal S1x512 .f32) (cc : FVec Ideal S64x256 .f32) (mag : Vec Ideal S1x256 .f32) (y : FVec Ideal S256x256 .f32) (N M : ℕ → EReal) (Y : NF) (C : ℕ)
    (hn : ∀ i, (k0_pay228 (F := Ideal) sq (k0_pay227 up cc) i : EReal) = N (C + (i 1).val)) (hm : ∀ i, (mag i : EReal) = M (C + (i 1).val))
    (hy : ∀ i, (y i : EReal) = Y (i 0).val (C + (i 1).val)) (i : S1x256x256.Idx) :
    (k0_pay229 (F := Ideal) sq (k0_pay227 up cc) mag y i : EReal) = Y (i 1).val (C + (i 2).val) * quo (M (C + (i 2).val)) (N (C + (i 2).val)) :=
  (shapeCast_addUnit_apply ![256, 256] _ shapeCasts_S256x256_S1x256x256 i).trans (out_apply _ mag y N M Y C hn hm hy _)

end Cert.KernelIdeal.Hand
-- ==== Proof.KI.VOuter.lean ====
/-
  The values of one step of the outer loop, and of all of them: the norms and the slots of the result.
-/
module

public import proofs.«01_k».proof.Proof.KI.VSpec
public import proofs.«01_k».proof.Proof.KI.Drain

@[expose] public section

set_option maxRecDepth 8192

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped BigOperators

/-- A drained unit holds zeros. -/
theorem St.of_drained {s : Mxu Ideal} (hs : s.Drained) (X w : NF) (A : NF) (C0 C1 : ℕ) : St s (part X w C0 0) (part X w C1 0) (part A w C0 0) (part A w C1 0) := by
  have z : ∀ q A M (hf : Mxu.Fits A M) i, (s.read q A hf i : EReal) = 0 := fun q A M hf i => (s.clean q _ _ (by rw [hs.2])).trans Ideal.ofBits_zero_f32
  exact ⟨fun q r => Option.isNone_iff_eq_none.1 (hs.1 q r), fun i => z _ _ _ _ _, fun i => z _ _ _ _ _, fun i => z _ _ _ _ _, fun i => z _ _ _ _ _⟩

variable (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole)

/-- The arrays of the call, at their coordinates. -/
abbrev vX (c : Dev nD) (arg1 : Memref sig .tc .vmem S72x256x256 .bf16) (f1 : MBuf (F := Ideal) c arg1) : NF := xr (n := 72) (m := 256) (arg1.view.read (Elt Ideal) f1)
abbrev vA (c : Dev nD) (arg2 : Memref sig .tc .vmem S72x64x256 .bf16) (f2 : MBuf (F := Ideal) c arg2) : NF := xr (n := 72) (m := 64) (arg2.view.read (Elt Ideal) f2)
abbrev vH (c : Dev nD) (arg3 : Memref sig .tc .vmem S320x256 .bf16) (f3 : MBuf (F := Ideal) c arg3) : NF := nf (n := 320) (m := 256) (arg3.view.read (Elt Ideal) f3)
abbrev vU (c : Dev nD) (arg4 : Memref sig .tc .vmem S64x7168 .bf16) (f4 : MBuf (F := Ideal) c arg4) : NF := nf (n := 64) (m := 7168) (arg4.view.read (Elt Ideal) f4)
abbrev vM (c : Dev nD) (arg5 : Memref sig .tc .vmem S1x7168 .f32) (f5 : MBuf (F := Ideal) c arg5) : NF := nf (n := 1) (m := 7168) (arg5.view.read (Elt Ideal) f5)

section
variable (t1 : Fin k0_t1_loop.trips) (s : Mxu Ideal) (f0 : MBuf (F := Ideal) c arg0) (f1 : MBuf (F := Ideal) c arg1) (f2 : MBuf (F := Ideal) c arg2) (f3 : MBuf (F := Ideal) c arg3) (f4 : MBuf (F := Ideal) c arg4) (f5 : MBuf (F := Ideal) c arg5) (f7 : MBuf (F := Ideal) c arg7) (f6 : MBuf (F := Ideal) c wM)

theorem ssq0_val (y) : (ssqM.view.read (Elt Ideal) (o_ssq0 c arg0 harg0 arg1 harg1 arg2 harg2 arg3 harg3 arg4 harg4 arg5 harg5 arg7 harg7 t1 s f0 f1 f2 f3 f4 f5 f7 f6) y : EReal) = 0 := by
  refine (View.read_writes_cons_unit_of_mem ssqM.view ssqM.view.junk inb_S8x512_S8x512_0_0 _ _ y y rfl ?_).trans ?_
  · intro a; fin_cases a
    · show (y 0).val = 0 + (y 0).val
      omega
    · show (y 1).val = 0 + (y 1).val
      omega
  · exact Ideal.ofBits_zero_f32

theorem up_val (i : S64x512.Idx) : (o_up c arg0 harg0 arg1 harg1 arg2 harg2 arg3 harg3 arg4 harg4 arg5 harg5 arg7 harg7 t1 s f0 f1 f2 f3 f4 f5 f7 f6 i : EReal) = (vU c arg4 f4) (i 0).val (512 * t1.val + (i 1).val) := by
  unfold o_up
  refine (nf_apply (n := 64) (m := 7168) (arg4.view.read (Elt Ideal) f4) _ _ _ ?_ ?_).symm
  · show (k0_off76 t1) 0 + 1 * (i 0).val = _
    rw [k0_off76_eq]; show 0 + 1 * (i 0).val = _; omega
  · show (k0_off76 t1) 1 + 1 * (i 1).val = _
    rw [k0_off76_eq]; show 512 * t1.val + 1 * (i 1).val = _; omega

theorem h_val (i : S256x256.Idx) : (o_h c arg0 harg0 arg1 harg1 arg2 harg2 arg3 harg3 arg4 harg4 arg5 harg5 arg7 harg7 t1 s f0 f1 f2 f3 f4 f5 f7 f6 i : EReal) = (vH c arg3 f3) (i 0).val (i 1).val := by
  unfold o_h
  refine (nf_apply (n := 320) (m := 256) (arg3.view.read (Elt Ideal) f3) _ _ _ ?_ ?_).symm
  · show 0 + 1 * (i 0).val = _
    omega
  · show 0 + 1 * (i 1).val = _
    omega

theorem g_val (i : S64x256.Idx) : (o_g c arg0 harg0 arg1 harg1 arg2 harg2 arg3 harg3 arg4 harg4 arg5 harg5 arg7 harg7 t1 s f0 f1 f2 f3 f4 f5 f7 f6 i : EReal) = lowRows (vH c arg3 f3) (i 0).val (i 1).val := by
  unfold o_g
  refine (nf_apply (n := 320) (m := 256) (arg3.view.read (Elt Ideal) f3) _ _ _ ?_ ?_).symm
  · show 256 + 1 * (i 0).val = _
    omega
  · show 0 + 1 * (i 1).val = _
    omega

theorem mag0_val (i : S1x256.Idx) : (o_mag0 c arg0 harg0 arg1 harg1 arg2 harg2 arg3 harg3 arg4 harg4 arg5 harg5 arg7 harg7 t1 s f0 f1 f2 f3 f4 f5 f7 f6 i : EReal) = (vM c arg5 f5) 0 (512 * t1.val + 256 * 0 + (i 1).val) := by
  have h0 : (i 0).val < 1 := (i 0).isLt
  have e : k0_off80 t1 0#32 = ![0, 512 * t1.val + 256 * 0] := k0_off80_eq t1 0
  unfold o_mag0
  refine (nf_apply (n := 1) (m := 7168) (arg5.view.read (Elt Ideal) f5) _ _ _ ?_ ?_).symm
  · show (k0_off80 t1 0#32) 0 + 1 * (i 0).val = _
    rw [e]; show 0 + 1 * (i 0).val = _; omega
  · show (k0_off80 t1 0#32) 1 + 1 * (i 1).val = _
    rw [e]; show 512 * t1.val + 256 * 0 + 1 * (i 1).val = _; omega

theorem mag1_val (i : S1x256.Idx) : (o_mag1 c arg0 harg0 arg1 harg1 arg2 harg2 arg3 harg3 arg4 harg4 arg5 harg5 arg7 harg7 t1 s f0 f1 f2 f3 f4 f5 f7 f6 i : EReal) = (vM c arg5 f5) 0 (512 * t1.val + 256 * 1 + (i 1).val) := by
  have h0 : (i 0).val < 1 := (i 0).isLt
  have e : k0_off80 t1 256#32 = ![0, 512 * t1.val + 256 * 1] := k0_off80_eq t1 1
  unfold o_mag1
  refine (nf_apply (n := 1) (m := 7168) (arg5.view.read (Elt Ideal) f5) _ _ _ ?_ ?_).symm
  · show (k0_off80 t1 256#32) 0 + 1 * (i 0).val = _
    rw [e]; show 0 + 1 * (i 0).val = _; omega
  · show (k0_off80 t1 256#32) 1 + 1 * (i 1).val = _
    rw [e]; show 512 * t1.val + 256 * 1 + 1 * (i 1).val = _; omega

variable (hs : s.Drained)
include hs

theorem in_val : St (o_in c arg0 harg0 arg1 harg1 arg2 harg2 arg3 harg3 arg4 harg4 arg5 harg5 arg7 harg7 t1 s f0 f1 f2 f3 f4 f5 f7 f6).1 (part (vX c arg1 f1) (wA c arg0 f0 f6) (512 * t1.val + 256 * 0) 72) (part (vX c arg1 f1) (wA c arg0 f0 f6) (512 * t1.val + 256 * 1) 72) (part (vA c arg2 f2) (wA c arg0 f0 f6) (512 * t1.val + 256 * 0) 72) (part (vA c arg2 f2) (wA c arg0 f0 f6) (512 * t1.val + 256 * 1) 72)
    ∧ ∀ y, (ssqM.view.read (Elt Ideal) (o_in c arg0 harg0 arg1 harg1 arg2 harg2 arg3 harg3 arg4 harg4 arg5 harg5 arg7 harg7 t1 s f0 f1 f2 f3 f4 f5 f7 f6).2 y : EReal) = ∑ m ∈ Finset.range 144, sq16 (wA c arg0 f0 f6) (128 * m + (y 0).val) (512 * t1.val + (y 1).val) :=
  inner_val c arg0 harg0 arg1 harg1 arg2 harg2 arg3 harg3 arg4 harg4 arg5 harg5 arg7 harg7 t1 s f0 f1 f2 (o_ssq0 c arg0 harg0 arg1 harg1 arg2 harg2 arg3 harg3 arg4 harg4 arg5 harg5 arg7 harg7 t1 s f0 f1 f2 f3 f4 f5 f7 f6) f6 (St.of_drained hs _ _ _ _ _) (ssq0_val c arg0 harg0 arg1 harg1 arg2 harg2 arg3 harg3 arg4 harg4 arg5 harg5 arg7 harg7 t1 s f0 f1 f2 f3 f4 f5 f7 f6) 9 le_rfl

theorem sq_val (i : S1x512.Idx) : (o_sq c arg0 harg0 arg1 harg1 arg2 harg2 arg3 harg3 arg4 harg4 arg5 harg5 arg7 harg7 t1 s f0 f1 f2 f3 f4 f5 f7 f6 i : EReal) = (fun _ o => ∑ K ∈ Finset.range 18432, (wA c arg0 f0 f6) K o * (wA c arg0 f0 f6) K o : NF) 0 (512 * t1.val + (i 1).val) := by
  unfold o_sq
  refine (pay222_apply _ (fun r o => ∑ m ∈ Finset.range 144, sq16 (wA c arg0 f0 f6) (128 * m + r) (512 * t1.val + o)) ?_ i).trans (sum_squares (fun K => (wA c arg0 f0 f6) K (512 * t1.val + (i 1).val) * (wA c arg0 f0 f6) K (512 * t1.val + (i 1).val)))
  intro y
  refine ((in_val c arg0 harg0 arg1 harg1 arg2 harg2 arg3 harg3 arg4 harg4 arg5 harg5 arg7 harg7 t1 s f0 f1 f2 f3 f4 f5 f7 f6 hs).2 _).trans ?_
  have e0 : ((Rect.unit (s := S8x512) ![0, 0] S8x512.size inb_S8x512_S8x512_0_0).toLoadRect.idx y 0).val = (y 0).val := by
    show 0 + 1 * (y 0).val = _
    omega
  have e1 : ((Rect.unit (s := S8x512) ![0, 0] S8x512.size inb_S8x512_S8x512_0_0).toLoadRect.idx y 1).val = (y 1).val := by
    show 0 + 1 * (y 1).val = _
    omega
  rw [e0, e1]

theorem m63_val : St (o_m63 c arg0 harg0 arg1 harg1 arg2 harg2 arg3 harg3 arg4 harg4 arg5 harg5 arg7 harg7 t1 s f0 f1 f2 f3 f4 f5 f7 f6)
    (part (vX c arg1 f1) (wA c arg0 f0 f6) (512 * t1.val + 256 * 0) 72 + dot256 (vH c arg3 f3) (fun k j => padU (vU c arg4 f4) k (512 * t1.val + 256 * 0 + j)))
    (part (vX c arg1 f1) (wA c arg0 f0 f6) (512 * t1.val + 256 * 1) 72 + dot256 (vH c arg3 f3) (fun k j => padU (vU c arg4 f4) k (512 * t1.val + 256 * 1 + j)))
    (part (vA c arg2 f2) (wA c arg0 f0 f6) (512 * t1.val + 256 * 0) 72 + dot256 (lowRows (vH c arg3 f3)) (fun k j => padU (vU c arg4 f4) k (512 * t1.val + 256 * 0 + j)))
    (part (vA c arg2 f2) (wA c arg0 f0 f6) (512 * t1.val + 256 * 1) 72 + dot256 (lowRows (vH c arg3 f3)) (fun k j => padU (vU c arg4 f4) k (512 * t1.val + 256 * 1 + j))) := by
  have h1 := (in_val c arg0 harg0 arg1 harg1 arg2 harg2 arg3 harg3 arg4 harg4 arg5 harg5 arg7 harg7 t1 s f0 f1 f2 f3 f4 f5 f7 f6 hs).1.step0 0 (k0_pay223 (o_up c arg0 harg0 arg1 harg1 arg2 harg2 arg3 harg3 arg4 harg4 arg5 harg5 arg7 harg7 t1 s f0 f1 f2 f3 f4 f5 f7 f6)) (o_h c arg0 harg0 arg1 harg1 arg2 harg2 arg3 harg3 arg4 harg4 arg5 harg5 arg7 harg7 t1 s f0 f1 f2 f3 f4 f5 f7 f6) (o_g c arg0 harg0 arg1 harg1 arg2 harg2 arg3 harg3 arg4 harg4 arg5 harg5 arg7 harg7 t1 s f0 f1 f2 f3 f4 f5 f7 f6) (vH c arg3 f3) (lowRows (vH c arg3 f3)) (fun k j => padU (vU c arg4 f4) k (512 * t1.val + 256 * 0 + j)) (h_val c arg0 harg0 arg1 harg1 arg2 harg2 arg3 harg3 arg4 harg4 arg5 harg5 arg7 harg7 t1 s f0 f1 f2 f3 f4 f5 f7 f6) (g_val c arg0 harg0 arg1 harg1 arg2 harg2 arg3 harg3 arg4 harg4 arg5 harg5 arg7 harg7 t1 s f0 f1 f2 f3 f4 f5 f7 f6) (pay223_apply _ _ _ (up_val c arg0 harg0 arg1 harg1 arg2 harg2 arg3 harg3 arg4 harg4 arg5 harg5 arg7 harg7 t1 s f0 f1 f2 f3 f4 f5 f7 f6)) _ rfl
  exact h1.step1 0 (k0_pay224 (o_up c arg0 harg0 arg1 harg1 arg2 harg2 arg3 harg3 arg4 harg4 arg5 harg5 arg7 harg7 t1 s f0 f1 f2 f3 f4 f5 f7 f6)) (o_h c arg0 harg0 arg1 harg1 arg2 harg2 arg3 harg3 arg4 harg4 arg5 harg5 arg7 harg7 t1 s f0 f1 f2 f3 f4 f5 f7 f6) (o_g c arg0 harg0 arg1 harg1 arg2 harg2 arg3 harg3 arg4 harg4 arg5 harg5 arg7 harg7 t1 s f0 f1 f2 f3 f4 f5 f7 f6) (vH c arg3 f3) (lowRows (vH c arg3 f3)) (fun k j => padU (vU c arg4 f4) k (512 * t1.val + 256 * 1 + j)) (h_val c arg0 harg0 arg1 harg1 arg2 harg2 arg3 harg3 arg4 harg4 arg5 harg5 arg7 harg7 t1 s f0 f1 f2 f3 f4 f5 f7 f6) (g_val c arg0 harg0 arg1 harg1 arg2 harg2 arg3 harg3 arg4 harg4 arg5 harg5 arg7 harg7 t1 s f0 f1 f2 f3 f4 f5 f7 f6) (pay224_apply _ _ _ (up_val c arg0 harg0 arg1 harg1 arg2 harg2 arg3 harg3 arg4 harg4 arg5 harg5 arg7 harg7 t1 s f0 f1 f2 f3 f4 f5 f7 f6)) _ rfl

theorem c0_val (i : S64x256.Idx) : (o_c0 c arg0 harg0 arg1 harg1 arg2 harg2 arg3 harg3 arg4 harg4 arg5 harg5 arg7 harg7 t1 s f0 f1 f2 f3 f4 f5 f7 f6 i : EReal) = yS (vA c arg2 f2) (wA c arg0 f0 f6) (lowRows (vH c arg3 f3)) (vU c arg4 f4) (i 0).val (512 * t1.val + 256 * 0 + (i 1).val) :=
  ((m63_val c arg0 harg0 arg1 harg1 arg2 harg2 arg3 harg3 arg4 harg4 arg5 harg5 arg7 harg7 t1 s f0 f1 f2 f3 f4 f5 f7 f6 hs).a0 i).trans (yS_eq _ _ _ _ _ _ _)

theorem y0_val (i : S256x256.Idx) : (o_y0 c arg0 harg0 arg1 harg1 arg2 harg2 arg3 harg3 arg4 harg4 arg5 harg5 arg7 harg7 t1 s f0 f1 f2 f3 f4 f5 f7 f6 i : EReal) = yS (vX c arg1 f1) (wA c arg0 f0 f6) (vH c arg3 f3) (vU c arg4 f4) (i 0).val (512 * t1.val + 256 * 0 + (i 1).val) :=
  (congrFun (Mxu.read_pop_ne (s := o_m63 c arg0 harg0 arg1 harg1 arg2 harg2 arg3 harg3 arg4 harg4 arg5 harg5 arg7 harg7 t1 s f0 f1 f2 f3 f4 f5 f7 f6) (q := 0) (A := 64) (M := 64) fits_64_64 0 0 fits_0_256 (.inr (.inl (by decide)))) i).trans (((m63_val c arg0 harg0 arg1 harg1 arg2 harg2 arg3 harg3 arg4 harg4 arg5 harg5 arg7 harg7 t1 s f0 f1 f2 f3 f4 f5 f7 f6 hs).x0 i).trans (yS_eq _ _ _ _ _ _ _))

theorem c1_val (i : S64x256.Idx) : (o_c1 c arg0 harg0 arg1 harg1 arg2 harg2 arg3 harg3 arg4 harg4 arg5 harg5 arg7 harg7 t1 s f0 f1 f2 f3 f4 f5 f7 f6 i : EReal) = yS (vA c arg2 f2) (wA c arg0 f0 f6) (lowRows (vH c arg3 f3)) (vU c arg4 f4) (i 0).val (512 * t1.val + 256 * 1 + (i 1).val) :=
  (congrFun (Mxu.read_pop_ne (s := o_m64 c arg0 harg0 arg1 harg1 arg2 harg2 arg3 harg3 arg4 harg4 arg5 harg5 arg7 harg7 t1 s f0 f1 f2 f3 f4 f5 f7 f6) (q := 0) (A := 0) (M := 256) fits_0_256 1 64 fits_64_64 (.inl (by decide))) i).trans
    ((congrFun (Mxu.read_pop_ne (s := o_m63 c arg0 harg0 arg1 harg1 arg2 harg2 arg3 harg3 arg4 harg4 arg5 harg5 arg7 harg7 t1 s f0 f1 f2 f3 f4 f5 f7 f6) (q := 0) (A := 64) (M := 64) fits_64_64 1 64 fits_64_64 (.inl (by decide))) i).trans (((m63_val c arg0 harg0 arg1 harg1 arg2 harg2 arg3 harg3 arg4 harg4 arg5 harg5 arg7 harg7 t1 s f0 f1 f2 f3 f4 f5 f7 f6 hs).a1 i).trans (yS_eq _ _ _ _ _ _ _)))

theorem y1_val (i : S256x256.Idx) : (o_y1 c arg0 harg0 arg1 harg1 arg2 harg2 arg3 harg3 arg4 harg4 arg5 harg5 arg7 harg7 t1 s f0 f1 f2 f3 f4 f5 f7 f6 i : EReal) = yS (vX c arg1 f1) (wA c arg0 f0 f6) (vH c arg3 f3) (vU c arg4 f4) (i 0).val (512 * t1.val + 256 * 1 + (i 1).val) :=
  (congrFun (Mxu.read_pop_ne (s := o_m65 c arg0 harg0 arg1 harg1 arg2 harg2 arg3 harg3 arg4 harg4 arg5 harg5 arg7 harg7 t1 s f0 f1 f2 f3 f4 f5 f7 f6) (q := 1) (A := 64) (M := 64) fits_64_64 1 0 fits_0_256 (.inr (.inl (by decide)))) i).trans
    ((congrFun (Mxu.read_pop_ne (s := o_m64 c arg0 harg0 arg1 harg1 arg2 harg2 arg3 harg3 arg4 harg4 arg5 harg5 arg7 harg7 t1 s f0 f1 f2 f3 f4 f5 f7 f6) (q := 0) (A := 0) (M := 256) fits_0_256 1 0 fits_0_256 (.inl (by decide))) i).trans
      ((congrFun (Mxu.read_pop_ne (s := o_m63 c arg0 harg0 arg1 harg1 arg2 harg2 arg3 harg3 arg4 harg4 arg5 harg5 arg7 harg7 t1 s f0 f1 f2 f3 f4 f5 f7 f6) (q := 0) (A := 64) (M := 64) fits_64_64 1 0 fits_0_256 (.inl (by decide))) i).trans (((m63_val c arg0 harg0 arg1 harg1 arg2 harg2 arg3 harg3 arg4 harg4 arg5 harg5 arg7 harg7 t1 s f0 f1 f2 f3 f4 f5 f7 f6 hs).x1 i).trans (yS_eq _ _ _ _ _ _ _))))

theorem n0_val (i : S1x256.Idx) : (o_n0 c arg0 harg0 arg1 harg1 arg2 harg2 arg3 harg3 arg4 harg4 arg5 harg5 arg7 harg7 t1 s f0 f1 f2 f3 f4 f5 f7 f6 i : EReal) = (nS (vA c arg2 f2) (wA c arg0 f0 f6) (vH c arg3 f3) (vU c arg4 f4)) (512 * t1.val + 256 * 0 + (i 1).val) := by
  unfold o_n0
  exact pay225_apply (o_up c arg0 harg0 arg1 harg1 arg2 harg2 arg3 harg3 arg4 harg4 arg5 harg5 arg7 harg7 t1 s f0 f1 f2 f3 f4 f5 f7 f6) (o_sq c arg0 harg0 arg1 harg1 arg2 harg2 arg3 harg3 arg4 harg4 arg5 harg5 arg7 harg7 t1 s f0 f1 f2 f3 f4 f5 f7 f6) (o_c0 c arg0 harg0 arg1 harg1 arg2 harg2 arg3 harg3 arg4 harg4 arg5 harg5 arg7 harg7 t1 s f0 f1 f2 f3 f4 f5 f7 f6) (vU c arg4 f4) (fun _ o => ∑ K ∈ Finset.range 18432, (wA c arg0 f0 f6) K o * (wA c arg0 f0 f6) K o) (yS (vA c arg2 f2) (wA c arg0 f0 f6) (lowRows (vH c arg3 f3)) (vU c arg4 f4)) (512 * t1.val) (up_val c arg0 harg0 arg1 harg1 arg2 harg2 arg3 harg3 arg4 harg4 arg5 harg5 arg7 harg7 t1 s f0 f1 f2 f3 f4 f5 f7 f6) (sq_val c arg0 harg0 arg1 harg1 arg2 harg2 arg3 harg3 arg4 harg4 arg5 harg5 arg7 harg7 t1 s f0 f1 f2 f3 f4 f5 f7 f6 hs) (c0_val c arg0 harg0 arg1 harg1 arg2 harg2 arg3 harg3 arg4 harg4 arg5 harg5 arg7 harg7 t1 s f0 f1 f2 f3 f4 f5 f7 f6 hs) i

theorem n1_val (i : S1x256.Idx) : (o_n1 c arg0 harg0 arg1 harg1 arg2 harg2 arg3 harg3 arg4 harg4 arg5 harg5 arg7 harg7 t1 s f0 f1 f2 f3 f4 f5 f7 f6 i : EReal) = (nS (vA c arg2 f2) (wA c arg0 f0 f6) (vH c arg3 f3) (vU c arg4 f4)) (512 * t1.val + 256 * 1 + (i 1).val) := by
  unfold o_n1
  exact pay228_apply (o_up c arg0 harg0 arg1 harg1 arg2 harg2 arg3 harg3 arg4 harg4 arg5 harg5 arg7 harg7 t1 s f0 f1 f2 f3 f4 f5 f7 f6) (o_sq c arg0 harg0 arg1 harg1 arg2 harg2 arg3 harg3 arg4 harg4 arg5 harg5 arg7 harg7 t1 s f0 f1 f2 f3 f4 f5 f7 f6) (o_c1 c arg0 harg0 arg1 harg1 arg2 harg2 arg3 harg3 arg4 harg4 arg5 harg5 arg7 harg7 t1 s f0 f1 f2 f3 f4 f5 f7 f6) (vU c arg4 f4) (fun _ o => ∑ K ∈ Finset.range 18432, (wA c arg0 f0 f6) K o * (wA c arg0 f0 f6) K o) (yS (vA c arg2 f2) (wA c arg0 f0 f6) (lowRows (vH c arg3 f3)) (vU c arg4 f4)) (512 * t1.val) (up_val c arg0 harg0 arg1 harg1 arg2 harg2 arg3 harg3 arg4 harg4 arg5 harg5 arg7 harg7 t1 s f0 f1 f2 f3 f4 f5 f7 f6) (sq_val c arg0 harg0 arg1 harg1 arg2 harg2 arg3 harg3 arg4 harg4 arg5 harg5 arg7 harg7 t1 s f0 f1 f2 f3 f4 f5 f7 f6 hs) (c1_val c arg0 harg0 arg1 harg1 arg2 harg2 arg3 harg3 arg4 harg4 arg5 harg5 arg7 harg7 t1 s f0 f1 f2 f3 f4 f5 f7 f6 hs) i

theorem s0_val (i : S1x256x256.Idx) : (o_s0 c arg0 harg0 arg1 harg1 arg2 harg2 arg3 harg3 arg4 harg4 arg5 harg5 arg7 harg7 t1 s f0 f1 f2 f3 f4 f5 f7 f6 i : EReal) = (oS (vX c arg1 f1) (vA c arg2 f2) (wA c arg0 f0 f6) (vH c arg3 f3) (vU c arg4 f4) (vM c arg5 f5)) (i 1).val (512 * t1.val + 256 * 0 + (i 2).val) := by
  unfold o_s0
  exact pay226_apply (o_up c arg0 harg0 arg1 harg1 arg2 harg2 arg3 harg3 arg4 harg4 arg5 harg5 arg7 harg7 t1 s f0 f1 f2 f3 f4 f5 f7 f6) (o_sq c arg0 harg0 arg1 harg1 arg2 harg2 arg3 harg3 arg4 harg4 arg5 harg5 arg7 harg7 t1 s f0 f1 f2 f3 f4 f5 f7 f6) (o_c0 c arg0 harg0 arg1 harg1 arg2 harg2 arg3 harg3 arg4 harg4 arg5 harg5 arg7 harg7 t1 s f0 f1 f2 f3 f4 f5 f7 f6) (o_mag0 c arg0 harg0 arg1 harg1 arg2 harg2 arg3 harg3 arg4 harg4 arg5 harg5 arg7 harg7 t1 s f0 f1 f2 f3 f4 f5 f7 f6) (o_y0 c arg0 harg0 arg1 harg1 arg2 harg2 arg3 harg3 arg4 harg4 arg5 harg5 arg7 harg7 t1 s f0 f1 f2 f3 f4 f5 f7 f6) (nS (vA c arg2 f2) (wA c arg0 f0 f6) (vH c arg3 f3) (vU c arg4 f4)) ((vM c arg5 f5) 0) (yS (vX c arg1 f1) (wA c arg0 f0 f6) (vH c arg3 f3) (vU c arg4 f4)) (512 * t1.val + 256 * 0) (n0_val c arg0 harg0 arg1 harg1 arg2 harg2 arg3 harg3 arg4 harg4 arg5 harg5 arg7 harg7 t1 s f0 f1 f2 f3 f4 f5 f7 f6 hs) (mag0_val c arg0 harg0 arg1 harg1 arg2 harg2 arg3 harg3 arg4 harg4 arg5 harg5 arg7 harg7 t1 s f0 f1 f2 f3 f4 f5 f7 f6) (y0_val c arg0 harg0 arg1 harg1 arg2 harg2 arg3 harg3 arg4 harg4 arg5 harg5 arg7 harg7 t1 s f0 f1 f2 f3 f4 f5 f7 f6 hs) i

theorem s1_val (i : S1x256x256.Idx) : (o_s1 c arg0 harg0 arg1 harg1 arg2 harg2 arg3 harg3 arg4 harg4 arg5 harg5 arg7 harg7 t1 s f0 f1 f2 f3 f4 f5 f7 f6 i : EReal) = (oS (vX c arg1 f1) (vA c arg2 f2) (wA c arg0 f0 f6) (vH c arg3 f3) (vU c arg4 f4) (vM c arg5 f5)) (i 1).val (512 * t1.val + 256 * 1 + (i 2).val) := by
  unfold o_s1
  exact pay229_apply (o_up c arg0 harg0 arg1 harg1 arg2 harg2 arg3 harg3 arg4 harg4 arg5 harg5 arg7 harg7 t1 s f0 f1 f2 f3 f4 f5 f7 f6) (o_sq c arg0 harg0 arg1 harg1 arg2 harg2 arg3 harg3 arg4 harg4 arg5 harg5 arg7 harg7 t1 s f0 f1 f2 f3 f4 f5 f7 f6) (o_c1 c arg0 harg0 arg1 harg1 arg2 harg2 arg3 harg3 arg4 harg4 arg5 harg5 arg7 harg7 t1 s f0 f1 f2 f3 f4 f5 f7 f6) (o_mag1 c arg0 harg0 arg1 harg1 arg2 harg2 arg3 harg3 arg4 harg4 arg5 harg5 arg7 harg7 t1 s f0 f1 f2 f3 f4 f5 f7 f6) (o_y1 c arg0 harg0 arg1 harg1 arg2 harg2 arg3 harg3 arg4 harg4 arg5 harg5 arg7 harg7 t1 s f0 f1 f2 f3 f4 f5 f7 f6) (nS (vA c arg2 f2) (wA c arg0 f0 f6) (vH c arg3 f3) (vU c arg4 f4)) ((vM c arg5 f5) 0) (yS (vX c arg1 f1) (wA c arg0 f0 f6) (vH c arg3 f3) (vU c arg4 f4)) (512 * t1.val + 256 * 1) (n1_val c arg0 harg0 arg1 harg1 arg2 harg2 arg3 harg3 arg4 harg4 arg5 harg5 arg7 harg7 t1 s f0 f1 f2 f3 f4 f5 f7 f6 hs) (mag1_val c arg0 harg0 arg1 harg1 arg2 harg2 arg3 harg3 arg4 harg4 arg5 harg5 arg7 harg7 t1 s f0 f1 f2 f3 f4 f5 f7 f6) (y1_val c arg0 harg0 arg1 harg1 arg2 harg2 arg3 harg3 arg4 harg4 arg5 harg5 arg7 harg7 t1 s f0 f1 f2 f3 f4 f5 f7 f6 hs) i

/-- The norms after a step: its 512 columns are written, the others are kept. -/
theorem norm_step (y : S1x7168.Idx) : (arg7.view.read (Elt Ideal) (o_norm c arg0 harg0 arg1 harg1 arg2 harg2 arg3 harg3 arg4 harg4 arg5 harg5 arg7 harg7 t1 s f0 f1 f2 f3 f4 f5 f7 f6) y : EReal)
    = if 512 * t1.val ≤ (y 1).val ∧ (y 1).val < 512 * t1.val + 512 then (nS (vA c arg2 f2) (wA c arg0 f0 f6) (vH c arg3 f3) (vU c arg4 f4)) (y 1).val else arg7.view.read (Elt Ideal) f7 y := by
  have h0 : (y 0).val < 1 := (y 0).isLt
  have e0 : k0_off80 t1 0#32 = ![0, 512 * t1.val + 256 * 0] := k0_off80_eq t1 0
  have e1 : k0_off80 t1 256#32 = ![0, 512 * t1.val + 256 * 1] := k0_off80_eq t1 1
  unfold o_norm
  by_cases c1 : 512 * t1.val + 256 ≤ (y 1).val ∧ (y 1).val < 512 * t1.val + 512
  · rw [if_pos ⟨by omega, c1.2⟩]
    refine (View.read_writes_cons_unit_of_mem arg7.view f7 (k0_off80_inb t1 1) _ _ y (show S1x256.Idx from ix2 ⟨(y 0).val, h0⟩ ⟨(y 1).val - (512 * t1.val + 256), by omega⟩) e1 ?_).trans ((n1_val c arg0 harg0 arg1 harg1 arg2 harg2 arg3 harg3 arg4 harg4 arg5 harg5 arg7 harg7 t1 s f0 f1 f2 f3 f4 f5 f7 f6 hs _).trans ?_)
    · intro a; fin_cases a
      · show (y 0).val = 0 + (y 0).val
        omega
      · show (y 1).val = 512 * t1.val + 256 * 1 + ((y 1).val - (512 * t1.val + 256))
        omega
    · show (nS (vA c arg2 f2) (wA c arg0 f0 f6) (vH c arg3 f3) (vU c arg4 f4)) (512 * t1.val + 256 * 1 + ((y 1).val - (512 * t1.val + 256))) = _
      congr 1; omega
  refine (View.read_writes_cons_unit_of_not_mem arg7.view f7 (k0_off80_inb t1 1) _ _ y e1 1 ?_).trans ?_
  · show (y 1).val < 512 * t1.val + 256 * 1 ∨ 512 * t1.val + 256 * 1 + 256 ≤ (y 1).val
    omega
  by_cases c0 : 512 * t1.val ≤ (y 1).val ∧ (y 1).val < 512 * t1.val + 256
  · rw [if_pos ⟨c0.1, by omega⟩]
    refine (View.read_writes_cons_unit_of_mem arg7.view f7 (k0_off80_inb t1 0) _ _ y (show S1x256.Idx from ix2 ⟨(y 0).val, h0⟩ ⟨(y 1).val - 512 * t1.val, by omega⟩) e0 ?_).trans ((n0_val c arg0 harg0 arg1 harg1 arg2 harg2 arg3 harg3 arg4 harg4 arg5 harg5 arg7 harg7 t1 s f0 f1 f2 f3 f4 f5 f7 f6 hs _).trans ?_)
    · intro a; fin_cases a
      · show (y 0).val = 0 + (y 0).val
        omega
      · show (y 1).val = 512 * t1.val + 256 * 0 + ((y 1).val - 512 * t1.val)
        omega
    · show (nS (vA c arg2 f2) (wA c arg0 f0 f6) (vH c arg3 f3) (vU c arg4 f4)) (512 * t1.val + 256 * 0 + ((y 1).val - 512 * t1.val)) = _
      congr 1; omega
  refine (View.read_writes_cons_unit_of_not_mem arg7.view f7 (k0_off80_inb t1 0) _ _ y e0 1 ?_).trans ?_
  · show (y 1).val < 512 * t1.val + 256 * 0 ∨ 512 * t1.val + 256 * 0 + 256 ≤ (y 1).val
    omega
  rw [if_neg (by omega)]
  rfl

set_option maxHeartbeats 1600000 in
/-- The slot of the result after a step. -/
theorem slot_step (f12 : MBuf (F := Ideal) c ybufM) (i : S256x512.Idx) : ((slotY t1.val).view.read (Elt Ideal) (o_ybuf c arg0 harg0 arg1 harg1 arg2 harg2 arg3 harg3 arg4 harg4 arg5 harg5 arg7 harg7 t1 s f0 f1 f2 f3 f4 f5 f7 f6 f12) i : EReal) = (oS (vX c arg1 f1) (vA c arg2 f2) (wA c arg0 f0 f6) (vH c arg3 f3) (vU c arg4 f4) (vM c arg5 f5)) (i 0).val (512 * t1.val + (i 1).val) := by
  have h0 : (i 0).val < 256 := (i 0).isLt
  have h1 : (i 1).val < 512 := (i 1).isLt
  obtain ⟨y, y0, y1, y2, e⟩ : ∃ y : S2x256x512.Idx, (y 0).val = t1.val % 2 ∧ (y 1).val = (i 0).val ∧ (y 2).val = (i 1).val ∧ (slotY t1.val).view.emb i = ybufM.view.emb y := by
    refine ⟨ix3 ⟨t1.val % 2, Nat.mod_lt _ (by decide)⟩ ⟨(i 0).val, h0⟩ ⟨(i 1).val, h1⟩, rfl, rfl, rfl, ?_⟩
    show ybufM.view.emb ((Rect.unit (s := S2x256x512) ![t1.val % 2, 0, 0] S1x256x512.size (yslot_inb t1.val)).emb (Shape.reshapeEquiv _ i)) = _
    rw [Shape.reshapeEquiv_cons_one]
    congr 1
    funext a; apply Fin.ext; fin_cases a
    · show t1.val % 2 + 1 * 0 = t1.val % 2
      omega
    · show 0 + 1 * (i 0).val = (i 0).val
      omega
    · show 0 + 1 * (i 1).val = (i 1).val
      omega
  have e' : (slotY t1.val).view.read (Elt Ideal) (o_ybuf c arg0 harg0 arg1 harg1 arg2 harg2 arg3 harg3 arg4 harg4 arg5 harg5 arg7 harg7 t1 s f0 f1 f2 f3 f4 f5 f7 f6 f12) i = ybufM.view.read (Elt Ideal) (o_ybuf c arg0 harg0 arg1 harg1 arg2 harg2 arg3 harg3 arg4 harg4 arg5 harg5 arg7 harg7 t1 s f0 f1 f2 f3 f4 f5 f7 f6 f12) y := congrArg (o_ybuf c arg0 harg0 arg1 harg1 arg2 harg2 arg3 harg3 arg4 harg4 arg5 harg5 arg7 harg7 t1 s f0 f1 f2 f3 f4 f5 f7 f6 f12) e
  refine Eq.trans e' ?_
  by_cases c1 : 256 ≤ (i 1).val
  · let x : S1x256x256.Idx := ix3 ⟨0, Nat.one_pos⟩ ⟨(i 0).val, h0⟩ ⟨(i 1).val - 256, by omega⟩
    refine (View.read_writes_cons_unit_of_mem ybufM.view f12 (k0_off82_inb t1) _ _ y x (k0_off82_eq t1) ?_).trans ((s1_val c arg0 harg0 arg1 harg1 arg2 harg2 arg3 harg3 arg4 harg4 arg5 harg5 arg7 harg7 t1 s f0 f1 f2 f3 f4 f5 f7 f6 hs x).trans ?_)
    · intro a; fin_cases a
      · show (y 0).val = t1.val % 2 + 0
        omega
      · show (y 1).val = 0 + (i 0).val
        omega
      · show (y 2).val = 256 + ((i 1).val - 256)
        omega
    · show (oS (vX c arg1 f1) (vA c arg2 f2) (wA c arg0 f0 f6) (vH c arg3 f3) (vU c arg4 f4) (vM c arg5 f5)) (i 0).val (512 * t1.val + 256 * 1 + ((i 1).val - 256)) = _
      rw [show 512 * t1.val + 256 * 1 + ((i 1).val - 256) = 512 * t1.val + (i 1).val by omega]
  refine (View.read_writes_cons_unit_of_not_mem ybufM.view f12 (k0_off82_inb t1) _ _ y (k0_off82_eq t1) 2 (Or.inl (by show (y 2).val < 256; omega))).trans ?_
  let x : S1x256x256.Idx := ix3 ⟨0, Nat.one_pos⟩ ⟨(i 0).val, h0⟩ ⟨(i 1).val, by omega⟩
  refine (View.read_writes_cons_unit_of_mem ybufM.view f12 (k0_off81_inb t1) _ _ y x (k0_off81_eq t1) ?_).trans ((s0_val c arg0 harg0 arg1 harg1 arg2 harg2 arg3 harg3 arg4 harg4 arg5 harg5 arg7 harg7 t1 s f0 f1 f2 f3 f4 f5 f7 f6 hs x).trans ?_)
  · intro a; fin_cases a
    · show (y 0).val = t1.val % 2 + 0
      omega
    · show (y 1).val = 0 + (i 0).val
      omega
    · show (y 2).val = 0 + (i 1).val
      omega
  · show (oS (vX c arg1 f1) (vA c arg2 f2) (wA c arg0 f0 f6) (vH c arg3 f3) (vU c arg4 f4) (vM c arg5 f5)) (i 0).val (512 * t1.val + 256 * 0 + (i 1).val) = _
    rw [show 512 * t1.val + 256 * 0 + (i 1).val = 512 * t1.val + (i 1).val by omega]

end

variable (f0 : MBuf (F := Ideal) c arg0) (f1 : MBuf (F := Ideal) c arg1) (f2 : MBuf (F := Ideal) c arg2) (f3 : MBuf (F := Ideal) c arg3) (f4 : MBuf (F := Ideal) c arg4) (f5 : MBuf (F := Ideal) c arg5) (f7 : MBuf (F := Ideal) c arg7) (f6 : MBuf (F := Ideal) c wM)

/-- The norms after a number of steps. -/
theorem norm_val : ∀ k, k ≤ 14 → ∀ y : S1x7168.Idx, (y 1).val < 512 * k → (arg7.view.read (Elt Ideal) (outerSt c arg0 harg0 arg1 harg1 arg2 harg2 arg3 harg3 arg4 harg4 arg5 harg5 arg7 harg7 f0 f1 f2 f3 f4 f5 f7 f6 k).2 y : EReal) = (nS (vA c arg2 f2) (wA c arg0 f0 f6) (vH c arg3 f3) (vU c arg4 f4)) (y 1).val
  | 0, _, y, hy => absurd hy (by omega)
  | k + 1, hk, y, hy => by
    have hk' : k < k0_t1_loop.trips := hk
    rw [show outerSt c arg0 harg0 arg1 harg1 arg2 harg2 arg3 harg3 arg4 harg4 arg5 harg5 arg7 harg7 f0 f1 f2 f3 f4 f5 f7 f6 (k + 1) = _ from outerSt_succ c arg0 harg0 arg1 harg1 arg2 harg2 arg3 harg3 arg4 harg4 arg5 harg5 arg7 harg7 f0 f1 f2 f3 f4 f5 f7 f6 ⟨k, hk'⟩]
    refine (norm_step c arg0 harg0 arg1 harg1 arg2 harg2 arg3 harg3 arg4 harg4 arg5 harg5 arg7 harg7 ⟨k, hk'⟩ _ f0 f1 f2 f3 f4 f5 _ f6 (outerSt_drained c arg0 harg0 arg1 harg1 arg2 harg2 arg3 harg3 arg4 harg4 arg5 harg5 arg7 harg7 f0 f1 f2 f3 f4 f5 f7 f6 k) y).trans ?_
    show (if 512 * k ≤ (y 1).val ∧ (y 1).val < 512 * k + 512 then _ else _) = _
    by_cases h : 512 * k ≤ (y 1).val
    · rw [if_pos ⟨h, by omega⟩]
    · rw [if_neg (by omega)]
      exact norm_val k (by omega) y (by omega)

/-- What a step leaves in its slot. -/
theorem Yv_val (k : ℕ) (hk : k < 14) (i : S256x512.Idx) : (Yv c arg0 harg0 arg1 harg1 arg2 harg2 arg3 harg3 arg4 harg4 arg5 harg5 arg7 harg7 f0 f1 f2 f3 f4 f5 f7 f6 k i : EReal) = (oS (vX c arg1 f1) (vA c arg2 f2) (wA c arg0 f0 f6) (vH c arg3 f3) (vU c arg4 f4) (vM c arg5 f5)) (i 0).val (512 * k + (i 1).val) := by
  have hk' : k < k0_t1_loop.trips := hk
  rw [Yv, dif_pos hk']
  exact slot_step c arg0 harg0 arg1 harg1 arg2 harg2 arg3 harg3 arg4 harg4 arg5 harg5 arg7 harg7 ⟨k, hk'⟩ _ f0 f1 f2 f3 f4 f5 _ f6 (outerSt_drained c arg0 harg0 arg1 harg1 arg2 harg2 arg3 harg3 arg4 harg4 arg5 harg5 arg7 harg7 f0 f1 f2 f3 f4 f5 f7 f6 k) _ i

end Cert.KernelIdeal.Hand
-- ==== Proof.KI.VArr.lean ====
/-
  The two results as functions of the call's arrays.
-/
module

public import proofs.«01_k».proof.Proof.KI.VSpec

@[expose] public section

set_option maxRecDepth 8192

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped BigOperators

/-- A vector at its coordinate, as one row, zero outside. -/
def nf1 {m : ℕ} (x : (⟨1, ![m]⟩ : Shape).Idx → EReal) : NF := fun _ o => if h : o < m then x (ix1 ⟨o, h⟩) else 0

theorem nf1_apply {m : ℕ} (x : (⟨1, ![m]⟩ : Shape).Idx → EReal) (i : (⟨1, ![m]⟩ : Shape).Idx) (r o : ℕ) (ho : (i 0).val = o) : nf1 x r o = x i := by
  subst ho
  have h0 : (i 0).val < m := (i 0).isLt
  unfold nf1
  rw [dif_pos h0]
  congr 1
  funext a; fin_cases a; rfl

/-- The norms, as a function of the call's arrays. -/
def specN (a0 : S144x56.Idx → EReal) (a2 : S72x64x256.Idx → EReal) (a3 : S320x256.Idx → EReal) (a4 : S64x7168.Idx → EReal) (a6 : S18432x7168.Idx → EReal) : S1x7168.Idx → EReal := fun y =>
  nS (xr (n := 72) (m := 64) a2) (wv (nf (n := 18432) (m := 7168) a6) (nf (n := 144) (m := 56) a0)) (nf (n := 320) (m := 256) a3) (nf (n := 64) (m := 7168) a4) (y 1).val

/-- The result, as a function of the call's arrays. -/
def specY (a0 : S144x56.Idx → EReal) (a1 : S72x256x256.Idx → EReal) (a2 : S72x64x256.Idx → EReal) (a3 : S320x256.Idx → EReal) (a4 : S64x7168.Idx → EReal) (a5 : S7168.Idx → EReal) (a6 : S18432x7168.Idx → EReal) :
    S256x7168.Idx → EReal := fun y =>
  oS (xr (n := 72) (m := 256) a1) (xr (n := 72) (m := 64) a2) (wv (nf (n := 18432) (m := 7168) a6) (nf (n := 144) (m := 56) a0)) (nf (n := 320) (m := 256) a3) (nf (n := 64) (m := 7168) a4) (nf1 (m := 7168) a5) (y 0).val (y 1).val

end Cert.KernelIdeal.Hand
-- ==== Proof.KI.VRun.lean ====
/-
  The run of the call with its two results named.
-/
module

public import proofs.«01_k».proof.Proof.KI.VOuter
public import proofs.«01_k».proof.Proof.KI.VArr
public import proofs.«01_k».proof.Proof.KI.Frame
public import Idealize.ShloMosaic.Lib.Pipeline.FrameValue

@[expose] public section

set_option maxRecDepth 8192

noncomputable section

namespace Cert.KernelIdeal.HandV

open Cert.KernelIdeal Cert.KernelIdeal.Gen Cert.KernelIdeal.Hand
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

/-- The proof's user algebra: the pipeline library's beside the transfers' counters. -/
local notation "𝕄" => MT nD τ sig Unit (Elt Ideal) ℕ (Pipeline.UD sig nD τ) ℕ

variable (m : (ℓ : Loc nD τ sig) → Buf (Elt Ideal) ℓ) (ρ : Dev nD → PrngReg)

/-! ## Windows: each block is its whole array -/

theorem emb0 (t : Fin cfg0.N) (j : S144x56.Idx) : ((cfg0.win 0).blk t).view.emb j = j := by
  have hz : ∀ t : Fin cfg0.N, ∀ a, win0_0.index t a = 0 := (by decide +kernel : ∀ t : Fin grid0.N, ∀ a : Fin 2, win0_0.index t a = 0)
  funext a; apply Fin.ext
  have := hz t a
  show win0_0.index t a * _ + 1 * (j a).val = (j a).val
  rw [this]; omega

theorem emb1 (t : Fin cfg0.N) (j : S72x256x256.Idx) : ((cfg0.win 1).blk t).view.emb j = j := by
  have hz : ∀ t : Fin cfg0.N, ∀ a, win0_1.index t a = 0 := (by decide +kernel : ∀ t : Fin grid0.N, ∀ a : Fin 3, win0_1.index t a = 0)
  funext a; apply Fin.ext
  have := hz t a
  show win0_1.index t a * _ + 1 * (j a).val = (j a).val
  rw [this]; omega

theorem emb2 (t : Fin cfg0.N) (j : S72x64x256.Idx) : ((cfg0.win 2).blk t).view.emb j = j := by
  have hz : ∀ t : Fin cfg0.N, ∀ a, win0_2.index t a = 0 := (by decide +kernel : ∀ t : Fin grid0.N, ∀ a : Fin 3, win0_2.index t a = 0)
  funext a; apply Fin.ext
  have := hz t a
  show win0_2.index t a * _ + 1 * (j a).val = (j a).val
  rw [this]; omega

theorem emb3 (t : Fin cfg0.N) (j : S320x256.Idx) : ((cfg0.win 3).blk t).view.emb j = j := by
  have hz : ∀ t : Fin cfg0.N, ∀ a, win0_3.index t a = 0 := (by decide +kernel : ∀ t : Fin grid0.N, ∀ a : Fin 2, win0_3.index t a = 0)
  funext a; apply Fin.ext
  have := hz t a
  show win0_3.index t a * _ + 1 * (j a).val = (j a).val
  rw [this]; omega

theorem emb4 (t : Fin cfg0.N) (j : S64x7168.Idx) : ((cfg0.win 4).blk t).view.emb j = j := by
  have hz : ∀ t : Fin cfg0.N, ∀ a, win0_4.index t a = 0 := (by decide +kernel : ∀ t : Fin grid0.N, ∀ a : Fin 2, win0_4.index t a = 0)
  funext a; apply Fin.ext
  have := hz t a
  show win0_4.index t a * _ + 1 * (j a).val = (j a).val
  rw [this]; omega

theorem emb5 (t : Fin cfg0.N) (j : S1x7168.Idx) : ((cfg0.win 5).blk t).view.emb j = j := by
  have hz : ∀ t : Fin cfg0.N, ∀ a, win0_5.index t a = 0 := (by decide +kernel : ∀ t : Fin grid0.N, ∀ a : Fin 2, win0_5.index t a = 0)
  funext a; apply Fin.ext
  have := hz t a
  show win0_5.index t a * _ + 1 * (j a).val = (j a).val
  rw [this]; omega

theorem emb6 (t : Fin cfg0.N) (j : S1x7168.Idx) : ((cfg0.win 6).blk t).view.emb j = j := by
  have hz : ∀ t : Fin cfg0.N, ∀ a, win0_6.index t a = 0 := (by decide +kernel : ∀ t : Fin grid0.N, ∀ a : Fin 2, win0_6.index t a = 0)
  funext a; apply Fin.ext
  have := hz t a
  show win0_6.index t a * _ + 1 * (j a).val = (j a).val
  rw [this]; omega

theorem iblk0 (c : Dev nD) (t : Fin cfg0.N) : iblk m c 0 t = V m c main_arg0 := by
  funext j; show V m c main_arg0 (((cfg0.win 0).blk t).view.emb j) = V m c main_arg0 j; rw [emb0]

theorem iblk1 (c : Dev nD) (t : Fin cfg0.N) : iblk m c 1 t = V m c main_arg1 := by
  funext j; show V m c main_arg1 (((cfg0.win 1).blk t).view.emb j) = V m c main_arg1 j; rw [emb1]

theorem iblk2 (c : Dev nD) (t : Fin cfg0.N) : iblk m c 2 t = V m c main_arg2 := by
  funext j; show V m c main_arg2 (((cfg0.win 2).blk t).view.emb j) = V m c main_arg2 j; rw [emb2]

theorem iblk3 (c : Dev nD) (t : Fin cfg0.N) : iblk m c 3 t = V m c main_arg3 := by
  funext j; show V m c main_arg3 (((cfg0.win 3).blk t).view.emb j) = V m c main_arg3 j; rw [emb3]

theorem iblk4 (c : Dev nD) (t : Fin cfg0.N) : iblk m c 4 t = V m c main_arg4 := by
  funext j; show V m c main_arg4 (((cfg0.win 4).blk t).view.emb j) = V m c main_arg4 j; rw [emb4]

theorem iblk5 (c : Dev nD) (t : Fin cfg0.N) : iblk m c 5 t = V m c main_v0 := by
  funext j; show V m c main_v0 (((cfg0.win 5).blk t).view.emb j) = V m c main_v0 j; rw [emb5]

/-- The magnitudes as the call finds them: one row. -/
theorem V_main_v0 (c : Dev nD) : V m c main_v0 = shapeCast S1x7168 (m ((c.tc : Thread nD τ).loc main_arg5)) shapeCasts_S7168_S1x7168 := by
  entry_read; rfl

theorem mag_val (c : Dev nD) (o : ℕ) (ho : o < 7168) : nf (n := 1) (m := 7168) (V m c main_v0) 0 o = nf1 (m := 7168) (m ((c.tc : Thread nD τ).loc main_arg5)) 0 o := by
  rw [nf_apply (n := 1) (m := 7168) (V m c main_v0) (ix2 ⟨0, Nat.one_pos⟩ ⟨o, ho⟩) 0 o rfl rfl, nf1_apply (m := 7168) _ (ix1 ⟨o, ho⟩) 0 o rfl, V_main_v0]
  refine shapeCast_apply (s := ⟨1, ![7168]⟩) (t := ⟨2, ![1, 7168]⟩) _ _ _ _ ?_
  rw [Shape.rowMajor_val_one, Shape.rowMajor_val_two]
  show o = 0 * 7168 + o
  omega

/-- The norms and the result of the launch's arrays. -/
def rN (c : Dev nD) : S1x7168.Idx → EReal :=
  specN (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg6))
def rY (c : Dev nD) : S256x7168.Idx → EReal :=
  specY (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))

/-- What the written buffer holds at the end. -/
def G (c : Dev nD) (b : Ref sig .tc) : Buf (Elt Ideal) ((c.tc : Thread nD τ).loc b) :=
  Function.update (β := fun b : Ref sig .tc => Buf (Elt Ideal) ((c.tc : Thread nD τ).loc b)) (V m c) main_v1_1 (rY m c) b

theorem G_eq (c : Dev nD) : G m c main_v1_1 = rY m c := Function.update_self ..

section
variable (c : Dev nD) (arg0 : Memref sig .tc .smem S144x56 .f32) (harg0 : arg0.IsWhole) (arg1 : Memref sig .tc .vmem S72x256x256 .bf16) (harg1 : arg1.IsWhole) (arg2 : Memref sig .tc .vmem S72x64x256 .bf16) (harg2 : arg2.IsWhole) (arg3 : Memref sig .tc .vmem S320x256 .bf16) (harg3 : arg3.IsWhole) (arg4 : Memref sig .tc .vmem S64x7168 .bf16) (harg4 : arg4.IsWhole) (arg5 : Memref sig .tc .vmem S1x7168 .f32) (harg5 : arg5.IsWhole) (arg7 : Memref sig .tc .vmem S1x7168 .f32) (harg7 : arg7.IsWhole) (f0 : MBuf (F := Ideal) c arg0) (f1 : MBuf (F := Ideal) c arg1) (f2 : MBuf (F := Ideal) c arg2) (f3 : MBuf (F := Ideal) c arg3) (f4 : MBuf (F := Ideal) c arg4) (f5 : MBuf (F := Ideal) c arg5) (f7 : MBuf (F := Ideal) c arg7)
  (e0 : arg0.view.read (Elt Ideal) f0 = V m c main_arg0) (e1 : arg1.view.read (Elt Ideal) f1 = V m c main_arg1) (e2 : arg2.view.read (Elt Ideal) f2 = V m c main_arg2) (e3 : arg3.view.read (Elt Ideal) f3 = V m c main_arg3) (e4 : arg4.view.read (Elt Ideal) f4 = V m c main_arg4) (e5 : arg5.view.read (Elt Ideal) f5 = V m c main_v0)
include e0 e1 e2 e3 e4 e5

theorem norm_spec : arg7.view.read (Elt Ideal) (outerSt c arg0 harg0 arg1 harg1 arg2 harg2 arg3 harg3 arg4 harg4 arg5 harg5 arg7 harg7 f0 f1 f2 f3 f4 f5 f7 (V m c main_arg6) 14).2 = rN m c := by
  funext y
  have h1 : (y 1).val < 7168 := (y 1).isLt
  refine (norm_val c arg0 harg0 arg1 harg1 arg2 harg2 arg3 harg3 arg4 harg4 arg5 harg5 arg7 harg7 f0 f1 f2 f3 f4 f5 f7 (V m c main_arg6) 14 le_rfl y (by omega)).trans ?_
  unfold vA wA vH vU
  rw [e0, e2, e3, e4, V_main_arg0, V_main_arg2, V_main_arg3, V_main_arg4, V_main_arg6]
  rfl

theorem y_spec : yOut c arg0 harg0 arg1 harg1 arg2 harg2 arg3 harg3 arg4 harg4 arg5 harg5 arg7 harg7 f0 f1 f2 f3 f4 f5 f7 (V m c main_arg6) = rY m c := by
  funext y
  have h1 : ((show S256x7168.Idx from y) 1).val < 7168 := ((show S256x7168.Idx from y) 1).isLt
  refine (Yv_val c arg0 harg0 arg1 harg1 arg2 harg2 arg3 harg3 arg4 harg4 arg5 harg5 arg7 harg7 f0 f1 f2 f3 f4 f5 f7 (V m c main_arg6) (ygrp y) (by show ((show S256x7168.Idx from y) 1).val / 512 < 14; omega) (yloc y)).trans ?_
  have e : 512 * (ygrp y) + ((yloc y) 1).val = ((show S256x7168.Idx from y) 1).val := by
    show 512 * (((show S256x7168.Idx from y) 1).val / 512) + ((show S256x7168.Idx from y) 1).val % 512 = _
    omega
  rw [e]
  unfold vX vA wA vH vU vM oS
  rw [e0, e1, e2, e3, e4, e5, mag_val m c _ h1, V_main_arg0, V_main_arg1, V_main_arg2, V_main_arg3, V_main_arg4, V_main_arg6]
  rfl
end

/-! ## The proof data -/

theorem routed0_eq (c : Dev nD) (W : (b : Ref sig .tc) → Buf (Elt Ideal) ((c.tc : Thread nD τ).loc b)) :
    (Pipeline.routed R0 c W : sProp 𝕄) = iprop(yM.view.loc (c : Thread nD τ) ↦[Finset.univ]{fullShare} W main_v1_1) := by
  unfold Pipeline.routed R0; rw [BI.bigSep_singleton]

theorem PhiDRG0_eq (V' : (c : Dev nD) → (b : Ref sig .tc) → Buf (Elt Ideal) ((c.tc : Thread nD τ).loc b)) (c : Dev nD) :
    (Pipeline.ΦDRG osem0 spec0 H0 R0 (V m) V' c : sProp 𝕄)
      = iprop(iprop((∃ f : MBuf (F := Ideal) c ringM, ringM.view.loc (c : Thread nD τ) ↦[Finset.univ]{fullShare} f)
          ∗ (∃ f : MBuf (F := Ideal) c ssqM, ssqM.view.loc (c : Thread nD τ) ↦[ssqM.view.set]{fullShare} f)
          ∗ (∃ f : MBuf (F := Ideal) c ybufM, ybufM.view.loc (c : Thread nD τ) ↦[Finset.univ]{fullShare} f))
        ∗ (∃ r, prngReg c r)
        ∗ iprop(semVal ((c : Thread nD τ), SemLoc.dma (cellB 0)) 0 ∗ semVal ((c : Thread nD τ), SemLoc.dma (cellB 1)) 0
          ∗ semVal ((c : Thread nD τ), SemLoc.dma (cellB 2)) 0 ∗ semVal ((c : Thread nD τ), SemLoc.dma (cellB 3)) 0
          ∗ semVal ((c : Thread nD τ), SemLoc.dma (cellY 0)) 0 ∗ semVal ((c : Thread nD τ), SemLoc.dma (cellY 1)) 0)
        ∗ (wM.view.loc (c : Thread nD τ) ↦[Finset.univ]{fullShare} V m c main_arg6)
        ∗ (yM.view.loc (c : Thread nD τ) ↦[Finset.univ]{fullShare} V' c main_v1_1)) := by
  rw [Pipeline.ΦDRG_eq, scopedRest0_eq', ownSems00_eq, hbmPts0_eq, routed0_eq]

/-- The proof data: arrays as the call finds them, blocks left in place, nothing owed. -/
def datsV (_ : Fin 1) (c : Dev nD) : Dat τ (Elt Ideal) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => rN m c
  Φ t := if t.val = 0 then Pipeline.ΦDRG osem0 spec0 H0 R0 (V m) (V m) c else Pipeline.ΦDRG osem0 spec0 H0 R0 (V m) (G m) c
  q _ := fullShare
  owed _ := 0

theorem A_eq (c : Dev nD) (w : Fin cfg0.W) : (datsV m 0 c).A w = V m c (Pipeline.arrRef spec0 w) := by
  dsimp only [datsV]
theorem after0_0 (c : Dev nD) (t : Fin cfg0.N) : (datsV m 0 c).after 0 t = iblk m c 0 t := by dsimp only [datsV]
theorem before0_0 (c : Dev nD) (t : Fin cfg0.N) (d) : (datsV m 0 c).before 0 t d = iblk m c 0 t :=
  ((datsV m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem after0_1 (c : Dev nD) (t : Fin cfg0.N) : (datsV m 0 c).after 1 t = iblk m c 1 t := by dsimp only [datsV]
theorem before0_1 (c : Dev nD) (t : Fin cfg0.N) (d) : (datsV m 0 c).before 1 t d = iblk m c 1 t :=
  ((datsV m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem after0_2 (c : Dev nD) (t : Fin cfg0.N) : (datsV m 0 c).after 2 t = iblk m c 2 t := by dsimp only [datsV]
theorem before0_2 (c : Dev nD) (t : Fin cfg0.N) (d) : (datsV m 0 c).before 2 t d = iblk m c 2 t :=
  ((datsV m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem after0_3 (c : Dev nD) (t : Fin cfg0.N) : (datsV m 0 c).after 3 t = iblk m c 3 t := by dsimp only [datsV]
theorem before0_3 (c : Dev nD) (t : Fin cfg0.N) (d) : (datsV m 0 c).before 3 t d = iblk m c 3 t :=
  ((datsV m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem after0_4 (c : Dev nD) (t : Fin cfg0.N) : (datsV m 0 c).after 4 t = iblk m c 4 t := by dsimp only [datsV]
theorem before0_4 (c : Dev nD) (t : Fin cfg0.N) (d) : (datsV m 0 c).before 4 t d = iblk m c 4 t :=
  ((datsV m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem after0_5 (c : Dev nD) (t : Fin cfg0.N) : (datsV m 0 c).after 5 t = iblk m c 5 t := by dsimp only [datsV]
theorem before0_5 (c : Dev nD) (t : Fin cfg0.N) (d) : (datsV m 0 c).before 5 t d = iblk m c 5 t :=
  ((datsV m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)

theorem after0_6 (c : Dev nD) (t : Fin cfg0.N) : (datsV m 0 c).after 6 t = rN m c := by dsimp only [datsV]

/-- What the body is called with, the windows one by one, -/
def bodyPre (c : Dev nD) (t : Fin cfg0.N) : sProp 𝕄 :=
  iprop((datsV m 0 c).Φ t.castSucc ∗ (datsV m 0 c).owesAt () t.castSucc
    ∗ (∃ d, owns (c : Thread nD τ) (st0_0 t) fullShare ((datsV m 0 c).before 0 t d))
    ∗ (∃ d, owns (c : Thread nD τ) (st0_1 t) fullShare ((datsV m 0 c).before 1 t d))
    ∗ (∃ d, owns (c : Thread nD τ) (st0_2 t) fullShare ((datsV m 0 c).before 2 t d))
    ∗ (∃ d, owns (c : Thread nD τ) (st0_3 t) fullShare ((datsV m 0 c).before 3 t d))
    ∗ (∃ d, owns (c : Thread nD τ) (st0_4 t) fullShare ((datsV m 0 c).before 4 t d))
    ∗ (∃ d, owns (c : Thread nD τ) (st0_5 t) fullShare ((datsV m 0 c).before 5 t d))
    ∗ (∃ d, owns (c : Thread nD τ) (st0_6 t) fullShare ((datsV m 0 c).before 6 t d)))
/-- and what it returns. -/
def bodyPost (c : Dev nD) (t : Fin cfg0.N) : sProp 𝕄 :=
  iprop((datsV m 0 c).Φ t.succ ∗ (datsV m 0 c).owesAt () t.succ
    ∗ (datsV m 0 c).leavesExact 0 t
    ∗ (datsV m 0 c).leavesExact 1 t
    ∗ (datsV m 0 c).leavesExact 2 t
    ∗ (datsV m 0 c).leavesExact 3 t
    ∗ (datsV m 0 c).leavesExact 4 t
    ∗ (datsV m 0 c).leavesExact 5 t
    ∗ (datsV m 0 c).leavesExact 6 t)

theorem leaves (c : Dev nD) (t : Fin cfg0.N) (w : Fin cfg0.W) (h : cfg0.idle w (cfg0.grid.coords t) = false) :
    (datsV m 0 c).leavesExact w t = (owns (c : Thread nD τ) ((cfg0.win w).stage (cfg0.slots t w)) fullShare ((datsV m 0 c).after w t) : sProp 𝕄) := by
  unfold Dat.leavesExact; rw [h]

theorem Φ_castSucc (c : Dev nD) (t : Fin cfg0.N) : (datsV m 0 c).Φ t.castSucc = Pipeline.ΦDRG osem0 spec0 H0 R0 (V m) (V m) c := by
  have h1 : t.val < 1 := t.isLt
  have h : t.castSucc.val = 0 := by show t.val = 0; omega
  dsimp only [datsV]
  rw [if_pos h]

theorem Φ_succ (c : Dev nD) (t : Fin cfg0.N) : (datsV m 0 c).Φ t.succ = Pipeline.ΦDRG osem0 spec0 H0 R0 (V m) (G m) c := by
  have h : ¬ t.succ.val = 0 := Nat.succ_ne_zero _
  dsimp only [datsV]
  rw [if_neg h]

set_option maxHeartbeats 1600000 in
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  rw [leaves m c t 0 rfl, after0_0]
  rw [leaves m c t 1 rfl, after0_1]
  rw [leaves m c t 2 rfl, after0_2]
  rw [leaves m c t 3 rfl, after0_3]
  rw [leaves m c t 4 rfl, after0_4]
  rw [leaves m c t 5 rfl, after0_5]
  rw [leaves m c t 6 rfl, after0_6]
  simp only [before0_0, before0_1, before0_2, before0_3, before0_4, before0_5]
  rw [Φ_succ, Φ_castSucc, PhiDRG0_eq, PhiDRG0_eq, G_eq]
  unfold Dat.owesAt Pipeline.owesWithin
  rw [show (datsV m 0 c).owed t.castSucc = 0 from rfl, show (datsV m 0 c).owed t.succ = 0 from rfl]
  unfold owns
  iintro ⟨⟨⟨HS0, HS1, HS2⟩, Hg, ⟨Hq0, Hq1, Hq2, Hq3, Hq4, Hq5⟩, Hw, Hy⟩, ⟨%W, -, HW⟩, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩⟩
  iapply (cc0_run c (st0_0 t) (hstage0_0 0) (st0_1 t) (hstage0_1 0) (st0_2 t) (hstage0_2 0) (st0_3 t) (hstage0_3 0) (st0_4 t) (hstage0_4 0) (st0_5 t) (hstage0_5 0) (st0_6 t) (hstage0_6 0) f0 f1 f2 f3 f4 f5 f6 (V m c main_arg6) (V m c main_v1_1))
  isplitl [HS0]; · iexact HS0
  isplitl [HS1]; · iexact HS1
  isplitl [HS2]; · iexact HS2
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hw]; · iexact Hw
  isplitl [Hy]; · iexact Hy
  isplitl [HW]; · iexists W; iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨HS0, HS1, HS2, Hq0, Hq1, Hq2, Hq3, Hq4, Hq5, Hw, Hy, ⟨%W', HW'⟩, H0, H1, H2, H3, H4, H5, H6⟩
  isplitl [HS0 HS1 HS2 Hg Hq0 Hq1 Hq2 Hq3 Hq4 Hq5 Hw Hy]
  · isplitl [HS0 HS1 HS2]
    · isplitl [HS0]; · iexact HS0
      isplitl [HS1]; · iexact HS1
      iexact HS2
    isplitl [Hg]; · iexact Hg
    isplitl [Hq0 Hq1 Hq2 Hq3 Hq4 Hq5]
    · isplitl [Hq0]; · iexact Hq0
      isplitl [Hq1]; · iexact Hq1
      isplitl [Hq2]; · iexact Hq2
      isplitl [Hq3]; · iexact Hq3
      isplitl [Hq4]; · iexact Hq4
      iexact Hq5
    isplitl [Hw]; · iexact Hw
    rw [y_spec m c (st0_0 t) (hstage0_0 0) (st0_1 t) (hstage0_1 0) (st0_2 t) (hstage0_2 0) (st0_3 t) (hstage0_3 0) (st0_4 t) (hstage0_4 0) (st0_5 t) (hstage0_5 0) (st0_6 t) (hstage0_6 0) f0 f1 f2 f3 f4 f5 f6 (e0.trans (iblk0 m c t)) (e1.trans (iblk1 m c t)) (e2.trans (iblk2 m c t)) (e3.trans (iblk3 m c t)) (e4.trans (iblk4 m c t)) (e5.trans (iblk5 m c t))]
    iexact Hy
  isplitl [HW']
  · iexists W'; isplitr; · ipureintro; exact fun _ _ => Or.inl trivial
    iexact HW'
  isplitl [H0]
  · iexists f0; isplitr; · ipureintro; exact e0
    iexact H0
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  iexists _; isplitr
  swap; · iexact H6
  ipureintro
  exact norm_spec m c (st0_0 t) (hstage0_0 0) (st0_1 t) (hstage0_1 0) (st0_2 t) (hstage0_2 0) (st0_3 t) (hstage0_3 0) (st0_4 t) (hstage0_4 0) (st0_5 t) (hstage0_5 0) (st0_6 t) (hstage0_6 0) f0 f1 f2 f3 f4 f5 f6 (e0.trans (iblk0 m c t)) (e1.trans (iblk1 m c t)) (e2.trans (iblk2 m c t)) (e3.trans (iblk3 m c t)) (e4.trans (iblk4 m c t)) (e5.trans (iblk5 m c t))

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (datsV m 0 c) (defs₀ (F := Ideal)) Variants.none () Set.univ := fun t => by
  rw [bigSep_W0, bigSep_W0, defs₀_row]
  exact triple_restated (sound_body m c t) rfl .rfl fun _ => .rfl

/-! ## The run and the frame -/

set_option backward.isDefEq.respectTransparency.types false in
theorem run_main : θ_run defs (onTc (τ := τ) (main (F := Ideal))) (s₀ m ρ) (Pipeline.FramePostRG cfgs (datsV m) 0 R0 (V m) (G m)) :=
  Pipeline.θ_run_frame_dmaRG (Q' := _) cfgs (datsV m) (0 : Fin 1) launch0 osem0 defs₀ Variants.none ownSemFacts0 H0 R0 H0_sub R0_sub m ρ main
    (hbody := fun c => (body_obligation m c).loose) (hshare := fun c => (datsV m 0 c).share_full fun _ => rfl)
    (howed := fun _ _ => rfl) (V := V m) (hmain := hmainD m Variants.none) (hA := A_eq m) (G := G m)
    (hin := fun _ => .rfl) (hout := fun _ => .rfl)

/-! ## The results -/

theorem flushed6 (c : Dev nD) (t : Fin cfg0.N) : (datsV m 0 c).flushed 6 t = ((cfg0.win 6).blk t).view.read (Elt Ideal) (rN m c) := by
  show (cfg0.win 6).cut (grid0.coords t) ((datsV m 0 c).after 6 t) = _
  rw [after0_6]
  funext j
  show rN m c j = rN m c (((cfg0.win 6).blk t).view.emb j)
  rw [emb6]

theorem flush6 : ∀ t : Fin cfg0.N, (cfg0.win 6).flush t = true := (by decide +kernel : ∀ t : Fin grid0.N, (cfg0.win 6).flush t = true)

theorem final6 (c : Dev nD) : (datsV m 0 c).arrAt 6 cfg0.N = rN m c :=
  (datsV m 0 c).arrAt_eq_of_cover 6 (rN m c) (fun t _ => flushed6 m c t) fun i => ⟨(⟨0, by decide⟩ : Fin cfg0.N), flush6 _, by
    have h := ((cfg0.win 6).blk (⟨0, by decide⟩ : Fin cfg0.N)).view.emb_mem_set i; rwa [emb6] at h⟩

theorem rest_mem {b : Ref sig .tc} (h : b ∈ Pipeline.restRefs sig spec0) (h' : b ∉ R0) : b ∈ Pipeline.restRefs sig spec0 \ R0 :=
  Finset.mem_sdiff.mpr ⟨h, h'⟩

/-- The run: the norms and the result are the specification's, the arguments as they were. -/
theorem run : θ_run defs (onTc (τ := τ) (main (F := Ideal))) ⟨m, fun _ => 0, ρ⟩ (fun r => ∀ c : Dev nD,
      r.2.mem ((c.tc : Thread nD τ).loc main_v1_0) = rN m c
      ∧ r.2.mem ((c.tc : Thread nD τ).loc main_v1_1) = rY m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨((h.1 c).1 6).trans (final6 m c), (h.2 c main_v1_1 (by decide)).trans (G_eq m c),
      ((h.1 c).1 0).trans (((datsV m 0 c).arrAt_in 0 rfl _).trans ((A_eq m c 0).trans (V_main_arg0 m c))),
      ((h.1 c).1 1).trans (((datsV m 0 c).arrAt_in 1 rfl _).trans ((A_eq m c 1).trans (V_main_arg1 m c))),
      ((h.1 c).1 2).trans (((datsV m 0 c).arrAt_in 2 rfl _).trans ((A_eq m c 2).trans (V_main_arg2 m c))),
      ((h.1 c).1 3).trans (((datsV m 0 c).arrAt_in 3 rfl _).trans ((A_eq m c 3).trans (V_main_arg3 m c))),
      ((h.1 c).1 4).trans (((datsV m 0 c).arrAt_in 4 rfl _).trans ((A_eq m c 4).trans (V_main_arg4 m c))),
      ((h.1 c).2 main_arg5 (rest_mem (Pipeline.mem_restRefs_of main_arg5 (by decide) (by decide)) (by decide))).trans (V_main_arg5 m c),
      ((h.1 c).2 main_arg6 (rest_mem (Pipeline.mem_restRefs_of main_arg6 (by decide) (by decide)) (by decide))).trans (V_main_arg6 m c)⟩) (run_main m ρ)

end Cert.KernelIdeal.HandV
-- ==== Proof.Ref.lean ====
/-
  The reference's two results, as the same functions of the arrays.
-/
module

public import proofs.«01_k».proof.Proof.KI.VArr
public import proofs.«01_k».proof.Proof.Gen.ReferenceIdeal.Value
public import Idealize.ShloMosaic.Lib.Claim

@[expose] public section

set_option maxRecDepth 8192

noncomputable section

namespace Cert.ReferenceIdeal.HandV

open Cert.ReferenceIdeal Cert.ReferenceIdeal.Gen Cert.ReferenceIdeal.Value
open Cert.KernelIdeal.Hand (NF nf nf_apply nf1 nf1_apply xr xr_apply wv half nrm quo yS lowRows nS oS colsum ix2_self specN specY)
open Idealize.ShloMosaic Idealize.ShloMosaic.TcCoe Idealize.ShloMosaic.Tactic
open Idealize.ShloMosaic.ValueIdx
open Idealize.SL Idealize.SL.RA Idealize.SL.BI
open scoped BigOperators

/-- A product into zeros, at its coordinates. -/
theorem mm_apply {M K N : ℕ} (D : DotDims ⟨2, ![M, K]⟩ ⟨2, ![K, N]⟩ ⟨2, ![M, N]⟩) (hD : D = DotDims.plain M K N) (x : FVec Ideal ⟨2, ![M, K]⟩ .bf16) (w : FVec Ideal ⟨2, ![K, N]⟩ .bf16) (xf wf : NF)
    (hx : ∀ i, (x i : EReal) = xf (i 0).val (i 1).val) (hw : ∀ i, (w i : EReal) = wf (i 0).val (i 1).val) (i : (⟨2, ![M, N]⟩ : Shape).Idx) :
    (matmul D none x w (constant ⟨2, ![M, N]⟩ .f32 0x00000000#32) i : EReal) = ∑ k ∈ Finset.range K, xf (i 0).val k * wf k (i 1).val := by
  subst hD
  have h := Ideal.matmul_plain_apply (M := M) (K := K) (N := N) (φ₁ := .bf16) (φ₂ := .bf16) none x w (constant ⟨2, ![M, N]⟩ .f32 0x00000000#32) (i 0) (i 1)
  have e : (ix2 (i 0) (i 1) : (⟨2, ![M, N]⟩ : Shape).Idx) = i := ix2_self i
  rw [e] at h
  refine Eq.trans h ?_
  have z : (constant (F := Ideal) ⟨2, ![M, N]⟩ .f32 0x00000000#32 i : EReal) = 0 := Ideal.ofBits_zero_f32
  refine Eq.trans (congrArg (fun a : EReal => a + ∑ k : Fin K, (x (ix2 (i 0) k) : EReal) * (w (ix2 k (i 1)) : EReal)) z) ?_
  show (0 : EReal) + ∑ k : Fin K, (x (ix2 (i 0) k) : EReal) * (w (ix2 k (i 1)) : EReal) = _
  rw [zero_add, Finset.sum_range]
  exact Finset.sum_congr rfl fun k _ => by rw [hx, hw]; rfl

/-! ## The body's payloads -/

section
variable (codes : Vec Ideal S18432x7168 .fp8e4m3) (scale : Vec Ideal S18432x7168 .f32) (x : Vec Ideal S256x18432 .bf16) (a : Vec Ideal S64x18432 .bf16) (hx : Vec Ideal S256x192 .bf16) (ga : Vec Ideal S64x192 .bf16)
  (terms : Vec Ideal S192x7168 .bf16) (up : Vec Ideal S64x7168 .bf16) (mag : Vec Ideal S1x7168 .f32) (X A C S H U M : NF)
  (ec : ∀ i, (codes i : EReal) = C (i 0).val (i 1).val) (es : ∀ i, (scale i : EReal) = S ((i 0).val / 128) ((i 1).val / 128))
  (ex : ∀ i, (x i : EReal) = X (i 0).val (i 1).val) (ea : ∀ i, (a i : EReal) = A (i 0).val (i 1).val)
  (eh : ∀ i, (hx i : EReal) = H (i 0).val (i 1).val) (eg : ∀ i, (ga i : EReal) = lowRows H (i 0).val (i 1).val)
  (et : ∀ i, (terms i : EReal) = U ((i 0).val % 64) (i 1).val * half) (eu : ∀ i, (up i : EReal) = U (i 0).val (i 1).val)
  (em : ∀ i, (mag i : EReal) = M 0 (i 1).val)

include ec es in
theorem w_apply (i : S18432x7168.Idx) : (k0_pay3 (F := Ideal) codes scale i : EReal) = wv C S (i 0).val (i 1).val := by
  unfold k0_pay3
  refine congrArg₂ (fun a b : EReal => a * b) (ec i) ?_
  show (shapeCast S18432x7168 scale shapeCasts_S18432x7168_S18432x7168 i : EReal) = _
  rw [shapeCast_self]
  exact es i

include ec es ex in
theorem x_apply (i : S256x7168.Idx) : (k0_pay4 (F := Ideal) codes scale x i : EReal) = ∑ k ∈ Finset.range 18432, X (i 0).val k * wv C S k (i 1).val := by
  unfold k0_pay4
  rw [shapeCast_self]
  exact mm_apply (M := 256) (K := 18432) (N := 7168) _ rfl x (k0_pay3 codes scale) X (wv C S) ex (w_apply codes scale C S ec es) i

include eh et in
theorem h_apply (i : S256x7168.Idx) : (k0_pay5 (F := Ideal) hx terms i : EReal) = ∑ k ∈ Finset.range 192, H (i 0).val k * (U (k % 64) (i 1).val * half) := by
  unfold k0_pay5
  rw [shapeCast_self, shapeCast_self]
  exact mm_apply (M := 256) (K := 192) (N := 7168) _ rfl hx terms H (fun k o => U (k % 64) o * half) eh et i

include ec es ea eg et eu in
theorem n_apply (i : S1x7168.Idx) : (k0_pay1 (F := Ideal) (k0_pay6 codes scale up a ga terms) i : EReal) = nS A (wv C S) H U (i 1).val := by
  have hw := w_apply codes scale C S ec es
  have e1 := colsum (n := 18432) (m := 7168) (mulf (F := Ideal) (s := S18432x7168) (φ := .f32) (extf .f32 (k0_pay3 codes scale) bitsLt_bf16_f32) (extf .f32 (k0_pay3 codes scale) bitsLt_bf16_f32))
    (fun k o => wv C S k o * wv C S k o) (fun j => congrArg₂ (fun a b : EReal => a * b) (hw j) (hw j)) 0x00000000#32 reduces_S18432x7168_S7168 (.inl rfl) rfl shapeCasts_S7168_S1x7168 i
  have e2 : ∀ j : S64x7168.Idx, (addf (F := Ideal) (s := S64x7168) (φ := .f32) (matmul dot_S64x18432_S18432x7168_S64x7168_1_0_0_1_n_n none a (k0_pay3 codes scale) (constant S64x7168 .f32 0x00000000#32))
      (matmul dot_S64x192_S192x7168_S64x7168_1_0_0_1_n_n none ga terms (constant S64x7168 .f32 0x00000000#32)) j : EReal) = yS A (wv C S) (lowRows H) U (j 0).val (j 1).val := fun j =>
    congrArg₂ (fun a b : EReal => a + b)
      (mm_apply (M := 64) (K := 18432) (N := 7168) dot_S64x18432_S18432x7168_S64x7168_1_0_0_1_n_n rfl a (k0_pay3 codes scale) A (wv C S) ea hw j)
      (mm_apply (M := 64) (K := 192) (N := 7168) dot_S64x192_S192x7168_S64x7168_1_0_0_1_n_n rfl ga terms (lowRows H) (fun k o => U (k % 64) o * half) eg et j)
  have e3 := colsum (n := 64) (m := 7168) (mulf (F := Ideal) (s := S64x7168) (φ := .f32) (addf (matmul dot_S64x18432_S18432x7168_S64x7168_1_0_0_1_n_n none a (k0_pay3 codes scale) (constant S64x7168 .f32 0x00000000#32))
      (matmul dot_S64x192_S192x7168_S64x7168_1_0_0_1_n_n none ga terms (constant S64x7168 .f32 0x00000000#32))) (extf .f32 up bitsLt_bf16_f32))
    (fun r o => yS A (wv C S) (lowRows H) U r o * U r o) (fun j => congrArg₂ (fun a b : EReal => a * b) (e2 j) (eu j)) 0x00000000#32 reduces_S64x7168_S7168 (.inl rfl) rfl shapeCasts_S7168_S1x7168 i
  have e4 : ∀ a b a' b' : EReal, a = a' → b = b' → nrm (a + b) = nrm (a' + b') := by
    intro a b a' b' ha hb
    rw [ha, hb]
  unfold k0_pay1 k0_pay6
  rw [shapeCast_self, shapeCast_self, shapeCast_self]
  exact e4 _ _ _ _ e1 e3

include ec es ex ea eh eg et eu em in
theorem y_apply (i : S256x7168.Idx) : (k0_pay2 (F := Ideal) (k0_pay4 codes scale x) (k0_pay5 hx terms) (k0_pay6 codes scale up a ga terms) mag i : EReal)
    = oS X A (wv C S) H U M (i 0).val (i 1).val := by
  have h1 : (i 1).val < 7168 := (i 1).isLt
  have hn := n_apply codes scale a ga terms up A C S H U ec es ea eg et eu
  unfold k0_pay2
  rw [shapeCast_self]
  refine congrArg₂ (fun a b : EReal => a * b) (congrArg₂ (fun a b : EReal => a + b) (x_apply codes scale x X C S ec es ex i) (h_apply hx terms H U eh et i)) ?_
  refine (broadcastTo_apply _ broadcasts_S1x7168_S256x7168 i (ix2 ⟨0, Nat.one_pos⟩ ⟨(i 1).val, h1⟩) ?_).trans ?_
  · intro b; fin_cases b <;> rfl
  · exact congrArg₂ quo (em (ix2 ⟨0, Nat.one_pos⟩ ⟨(i 1).val, h1⟩)) (hn (ix2 ⟨0, Nat.one_pos⟩ ⟨(i 1).val, h1⟩))

end

/-! ## The host's arrays -/

variable (m : (ℓ : Loc nD τ sig) → Buf (Elt Ideal) ℓ) (ρ : Dev nD → PrngReg)

theorem V_scale (c : Dev nD) (i : S18432x7168.Idx) : (V m c main_v2 i : EReal) = nf (n := 144) (m := 56) (m ((c.tc : Thread nD τ).loc main_arg0)) ((i 0).val / 128) ((i 1).val / 128) := by
  have h0 : (i 0).val < 18432 := (i 0).isLt
  have h1 : (i 1).val < 7168 := (i 1).isLt
  have e : V m c main_v2 = shapeCast S18432x7168 (broadcastInDim S144x128x56x128 ![0, 1, 2, 3] bcast_S144x1x56x1_S144x128x56x128_0_1_2_3 (broadcastInDim S144x1x56x1 ![0, 2] bcast_S144x56_S144x1x56x1_0_2 (m ((c.tc : Thread nD τ).loc main_arg0)))) shapeCasts_S144x128x56x128_S18432x7168 := by
    entry_read; rfl
  rw [e]
  refine (shapeCast_apply (s := ⟨4, ![144, 128, 56, 128]⟩) (t := ⟨2, ![18432, 7168]⟩) _ _ i (ix4 ⟨(i 0).val / 128, by omega⟩ ⟨(i 0).val % 128, by omega⟩ ⟨(i 1).val / 128, by omega⟩ ⟨(i 1).val % 128, by omega⟩) ?_).trans ?_
  · rw [Shape.rowMajor_val_four, Shape.rowMajor_val_two]
    show (((i 0).val / 128 * 128 + (i 0).val % 128) * 56 + (i 1).val / 128) * 128 + (i 1).val % 128 = (i 0).val * 7168 + (i 1).val
    omega
  refine (broadcastInDim_apply _ _ _ _ (ix4 ⟨(i 0).val / 128, by omega⟩ ⟨0, Nat.one_pos⟩ ⟨(i 1).val / 128, by omega⟩ ⟨0, Nat.one_pos⟩ : S144x1x56x1.Idx) ?_).trans ?_
  · intro b; fin_cases b <;> rfl
  refine (broadcastInDim_apply _ _ _ _ (ix2 ⟨(i 0).val / 128, by omega⟩ ⟨(i 1).val / 128, by omega⟩ : S144x56.Idx) ?_).trans ?_
  · intro b; fin_cases b <;> rfl
  exact (nf_apply (n := 144) (m := 56) _ _ _ _ rfl rfl).symm

theorem V_x (c : Dev nD) (i : S256x18432.Idx) : (V m c main_v4 i : EReal) = xr (n := 72) (m := 256) (m ((c.tc : Thread nD τ).loc main_arg1)) (i 0).val (i 1).val := by
  have h0 : (i 0).val < 256 := (i 0).isLt
  have h1 : (i 1).val < 18432 := (i 1).isLt
  have e : V m c main_v4 = shapeCast S256x18432 (transpose S256x72x256 [1, 0, 2] (m ((c.tc : Thread nD τ).loc main_arg1)) transposes_S72x256x256_S256x72x256_1_0_2) shapeCasts_S256x72x256_S256x18432 := by
    entry_read; rfl
  rw [e]
  refine (shapeCast_apply (s := ⟨3, ![256, 72, 256]⟩) (t := ⟨2, ![256, 18432]⟩) _ _ i (ix3 ⟨(i 0).val, h0⟩ ⟨(i 1).val / 256, by omega⟩ ⟨(i 1).val % 256, by omega⟩) ?_).trans ?_
  · rw [Shape.rowMajor_val_three, Shape.rowMajor_val_two]
    show ((i 0).val * 72 + (i 1).val / 256) * 256 + (i 1).val % 256 = (i 0).val * 18432 + (i 1).val
    omega
  refine (transpose_apply _ _ _ _ (ix3 ⟨(i 1).val / 256, by omega⟩ ⟨(i 0).val, h0⟩ ⟨(i 1).val % 256, by omega⟩ : S72x256x256.Idx) ?_).trans ?_
  · intro b; fin_cases b <;> rfl
  refine (xr_apply (n := 72) (m := 256) _ _ _ _ rfl ?_).symm
  show 256 * ((i 1).val / 256) + (i 1).val % 256 = (i 1).val
  omega

theorem V_a (c : Dev nD) (i : S64x18432.Idx) : (V m c main_v6 i : EReal) = xr (n := 72) (m := 64) (m ((c.tc : Thread nD τ).loc main_arg2)) (i 0).val (i 1).val := by
  have h0 : (i 0).val < 64 := (i 0).isLt
  have h1 : (i 1).val < 18432 := (i 1).isLt
  have e : V m c main_v6 = shapeCast S64x18432 (transpose S64x72x256 [1, 0, 2] (m ((c.tc : Thread nD τ).loc main_arg2)) transposes_S72x64x256_S64x72x256_1_0_2) shapeCasts_S64x72x256_S64x18432 := by
    entry_read; rfl
  rw [e]
  refine (shapeCast_apply (s := ⟨3, ![64, 72, 256]⟩) (t := ⟨2, ![64, 18432]⟩) _ _ i (ix3 ⟨(i 0).val, h0⟩ ⟨(i 1).val / 256, by omega⟩ ⟨(i 1).val % 256, by omega⟩) ?_).trans ?_
  · rw [Shape.rowMajor_val_three, Shape.rowMajor_val_two]
    show ((i 0).val * 72 + (i 1).val / 256) * 256 + (i 1).val % 256 = (i 0).val * 18432 + (i 1).val
    omega
  refine (transpose_apply _ _ _ _ (ix3 ⟨(i 1).val / 256, by omega⟩ ⟨(i 0).val, h0⟩ ⟨(i 1).val % 256, by omega⟩ : S72x64x256.Idx) ?_).trans ?_
  · intro b; fin_cases b <;> rfl
  refine (xr_apply (n := 72) (m := 64) _ _ _ _ rfl ?_).symm
  show 256 * ((i 1).val / 256) + (i 1).val % 256 = (i 1).val
  omega

theorem V_h (c : Dev nD) (i : S256x192.Idx) : (V m c main_v10 i : EReal) = nf (n := 320) (m := 256) (m ((c.tc : Thread nD τ).loc main_arg3)) (i 0).val (i 1).val := by
  have h0 : (i 0).val < 256 := (i 0).isLt
  have h1 : (i 1).val < 192 := (i 1).isLt
  have e : V m c main_v10 = extractStridedSlice S256x192 ![0, 0] (m ((c.tc : Thread nD τ).loc main_arg3)) slices_S320x256_S256x192_0_0 := by
    entry_read; rfl
  rw [e]
  refine (extractStridedSlice_apply _ _ _ _ (ix2 ⟨(i 0).val, by omega⟩ ⟨(i 1).val, by omega⟩ : S320x256.Idx) ?_).trans (nf_apply (n := 320) (m := 256) _ _ _ _ rfl rfl).symm
  intro b; fin_cases b
  · show (i 0).val = 0 + (i 0).val
    omega
  · show (i 1).val = 0 + (i 1).val
    omega

theorem V_g (c : Dev nD) (i : S64x192.Idx) : (V m c main_v11 i : EReal) = lowRows (nf (n := 320) (m := 256) (m ((c.tc : Thread nD τ).loc main_arg3))) (i 0).val (i 1).val := by
  have h0 : (i 0).val < 64 := (i 0).isLt
  have h1 : (i 1).val < 192 := (i 1).isLt
  have e : V m c main_v11 = extractStridedSlice S64x192 ![256, 0] (m ((c.tc : Thread nD τ).loc main_arg3)) slices_S320x256_S64x192_256_0 := by
    entry_read; rfl
  rw [e]
  refine (extractStridedSlice_apply _ _ _ _ (ix2 ⟨256 + (i 0).val, by omega⟩ ⟨(i 1).val, by omega⟩ : S320x256.Idx) ?_).trans (nf_apply (n := 320) (m := 256) _ _ _ _ rfl rfl).symm
  intro b; fin_cases b
  · rfl
  · show (i 1).val = 0 + (i 1).val
    omega

theorem V_mag (c : Dev nD) (i : S1x7168.Idx) : (V m c main_v12 i : EReal) = nf1 (m := 7168) (m ((c.tc : Thread nD τ).loc main_arg5)) 0 (i 1).val := by
  have h0 : (i 0).val < 1 := (i 0).isLt
  have h1 : (i 1).val < 7168 := (i 1).isLt
  have e : V m c main_v12 = shapeCast S1x7168 (m ((c.tc : Thread nD τ).loc main_arg5)) shapeCasts_S7168_S1x7168 := by
    entry_read; rfl
  rw [e]
  refine (shapeCast_apply (s := ⟨1, ![7168]⟩) (t := ⟨2, ![1, 7168]⟩) _ _ i (ix1 ⟨(i 1).val, h1⟩) ?_).trans (nf1_apply (m := 7168) _ _ _ _ rfl).symm
  rw [Shape.rowMajor_val_one, Shape.rowMajor_val_two]
  show (i 1).val = (i 0).val * 7168 + (i 1).val
  omega

theorem V_terms (c : Dev nD) (i : S192x7168.Idx) : (V m c main_v9 i : EReal) = nf (n := 64) (m := 7168) (m ((c.tc : Thread nD τ).loc main_arg4)) ((i 0).val % 64) (i 1).val * half := by
  have h0 : (i 0).val < 192 := (i 0).isLt
  have h1 : (i 1).val < 7168 := (i 1).isLt
  have e : V m c main_v9 = concatenate S192x7168 0 [⟨S64x7168, mulf (F := Ideal) (s := S64x7168) (φ := .bf16) (m ((c.tc : Thread nD τ).loc main_arg4)) (broadcastInDim S64x7168 ![] bcast_S_S64x7168 (constant S_ .bf16 0x3F00#16))⟩,
      ⟨S64x7168, mulf (F := Ideal) (s := S64x7168) (φ := .bf16) (m ((c.tc : Thread nD τ).loc main_arg4)) (broadcastInDim S64x7168 ![] bcast_S_S64x7168 (constant S_ .bf16 0x3F00#16))⟩,
      ⟨S64x7168, mulf (F := Ideal) (s := S64x7168) (φ := .bf16) (m ((c.tc : Thread nD τ).loc main_arg4)) (broadcastInDim S64x7168 ![] bcast_S_S64x7168 (constant S_ .bf16 0x3F00#16))⟩] concatenates_S64x7168_S64x7168_S64x7168_S192x7168_d0 := by
    rfl
  rw [e]
  generalize hu : mulf (F := Ideal) (s := S64x7168) (φ := .bf16) (m ((c.tc : Thread nD τ).loc main_arg4)) (broadcastInDim S64x7168 ![] bcast_S_S64x7168 (constant S_ .bf16 0x3F00#16)) = u
  have hm : ∀ j : S64x7168.Idx, (u j : EReal) = nf (n := 64) (m := 7168) (m ((c.tc : Thread nD τ).loc main_arg4)) (j 0).val (j 1).val * half := by
    intro j
    rw [← hu, nf_apply (n := 64) (m := 7168) _ j _ _ rfl rfl]
    rfl
  by_cases c1 : (i 0).val < 64
  · refine (concatenate_apply_piece (t := S192x7168) 0 _ _ i 0 (by simp) S64x7168 u rfl rfl 0 rfl (ix2 ⟨(i 0).val, c1⟩ ⟨(i 1).val, h1⟩) ?_ ?_).trans ((hm _).trans ?_)
    · intro a; fin_cases a
      · intro hh; exact absurd rfl hh
      · intro; rfl
    · show 0 + (i 0).val = (i 0).val
      omega
    · show nf (n := 64) (m := 7168) _ (i 0).val _ * half = _
      rw [Nat.mod_eq_of_lt c1]
  by_cases c2 : (i 0).val < 128
  · refine (concatenate_apply_piece (t := S192x7168) 0 _ _ i 1 (by simp) S64x7168 u rfl rfl 64 rfl (ix2 ⟨(i 0).val - 64, by omega⟩ ⟨(i 1).val, h1⟩) ?_ ?_).trans ((hm _).trans ?_)
    · intro a; fin_cases a
      · intro hh; exact absurd rfl hh
      · intro; rfl
    · show 64 + ((i 0).val - 64) = (i 0).val
      omega
    · show nf (n := 64) (m := 7168) _ ((i 0).val - 64) _ * half = _
      rw [show (i 0).val % 64 = (i 0).val - 64 by omega]
  · refine (concatenate_apply_piece (t := S192x7168) 0 _ _ i 2 (by simp) S64x7168 u rfl rfl 128 rfl (ix2 ⟨(i 0).val - 128, by omega⟩ ⟨(i 1).val, h1⟩) ?_ ?_).trans ((hm _).trans ?_)
    · intro a; fin_cases a
      · intro hh; exact absurd rfl hh
      · intro; rfl
    · show 128 + ((i 0).val - 128) = (i 0).val
      omega
    · show nf (n := 64) (m := 7168) _ ((i 0).val - 128) _ * half = _
      rw [show (i 0).val % 64 = (i 0).val - 128 by omega]

/-! ## Windows: each block is its whole array -/

theorem emb0 (t : Fin cfg0.N) (j : S18432x7168.Idx) : ((cfg0.win 0).blk t).view.emb j = j := by
  have hz : ∀ t : Fin cfg0.N, ∀ a, win0_0.index t a = 0 := (by decide +kernel : ∀ t : Fin grid0.N, ∀ a : Fin 2, win0_0.index t a = 0)
  funext a; apply Fin.ext
  have := hz t a
  show win0_0.index t a * _ + 1 * (j a).val = (j a).val
  rw [this]; omega

theorem iblk0 (c : Dev nD) (t : Fin cfg0.N) : iblk m c 0 t = V m c main_v2 := by
  funext j; show V m c main_v2 (((cfg0.win 0).blk t).view.emb j) = V m c main_v2 j; rw [emb0]

theorem emb1 (t : Fin cfg0.N) (j : S256x18432.Idx) : ((cfg0.win 1).blk t).view.emb j = j := by
  have hz : ∀ t : Fin cfg0.N, ∀ a, win0_1.index t a = 0 := (by decide +kernel : ∀ t : Fin grid0.N, ∀ a : Fin 2, win0_1.index t a = 0)
  funext a; apply Fin.ext
  have := hz t a
  show win0_1.index t a * _ + 1 * (j a).val = (j a).val
  rw [this]; omega

theorem iblk1 (c : Dev nD) (t : Fin cfg0.N) : iblk m c 1 t = V m c main_v4 := by
  funext j; show V m c main_v4 (((cfg0.win 1).blk t).view.emb j) = V m c main_v4 j; rw [emb1]

theorem emb2 (t : Fin cfg0.N) (j : S64x18432.Idx) : ((cfg0.win 2).blk t).view.emb j = j := by
  have hz : ∀ t : Fin cfg0.N, ∀ a, win0_2.index t a = 0 := (by decide +kernel : ∀ t : Fin grid0.N, ∀ a : Fin 2, win0_2.index t a = 0)
  funext a; apply Fin.ext
  have := hz t a
  show win0_2.index t a * _ + 1 * (j a).val = (j a).val
  rw [this]; omega

theorem iblk2 (c : Dev nD) (t : Fin cfg0.N) : iblk m c 2 t = V m c main_v6 := by
  funext j; show V m c main_v6 (((cfg0.win 2).blk t).view.emb j) = V m c main_v6 j; rw [emb2]

theorem emb3 (t : Fin cfg0.N) (j : S256x192.Idx) : ((cfg0.win 3).blk t).view.emb j = j := by
  have hz : ∀ t : Fin cfg0.N, ∀ a, win0_3.index t a = 0 := (by decide +kernel : ∀ t : Fin grid0.N, ∀ a : Fin 2, win0_3.index t a = 0)
  funext a; apply Fin.ext
  have := hz t a
  show win0_3.index t a * _ + 1 * (j a).val = (j a).val
  rw [this]; omega

theorem iblk3 (c : Dev nD) (t : Fin cfg0.N) : iblk m c 3 t = V m c main_v10 := by
  funext j; show V m c main_v10 (((cfg0.win 3).blk t).view.emb j) = V m c main_v10 j; rw [emb3]

theorem emb4 (t : Fin cfg0.N) (j : S64x192.Idx) : ((cfg0.win 4).blk t).view.emb j = j := by
  have hz : ∀ t : Fin cfg0.N, ∀ a, win0_4.index t a = 0 := (by decide +kernel : ∀ t : Fin grid0.N, ∀ a : Fin 2, win0_4.index t a = 0)
  funext a; apply Fin.ext
  have := hz t a
  show win0_4.index t a * _ + 1 * (j a).val = (j a).val
  rw [this]; omega

theorem iblk4 (c : Dev nD) (t : Fin cfg0.N) : iblk m c 4 t = V m c main_v11 := by
  funext j; show V m c main_v11 (((cfg0.win 4).blk t).view.emb j) = V m c main_v11 j; rw [emb4]

theorem emb5 (t : Fin cfg0.N) (j : S192x7168.Idx) : ((cfg0.win 5).blk t).view.emb j = j := by
  have hz : ∀ t : Fin cfg0.N, ∀ a, win0_5.index t a = 0 := (by decide +kernel : ∀ t : Fin grid0.N, ∀ a : Fin 2, win0_5.index t a = 0)
  funext a; apply Fin.ext
  have := hz t a
  show win0_5.index t a * _ + 1 * (j a).val = (j a).val
  rw [this]; omega

theorem iblk5 (c : Dev nD) (t : Fin cfg0.N) : iblk m c 5 t = V m c main_v9 := by
  funext j; show V m c main_v9 (((cfg0.win 5).blk t).view.emb j) = V m c main_v9 j; rw [emb5]

theorem emb6 (t : Fin cfg0.N) (j : S64x7168.Idx) : ((cfg0.win 6).blk t).view.emb j = j := by
  have hz : ∀ t : Fin cfg0.N, ∀ a, win0_6.index t a = 0 := (by decide +kernel : ∀ t : Fin grid0.N, ∀ a : Fin 2, win0_6.index t a = 0)
  funext a; apply Fin.ext
  have := hz t a
  show win0_6.index t a * _ + 1 * (j a).val = (j a).val
  rw [this]; omega

theorem iblk6 (c : Dev nD) (t : Fin cfg0.N) : iblk m c 6 t = V m c main_arg4 := by
  funext j; show V m c main_arg4 (((cfg0.win 6).blk t).view.emb j) = V m c main_arg4 j; rw [emb6]

theorem emb7 (t : Fin cfg0.N) (j : S1x7168.Idx) : ((cfg0.win 7).blk t).view.emb j = j := by
  have hz : ∀ t : Fin cfg0.N, ∀ a, win0_7.index t a = 0 := (by decide +kernel : ∀ t : Fin grid0.N, ∀ a : Fin 2, win0_7.index t a = 0)
  funext a; apply Fin.ext
  have := hz t a
  show win0_7.index t a * _ + 1 * (j a).val = (j a).val
  rw [this]; omega

theorem iblk7 (c : Dev nD) (t : Fin cfg0.N) : iblk m c 7 t = V m c main_v12 := by
  funext j; show V m c main_v12 (((cfg0.win 7).blk t).view.emb j) = V m c main_v12 j; rw [emb7]

theorem emb8 (t : Fin cfg0.N) (j : S18432x7168.Idx) : ((cfg0.win 8).blk t).view.emb j = j := by
  have hz : ∀ t : Fin cfg0.N, ∀ a, win0_8.index t a = 0 := (by decide +kernel : ∀ t : Fin grid0.N, ∀ a : Fin 2, win0_8.index t a = 0)
  funext a; apply Fin.ext
  have := hz t a
  show win0_8.index t a * _ + 1 * (j a).val = (j a).val
  rw [this]; omega

theorem iblk8 (c : Dev nD) (t : Fin cfg0.N) : iblk m c 8 t = V m c main_arg6 := by
  funext j; show V m c main_arg6 (((cfg0.win 8).blk t).view.emb j) = V m c main_arg6 j; rw [emb8]

theorem emb9 (t : Fin cfg0.N) (j : S1x7168.Idx) : ((cfg0.win 9).blk t).view.emb j = j := by
  have hz : ∀ t : Fin cfg0.N, ∀ a, win0_9.index t a = 0 := (by decide +kernel : ∀ t : Fin grid0.N, ∀ a : Fin 2, win0_9.index t a = 0)
  funext a; apply Fin.ext
  have := hz t a
  show win0_9.index t a * _ + 1 * (j a).val = (j a).val
  rw [this]; omega

theorem emb10 (t : Fin cfg0.N) (j : S256x7168.Idx) : ((cfg0.win 10).blk t).view.emb j = j := by
  have hz : ∀ t : Fin cfg0.N, ∀ a, win0_10.index t a = 0 := (by decide +kernel : ∀ t : Fin grid0.N, ∀ a : Fin 2, win0_10.index t a = 0)
  funext a; apply Fin.ext
  have := hz t a
  show win0_10.index t a * _ + 1 * (j a).val = (j a).val
  rw [this]; omega

/-- The norms and the result of the launch's arrays. -/
def rN (c : Dev nD) : S1x7168.Idx → EReal := specN (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg6))
def rY (c : Dev nD) : S256x7168.Idx → EReal := specY (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))

theorem hz : (![0, 0] : Fin 2 → Nat) = fun _ => 0 := funext fun a => by fin_cases a <;> rfl

theorem V_codes (c : Dev nD) (i : S18432x7168.Idx) : (V m c main_arg6 i : EReal) = nf (n := 18432) (m := 7168) (m ((c.tc : Thread nD τ).loc main_arg6)) (i 0).val (i 1).val := by
  rw [V_main_arg6]
  exact (nf_apply (n := 18432) (m := 7168) _ i _ _ rfl rfl).symm

theorem V_up (c : Dev nD) (i : S64x7168.Idx) : (V m c main_arg4 i : EReal) = nf (n := 64) (m := 7168) (m ((c.tc : Thread nD τ).loc main_arg4)) (i 0).val (i 1).val := by
  rw [V_main_arg4]
  exact (nf_apply (n := 64) (m := 7168) _ i _ _ rfl rfl).symm

theorem out9 (c : Dev nD) : out0_9 (F := Ideal) (V m c main_v2) (V m c main_v4) (V m c main_v6) (V m c main_v10) (V m c main_v11) (V m c main_v9) (V m c main_arg4) (V m c main_v12) (V m c main_arg6) = rN m c := by
  unfold out0_9 k0_pay7
  rw [View.canon_unit_zero hz]
  simp only [View.ld_unit_zero (S := S18432x7168) hz, View.ld_unit_zero (S := S64x7168) hz, View.ld_unit_zero (S := S64x18432) hz, View.ld_unit_zero (S := S64x192) hz, View.ld_unit_zero (S := S192x7168) hz, View.ld_unit_zero (S := S256x18432) hz, View.ld_unit_zero (S := S256x192) hz, View.ld_unit_zero (S := S1x7168) hz]
  funext i
  exact n_apply (V m c main_arg6) (V m c main_v2) (V m c main_v6) (V m c main_v11) (V m c main_v9) (V m c main_arg4) _ _ _ _ _ (V_codes m c) (V_scale m c) (V_a m c) (V_g m c) (V_terms m c) (V_up m c) i

theorem out10 (c : Dev nD) : out0_10 (F := Ideal) (V m c main_v2) (V m c main_v4) (V m c main_v6) (V m c main_v10) (V m c main_v11) (V m c main_v9) (V m c main_arg4) (V m c main_v12) (V m c main_arg6) = rY m c := by
  unfold out0_10 k0_pay7
  rw [View.canon_unit_zero hz]
  simp only [View.ld_unit_zero (S := S18432x7168) hz, View.ld_unit_zero (S := S64x7168) hz, View.ld_unit_zero (S := S64x18432) hz, View.ld_unit_zero (S := S64x192) hz, View.ld_unit_zero (S := S192x7168) hz, View.ld_unit_zero (S := S256x18432) hz, View.ld_unit_zero (S := S256x192) hz, View.ld_unit_zero (S := S1x7168) hz]
  funext i
  exact y_apply (V m c main_arg6) (V m c main_v2) (V m c main_v4) (V m c main_v6) (V m c main_v10) (V m c main_v11) (V m c main_v9) (V m c main_arg4) (V m c main_v12) _ _ _ _ _ _ (nf1 (m := 7168) (m ((c.tc : Thread nD τ).loc main_arg5)))
    (V_codes m c) (V_scale m c) (V_x m c) (V_a m c) (V_h m c) (V_g m c) (V_terms m c) (V_up m c) (V_mag m c) i

theorem flushed9_eq (c : Dev nD) (t : Fin cfg0.N) : (dats m 0 c).flushed 9 t = ((cfg0.win 9).blk t).view.read (Elt Ideal) (rN m c) := by
  rw [flushed9, iblk0, iblk1, iblk2, iblk3, iblk4, iblk5, iblk6, iblk7, iblk8, out9]
  funext j
  show rN m c j = rN m c (((cfg0.win 9).blk t).view.emb j)
  rw [emb9]

theorem flush9 : ∀ t : Fin cfg0.N, (cfg0.win 9).flush t = true := (by decide +kernel : ∀ t : Fin grid0.N, (cfg0.win 9).flush t = true)

theorem final9 (c : Dev nD) : (dats m 0 c).arrAt 9 cfg0.N = rN m c :=
  (dats m 0 c).arrAt_eq_of_cover 9 (rN m c) (fun t _ => flushed9_eq m c t) fun i => ⟨(⟨0, by decide⟩ : Fin cfg0.N), flush9 _, by
    have h := ((cfg0.win 9).blk (⟨0, by decide⟩ : Fin cfg0.N)).view.emb_mem_set i; rwa [emb9] at h⟩

theorem flushed10_eq (c : Dev nD) (t : Fin cfg0.N) : (dats m 0 c).flushed 10 t = ((cfg0.win 10).blk t).view.read (Elt Ideal) (rY m c) := by
  rw [flushed10, iblk0, iblk1, iblk2, iblk3, iblk4, iblk5, iblk6, iblk7, iblk8, out10]
  funext j
  show rY m c j = rY m c (((cfg0.win 10).blk t).view.emb j)
  rw [emb10]

theorem flush10 : ∀ t : Fin cfg0.N, (cfg0.win 10).flush t = true := (by decide +kernel : ∀ t : Fin grid0.N, (cfg0.win 10).flush t = true)

theorem final10 (c : Dev nD) : (dats m 0 c).arrAt 10 cfg0.N = rY m c :=
  (dats m 0 c).arrAt_eq_of_cover 10 (rY m c) (fun t _ => flushed10_eq m c t) fun i => ⟨(⟨0, by decide⟩ : Fin cfg0.N), flush10 _, by
    have h := ((cfg0.win 10).blk (⟨0, by decide⟩ : Fin cfg0.N)).view.emb_mem_set i; rwa [emb10] at h⟩

/-- The run: the norms and the result are the specification's, the arguments as they were. -/
theorem run : θ_run defs (onTc (τ := τ) (main (F := Ideal))) ⟨m, fun _ => 0, ρ⟩ (fun r => ∀ c : Dev nD,
      r.2.mem ((c.tc : Thread nD τ).loc main_v13_0) = rN m c
      ∧ r.2.mem ((c.tc : Thread nD τ).loc main_v13_1) = rY m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (final9 m c), (h c).2.1.trans (final10 m c), (h c).2.2⟩) (run_blocks m ρ)

end Cert.ReferenceIdeal.HandV
-- ==== Proof.lean ====
/-
  The proof of the certificate's claim.
-/
module

public import proofs.«01_k».proof.Defs
public import proofs.«01_k».proof.Proof.Gen.Kernel
public import proofs.«01_k».proof.Proof.Gen.KernelIdeal
public import proofs.«01_k».proof.Proof.Gen.ReferenceIdeal.Value
public import proofs.«01_k».proof.Proof.K.Frame
public import proofs.«01_k».proof.Proof.KI.Frame
public import proofs.«01_k».proof.Proof.KI.VRun
public import proofs.«01_k».proof.Proof.Ref
public import Idealize.ShloMosaic.Adequacy
public import Idealize.ShloMosaic.Init

@[expose] public section

noncomputable section

namespace Cert.Proof

open Idealize.ShloMosaic Idealize.SL.Sem

/-- The two programs end with the same norms and the same result: each side's are the specification's, of equal arrays. -/
theorem algebraic : Cert.algebraic_KernelIdeal_ReferenceIdeal (hKernelIdeal := Cert.KernelIdeal.Gen.facts) (hReferenceIdeal := Cert.ReferenceIdeal.Gen.facts) := by
  intro m g m' g' _ hagree
  refine ⟨fun c => Cert.KernelIdeal.HandV.rN m c, fun c => Cert.KernelIdeal.HandV.rY m c, Cert.KernelIdeal.HandV.run m g, ?_⟩
  refine (θ_run Cert.ReferenceIdeal.defs _ _).mono (fun r h c => ?_) (Cert.ReferenceIdeal.HandV.run m' g')
  obtain ⟨a0, a1, a2, a3, a4, a5, a6⟩ := hagree c
  have hN : Cert.ReferenceIdeal.HandV.rN m' c = Cert.KernelIdeal.HandV.rN m c := by
    unfold Cert.ReferenceIdeal.HandV.rN Cert.KernelIdeal.HandV.rN
    rw [a0, a2, a3, a4, a6]
  have hY : Cert.ReferenceIdeal.HandV.rY m' c = Cert.KernelIdeal.HandV.rY m c := by
    unfold Cert.ReferenceIdeal.HandV.rY Cert.KernelIdeal.HandV.rY
    rw [a0, a1, a2, a3, a4, a5, a6]
  exact ⟨(h c).1.trans hN, (h c).2.1.trans hY, (h c).2.2⟩

theorem claim : Cert.Claim := ⟨Cert.Kernel.Gen.facts, Cert.KernelIdeal.Gen.facts, Cert.ReferenceIdeal.Gen.facts,
  fun m ρ _ => Cert.Kernel.Hand.frame m ρ, fun m ρ _ => Cert.KernelIdeal.Hand.frame m ρ, fun m ρ _ => Cert.ReferenceIdeal.Gen.frame m ρ, trivial, algebraic⟩

end Cert.Proof

end
